-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "neg_scale_log2e" .f32 0xBE0293EE#32 ((-((11863283 / 134217728) * (Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v18_6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v42) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite7 : Cert.Pre_finite7.Facts) (hPre_finite8 : Cert.Pre_finite8.Facts) (hPre_finite9 : Cert.Pre_finite9.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
-- ==== Pre_finite.lean ====
abbrev S2x8192x1024 : Shape := ⟨3, ![2, 8192, 1024]⟩
abbrev S2x8192x512 : Shape := ⟨3, ![2, 8192, 512]⟩
abbrev S4 : Shape := ⟨1, ![4]⟩
abbrev S_ : Shape := ⟨0, ![]⟩

class Facts : Prop where
  slices_S2x8192x1024_S2x8192x512_0_0_0 : S2x8192x1024.Slices ![0, 0, 0] S2x8192x512
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S2x8192x1024 .f32) (main_arg1 : FVec F S2x8192x512 .f32) (main_arg2 : FVec F S2x8192x512 .f32) (main_arg3 : FVec F S4 .f32) : IVec S_ 1 :=
  let main_v0 : FVec F S2x8192x512 .f32 := (extractStridedSlice S2x8192x512 ![0, 0, 0] · slices_S2x8192x1024_S2x8192x512_0_0_0) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x512 .f32 := Host.absf main_arg1
  let main_cst_0 : FVec F S_ .f32 := constant S_ .f32 0x7F800000#32
  let main_v6 : FVec F S2x8192x512 .f32 := broadcastInDim S2x8192x512 ![] bcast_S_S2x8192x512 main_cst_0
  let main_v7 : IVec S2x8192x512 1 := cmpf .olt main_v5 main_v6
  let main_c_1 : IVec S_ 1 := constantI S_ 1 1#1
  let main_v8 : IVec S_ 1 := (fun x v => Host.reduce IntOp.andi x v reducesTo_S2x8192x512_S_d0_1_2 h_S_) main_v7 main_c_1
  let main_v9 : IVec S_ 1 := andi main_v4 main_v8
  let main_v10 : FVec F S4 .f32 := Host.absf main_arg3
  let main_cst_2 : FVec F S_ .f32 := constant S_ .f32 0x7F800000#32
  let main_v11 : FVec F S4 .f32 := broadcastInDim S4 ![] bcast_S_S4 main_cst_2
  let main_v12 : IVec S4 1 := cmpf .olt main_v10 main_v11
  let main_c_3 : IVec S_ 1 := constantI S_ 1 1#1
  let main_v13 : IVec S_ 1 := (fun x v => Host.reduce IntOp.andi x v reducesTo_S4_S_d0 h_S_) main_v12 main_c_3
  let main_v14 : IVec S_ 1 := andi main_v9 main_v13
  main_v14
-- ==== Pre_finite12.lean ====
abbrev S128x2560 : Shape := ⟨2, ![128, 2560]⟩
abbrev S128 : Shape := ⟨1, ![128]⟩
abbrev S2x128x4x128x128 : Shape := ⟨5, ![2, 128, 4, 128, 128]⟩
abbrev S128x1536 : Shape := ⟨2, ![128, 1536]⟩
abbrev S_ : Shape := ⟨0, ![]⟩

class Facts : Prop where
  slices_S128x2560_S128x1536_0_0 : S128x2560.Slices ![0, 0] S128x1536
  bcast_S_S128x1536 : S_.BroadcastsInDim S128x1536 (![] : Fin 0 → Fin S128x1536.rank)
  reducesTo_S128x1536_S_d0_1 : S128x1536.ReducesTo [0, 1] S_
  h_S_ : 0 < S_.numel

variable [Facts]

def fn {F : FTy → Type} [FloatOps F] (main_arg0 : FVec F S128x2560 .f32) (main_arg1 : FVec F S128 .f32) (main_arg2 : FVec F S2x128x4x128x128 .f32) : IVec S_ 1 :=
  let main_v0 : FVec F S128x1536 .f32 := (extractStridedSlice S128x1536 ![0, 0] · slices_S128x2560_S128x1536_0_0) main_arg0
  let main_v1 : FVec F S128x1536 .f32 := Host.absf main_v0
  let main_cst : FVec F S_ .f32 := constant S_ .f32 0x7F800000#32
  let main_v2 : FVec F S128x1536 .f32 := broadcastInDim S128x1536 ![] bcast_S_S128x1536 main_cst
  let main_v3 : IVec S128x1536 1 := cmpf .olt main_v1 main_v2
  let main_c : IVec S_ 1 := constantI S_ 1 1#1
  let main_v4 : IVec S_ 1 := (fun x v => Host.reduce IntOp.andi x v reducesTo_S128x1536_S_d0_1 h_S_) main_v3 main_c
  main_v4
-- ==== Pre_finite7.lean ====
abbrev S2x8192x1024 : Shape := ⟨3, ![2, 8192, 1024]⟩
abbrev S2x8192x512 : Shape := ⟨3, ![2, 8192, 512]⟩
abbrev S2x256x512 : Shape := ⟨3, ![2, 256, 512]⟩
abbrev S1024x1024 : Shape := ⟨2, ![1024, 1024]⟩
abbrev S1024 : Shape := ⟨1, ![1024]⟩
abbrev S_ : Shape := ⟨0, ![]⟩

class Facts : Prop where
  slices_S2x8192x1024_S2x8192x512_0_0_512 : S2x8192x1024.Slices ![0, 0, 512] S2x8192x512
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x8192x1024 .f32) (main_arg1 : FVec F S2x8192x512 .f32) (main_arg2 : FVec F S2x8192x1024 .f32) (main_arg3 : FVec F S2x256x512 .f32) (main_arg4 : FVec F S2x256x512 .f32) (main_arg5 : FVec F S1024x1024 .f32) (main_arg6 : FVec F S1024 .f32) : IVec S_ 1 :=
  let main_v0 : FVec F S2x8192x512 .f32 := (extractStridedSlice S2x8192x512 ![0, 0, 512] · slices_S2x8192x1024_S2x8192x512_0_0_512) main_arg2
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x256x512 .f32 := Host.absf main_arg3
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  let main_c_1 : IVec S_ 1 := constantI S_ 1 1#1
  let main_v8 : IVec S_ 1 := (fun x v => Host.reduce IntOp.andi x v reducesTo_S2x256x512_S_d0_1_2 h_S_) main_v7 main_c_1
  let main_v9 : IVec S_ 1 := andi main_v4 main_v8
  main_v9
-- ==== Pre_finite8.lean ====
abbrev S2x8192x2560 : Shape := ⟨3, ![2, 8192, 2560]⟩
abbrev S128 : Shape := ⟨1, ![128]⟩
abbrev S2x8192x512 : Shape := ⟨3, ![2, 8192, 512]⟩
abbrev S_ : Shape := ⟨0, ![]⟩

class Facts : Prop where
  slices_S2x8192x2560_S2x8192x512_0_0_512 : S2x8192x2560.Slices ![0, 0, 512] S2x8192x512
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel

variable [Facts]

def fn {F : FTy → Type} [FloatOps F] (main_arg0 : FVec F S2x8192x2560 .f32) (main_arg1 : FVec F S128 .f32) : IVec S_ 1 :=
  let main_v0 : FVec F S2x8192x512 .f32 := (extractStridedSlice S2x8192x512 ![0, 0, 512] · slices_S2x8192x2560_S2x8192x512_0_0_512) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  main_v4
-- ==== Pre_finite9.lean ====
abbrev S2x8192x1024 : Shape := ⟨3, ![2, 8192, 1024]⟩
abbrev S2x8192x512 : Shape := ⟨3, ![2, 8192, 512]⟩
abbrev S2x8192x2560 : Shape := ⟨3, ![2, 8192, 2560]⟩
abbrev S2x256x512 : Shape := ⟨3, ![2, 256, 512]⟩
abbrev S1024x1024 : Shape := ⟨2, ![1024, 1024]⟩
abbrev S1024 : Shape := ⟨1, ![1024]⟩
abbrev S_ : Shape := ⟨0, ![]⟩

class Facts : Prop where
  slices_S2x8192x2560_S2x8192x512_0_0_2048 : S2x8192x2560.Slices ![0, 0, 2048] S2x8192x512
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x8192x1024 .f32) (main_arg1 : FVec F S2x8192x512 .f32) (main_arg2 : FVec F S2x8192x2560 .f32) (main_arg3 : FVec F S2x256x512 .f32) (main_arg4 : FVec F S2x256x512 .f32) (main_arg5 : FVec F S1024x1024 .f32) (main_arg6 : FVec F S1024 .f32) : IVec S_ 1 :=
  let main_v0 : FVec F S2x8192x512 .f32 := (extractStridedSlice S2x8192x512 ![0, 0, 2048] · slices_S2x8192x2560_S2x8192x512_0_0_2048) main_arg2
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x256x512 .f32 := Host.absf main_arg3
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  let main_c_1 : IVec S_ 1 := constantI S_ 1 1#1
  let main_v8 : IVec S_ 1 := (fun x v => Host.reduce IntOp.andi x v reducesTo_S2x256x512_S_d0_1_2 h_S_) main_v7 main_c_1
  let main_v9 : IVec S_ 1 := andi main_v4 main_v8
  main_v9
-- ==== Kernel.lean ====
abbrev S2x8192x1024 : Shape := ⟨3, ![2, 8192, 1024]⟩
abbrev S2x8192x512 : Shape := ⟨3, ![2, 8192, 512]⟩
abbrev S4 : Shape := ⟨1, ![4]⟩
abbrev S128x128 : Shape := ⟨2, ![128, 128]⟩
abbrev S1x1024x128 : Shape := ⟨3, ![1, 1024, 128]⟩
abbrev S1x8192x128 : Shape := ⟨3, ![1, 8192, 128]⟩
abbrev S1 : Shape := ⟨1, ![1]⟩
abbrev S1024x128 : Shape := ⟨2, ![1024, 128]⟩
abbrev S1024x1 : Shape := ⟨2, ![1024, 1]⟩
abbrev S1x128x128 : Shape := ⟨3, ![1, 128, 128]⟩
abbrev S1024 : Shape := ⟨1, ![1024]⟩

abbrev nBuf : Space → Nat
  | .hbm => 6
  | .vmem => 9
  | .smem => 1
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S4, .f32⟩
  | .hbm, ⟨4, _⟩ => ⟨S128x128, .bf16⟩
  | .hbm, ⟨5, _⟩ => ⟨S2x8192x512, .f32⟩
  | .local _ .vmem, ⟨0, _⟩ => ⟨S1x1024x128, .f32⟩
  | .local _ .vmem, ⟨1, _⟩ => ⟨S1x1024x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S128x128, .bf16⟩
  | .local _ .vmem, ⟨7, _⟩ => ⟨S1x1024x128, .f32⟩
  | .local _ .vmem, ⟨8, _⟩ => ⟨S1x1024x128, .f32⟩
  | .local _ .smem, ⟨0, _⟩ => ⟨S4, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 8], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c8_i32 : BitVec 32 := 8#32
  let v13 : BitVec 32 := Scalar.muli arg2 c8_i32
  let c7_i32 : BitVec 32 := 7#32
  let v14 : BitVec 32 := Scalar.addi v13 c7_i32
  let c128_i32 : BitVec 32 := 128#32
  let v18 : BitVec 32 := Scalar.muli v14 c128_i32
  v18
def k0_off2 (i : grid0.Coords) (c7_i32 : BitVec 32) : Fin 3 → Nat :=
  let c0_7 : Index := 0#32
  let arg2 : BitVec 32 := BitVec.ofNat 32 (i 2).val
  let c8_i32 : BitVec 32 := 8#32
  let v13 : BitVec 32 := Scalar.muli arg2 c8_i32
  let v14 : BitVec 32 := Scalar.addi v13 c7_i32
  let c128_i32 : BitVec 32 := 128#32
  let v18 : BitVec 32 := Scalar.muli v14 c128_i32
  let v19 : BitVec 32 := v18
  let v20 : Index := Scalar.indexCast v19
  let c0_8 : Index := 0#32
  ![0, v20.toNat, 0]
def k0_mult2 (i : grid0.Coords) : BitVec 32 :=
  let arg2 : BitVec 32 := BitVec.ofNat 32 (i 2).val
  let c8_i32_21 : BitVec 32 := 8#32
  let v60 : BitVec 32 := Scalar.muli arg2 c8_i32_21
  let c6_i32 : BitVec 32 := 6#32
  let v61 : BitVec 32 := Scalar.addi v60 c6_i32
  let c128_i32_22 : BitVec 32 := 128#32
  let v65 : BitVec 32 := Scalar.muli v61 c128_i32_22
  v65
def k0_mult3 (i : grid0.Coords) : BitVec 32 :=
  let arg2 : BitVec 32 := BitVec.ofNat 32 (i 2).val
  let c8_i32_37 : BitVec 32 := 8#32
  let v107 : BitVec 32 := Scalar.muli arg2 c8_i32_37
  let c5_i32 : BitVec 32 := 5#32
  let v108 : BitVec 32 := Scalar.addi v107 c5_i32
  let c128_i32_38 : BitVec 32 := 128#32
  let v112 : BitVec 32 := Scalar.muli v108 c128_i32_38
  v112
def k0_mult4 (i : grid0.Coords) : BitVec 32 :=
  let arg2 : BitVec 32 := BitVec.ofNat 32 (i 2).val
  let c8_i32_53 : BitVec 32 := 8#32
  let v154 : BitVec 32 := Scalar.muli arg2 c8_i32_53
  let c4_i32 : BitVec 32 := 4#32
  let v155 : BitVec 32 := Scalar.addi v154 c4_i32
  let c128_i32_54 : BitVec 32 := 128#32
  let v159 : BitVec 32 := Scalar.muli v155 c128_i32_54
  v159
def k0_mult5 (i : grid0.Coords) : BitVec 32 :=
  let arg2 : BitVec 32 := BitVec.ofNat 32 (i 2).val
  let c8_i32_69 : BitVec 32 := 8#32
  let v201 : BitVec 32 := Scalar.muli arg2 c8_i32_69
  let c3_i32 : BitVec 32 := 3#32
  let v202 : BitVec 32 := Scalar.addi v201 c3_i32
  let c128_i32_70 : BitVec 32 := 128#32
  let v206 : BitVec 32 := Scalar.muli v202 c128_i32_70
  v206
def k0_mult6 (i : grid0.Coords) : BitVec 32 :=
  let arg2 : BitVec 32 := BitVec.ofNat 32 (i 2).val
  let c8_i32_85 : BitVec 32 := 8#32
  let v248 : BitVec 32 := Scalar.muli arg2 c8_i32_85
  let c2_i32 : BitVec 32 := 2#32
  let v249 : BitVec 32 := Scalar.addi v248 c2_i32
  let c128_i32_86 : BitVec 32 := 128#32
  let v253 : BitVec 32 := Scalar.muli v249 c128_i32_86
  v253
def k0_mult7 (i : grid0.Coords) : BitVec 32 :=
  let arg2 : BitVec 32 := BitVec.ofNat 32 (i 2).val
  let c8_i32_101 : BitVec 32 := 8#32
  let v295 : BitVec 32 := Scalar.muli arg2 c8_i32_101
  let c1_i32 : BitVec 32 := 1#32
  let v296 : BitVec 32 := Scalar.addi v295 c1_i32
  let c128_i32_103 : BitVec 32 := 128#32
  let v300 : BitVec 32 := Scalar.muli v296 c128_i32_103
  v300
def k0_mult8 (i : grid0.Coords) : BitVec 32 :=
  let arg2 : BitVec 32 := BitVec.ofNat 32 (i 2).val
  let c8_i32_118 : BitVec 32 := 8#32
  let v342 : BitVec 32 := Scalar.muli arg2 c8_i32_118
  let c0_i32 : BitVec 32 := 0#32
  let v343 : BitVec 32 := Scalar.addi v342 c0_i32
  let c128_i32_120 : BitVec 32 := 128#32
  let v347 : BitVec 32 := Scalar.muli v343 c128_i32_120
  v347
@[reducible] def k0_t1_loop (i : grid0.Coords) : Scf.Loop 32 :=
  let c0_i32_136 : BitVec 32 := 0#32
  let arg2 : BitVec 32 := BitVec.ofNat 32 (i 2).val
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_138 : BitVec 32 := 1#32
  ⟨c0_i32_136, v394, c1_i32_138⟩
def k0_mult9 (i : grid0.Coords) (k0_t1 : Fin (k0_t1_loop i).trips) : BitVec 32 :=
  let arg2 : BitVec 32 := BitVec.ofNat 32 (i 2).val
  let c8_i32_143 : BitVec 32 := 8#32
  let v400 : BitVec 32 := Scalar.muli arg2 c8_i32_143
  let c1_i32_144 : BitVec 32 := 1#32
  let v401 : BitVec 32 := Scalar.subi v400 c1_i32_144
  let c0_i32_136 : BitVec 32 := 0#32
  let c1_i32_138 : BitVec 32 := 1#32
  let arg9 : BitVec 32 := Scf.iv c0_i32_136 c1_i32_138 k0_t1
  let c8_i32_145 : BitVec 32 := 8#32
  let v402 : BitVec 32 := Scalar.muli arg9 c8_i32_145
  let v403 : BitVec 32 := Scalar.subi v401 v402
  let c0_i32_146 : BitVec 32 := 0#32
  let v404 : BitVec 32 := Scalar.subi v403 c0_i32_146
  let c128_i32_147 : BitVec 32 := 128#32
  let v405 : BitVec 32 := Scalar.muli v404 c128_i32_147
  v405
def k0_off3 (i : grid0.Coords) (k0_t1 : Fin (k0_t1_loop i).trips) (c0_i32_146 : BitVec 32) : Fin 3 → Nat :=
  let c0_148 : Index := 0#32
  let arg2 : BitVec 32 := BitVec.ofNat 32 (i 2).val
  let c8_i32_143 : BitVec 32 := 8#32
  let v400 : BitVec 32 := Scalar.muli arg2 c8_i32_143
  let c1_i32_144 : BitVec 32 := 1#32
  let v401 : BitVec 32 := Scalar.subi v400 c1_i32_144
  let c0_i32_136 : BitVec 32 := 0#32
  let c1_i32_138 : BitVec 32 := 1#32
  let arg9 : BitVec 32 := Scf.iv c0_i32_136 c1_i32_138 k0_t1
  let c8_i32_145 : BitVec 32 := 8#32
  let v402 : BitVec 32 := Scalar.muli arg9 c8_i32_145
  let v403 : BitVec 32 := Scalar.subi v401 v402
  let v404 : BitVec 32 := Scalar.subi v403 c0_i32_146
  let c128_i32_147 : BitVec 32 := 128#32
  let v405 : BitVec 32 := Scalar.muli v404 c128_i32_147
  let v406 : BitVec 32 := v405
  let v407 : Index := Scalar.indexCast v406
  let c0_149 : Index := 0#32
  ![0, v407.toNat, 0]
def k0_mult10 (i : grid0.Coords) (k0_t1 : Fin (k0_t1_loop i).trips) : BitVec 32 :=
  let arg2 : BitVec 32 := BitVec.ofNat 32 (i 2).val
  let c8_i32_160 : BitVec 32 := 8#32
  let v443 : BitVec 32 := Scalar.muli arg2 c8_i32_160
  let c1_i32_161 : BitVec 32 := 1#32
  let v444 : BitVec 32 := Scalar.subi v443 c1_i32_161
  let c0_i32_136 : BitVec 32 := 0#32
  let c1_i32_138 : BitVec 32 := 1#32
  let arg9 : BitVec 32 := Scf.iv c0_i32_136 c1_i32_138 k0_t1
  let c8_i32_162 : BitVec 32 := 8#32
  let v445 : BitVec 32 := Scalar.muli arg9 c8_i32_162
  let v446 : BitVec 32 := Scalar.subi v444 v445
  let c1_i32_163 : BitVec 32 := 1#32
  let v447 : BitVec 32 := Scalar.subi v446 c1_i32_163
  let c128_i32_164 : BitVec 32 := 128#32
  let v448 : BitVec 32 := Scalar.muli v447 c128_i32_164
  v448
def k0_mult11 (i : grid0.Coords) (k0_t1 : Fin (k0_t1_loop i).trips) : BitVec 32 :=
  let arg2 : BitVec 32 := BitVec.ofNat 32 (i 2).val
  let c8_i32_177 : BitVec 32 := 8#32
  let v486 : BitVec 32 := Scalar.muli arg2 c8_i32_177
  let c1_i32_178 : BitVec 32 := 1#32
  let v487 : BitVec 32 := Scalar.subi v486 c1_i32_178
  let c0_i32_136 : BitVec 32 := 0#32
  let c1_i32_138 : BitVec 32 := 1#32
  let arg9 : BitVec 32 := Scf.iv c0_i32_136 c1_i32_138 k0_t1
  let c8_i32_179 : BitVec 32 := 8#32
  let v488 : BitVec 32 := Scalar.muli arg9 c8_i32_179
  let v489 : BitVec 32 := Scalar.subi v487 v488
  let c2_i32_180 : BitVec 32 := 2#32
  let v490 : BitVec 32 := Scalar.subi v489 c2_i32_180
  let c128_i32_181 : BitVec 32 := 128#32
  let v491 : BitVec 32 := Scalar.muli v490 c128_i32_181
  v491
def k0_mult12 (i : grid0.Coords) (k0_t1 : Fin (k0_t1_loop i).trips) : BitVec 32 :=
  let arg2 : BitVec 32 := BitVec.ofNat 32 (i 2).val
  let c8_i32_194 : BitVec 32 := 8#32
  let v529 : BitVec 32 := Scalar.muli arg2 c8_i32_194
  let c1_i32_195 : BitVec 32 := 1#32
  let v530 : BitVec 32 := Scalar.subi v529 c1_i32_195
  let c0_i32_136 : BitVec 32 := 0#32
  let c1_i32_138 : BitVec 32 := 1#32
  let arg9 : BitVec 32 := Scf.iv c0_i32_136 c1_i32_138 k0_t1
  let c8_i32_196 : BitVec 32 := 8#32
  let v531 : BitVec 32 := Scalar.muli arg9 c8_i32_196
  let v532 : BitVec 32 := Scalar.subi v530 v531
  let c3_i32_197 : BitVec 32 := 3#32
  let v533 : BitVec 32 := Scalar.subi v532 c3_i32_197
  let c128_i32_198 : BitVec 32 := 128#32
  let v534 : BitVec 32 := Scalar.muli v533 c128_i32_198
  v534
def k0_mult13 (i : grid0.Coords) (k0_t1 : Fin (k0_t1_loop i).trips) : BitVec 32 :=
  let arg2 : BitVec 32 := BitVec.ofNat 32 (i 2).val
  let c8_i32_211 : BitVec 32 := 8#32
  let v572 : BitVec 32 := Scalar.muli arg2 c8_i32_211
  let c1_i32_212 : BitVec 32 := 1#32
  let v573 : BitVec 32 := Scalar.subi v572 c1_i32_212
  let c0_i32_136 : BitVec 32 := 0#32
  let c1_i32_138 : BitVec 32 := 1#32
  let arg9 : BitVec 32 := Scf.iv c0_i32_136 c1_i32_138 k0_t1
  let c8_i32_213 : BitVec 32 := 8#32
  let v574 : BitVec 32 := Scalar.muli arg9 c8_i32_213
  let v575 : BitVec 32 := Scalar.subi v573 v574
  let c4_i32_214 : BitVec 32 := 4#32
  let v576 : BitVec 32 := Scalar.subi v575 c4_i32_214
  let c128_i32_215 : BitVec 32 := 128#32
  let v577 : BitVec 32 := Scalar.muli v576 c128_i32_215
  v577
def k0_mult14 (i : grid0.Coords) (k0_t1 : Fin (k0_t1_loop i).trips) : BitVec 32 :=
  let arg2 : BitVec 32 := BitVec.ofNat 32 (i 2).val
  let c8_i32_228 : BitVec 32 := 8#32
  let v615 : BitVec 32 := Scalar.muli arg2 c8_i32_228
  let c1_i32_229 : BitVec 32 := 1#32
  let v616 : BitVec 32 := Scalar.subi v615 c1_i32_229
  let c0_i32_136 : BitVec 32 := 0#32
  let c1_i32_138 : BitVec 32 := 1#32
  let arg9 : BitVec 32 := Scf.iv c0_i32_136 c1_i32_138 k0_t1
  let c8_i32_230 : BitVec 32 := 8#32
  let v617 : BitVec 32 := Scalar.muli arg9 c8_i32_230
  let v618 : BitVec 32 := Scalar.subi v616 v617
  let c5_i32_231 : BitVec 32 := 5#32
  let v619 : BitVec 32 := Scalar.subi v618 c5_i32_231
  let c128_i32_232 : BitVec 32 := 128#32
  let v620 : BitVec 32 := Scalar.muli v619 c128_i32_232
  v620
def k0_mult15 (i : grid0.Coords) (k0_t1 : Fin (k0_t1_loop i).trips) : BitVec 32 :=
  let arg2 : BitVec 32 := BitVec.ofNat 32 (i 2).val
  let c8_i32_245 : BitVec 32 := 8#32
  let v658 : BitVec 32 := Scalar.muli arg2 c8_i32_245
  let c1_i32_246 : BitVec 32 := 1#32
  let v659 : BitVec 32 := Scalar.subi v658 c1_i32_246
  let c0_i32_136 : BitVec 32 := 0#32
  let c1_i32_138 : BitVec 32 := 1#32
  let arg9 : BitVec 32 := Scf.iv c0_i32_136 c1_i32_138 k0_t1
  let c8_i32_247 : BitVec 32 := 8#32
  let v660 : BitVec 32 := Scalar.muli arg9 c8_i32_247
  let v661 : BitVec 32 := Scalar.subi v659 v660
  let c6_i32_248 : BitVec 32 := 6#32
  let v662 : BitVec 32 := Scalar.subi v661 c6_i32_248
  let c128_i32_249 : BitVec 32 := 128#32
  let v663 : BitVec 32 := Scalar.muli v662 c128_i32_249
  v663
def k0_mult16 (i : grid0.Coords) (k0_t1 : Fin (k0_t1_loop i).trips) : BitVec 32 :=
  let arg2 : BitVec 32 := BitVec.ofNat 32 (i 2).val
  let c8_i32_262 : BitVec 32 := 8#32
  let v701 : BitVec 32 := Scalar.muli arg2 c8_i32_262
  let c1_i32_263 : BitVec 32 := 1#32
  let v702 : BitVec 32 := Scalar.subi v701 c1_i32_263
  let c0_i32_136 : BitVec 32 := 0#32
  let c1_i32_138 : BitVec 32 := 1#32
  let arg9 : BitVec 32 := Scf.iv c0_i32_136 c1_i32_138 k0_t1
  let c8_i32_264 : BitVec 32 := 8#32
  let v703 : BitVec 32 := Scalar.muli arg9 c8_i32_264
  let v704 : BitVec 32 := Scalar.subi v702 v703
  let c7_i32_265 : BitVec 32 := 7#32
  let v705 : BitVec 32 := Scalar.subi v704 c7_i32_265
  let c128_i32_266 : BitVec 32 := 128#32
  let v706 : BitVec 32 := Scalar.muli v705 c128_i32_266
  v706
@[reducible] def k0_t2_loop (i : grid0.Coords) : Scf.Loop 32 :=
  let c0_i32_136 : BitVec 32 := 0#32
  let arg2 : BitVec 32 := BitVec.ofNat 32 (i 2).val
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let v391 : BitVec 32 := Scalar.addi c0_i32_136 v390
  let c1_i32_139 : BitVec 32 := 1#32
  ⟨v394, v391, c1_i32_139⟩
def k0_mult17 (i : grid0.Coords) (k0_t2 : Fin (k0_t2_loop i).trips) : BitVec 32 :=
  let arg2 : BitVec 32 := BitVec.ofNat 32 (i 2).val
  let c8_i32_143 : BitVec 32 := 8#32
  let v400 : BitVec 32 := Scalar.muli arg2 c8_i32_143
  let c1_i32_144 : BitVec 32 := 1#32
  let v401 : BitVec 32 := Scalar.subi v400 c1_i32_144
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_145 : BitVec 32 := 8#32
  let v402 : BitVec 32 := Scalar.muli arg9 c8_i32_145
  let v403 : BitVec 32 := Scalar.subi v401 v402
  let c0_i32_146 : BitVec 32 := 0#32
  let v404 : BitVec 32 := Scalar.subi v403 c0_i32_146
  let c128_i32_147 : BitVec 32 := 128#32
  let v405 : BitVec 32 := Scalar.muli v404 c128_i32_147
  v405
def k0_off4 (i : grid0.Coords) (k0_t2 : Fin (k0_t2_loop i).trips) (c0_i32_146 : BitVec 32) : Fin 3 → Nat :=
  let c0_148 : Index := 0#32
  let arg2 : BitVec 32 := BitVec.ofNat 32 (i 2).val
  let c8_i32_143 : BitVec 32 := 8#32
  let v400 : BitVec 32 := Scalar.muli arg2 c8_i32_143
  let c1_i32_144 : BitVec 32 := 1#32
  let v401 : BitVec 32 := Scalar.subi v400 c1_i32_144
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_145 : BitVec 32 := 8#32
  let v402 : BitVec 32 := Scalar.muli arg9 c8_i32_145
  let v403 : BitVec 32 := Scalar.subi v401 v402
  let v404 : BitVec 32 := Scalar.subi v403 c0_i32_146
  let c128_i32_147 : BitVec 32 := 128#32
  let v405 : BitVec 32 := Scalar.muli v404 c128_i32_147
  let v406 : BitVec 32 := v405
  let v407 : Index := Scalar.indexCast v406
  let c0_149 : Index := 0#32
  ![0, v407.toNat, 0]
def k0_mult18 (i : grid0.Coords) (k0_t2 : Fin (k0_t2_loop i).trips) : BitVec 32 :=
  let arg2 : BitVec 32 := BitVec.ofNat 32 (i 2).val
  let c8_i32_160 : BitVec 32 := 8#32
  let v443 : BitVec 32 := Scalar.muli arg2 c8_i32_160
  let c1_i32_161 : BitVec 32 := 1#32
  let v444 : BitVec 32 := Scalar.subi v443 c1_i32_161
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_162 : BitVec 32 := 8#32
  let v445 : BitVec 32 := Scalar.muli arg9 c8_i32_162
  let v446 : BitVec 32 := Scalar.subi v444 v445
  let c1_i32_163 : BitVec 32 := 1#32
  let v447 : BitVec 32 := Scalar.subi v446 c1_i32_163
  let c128_i32_164 : BitVec 32 := 128#32
  let v448 : BitVec 32 := Scalar.muli v447 c128_i32_164
  v448
def k0_mult19 (i : grid0.Coords) (k0_t2 : Fin (k0_t2_loop i).trips) : BitVec 32 :=
  let arg2 : BitVec 32 := BitVec.ofNat 32 (i 2).val
  let c8_i32_177 : BitVec 32 := 8#32
  let v486 : BitVec 32 := Scalar.muli arg2 c8_i32_177
  let c1_i32_178 : BitVec 32 := 1#32
  let v487 : BitVec 32 := Scalar.subi v486 c1_i32_178
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_179 : BitVec 32 := 8#32
  let v488 : BitVec 32 := Scalar.muli arg9 c8_i32_179
  let v489 : BitVec 32 := Scalar.subi v487 v488
  let c2_i32_180 : BitVec 32 := 2#32
  let v490 : BitVec 32 := Scalar.subi v489 c2_i32_180
  let c128_i32_181 : BitVec 32 := 128#32
  let v491 : BitVec 32 := Scalar.muli v490 c128_i32_181
  v491
def k0_mult20 (i : grid0.Coords) (k0_t2 : Fin (k0_t2_loop i).trips) : BitVec 32 :=
  let arg2 : BitVec 32 := BitVec.ofNat 32 (i 2).val
  let c8_i32_194 : BitVec 32 := 8#32
  let v529 : BitVec 32 := Scalar.muli arg2 c8_i32_194
  let c1_i32_195 : BitVec 32 := 1#32
  let v530 : BitVec 32 := Scalar.subi v529 c1_i32_195
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_196 : BitVec 32 := 8#32
  let v531 : BitVec 32 := Scalar.muli arg9 c8_i32_196
  let v532 : BitVec 32 := Scalar.subi v530 v531
  let c3_i32_197 : BitVec 32 := 3#32
  let v533 : BitVec 32 := Scalar.subi v532 c3_i32_197
  let c128_i32_198 : BitVec 32 := 128#32
  let v534 : BitVec 32 := Scalar.muli v533 c128_i32_198
  v534
def k0_mult21 (i : grid0.Coords) (k0_t2 : Fin (k0_t2_loop i).trips) : BitVec 32 :=
  let arg2 : BitVec 32 := BitVec.ofNat 32 (i 2).val
  let c8_i32_211 : BitVec 32 := 8#32
  let v572 : BitVec 32 := Scalar.muli arg2 c8_i32_211
  let c1_i32_212 : BitVec 32 := 1#32
  let v573 : BitVec 32 := Scalar.subi v572 c1_i32_212
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_213 : BitVec 32 := 8#32
  let v574 : BitVec 32 := Scalar.muli arg9 c8_i32_213
  let v575 : BitVec 32 := Scalar.subi v573 v574
  let c4_i32_214 : BitVec 32 := 4#32
  let v576 : BitVec 32 := Scalar.subi v575 c4_i32_214
  let c128_i32_215 : BitVec 32 := 128#32
  let v577 : BitVec 32 := Scalar.muli v576 c128_i32_215
  v577
def k0_mult22 (i : grid0.Coords) (k0_t2 : Fin (k0_t2_loop i).trips) : BitVec 32 :=
  let arg2 : BitVec 32 := BitVec.ofNat 32 (i 2).val
  let c8_i32_228 : BitVec 32 := 8#32
  let v615 : BitVec 32 := Scalar.muli arg2 c8_i32_228
  let c1_i32_229 : BitVec 32 := 1#32
  let v616 : BitVec 32 := Scalar.subi v615 c1_i32_229
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_230 : BitVec 32 := 8#32
  let v617 : BitVec 32 := Scalar.muli arg9 c8_i32_230
  let v618 : BitVec 32 := Scalar.subi v616 v617
  let c5_i32_231 : BitVec 32 := 5#32
  let v619 : BitVec 32 := Scalar.subi v618 c5_i32_231
  let c128_i32_232 : BitVec 32 := 128#32
  let v620 : BitVec 32 := Scalar.muli v619 c128_i32_232
  v620
def k0_mult23 (i : grid0.Coords) (k0_t2 : Fin (k0_t2_loop i).trips) : BitVec 32 :=
  let arg2 : BitVec 32 := BitVec.ofNat 32 (i 2).val
  let c8_i32_245 : BitVec 32 := 8#32
  let v658 : BitVec 32 := Scalar.muli arg2 c8_i32_245
  let c1_i32_246 : BitVec 32 := 1#32
  let v659 : BitVec 32 := Scalar.subi v658 c1_i32_246
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_247 : BitVec 32 := 8#32
  let v660 : BitVec 32 := Scalar.muli arg9 c8_i32_247
  let v661 : BitVec 32 := Scalar.subi v659 v660
  let c6_i32_248 : BitVec 32 := 6#32
  let v662 : BitVec 32 := Scalar.subi v661 c6_i32_248
  let c128_i32_249 : BitVec 32 := 128#32
  let v663 : BitVec 32 := Scalar.muli v662 c128_i32_249
  v663
def k0_mult24 (i : grid0.Coords) (k0_t2 : Fin (k0_t2_loop i).trips) : BitVec 32 :=
  let arg2 : BitVec 32 := BitVec.ofNat 32 (i 2).val
  let c8_i32_262 : BitVec 32 := 8#32
  let v701 : BitVec 32 := Scalar.muli arg2 c8_i32_262
  let c1_i32_263 : BitVec 32 := 1#32
  let v702 : BitVec 32 := Scalar.subi v701 c1_i32_263
  let c0_i32_136 : BitVec 32 := 0#32
  let c1_i32_135 : BitVec 32 := 1#32
  let v389 : BitVec 32 := Scalar.muli arg2 c1_i32_135
  let v390 : BitVec 32 := Scalar.subi v389 c0_i32_136
  let c1_i32_137 : BitVec 32 := 1#32
  let v392 : BitVec 32 := Scalar.divsi v390 c1_i32_137
  let v393 : BitVec 32 := Scalar.muli v392 c1_i32_137
  let v394 : BitVec 32 := Scalar.addi c0_i32_136 v393
  let c1_i32_139 : BitVec 32 := 1#32
  let arg9 : BitVec 32 := Scf.iv v394 c1_i32_139 k0_t2
  let c8_i32_264 : BitVec 32 := 8#32
  let v703 : BitVec 32 := Scalar.muli arg9 c8_i32_264
  let v704 : BitVec 32 := Scalar.subi v702 v703
  let c7_i32_265 : BitVec 32 := 7#32
  let v705 : BitVec 32 := Scalar.subi v704 c7_i32_265
  let c128_i32_266 : BitVec 32 := 128#32
  let v706 : BitVec 32 := Scalar.muli v705 c128_i32_266
  v706
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "neg_scale_log2e" => some ((-((11863283 / 134217728) * (Real.log 2)⁻¹) : ℝ) : EReal)
  | _ => none
-- ==== ReferenceIdeal.lean ====
abbrev S2x8192x1024 : Shape := ⟨3, ![2, 8192, 1024]⟩
abbrev S2x8192x512 : Shape := ⟨3, ![2, 8192, 512]⟩
abbrev S4 : Shape := ⟨1, ![4]⟩
abbrev S2x8192x4x128 : Shape := ⟨4, ![2, 8192, 4, 128]⟩
abbrev S8192 : Shape := ⟨1, ![8192]⟩
abbrev S2x4x8192x8192 : Shape := ⟨4, ![2, 4, 8192, 8192]⟩
abbrev S_ : Shape := ⟨0, ![]⟩
abbrev S1x4x1x1 : Shape := ⟨4, ![1, 4, 1, 1]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x4x128x8192 : Shape := ⟨4, ![2, 4, 128, 8192]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S4, .f32⟩
  | .hbm, ⟨4, _⟩ => ⟨S2x8192x512, .f32⟩
  | .hbm, ⟨5, _⟩ => ⟨S2x8192x4x128, .f32⟩
  | .hbm, ⟨6, _⟩ => ⟨S2x8192x4x128, .f32⟩
  | .hbm, ⟨7, _⟩ => ⟨S2x8192x4x128, .f32⟩
  | .hbm, ⟨8, _⟩ => ⟨S8192, .i32⟩
  | .hbm, ⟨9, _⟩ => ⟨S2x4x8192x8192, .f32⟩
  | .hbm, ⟨10, _⟩ => ⟨S_, .f32⟩
  | .hbm, ⟨11, _⟩ => ⟨S2x4x8192x8192, .f32⟩
  | .hbm, ⟨12, _⟩ => ⟨S2x4x8192x8192, .f32⟩
  | .hbm, ⟨13, _⟩ => ⟨S1x4x1x1, .f32⟩
  | .hbm, ⟨14, _⟩ => ⟨S2x4x8192x8192, .f32⟩
  | .hbm, ⟨15, _⟩ => ⟨S2x4x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x1x8192x8192, .i1⟩
  | .hbm, ⟨22, _⟩ => ⟨S2x4x8192x8192, .f32⟩
  | .hbm, ⟨23, _⟩ => ⟨S2x4x8192x8192, .f32⟩
  | .hbm, ⟨24, _⟩ => ⟨S_, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .i1⟩
  | .hbm, ⟨30, _⟩ => ⟨S2x4x8192x8192, .f32⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S2x4x8192x8192, .f32⟩
  | .hbm, ⟨39, _⟩ => ⟨S_, .f32⟩
  | .hbm, ⟨40, _⟩ => ⟨S_, .f32⟩
  | .hbm, ⟨41, _⟩ => ⟨S2x4x8192x8192, .i1⟩
  | .hbm, ⟨42, _⟩ => ⟨S2x4x8192x8192, .f32⟩
  | .hbm, ⟨43, _⟩ => ⟨S2x4x8192x8192, .f32⟩
  | .hbm, ⟨44, _⟩ => ⟨S_, .f32⟩
  | .hbm, ⟨45, _⟩ => ⟨S_, .f32⟩
  | .hbm, ⟨46, _⟩ => ⟨S2x4x8192x8192, .f32⟩
  | .hbm, ⟨47, _⟩ => ⟨S2x4x8192x8192, .f32⟩
  | .hbm, ⟨48, _⟩ => ⟨S2x4x8192x8192, .f32⟩
  | .hbm, ⟨49, _⟩ => ⟨S_, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .i1⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S2x4x8192x8192, .f32⟩
  | .hbm, ⟨63, _⟩ => ⟨S2x4x8192x8192, .f32⟩
  | .hbm, ⟨64, _⟩ => ⟨S2x4x8192x8192, .f32⟩
  | .hbm, ⟨65, _⟩ => ⟨S2x4x8192x8192, .f32⟩
  | .hbm, ⟨66, _⟩ => ⟨S_, .f32⟩
  | .hbm, ⟨67, _⟩ => ⟨S_, .f32⟩
  | .hbm, ⟨68, _⟩ => ⟨S2x4x8192x8192, .i1⟩
  | .hbm, ⟨69, _⟩ => ⟨S2x4x8192x8192, .f32⟩
  | .hbm, ⟨70, _⟩ => ⟨S2x4x8192x8192, .f32⟩
  | .hbm, ⟨71, _⟩ => ⟨S2x4x128x8192, .f32⟩
  | .hbm, ⟨72, _⟩ => ⟨S2x8192x4x128, .f32⟩
  | .hbm, ⟨73, _⟩ => ⟨S2x8192x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v18 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v19 : Ref sig .tc := ⟨.hbm, 43, rfl⟩
abbrev main_call2_cst : Ref sig .tc := ⟨.hbm, 44, rfl⟩
abbrev main_call2_v0 : Ref sig .tc := ⟨.hbm, 45, rfl⟩
abbrev main_v20 : Ref sig .tc := ⟨.hbm, 46, rfl⟩
abbrev main_v21 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S2x256x1024 : Shape := ⟨3, ![2, 256, 1024]⟩
abbrev S4x1024x1024 : Shape := ⟨3, ![4, 1024, 1024]⟩
abbrev S512x1024 : Shape := ⟨2, ![512, 1024]⟩
abbrev S4x512x512 : Shape := ⟨3, ![4, 512, 512]⟩
abbrev S1x1024x1024 : Shape := ⟨3, ![1, 1024, 1024]⟩
abbrev S1x512x512 : Shape := ⟨3, ![1, 512, 512]⟩
abbrev S1024x1024 : Shape := ⟨2, ![1024, 1024]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S4x1024x1024, .f32⟩
  | .hbm, ⟨2, _⟩ => ⟨S512x1024, .f32⟩
  | .hbm, ⟨3, _⟩ => ⟨S4x512x512, .f32⟩
  | .hbm, ⟨4, _⟩ => ⟨S4x512x512, .f32⟩
  | .local _ .vmem, ⟨0, _⟩ => ⟨S512x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x256x1024 : Shape := ⟨3, ![2, 256, 1024]⟩
abbrev S4x1024x1024 : Shape := ⟨3, ![4, 1024, 1024]⟩
abbrev S4x1024x2x256 : Shape := ⟨4, ![4, 1024, 2, 256]⟩
abbrev S4x2x256x1024 : Shape := ⟨4, ![4, 2, 256, 1024]⟩
abbrev S4x2x256x512 : Shape := ⟨4, ![4, 2, 256, 512]⟩
abbrev S4x512x512 : Shape := ⟨3, ![4, 512, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024x1024, .f32⟩
  | .hbm, ⟨2, _⟩ => ⟨S4x1024x2x256, .f32⟩
  | .hbm, ⟨3, _⟩ => ⟨S4x2x256x1024, .f32⟩
  | .hbm, ⟨4, _⟩ => ⟨S4x2x256x512, .f32⟩
  | .hbm, ⟨5, _⟩ => ⟨S4x2x256x512, .f32⟩
  | .hbm, ⟨6, _⟩ => ⟨S4x512x512, .f32⟩
  | .hbm, ⟨7, _⟩ => ⟨S4x512x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S16384x512, .f32⟩
  | .hbm, ⟨6, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x512, .f32⟩
  | .hbm, ⟨21, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S512 : Shape := ⟨1, ![512]⟩
abbrev S1024x2560 : Shape := ⟨2, ![1024, 2560]⟩
abbrev S1x1024 : Shape := ⟨2, ![1, 1024]⟩
abbrev S1x512 : Shape := ⟨2, ![1, 512]⟩
abbrev S16384x2560 : Shape := ⟨2, ![16384, 2560]⟩
abbrev S512x1024 : Shape := ⟨2, ![512, 1024]⟩
abbrev S512x2560 : Shape := ⟨2, ![512, 2560]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S512, .f32⟩
  | .hbm, ⟨3, _⟩ => ⟨S1024x2560, .f32⟩
  | .hbm, ⟨4, _⟩ => ⟨S1024x2560, .bf16⟩
  | .hbm, ⟨5, _⟩ => ⟨S1x1024, .f32⟩
  | .hbm, ⟨6, _⟩ => ⟨S1x512, .f32⟩
  | .hbm, ⟨7, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x512, .f32⟩
  | .local _ .vmem, ⟨4, _⟩ => ⟨S1024x2560, .bf16⟩
  | .local _ .vmem, ⟨5, _⟩ => ⟨S512x2560, .f32⟩
  | .local _ .vmem, ⟨6, _⟩ => ⟨S512x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x1024 : Shape := ⟨2, ![16384, 1024]⟩
abbrev S1024 : Shape := ⟨1, ![1024]⟩
abbrev S512 : Shape := ⟨1, ![512]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x512 : Shape := ⟨2, ![16384, 512]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S512, .f32⟩
  | .hbm, ⟨3, _⟩ => ⟨S1024x2560, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2560, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .i1⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S1x512, .f32⟩
  | .hbm, ⟨46, _⟩ => ⟨S16384x512, .f32⟩
  | .hbm, ⟨47, _⟩ => ⟨S16384x512, .f32⟩
  | .hbm, ⟨48, _⟩ => ⟨S1x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .i1⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S_, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S_, .f32⟩
  | .hbm, ⟨74, _⟩ => ⟨S16384x512, .f32⟩
  | .hbm, ⟨75, _⟩ => ⟨S16384x512, .f32⟩
  | .hbm, ⟨76, _⟩ => ⟨S_, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v40 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x8192x512 : Shape := ⟨3, ![2, 8192, 512]⟩
abbrev S2x256x512 : Shape := ⟨3, ![2, 256, 512]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x256x512 : Shape := ⟨3, ![1, 256, 512]⟩
abbrev S512x512 : Shape := ⟨2, ![512, 512]⟩
abbrev S512x1024 : Shape := ⟨2, ![512, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x1024, .f32⟩
  | .hbm, ⟨3, _⟩ => ⟨S2x256x512, .f32⟩
  | .hbm, ⟨4, _⟩ => ⟨S2x256x512, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1024x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x8192x1024 : Shape := ⟨3, ![2, 8192, 1024]⟩
abbrev S2x8192x512 : Shape := ⟨3, ![2, 8192, 512]⟩
abbrev S2x256x512 : Shape := ⟨3, ![2, 256, 512]⟩
abbrev S1024x1024 : Shape := ⟨2, ![1024, 1024]⟩
abbrev S1024 : Shape := ⟨1, ![1024]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x1024, .f32⟩
  | .hbm, ⟨3, _⟩ => ⟨S2x256x512, .f32⟩
  | .hbm, ⟨4, _⟩ => ⟨S2x256x512, .f32⟩
  | .hbm, ⟨5, _⟩ => ⟨S1024x1024, .f32⟩
  | .hbm, ⟨6, _⟩ => ⟨S1024, .f32⟩
  | .hbm, ⟨7, _⟩ => ⟨S2x8192x512, .f32⟩
  | .hbm, ⟨8, _⟩ => ⟨S2x8192x4x128, .f32⟩
  | .hbm, ⟨9, _⟩ => ⟨S2x256x4x128, .f32⟩
  | .hbm, ⟨10, _⟩ => ⟨S2x256x4x128, .f32⟩
  | .hbm, ⟨11, _⟩ => ⟨S2x4x8192x256, .f32⟩
  | .hbm, ⟨12, _⟩ => ⟨S_, .f32⟩
  | .hbm, ⟨13, _⟩ => ⟨S2x4x8192x256, .f32⟩
  | .hbm, ⟨14, _⟩ => ⟨S2x4x8192x256, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S2x4x8192x1, .f32⟩
  | .hbm, ⟨21, _⟩ => ⟨S2x4x8192x256, .f32⟩
  | .hbm, ⟨22, _⟩ => ⟨S2x4x8192x256, .f32⟩
  | .hbm, ⟨23, _⟩ => ⟨S2x4x8192x256, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x256, .f32⟩
  | .hbm, ⟨28, _⟩ => ⟨S2x4x8192x256, .f32⟩
  | .hbm, ⟨29, _⟩ => ⟨S2x4x128x8192, .f32⟩
  | .hbm, ⟨30, _⟩ => ⟨S2x8192x4x128, .f32⟩
  | .hbm, ⟨31, _⟩ => ⟨S2x8192x512, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1x1x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel8.lean ====
abbrev S2x8192x2560 : Shape := ⟨3, ![2, 8192, 2560]⟩
abbrev S128 : Shape := ⟨1, ![128]⟩
abbrev S768x64 : Shape := ⟨2, ![768, 64]⟩
abbrev S11x64x64 : Shape := ⟨3, ![11, 64, 64]⟩
abbrev S1x128 : Shape := ⟨2, ![1, 128]⟩
abbrev S2x8192x512 : Shape := ⟨3, ![2, 8192, 512]⟩
abbrev S2x4x128x128 : Shape := ⟨4, ![2, 4, 128, 128]⟩
abbrev S1x256x512 : Shape := ⟨3, ![1, 256, 512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S768x128 : Shape := ⟨2, ![768, 128]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩
abbrev S128x64 : Shape := ⟨2, ![128, 64]⟩
abbrev S1x1x128x128 : Shape := ⟨4, ![1, 1, 128, 128]⟩

abbrev nBuf : Space → Nat
  | .hbm => 7
  | .vmem => 16
  | .smem => 0
  | _ => 0

abbrev bufTy : (tb : Table) → Fin (tcTables nBuf tb) → BufTy
  | .hbm, ⟨0, _⟩ => ⟨S2x8192x2560, .f32⟩
  | .hbm, ⟨1, _⟩ => ⟨S128, .f32⟩
  | .hbm, ⟨2, _⟩ => ⟨S768x64, .bf16⟩
  | .hbm, ⟨3, _⟩ => ⟨S11x64x64, .f32⟩
  | .hbm, ⟨4, _⟩ => ⟨S1x128, .f32⟩
  | .hbm, ⟨5, _⟩ => ⟨S2x8192x512, .f32⟩
  | .hbm, ⟨6, _⟩ => ⟨S2x4x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x128, .f32⟩
  | .local _ .vmem, ⟨9, _⟩ => ⟨S768x64, .bf16⟩
  | .local _ .vmem, ⟨10, _⟩ => ⟨S11x64x64, .f32⟩
  | .local _ .vmem, ⟨11, _⟩ => ⟨S1x256x512, .f32⟩
  | .local _ .vmem, ⟨12, _⟩ => ⟨S1x256x512, .f32⟩
  | .local _ .vmem, ⟨13, _⟩ => ⟨S1x4x128x128, .f32⟩
  | .local _ .vmem, ⟨14, _⟩ => ⟨S1x4x128x128, .f32⟩
  | .local _ .vmem, ⟨15, _⟩ => ⟨S4x128x128, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v2714 : BitVec 1 := Scalar.cmpi .eq arg1 c31_i32
  let v2715 : BitVec 32 := Scalar.extui v2714
  let c0_i32_1205 : BitVec 32 := 0#32
  let v2716 : BitVec 1 := Scalar.cmpi .ne v2715 c0_i32_1205
  v2716

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S2x8192x2560 : Shape := ⟨3, ![2, 8192, 2560]⟩
abbrev S128 : Shape := ⟨1, ![128]⟩
abbrev S2x8192x512 : Shape := ⟨3, ![2, 8192, 512]⟩
abbrev S_ : Shape := ⟨0, ![]⟩
abbrev S64x64 : Shape := ⟨2, ![64, 64]⟩
abbrev S1x1x64x64x1 : Shape := ⟨5, ![1, 1, 64, 64, 1]⟩
abbrev S2x4x128x128 : Shape := ⟨4, ![2, 4, 128, 128]⟩
abbrev S2x128x64x4x128 : Shape := ⟨5, ![2, 128, 64, 4, 128]⟩
abbrev S128x2x4x64x128 : Shape := ⟨5, ![128, 2, 4, 64, 128]⟩
abbrev S1x2x4x64x128 : Shape := ⟨5, ![1, 2, 4, 64, 128]⟩
abbrev S2x4x64x128 : Shape := ⟨4, ![2, 4, 64, 128]⟩
abbrev S2x4x64x1x128 : Shape := ⟨5, ![2, 4, 64, 1, 128]⟩
abbrev S2x4x1x64x128 : Shape := ⟨5, ![2, 4, 1, 64, 128]⟩
abbrev S2x4x64x64x128 : Shape := ⟨5, ![2, 4, 64, 64, 128]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S2x8192x2560, .f32⟩
  | 1 => ⟨S128, .f32⟩
  | 2 => ⟨S2x8192x512, .f32⟩
  | 3 => ⟨S2x8192x512, .f32⟩
  | 4 => ⟨S2x8192x512, .f32⟩
  | 5 => ⟨S2x8192x512, .f32⟩
  | 6 => ⟨S2x8192x512, .f32⟩
  | 7 => ⟨S_, .i1⟩
  | 8 => ⟨S64x64, .i1⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .i1⟩
  | 16 => ⟨S64x64, .i1⟩
  | 17 => ⟨S64x64, .i1⟩
  | 18 => ⟨S1x1x64x64x1, .i1⟩
  | 19 => ⟨S_, .f32⟩
  | 20 => ⟨S2x4x128x128, .f32⟩
  | 21 => ⟨S2x128x64x4x128, .f32⟩
  | 22 => ⟨S128x2x4x64x128, .f32⟩
  | 23 => ⟨S2x128x64x4x128, .f32⟩
  | 24 => ⟨S128x2x4x64x128, .f32⟩
  | 25 => ⟨S2x128x64x4x128, .f32⟩
  | 26 => ⟨S128x2x4x64x128, .f32⟩
  | 27 => ⟨S2x128x64x4x128, .f32⟩
  | 28 => ⟨S128x2x4x64x128, .f32⟩
  | 29 => ⟨S_, .f32⟩
  | 30 => ⟨S128x2x4x64x128, .f32⟩
  | 31 => ⟨S_, .i32⟩
  | 32 => ⟨S128x2x4x64x128, .f32⟩
  | 33 => ⟨S128x2x4x64x128, .f32⟩
  | 34 => ⟨S128x2x4x64x128, .f32⟩
  | 35 => ⟨S128x2x4x64x128, .f32⟩
  | 36 => ⟨S1x1x64x64x1, .i1⟩
  | 37 => ⟨S_, .i32⟩
  | 38 => ⟨S2x4x128x128, .f32⟩
  | 39 => ⟨S128x2x4x64x128, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1x2x4x64x128, .f32⟩
  | 47 => ⟨S2x4x64x128, .f32⟩
  | 48 => ⟨S_, .i32⟩
  | 49 => ⟨S_, .i32⟩
  | 50 => ⟨S_, .i32⟩
  | 51 => ⟨S_, .i32⟩
  | 52 => ⟨S1x2x4x64x128, .f32⟩
  | 53 => ⟨S2x4x64x128, .f32⟩
  | 54 => ⟨S_, .i32⟩
  | 55 => ⟨S_, .i32⟩
  | 56 => ⟨S_, .i32⟩
  | 57 => ⟨S_, .i32⟩
  | 58 => ⟨S1x2x4x64x128, .f32⟩
  | 59 => ⟨S2x4x64x128, .f32⟩
  | 60 => ⟨S_, .i32⟩
  | 61 => ⟨S_, .i32⟩
  | 62 => ⟨S_, .i32⟩
  | 63 => ⟨S_, .i32⟩
  | 64 => ⟨S1x2x4x64x128, .f32⟩
  | 65 => ⟨S2x4x64x128, .f32⟩
  | 66 => ⟨S_, .f32⟩
  | 67 => ⟨S_, .f32⟩
  | 68 => ⟨S2x4x64x128, .f32⟩
  | 69 => ⟨S2x4x64x128, .f32⟩
  | 70 => ⟨S2x4x64x128, .f32⟩
  | 71 => ⟨S2x4x64x128, .f32⟩
  | 72 => ⟨S2x4x64x1x128, .f32⟩
  | 73 => ⟨S2x4x1x64x128, .f32⟩
  | 74 => ⟨S2x4x64x64x128, .f32⟩
  | 75 => ⟨S2x4x64x64x128, .f32⟩
  | 76 => ⟨S2x4x64x64x128, .f32⟩
  | 77 => ⟨S_, .f32⟩
  | 78 => ⟨S2x4x64x64x128, .i1⟩
  | 79 => ⟨S2x4x64x64x128, .f32⟩
  | 80 => ⟨S2x4x64x64x128, .f32⟩
  | 81 => ⟨S2x4x64x64x128, .f32⟩
  | 82 => ⟨S2x4x64x1x128, .f32⟩
  | 83 => ⟨S2x4x1x64x128, .f32⟩
  | 84 => ⟨S2x4x64x64x128, .f32⟩
  | 85 => ⟨S2x4x64x64x128, .f32⟩
  | 86 => ⟨S2x4x64x64x128, .f32⟩
  | 87 => ⟨S2x4x64x64x128, .f32⟩
  | 88 => ⟨S_, .f32⟩
  | 89 => ⟨S2x4x64x64, .f32⟩
  | 90 => ⟨S2x4x64x128, .f32⟩
  | 91 => ⟨S2x4x64x128, .f32⟩
  | 92 => ⟨S2x4x1x128, .f32⟩
  | 93 => ⟨S2x4x128, .f32⟩
  | 94 => ⟨S2x4x128x1, .f32⟩
  | 95 => ⟨S2x4x128x1, .f32⟩
  | 96 => ⟨S2x4x128x128, .f32⟩
  | 97 => ⟨S2x4x128x128, .f32⟩
  | 98 => ⟨S2x4x64x128, .f32⟩
  | 99 => ⟨S2x4x64x128, .f32⟩
  | 100 => ⟨S2x4x64x128, .f32⟩
  | 101 => ⟨S2x4x64x128, .f32⟩
  | 102 => ⟨S2x4x128x128, .f32⟩
  | 103 => ⟨S2x4x128x128, .f32⟩
  | 104 => ⟨S1x2x4x64x128, .f32⟩
  | 105 => ⟨S_, .i32⟩
  | 106 => ⟨S_, .i32⟩
  | 107 => ⟨S_, .i32⟩
  | 108 => ⟨S_, .i32⟩
  | 109 => ⟨S128x2x4x64x128, .f32⟩
  | 110 => ⟨S_, .i32⟩
  | 111 => ⟨S_, .i32⟩
  | 112 => ⟨S2x128x64x4x128, .f32⟩
  | 113 => ⟨S2x8192x4x128, .f32⟩
  | 114 => ⟨S2x8192x512, .f32⟩
  | 115 => ⟨S2x8192x4x128, .f32⟩
  | 116 => ⟨S_, .f32⟩
  | 117 => ⟨S2x8192x4, .f32⟩
  | 118 => ⟨S2x8192x4x1, .f32⟩
  | 119 => ⟨S_, .f32⟩
  | 120 => ⟨S2x8192x4x1, .f32⟩
  | 121 => ⟨S2x8192x4x1, .f32⟩
  | 122 => ⟨S_, .f32⟩
  | 123 => ⟨S2x8192x4x1, .f32⟩
  | 124 => ⟨S2x8192x4x1, .f32⟩
  | 125 => ⟨S2x8192x4x1, .f32⟩
  | 126 => ⟨S2x8192x4x128, .f32⟩
  | 127 => ⟨S2x8192x4x128, .f32⟩
  | _ => ⟨S2x8192x2560, .f32⟩

abbrev hbmTy0_1 (i : Nat) : BufTy := match i % 128 with
  | 0 => ⟨S1x1x1x128, .f32⟩
  | 1 => ⟨S2x8192x4x128, .f32⟩
  | 2 => ⟨S2x8192x4x128, .f32⟩
  | 3 => ⟨S2x8192x4x128, .f32⟩
  | 4 => ⟨S2x8192x4x128, .f32⟩
  | 5 => ⟨S2x8192x512, .f32⟩
  | _ => ⟨S2x8192x2560, .f32⟩

abbrev hbmTy (i : Nat) : BufTy := match i / 128 with
  | 0 => hbmTy0_0 i
  | 1 => hbmTy0_1 i
  | _ => ⟨S2x8192x2560, .f32⟩

abbrev bufTy : (tb : Table) → Fin (tcTables nBuf tb) → BufTy
  | .hbm, ⟨i, _⟩ => hbmTy i
  | _, _ => ⟨S2x8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_c_1 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v18_6 : Ref sig .tc := ⟨.hbm, 38, rfl⟩
abbrev main_v18_7 : Ref sig .tc := ⟨.hbm, 39, rfl⟩
abbrev main_while0c_c_12 : Ref sig .tc := ⟨.hbm, 40, rfl⟩
abbrev main_while0c_v38 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_c_2 : Ref sig .tc := ⟨.hbm, 45, rfl⟩
abbrev main_while0b_call1_v0 : Ref sig .tc := ⟨.hbm, 46, rfl⟩
abbrev main_while0b_v38 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_c_2 : Ref sig .tc := ⟨.hbm, 51, rfl⟩
abbrev main_while0b_call2_v0 : Ref sig .tc := ⟨.hbm, 52, rfl⟩
abbrev main_while0b_v39 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_c_2 : Ref sig .tc := ⟨.hbm, 57, rfl⟩
abbrev main_while0b_call3_v0 : Ref sig .tc := ⟨.hbm, 58, rfl⟩
abbrev main_while0b_v40 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_c_2 : Ref sig .tc := ⟨.hbm, 63, rfl⟩
abbrev main_while0b_call4_v0 : Ref sig .tc := ⟨.hbm, 64, rfl⟩
abbrev main_while0b_v41 : Ref sig .tc := ⟨.hbm, 65, rfl⟩
abbrev main_while0b_call5_call0_cst : Ref sig .tc := ⟨.hbm, 66, rfl⟩
abbrev main_while0b_call5_call0_v0 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_cst_12 : Ref sig .tc := ⟨.hbm, 77, rfl⟩
abbrev main_while0b_call6_v0 : Ref sig .tc := ⟨.hbm, 78, rfl⟩
abbrev main_while0b_call6_v1 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_cst_13 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_v73 : Ref sig .tc := ⟨.hbm, 103, rfl⟩
abbrev main_while0b_call7_v0 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_v74 : Ref sig .tc := ⟨.hbm, 109, rfl⟩
abbrev main_while0b_c_14 : Ref sig .tc := ⟨.hbm, 110, rfl⟩
abbrev main_while0b_v75 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_cst_2 : Ref sig .tc := ⟨.hbm, 116, rfl⟩
abbrev main_v23 : Ref sig .tc := ⟨.hbm, 117, rfl⟩
abbrev main_v24 : Ref sig .tc := ⟨.hbm, 118, rfl⟩
abbrev main_cst_3 : Ref sig .tc := ⟨.hbm, 119, rfl⟩
abbrev main_v25 : Ref sig .tc := ⟨.hbm, 120, rfl⟩
abbrev main_v26 : Ref sig .tc := ⟨.hbm, 121, rfl⟩
abbrev main_cst_4 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩

abbrev nD : Nat := 1
abbrev τ : Topo := Topo.v7x

variable {F : FTy → Type} [FloatOps F]

abbrev main_while0_count : Scf.Loop 32 := ⟨0#32, 128#32, 1#32⟩
-- ==== Kernel9.lean ====
abbrev S2x8192x1024 : Shape := ⟨3, ![2, 8192, 1024]⟩
abbrev S2x8192x512 : Shape := ⟨3, ![2, 8192, 512]⟩
abbrev S2x8192x2560 : Shape := ⟨3, ![2, 8192, 2560]⟩
abbrev S2x256x512 : Shape := ⟨3, ![2, 256, 512]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x256x512 : Shape := ⟨3, ![1, 256, 512]⟩
abbrev S512x512 : Shape := ⟨2, ![512, 512]⟩
abbrev S512x1024 : Shape := ⟨2, ![512, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x2560, .f32⟩
  | .hbm, ⟨3, _⟩ => ⟨S2x256x512, .f32⟩
  | .hbm, ⟨4, _⟩ => ⟨S2x256x512, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1024x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S2x8192x1024 : Shape := ⟨3, ![2, 8192, 1024]⟩
abbrev S2x8192x512 : Shape := ⟨3, ![2, 8192, 512]⟩
abbrev S2x8192x2560 : Shape := ⟨3, ![2, 8192, 2560]⟩
abbrev S2x256x512 : Shape := ⟨3, ![2, 256, 512]⟩
abbrev S1024x1024 : Shape := ⟨2, ![1024, 1024]⟩
abbrev S1024 : Shape := ⟨1, ![1024]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x2560, .f32⟩
  | .hbm, ⟨3, _⟩ => ⟨S2x256x512, .f32⟩
  | .hbm, ⟨4, _⟩ => ⟨S2x256x512, .f32⟩
  | .hbm, ⟨5, _⟩ => ⟨S1024x1024, .f32⟩
  | .hbm, ⟨6, _⟩ => ⟨S1024, .f32⟩
  | .hbm, ⟨7, _⟩ => ⟨S2x8192x512, .f32⟩
  | .hbm, ⟨8, _⟩ => ⟨S2x8192x4x128, .f32⟩
  | .hbm, ⟨9, _⟩ => ⟨S2x256x4x128, .f32⟩
  | .hbm, ⟨10, _⟩ => ⟨S2x256x4x128, .f32⟩
  | .hbm, ⟨11, _⟩ => ⟨S2x4x8192x256, .f32⟩
  | .hbm, ⟨12, _⟩ => ⟨S_, .f32⟩
  | .hbm, ⟨13, _⟩ => ⟨S2x4x8192x256, .f32⟩
  | .hbm, ⟨14, _⟩ => ⟨S2x4x8192x256, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S2x4x8192x1, .f32⟩
  | .hbm, ⟨21, _⟩ => ⟨S2x4x8192x256, .f32⟩
  | .hbm, ⟨22, _⟩ => ⟨S2x4x8192x256, .f32⟩
  | .hbm, ⟨23, _⟩ => ⟨S2x4x8192x256, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x256, .f32⟩
  | .hbm, ⟨28, _⟩ => ⟨S2x4x8192x256, .f32⟩
  | .hbm, ⟨29, _⟩ => ⟨S2x4x128x8192, .f32⟩
  | .hbm, ⟨30, _⟩ => ⟨S2x8192x4x128, .f32⟩
  | .hbm, ⟨31, _⟩ => ⟨S2x8192x512, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1x1x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel10.lean ====
abbrev S128x1024 : Shape := ⟨2, ![128, 1024]⟩
abbrev S1024 : Shape := ⟨1, ![1024]⟩
abbrev S1024x1024 : Shape := ⟨2, ![1024, 1024]⟩
abbrev S1x1024 : Shape := ⟨2, ![1, 1024]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S128x512, .f32⟩
  | .hbm, ⟨6, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S128x512, .f32⟩
  | .local _ .vmem, ⟨4, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference10Ideal.lean ====
abbrev S128x1024 : Shape := ⟨2, ![128, 1024]⟩
abbrev S1024 : Shape := ⟨1, ![1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x512 : Shape := ⟨2, ![128, 512]⟩

abbrev nBuf : Space → Nat
  | .hbm => 22
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x512, .f32⟩
  | .hbm, ⟨21, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S128x2816 : Shape := ⟨2, ![128, 2816]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 10
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S128x1024, .f32⟩
  | .local _ .vmem, ⟨6, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference11Ideal.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x5632, .f32⟩
  | .hbm, ⟨22, _⟩ => ⟨S128x2816, .f32⟩
  | .hbm, ⟨23, _⟩ => ⟨S128x2816, .f32⟩
  | .hbm, ⟨24, _⟩ => ⟨S128x2816, .f32⟩
  | .hbm, ⟨25, _⟩ => ⟨S128x2816, .f32⟩
  | .hbm, ⟨26, _⟩ => ⟨S_, .f32⟩
  | .hbm, ⟨27, _⟩ => ⟨S128x2816, .f32⟩
  | .hbm, ⟨28, _⟩ => ⟨S128x2816, .f32⟩
  | .hbm, ⟨29, _⟩ => ⟨S_, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S128x2816, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x1024, .f32⟩
  | .hbm, ⟨47, _⟩ => ⟨S128x1024, .f32⟩
  | .hbm, ⟨48, _⟩ => ⟨S1x1024, .f32⟩
  | .hbm, ⟨49, _⟩ => ⟨S128x1024, .f32⟩
  | .hbm, ⟨50, _⟩ => ⟨S128x1024, .f32⟩
  | .hbm, ⟨51, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel12.lean ====
abbrev S128x2560 : Shape := ⟨2, ![128, 2560]⟩
abbrev S128 : Shape := ⟨1, ![128]⟩
abbrev S2x128x4x128x128 : Shape := ⟨5, ![2, 128, 4, 128, 128]⟩
abbrev S1x128 : Shape := ⟨2, ![1, 128]⟩
abbrev S128x512 : Shape := ⟨2, ![128, 512]⟩
abbrev S128x4x128x128 : Shape := ⟨4, ![128, 4, 128, 128]⟩
abbrev S128x128 : Shape := ⟨2, ![128, 128]⟩
abbrev S1x128x1x128x128 : Shape := ⟨5, ![1, 128, 1, 128, 128]⟩
abbrev S128x1x128x128 : Shape := ⟨4, ![128, 1, 128, 128]⟩
abbrev S128x1 : Shape := ⟨2, ![128, 1]⟩
abbrev S1x1x1x128x128 : Shape := ⟨5, ![1, 1, 1, 128, 128]⟩
abbrev S1x1x128x128 : Shape := ⟨4, ![1, 1, 128, 128]⟩

abbrev nBuf : Space → Nat
  | .hbm => 6
  | .vmem => 16
  | .smem => 0
  | _ => 0

abbrev bufTy : (tb : Table) → Fin (tcTables nBuf tb) → BufTy
  | .hbm, ⟨0, _⟩ => ⟨S128x2560, .f32⟩
  | .hbm, ⟨1, _⟩ => ⟨S128, .f32⟩
  | .hbm, ⟨2, _⟩ => ⟨S2x128x4x128x128, .f32⟩
  | .hbm, ⟨3, _⟩ => ⟨S1x128, .f32⟩
  | .hbm, ⟨4, _⟩ => ⟨S128x512, .f32⟩
  | .hbm, ⟨5, _⟩ => ⟨S128x4x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128x1x128x128, .f32⟩
  | .local _ .vmem, ⟨10, _⟩ => ⟨S1x128x1x128x128, .f32⟩
  | .local _ .vmem, ⟨11, _⟩ => ⟨S128x128, .f32⟩
  | .local _ .vmem, ⟨12, _⟩ => ⟨S128x128, .f32⟩
  | .local _ .vmem, ⟨13, _⟩ => ⟨S128x1x128x128, .f32⟩
  | .local _ .vmem, ⟨14, _⟩ => ⟨S128x1x128x128, .f32⟩
  | .local _ .vmem, ⟨15, _⟩ => ⟨S128x128, .f32⟩
  | _, _ => ⟨S128x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S128x2560 : Shape := ⟨2, ![128, 2560]⟩
abbrev S128 : Shape := ⟨1, ![128]⟩
abbrev S2x128x4x128x128 : Shape := ⟨5, ![2, 128, 4, 128, 128]⟩
abbrev S128x512 : Shape := ⟨2, ![128, 512]⟩
abbrev S128x4x128 : Shape := ⟨3, ![128, 4, 128]⟩
abbrev S1x128x4x128x128 : Shape := ⟨5, ![1, 128, 4, 128, 128]⟩
abbrev S128x4x128x128 : Shape := ⟨4, ![128, 4, 128, 128]⟩
abbrev S128x4 : Shape := ⟨2, ![128, 4]⟩
abbrev S128x4x1 : Shape := ⟨3, ![128, 4, 1]⟩
abbrev S128x4x128x1 : Shape := ⟨4, ![128, 4, 128, 1]⟩
abbrev S128x4x1x128 : Shape := ⟨4, ![128, 4, 1, 128]⟩
abbrev S_ : Shape := ⟨0, ![]⟩
abbrev S1x1x128 : Shape := ⟨3, ![1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S128x2560, .f32⟩
  | .hbm, ⟨1, _⟩ => ⟨S128, .f32⟩
  | .hbm, ⟨2, _⟩ => ⟨S2x128x4x128x128, .f32⟩
  | .hbm, ⟨3, _⟩ => ⟨S128x512, .f32⟩
  | .hbm, ⟨4, _⟩ => ⟨S128x4x128, .f32⟩
  | .hbm, ⟨5, _⟩ => ⟨S128x512, .f32⟩
  | .hbm, ⟨6, _⟩ => ⟨S128x4x128, .f32⟩
  | .hbm, ⟨7, _⟩ => ⟨S128x512, .f32⟩
  | .hbm, ⟨8, _⟩ => ⟨S128x4x128, .f32⟩
  | .hbm, ⟨9, _⟩ => ⟨S128x512, .f32⟩
  | .hbm, ⟨10, _⟩ => ⟨S128x4x128, .f32⟩
  | .hbm, ⟨11, _⟩ => ⟨S128x4x128, .f32⟩
  | .hbm, ⟨12, _⟩ => ⟨S128x4x128, .f32⟩
  | .hbm, ⟨13, _⟩ => ⟨S1x128x4x128x128, .f32⟩
  | .hbm, ⟨14, _⟩ => ⟨S128x4x128x128, .f32⟩
  | .hbm, ⟨15, _⟩ => ⟨S128x4x128, .f32⟩
  | .hbm, ⟨16, _⟩ => ⟨S128x4x128, .f32⟩
  | .hbm, ⟨17, _⟩ => ⟨S128x4x128, .f32⟩
  | .hbm, ⟨18, _⟩ => ⟨S128x4x128, .f32⟩
  | .hbm, ⟨19, _⟩ => ⟨S128x4x128, .f32⟩
  | .hbm, ⟨20, _⟩ => ⟨S128x4x128, .f32⟩
  | .hbm, ⟨21, _⟩ => ⟨S128x4, .f32⟩
  | .hbm, ⟨22, _⟩ => ⟨S128x4x1, .f32⟩
  | .hbm, ⟨23, _⟩ => ⟨S128x4x128, .f32⟩
  | .hbm, ⟨24, _⟩ => ⟨S128x4x128, .f32⟩
  | .hbm, ⟨25, _⟩ => ⟨S128x4x128, .f32⟩
  | .hbm, ⟨26, _⟩ => ⟨S128x4x128, .f32⟩
  | .hbm, ⟨27, _⟩ => ⟨S128x4x128x1, .f32⟩
  | .hbm, ⟨28, _⟩ => ⟨S128x4x128x128, .f32⟩
  | .hbm, ⟨29, _⟩ => ⟨S128x4x128x128, .f32⟩
  | .hbm, ⟨30, _⟩ => ⟨S128x4x128, .f32⟩
  | .hbm, ⟨31, _⟩ => ⟨S128x4x128, .f32⟩
  | .hbm, ⟨32, _⟩ => ⟨S128x4x128, .f32⟩
  | .hbm, ⟨33, _⟩ => ⟨S128x4x128x1, .f32⟩
  | .hbm, ⟨34, _⟩ => ⟨S128x4x1x128, .f32⟩
  | .hbm, ⟨35, _⟩ => ⟨S128x4x128x128, .f32⟩
  | .hbm, ⟨36, _⟩ => ⟨S128x4x128x128, .f32⟩
  | .hbm, ⟨37, _⟩ => ⟨S128x4x128x128, .f32⟩
  | .hbm, ⟨38, _⟩ => ⟨S128x4x128x128, .f32⟩
  | .hbm, ⟨39, _⟩ => ⟨S128x4x128, .f32⟩
  | .hbm, ⟨40, _⟩ => ⟨S_, .f32⟩
  | .hbm, ⟨41, _⟩ => ⟨S128x4, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S128x4x1, .f32⟩
  | .hbm, ⟨50, _⟩ => ⟨S128x4x128, .f32⟩
  | .hbm, ⟨51, _⟩ => ⟨S128x4x128, .f32⟩
  | .hbm, ⟨52, _⟩ => ⟨S1x1x128, .f32⟩
  | .hbm, ⟨53, _⟩ => ⟨S128x4x128, .f32⟩
  | .hbm, ⟨54, _⟩ => ⟨S128x4x128, .f32⟩
  | .hbm, ⟨55, _⟩ => ⟨S128x4x128, .f32⟩
  | .hbm, ⟨56, _⟩ => ⟨S128x512, .f32⟩
  | _, _ => ⟨S128x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst : Ref sig .tc := ⟨.hbm, 40, rfl⟩
abbrev main_v37 : Ref sig .tc := ⟨.hbm, 41, rfl⟩
abbrev main_v38 : Ref sig .tc := ⟨.hbm, 42, rfl⟩
abbrev main_cst_0 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩

abbrev nD : Nat := 1
abbrev τ : Topo := Topo.v7x

variable {F : FTy → Type} [FloatOps F]
-- ==== Kernel13.lean ====
abbrev S128x1024 : Shape := ⟨2, ![128, 1024]⟩
abbrev S1024 : Shape := ⟨1, ![1024]⟩
abbrev S512 : Shape := ⟨1, ![512]⟩
abbrev S1024x2560 : Shape := ⟨2, ![1024, 2560]⟩
abbrev S1x1024 : Shape := ⟨2, ![1, 1024]⟩
abbrev S1x512 : Shape := ⟨2, ![1, 512]⟩
abbrev S128x2560 : Shape := ⟨2, ![128, 2560]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩

abbrev nBuf : Space → Nat
  | .hbm => 8
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S512, .f32⟩
  | .hbm, ⟨3, _⟩ => ⟨S1024x2560, .f32⟩
  | .hbm, ⟨4, _⟩ => ⟨S1024x2560, .bf16⟩
  | .hbm, ⟨5, _⟩ => ⟨S1x1024, .f32⟩
  | .hbm, ⟨6, _⟩ => ⟨S1x512, .f32⟩
  | .hbm, ⟨7, _⟩ => ⟨S128x2560, .f32⟩
  | .local _ .vmem, ⟨0, _⟩ => ⟨S128x1024, .f32⟩
  | .local _ .vmem, ⟨1, _⟩ => ⟨S1x1024, .f32⟩
  | .local _ .vmem, ⟨2, _⟩ => ⟨S1x512, .f32⟩
  | .local _ .vmem, ⟨3, _⟩ => ⟨S1024x2560, .bf16⟩
  | .local _ .vmem, ⟨4, _⟩ => ⟨S128x2560, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference13Ideal.lean ====
abbrev S128x1024 : Shape := ⟨2, ![128, 1024]⟩
abbrev S1024 : Shape := ⟨1, ![1024]⟩
abbrev S512 : Shape := ⟨1, ![512]⟩
abbrev S1024x2560 : Shape := ⟨2, ![1024, 2560]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2560 : Shape := ⟨2, ![128, 2560]⟩
abbrev S128x512 : Shape := ⟨2, ![128, 512]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S512, .f32⟩
  | .hbm, ⟨3, _⟩ => ⟨S1024x2560, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x2560, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x512, .i1⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S1x512, .f32⟩
  | .hbm, ⟨46, _⟩ => ⟨S128x512, .f32⟩
  | .hbm, ⟨47, _⟩ => ⟨S128x512, .f32⟩
  | .hbm, ⟨48, _⟩ => ⟨S1x512, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S128x512, .i1⟩
  | .hbm, ⟨54, _⟩ => ⟨S128x512, .f32⟩
  | .hbm, ⟨55, _⟩ => ⟨S128x512, .f32⟩
  | .hbm, ⟨56, _⟩ => ⟨S128x512, .f32⟩
  | .hbm, ⟨57, _⟩ => ⟨S128x512, .f32⟩
  | .hbm, ⟨58, _⟩ => ⟨S128x512, .f32⟩
  | .hbm, ⟨59, _⟩ => ⟨S128x512, .f32⟩
  | .hbm, ⟨60, _⟩ => ⟨S128x512, .f32⟩
  | .hbm, ⟨61, _⟩ => ⟨S128x512, .f32⟩
  | .hbm, ⟨62, _⟩ => ⟨S128x512, .f32⟩
  | .hbm, ⟨63, _⟩ => ⟨S128x512, .f32⟩
  | .hbm, ⟨64, _⟩ => ⟨S_, .f32⟩
  | .hbm, ⟨65, _⟩ => ⟨S128x512, .f32⟩
  | .hbm, ⟨66, _⟩ => ⟨S128x512, .f32⟩
  | .hbm, ⟨67, _⟩ => ⟨S_, .f32⟩
  | .hbm, ⟨68, _⟩ => ⟨S128x512, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S128x512, .f32⟩
  | .hbm, ⟨73, _⟩ => ⟨S_, .f32⟩
  | .hbm, ⟨74, _⟩ => ⟨S128x512, .f32⟩
  | .hbm, ⟨75, _⟩ => ⟨S128x512, .f32⟩
  | .hbm, ⟨76, _⟩ => ⟨S_, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S128x2560, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v40 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]
-- ==== Proof.Norm.lean ====
/- Root-mean-square normalisation of one row of 1024 numbers, and the logistic of a difference from zero. -/
module

public import Idealize.ShloMosaic.Lib.Pointwise

@[expose] public section

noncomputable section

namespace Cert.Hand

open Idealize.ShloMosaic

/-- A row divided by its root mean square, times its gain, at a column. -/
def normRow (x g : Fin 1024 → EReal) (k : Fin 1024) : EReal :=
  x k * Ideal.rsqrt (Ideal.div (∑ l : Fin 1024, x l * x l) (FloatOps.ofBits (F := Ideal) .f32 0x44800000#32)
    + FloatOps.ofBits (F := Ideal) .f32 0x358637BD#32) * g k

/-- The word of zero is zero. -/
theorem zeroWord : (FloatOps.ofBits (F := Ideal) .f32 0x00000000#32 : EReal) = 0 := Ideal.ofBits_zero_f32

/-- The word of one is one. -/
theorem oneWord : (FloatOps.ofBits (F := Ideal) .f32 0x3F800000#32 : EReal) = 1 := Ideal.ofBits_one_f32

end Cert.Hand

end
-- ==== Proof.Kv.lean ====
/- The key and value projection: what the kernel leaves in its two output arrays. -/
module

public import proofs.«01_k».proof.Proof.Norm
public import proofs.«01_k».proof.Proof.Gen.Kernel4Ideal.Value
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.ShloMosaic.Tactic
open Idealize.SL.Sem Cert.Hand

variable (m : (ℓ : Loc nD τ sig) → Buf (Elt Ideal) ℓ)

/-- One entry of the normalised rows times the weights. -/
def proj (h : S16384x1024.Idx → EReal) (g : S1024.Idx → EReal) (w : S1024x1024.Idx → EReal) (r : Fin 16384) (j : Fin 1024) : EReal :=
  ∑ k : Fin 1024, normRow (fun k => h (ix2 r k)) (fun k => g (ix1 k)) k * w (ix2 k j)

/-- Column `j` of the keys' half of the weights, and of the values' half. -/
def low (j : Fin 512) : Fin 1024 := ⟨j.val, by omega⟩
def high (j : Fin 512) : Fin 1024 := ⟨512 + j.val, by omega⟩

theorem xn_apply (v0 : Vec Ideal S512x1024 .f32) (v1 : Vec Ideal S1x1024 .f32) (r : Fin 512) (k : Fin 1024) :
    k0_pay1 (F := Ideal) v0 v1 (ix2 r k) = normRow (fun k => v0 (ix2 r k)) (fun k => v1 (ix2 0 k)) k := by
  pointwise [k0_pay1]
  rfl

theorem pay2_apply (v0 : Vec Ideal S512x1024 .f32) (v1 : Vec Ideal S1x1024 .f32) (w : Vec Ideal S1024x512 .bf16) (r j : Fin 512) :
    k0_pay2 (F := Ideal) v0 v1 w (ix2 r j) = ∑ k : Fin 1024, normRow (fun k => v0 (ix2 r k)) (fun k => v1 (ix2 0 k)) k * w (ix2 k j) := by
  pointwise [k0_pay2]
  simp only [xn_apply]

theorem pay3_apply (v0 : Vec Ideal S512x1024 .f32) (v1 : Vec Ideal S1x1024 .f32) (w : Vec Ideal S1024x512 .bf16) (r j : Fin 512) :
    k0_pay3 (F := Ideal) v0 v1 w (ix2 r j) = ∑ k : Fin 1024, normRow (fun k => v0 (ix2 r k)) (fun k => v1 (ix2 0 k)) k * w (ix2 k j) :=
  pay2_apply v0 v1 w r j

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![(grid0.coords t 0).val, 0] :=
  (by decide +kernel : ∀ t : Fin grid0.N, win0_3.index t = ![(grid0.coords t 0).val, 0])
theorem idx4 : ∀ t : Fin cfg0.N, win0_4.index t = ![(grid0.coords t 0).val, 0] :=
  (by decide +kernel : ∀ t : Fin grid0.N, win0_4.index t = ![(grid0.coords t 0).val, 0])

/-- Row `r` of block `t`, in the array. -/
def row (t : Fin cfg0.N) (r : Fin 512) : Fin 16384 :=
  ⟨(grid0.coords t 0).val * 512 + r.val, by have h : (grid0.coords t 0).val < 32 := (grid0.coords t 0).isLt; omega⟩

theorem iblk0_apply (c : Dev nD) (t : Fin cfg0.N) (r : Fin 512) (k : Fin 1024) :
    iblk m c 0 t (ix2 r k) = m ((c.tc : Thread nD τ).loc main_arg0) (ix2 (row t r) k) := by
  blk_simp [iblk]
  rw [← V_main_arg0 m c]
  refine congrArg (V m c main_arg0) ?_
  blk_ext [idx0 t, row]

theorem V_main_v1 (c : Dev nD) (k : Fin 1024) : V m c main_v1 (ix2 0 k) = m ((c.tc : Thread nD τ).loc main_arg1) (ix1 k) := by
  show shapeCast S1x1024 (m ((c.tc : Thread nD τ).loc main_arg1)) shapeCasts_S1024_S1x1024 (ix2 0 k) = _
  pointwise

theorem V_main_v0 (c : Dev nD) : V m c main_v0 = m ((c.tc : Thread nD τ).loc main_arg2) := rfl

theorem iblk1_apply (c : Dev nD) (t : Fin cfg0.N) (k : Fin 1024) :
    iblk m c 1 t (ix2 0 k) = m ((c.tc : Thread nD τ).loc main_arg1) (ix1 k) := by
  rw [← V_main_v1 m c]
  blk_simp [iblk]
  refine congrArg (V m c main_v1) ?_
  blk_ext [idx1 t]

theorem iblk2_apply (c : Dev nD) (t : Fin cfg0.N) (k j : Fin 1024) :
    iblk m c 2 t (ix2 k j) = m ((c.tc : Thread nD τ).loc main_arg2) (ix2 k j) := by
  rw [← V_main_v0 m c]
  blk_simp [iblk]
  refine congrArg (V m c main_v0) ?_
  blk_ext [idx2 t]

theorem lit2 : (![0, 0] : Fin 2 → ℕ) = fun _ => 0 := by
  funext a; fin_cases a <;> rfl

/-- Columns `p` onward of the weights. -/
theorem ld_cols (w : Vec Ideal S1024x1024 .bf16) (p : ℕ) (hp : p ≤ 512) (inb) (k : Fin 1024) (j : Fin 512) :
    View.ld w (Rect.unit (s := S1024x1024) ![0, p] S1024x512.size inb) (ix2 k j) = w (ix2 k ⟨p + j.val, by omega⟩) :=
  View.ld_unit_apply_of w _ _ _ _ _ fun a => by
    match a with
    | ⟨0, _⟩ => show k.val = 0 + k.val; omega
    | ⟨1, _⟩ => rfl

theorem out3_apply (c : Dev nD) (t : Fin cfg0.N) (r j : Fin 512) :
    out0_3 (F := Ideal) (iblk m c 0 t) (iblk m c 1 t) (iblk m c 2 t) (ix2 r j)
      = proj (m ((c.tc : Thread nD τ).loc main_arg0)) (m ((c.tc : Thread nD τ).loc main_arg1)) (m ((c.tc : Thread nD τ).loc main_arg2)) (row t r) (low j) := by
  unfold out0_3
  refine (congrFun (View.canon_unit_zero lit2 _ _) _).trans ?_
  refine (pay2_apply _ _ _ r j).trans ?_
  refine Finset.sum_congr rfl fun k _ => ?_
  refine congrArg₂ (· * ·) ?_ ?_
  · rw [View.ld_unit_zero lit2, View.ld_unit_zero lit2]
    simp only [iblk0_apply, iblk1_apply]
  · refine (ld_cols _ 0 (by omega) _ k j).trans ((iblk2_apply m c t k _).trans ?_)
    simp only [Nat.zero_add, low]

theorem out4_apply (c : Dev nD) (t : Fin cfg0.N) (r j : Fin 512) :
    out0_4 (F := Ideal) (iblk m c 0 t) (iblk m c 1 t) (iblk m c 2 t) (ix2 r j)
      = proj (m ((c.tc : Thread nD τ).loc main_arg0)) (m ((c.tc : Thread nD τ).loc main_arg1)) (m ((c.tc : Thread nD τ).loc main_arg2)) (row t r) (high j) := by
  unfold out0_4
  refine (congrFun (View.canon_unit_zero lit2 _ _) _).trans ?_
  refine (pay3_apply _ _ _ r j).trans ?_
  refine Finset.sum_congr rfl fun k _ => ?_
  refine congrArg₂ (· * ·) ?_ ?_
  · rw [View.ld_unit_zero lit2, View.ld_unit_zero lit2]
    simp only [iblk0_apply, iblk1_apply]
  · exact (ld_cols _ 512 (by omega) _ k j).trans (iblk2_apply m c t k _)

/-- The keys' array after the run. -/
theorem final3 (c : Dev nD) : (dats m 0 c).arrAt 3 cfg0.N = fun i : S16384x512.Idx =>
    proj (m ((c.tc : Thread nD τ).loc main_arg0)) (m ((c.tc : Thread nD τ).loc main_arg1)) (m ((c.tc : Thread nD τ).loc main_arg2))
      (i 0) (low (i 1)) := by
  refine (dats m 0 c).arrAt_eq_of_covers 3 _ (by decide +kernel) fun t hf y => ?_
  blk_simp
  rw [after0_3]
  obtain ⟨r, j, rfl⟩ : ∃ (r j : Fin 512), y = ix2 r j := ⟨y 0, y 1, funext fun a => by match a with | ⟨0, _⟩ => rfl | ⟨1, _⟩ => rfl⟩
  refine (out3_apply m c t r j).trans (congrArg₂ (proj _ _ _) (Fin.ext ?_) (Fin.ext ?_))
  · blk_simp
    rw [idx3 t]
    rfl
  · show j.val = ((win0_3.blk t).view.emb (ix2 r j) 1).val
    blk_simp
    rw [idx3 t]
    show j.val = 0 * 512 + j.val
    omega

/-- The values' array after the run. -/
theorem final4 (c : Dev nD) : (dats m 0 c).arrAt 4 cfg0.N = fun i : S16384x512.Idx =>
    proj (m ((c.tc : Thread nD τ).loc main_arg0)) (m ((c.tc : Thread nD τ).loc main_arg1)) (m ((c.tc : Thread nD τ).loc main_arg2))
      (i 0) (high (i 1)) := by
  refine (dats m 0 c).arrAt_eq_of_covers 4 _ (by decide +kernel) fun t hf y => ?_
  blk_simp
  rw [after0_4]
  obtain ⟨r, j, rfl⟩ : ∃ (r j : Fin 512), y = ix2 r j := ⟨y 0, y 1, funext fun a => by match a with | ⟨0, _⟩ => rfl | ⟨1, _⟩ => rfl⟩
  refine (out4_apply m c t r j).trans (congrArg₂ (proj _ _ _) (Fin.ext ?_) (Fin.ext ?_))
  · blk_simp
    rw [idx4 t]
    rfl
  · show 512 + j.val = 512 + ((win0_4.blk t).view.emb (ix2 r j) 1).val
    blk_simp
    rw [idx4 t]
    show 512 + j.val = 512 + (0 * 512 + j.val)
    omega

end Cert.Kernel4Ideal.Hand

end
-- ==== Proof.SampleKv.lean ====
/- The key and value projection of the sample group: one block of 128 rows, with the prompt's columns and rows' formula. -/
module

public import proofs.«01_k».proof.Proof.Kv
public import proofs.«01_k».proof.Proof.Gen.Kernel10Ideal.Value
public import proofs.«01_k».proof.Proof.Gen.Reference10Ideal.Read

@[expose] public section

set_option maxRecDepth 16384

noncomputable section

namespace Cert.Kernel10Ideal.Hand

open Cert.Kernel10Ideal Cert.Kernel10Ideal.Gen Idealize.ShloMosaic Idealize.ShloMosaic.TcCoe Idealize.ShloMosaic.Tactic
open Idealize.SL.Sem Cert.Hand
open Cert.Kernel4Ideal.Hand (low high ld_cols lit2)

variable (m : (ℓ : Loc nD τ sig) → Buf (Elt Ideal) ℓ)

/-- One entry of the normalised rows times the weights. -/
def proj (h : S128x1024.Idx → EReal) (g : S1024.Idx → EReal) (w : S1024x1024.Idx → EReal) (r : Fin 128) (j : Fin 1024) : EReal :=
  ∑ k : Fin 1024, normRow (fun k => h (ix2 r k)) (fun k => g (ix1 k)) k * w (ix2 k j)

theorem xn_apply (v0 : Vec Ideal S128x1024 .f32) (v1 : Vec Ideal S1x1024 .f32) (r : Fin 128) (k : Fin 1024) :
    k0_pay1 (F := Ideal) v0 v1 (ix2 r k) = normRow (fun k => v0 (ix2 r k)) (fun k => v1 (ix2 0 k)) k := by
  pointwise [k0_pay1]
  rfl

theorem pay2_apply (v0 : Vec Ideal S128x1024 .f32) (v1 : Vec Ideal S1x1024 .f32) (w : Vec Ideal S1024x512 .bf16) (r : Fin 128) (j : Fin 512) :
    k0_pay2 (F := Ideal) v0 v1 w (ix2 r j) = ∑ k : Fin 1024, normRow (fun k => v0 (ix2 r k)) (fun k => v1 (ix2 0 k)) k * w (ix2 k j) := by
  pointwise [k0_pay2]
  simp only [xn_apply]

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])

theorem V_main_v1 (c : Dev nD) (k : Fin 1024) : V m c main_v1 (ix2 0 k) = m ((c.tc : Thread nD τ).loc main_arg1) (ix1 k) := by
  show shapeCast S1x1024 (m ((c.tc : Thread nD τ).loc main_arg1)) shapeCasts_S1024_S1x1024 (ix2 0 k) = _
  pointwise

theorem V_main_v0 (c : Dev nD) : V m c main_v0 = m ((c.tc : Thread nD τ).loc main_arg2) := rfl

theorem iblk0_apply (c : Dev nD) (t : Fin cfg0.N) (r : Fin 128) (k : Fin 1024) :
    iblk m c 0 t (ix2 r k) = m ((c.tc : Thread nD τ).loc main_arg0) (ix2 r k) := by
  blk_simp [iblk]
  rw [← V_main_arg0 m c]
  refine congrArg (V m c main_arg0) ?_
  blk_ext [idx0 t]

theorem iblk1_apply (c : Dev nD) (t : Fin cfg0.N) (k : Fin 1024) :
    iblk m c 1 t (ix2 0 k) = m ((c.tc : Thread nD τ).loc main_arg1) (ix1 k) := by
  rw [← V_main_v1 m c]
  blk_simp [iblk]
  refine congrArg (V m c main_v1) ?_
  blk_ext [idx1 t]

theorem iblk2_apply (c : Dev nD) (t : Fin cfg0.N) (k j : Fin 1024) :
    iblk m c 2 t (ix2 k j) = m ((c.tc : Thread nD τ).loc main_arg2) (ix2 k j) := by
  rw [← V_main_v0 m c]
  blk_simp [iblk]
  refine congrArg (V m c main_v0) ?_
  blk_ext [idx2 t]

/-- The block's rows times the columns `p` onward of the weights. -/
theorem half (x0 : Vec Ideal S128x1024 .f32) (x1 : Vec Ideal S1x1024 .f32) (x2 : Vec Ideal S1024x1024 .bf16) (p : ℕ) (hp : p ≤ 512) (h0 h1 h2)
    (r : Fin 128) (j : Fin 512) :
    k0_pay2 (F := Ideal) (View.ld x0 (Rect.unit (s := S128x1024) ![0, 0] S128x1024.size h0))
      (View.ld x1 (Rect.unit (s := S1x1024) ![0, 0] S1x1024.size h1))
      (View.ld x2 (Rect.unit (s := S1024x1024) ![0, p] S1024x512.size h2)) (ix2 r j)
      = ∑ k : Fin 1024, normRow (fun k => x0 (ix2 r k)) (fun k => x1 (ix2 0 k)) k * x2 (ix2 k ⟨p + j.val, by omega⟩) := by
  refine (pay2_apply _ _ _ r j).trans (Finset.sum_congr rfl fun k _ => congrArg₂ (· * ·) ?_ (ld_cols _ p hp _ k j))
  rw [View.ld_unit_zero lit2, View.ld_unit_zero lit2]

theorem half_blk (c : Dev nD) (t : Fin cfg0.N) (p : ℕ) (hp : p ≤ 512) (h0 h1 h2) (r : Fin 128) (j : Fin 512) :
    k0_pay2 (F := Ideal) (View.ld (iblk m c 0 t) (Rect.unit (s := S128x1024) ![0, 0] S128x1024.size h0))
      (View.ld (iblk m c 1 t) (Rect.unit (s := S1x1024) ![0, 0] S1x1024.size h1))
      (View.ld (iblk m c 2 t) (Rect.unit (s := S1024x1024) ![0, p] S1024x512.size h2)) (ix2 r j)
      = proj (m ((c.tc : Thread nD τ).loc main_arg0)) (m ((c.tc : Thread nD τ).loc main_arg1)) (m ((c.tc : Thread nD τ).loc main_arg2)) r
        ⟨p + j.val, by omega⟩ := by
  refine (half _ _ _ p hp h0 h1 h2 r j).trans ?_
  simp only [iblk0_apply, iblk1_apply, iblk2_apply]
  rfl

theorem out3_apply (c : Dev nD) (t : Fin cfg0.N) (r : Fin 128) (j : Fin 512) :
    out0_3 (F := Ideal) (iblk m c 0 t) (iblk m c 1 t) (iblk m c 2 t) (ix2 r j)
      = proj (m ((c.tc : Thread nD τ).loc main_arg0)) (m ((c.tc : Thread nD τ).loc main_arg1)) (m ((c.tc : Thread nD τ).loc main_arg2)) r (low j) := by
  unfold out0_3
  refine (congrFun (View.canon_unit_zero lit2 _ _) _).trans ((half_blk m c t 0 (Nat.zero_le _) _ _ _ r j).trans ?_)
  exact congrArg (proj _ _ _ r) (Fin.ext (Nat.zero_add j.val))

theorem out4_apply (c : Dev nD) (t : Fin cfg0.N) (r : Fin 128) (j : Fin 512) :
    out0_4 (F := Ideal) (iblk m c 0 t) (iblk m c 1 t) (iblk m c 2 t) (ix2 r j)
      = proj (m ((c.tc : Thread nD τ).loc main_arg0)) (m ((c.tc : Thread nD τ).loc main_arg1)) (m ((c.tc : Thread nD τ).loc main_arg2)) r (high j) := by
  unfold out0_4
  exact (congrFun (View.canon_unit_zero lit2 _ _) _).trans (half_blk m c t 512 (Nat.le_refl _) _ _ _ r j)

/-- The keys' array after the run. -/
theorem final3 (c : Dev nD) : (dats m 0 c).arrAt 3 cfg0.N = fun i : S128x512.Idx =>
    proj (m ((c.tc : Thread nD τ).loc main_arg0)) (m ((c.tc : Thread nD τ).loc main_arg1)) (m ((c.tc : Thread nD τ).loc main_arg2))
      (i 0) (low (i 1)) := by
  refine (dats m 0 c).arrAt_eq_of_covers 3 _ (by decide +kernel) fun t hf y => ?_
  blk_simp
  rw [after0_3]
  obtain ⟨r, j, rfl⟩ : ∃ (r : Fin 128) (j : Fin 512), y = ix2 r j := ⟨y 0, y 1, funext fun a => by match a with | ⟨0, _⟩ => rfl | ⟨1, _⟩ => rfl⟩
  refine (out3_apply m c t r j).trans (congrArg₂ (proj _ _ _) (Fin.ext ?_) (Fin.ext ?_))
  · blk_simp
    rw [idx3 t]
    show r.val = 0 * 128 + r.val
    omega
  · show j.val = ((win0_3.blk t).view.emb (ix2 r j) 1).val
    blk_simp
    rw [idx3 t]
    show j.val = 0 * 512 + j.val
    omega

/-- The values' array after the run. -/
theorem final4 (c : Dev nD) : (dats m 0 c).arrAt 4 cfg0.N = fun i : S128x512.Idx =>
    proj (m ((c.tc : Thread nD τ).loc main_arg0)) (m ((c.tc : Thread nD τ).loc main_arg1)) (m ((c.tc : Thread nD τ).loc main_arg2))
      (i 0) (high (i 1)) := by
  refine (dats m 0 c).arrAt_eq_of_covers 4 _ (by decide +kernel) fun t hf y => ?_
  blk_simp
  rw [after0_4]
  obtain ⟨r, j, rfl⟩ : ∃ (r : Fin 128) (j : Fin 512), y = ix2 r j := ⟨y 0, y 1, funext fun a => by match a with | ⟨0, _⟩ => rfl | ⟨1, _⟩ => rfl⟩
  refine (out4_apply m c t r j).trans (congrArg₂ (proj _ _ _) (Fin.ext ?_) (Fin.ext ?_))
  · blk_simp
    rw [idx4 t]
    show r.val = 0 * 128 + r.val
    omega
  · show 512 + j.val = 512 + ((win0_4.blk t).view.emb (ix2 r j) 1).val
    blk_simp
    rw [idx4 t]
    show 512 + j.val = 512 + (0 * 512 + j.val)
    omega

end Cert.Kernel10Ideal.Hand

namespace Cert.Reference10Ideal.Hand

open Cert.Reference10Ideal Cert.Reference10Ideal.Gen Cert.Reference10Ideal.Read Idealize.ShloMosaic
open Cert.Hand
open Cert.Kernel4Ideal.Hand (low high)
open Cert.Kernel10Ideal.Hand (proj)

variable (x0 : (⟨S128x1024, .f32⟩ : BufTy).Contents (Elt Ideal)) (x1 : (⟨S1024, .f32⟩ : BufTy).Contents (Elt Ideal))
  (x2 : (⟨S1024x1024, .f32⟩ : BufTy).Contents (Elt Ideal))

theorem norm_apply (r : Fin 128) (k : Fin 1024) :
    val_main_v12 (F := Ideal) x0 x1 (ix2 r k) = normRow (fun k => x0 (ix2 r k)) (fun k => x1 (ix1 k)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply, zeroWord, zero_add]
  simp only [val_main_v0_apply]
  have e : ∀ l : Fin 1024, idx_main_v1 (idx_main_v2 (idx_main_v8 (ix2 r k))) l = ix2 r l := fun l => by idx_ext
  have e' : idx_main_v10 (idx_main_v11 (ix2 r k)) = ix1 k := by idx_ext
  simp only [e, e']
  rfl

theorem prod_apply (r : Fin 128) (j : Fin 1024) : val_main_v13 (F := Ideal) x0 x1 x2 (ix2 r j) = proj x0 x1 x2 r j := by
  rw [val_main_v13_apply]
  refine Finset.sum_congr rfl fun k _ => ?_
  have e : lidx_main_v13 (ix2 r j) k = ix2 r k := by idx_ext
  have e' : ridx_main_v13 (ix2 r j) k = ix2 k j := by idx_ext
  rw [e, e', norm_apply]

theorem keys_apply (i : S128x512.Idx) : val_main_v14 (F := Ideal) x0 x1 x2 i = proj x0 x1 x2 (i 0) (low (i 1)) := by
  rw [val_main_v14_apply]
  refine (congrArg (val_main_v13 (F := Ideal) x0 x1 x2) (funext fun a => ?_)).trans (prod_apply x0 x1 x2 _ _)
  match a with
  | ⟨0, _⟩ => exact Fin.ext rfl
  | ⟨1, _⟩ => exact Fin.ext rfl

theorem values_apply (i : S128x512.Idx) : val_main_v15 (F := Ideal) x0 x1 x2 i = proj x0 x1 x2 (i 0) (high (i 1)) := by
  rw [val_main_v15_apply]
  refine (congrArg (val_main_v13 (F := Ideal) x0 x1 x2) (funext fun a => ?_)).trans (prod_apply x0 x1 x2 _ _)
  match a with
  | ⟨0, _⟩ => exact Fin.ext rfl
  | ⟨1, _⟩ => exact Fin.ext rfl

end Cert.Reference10Ideal.Hand

end
-- ==== Proof.FfnOut.lean ====
/- The feed-forward layer: what one point stores. -/
module

public import proofs.«01_k».proof.Proof.Norm
public import proofs.«01_k».proof.Proof.Gen.Kernel2Ideal.Value
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL.Sem Cert.Hand

theorem lit2 : (![0, 0] : Fin 2 → ℕ) = fun _ => 0 := by
  funext a; fin_cases a <;> rfl

/-- A gate times its logistic, times the other half. -/
def swish (a b : EReal) : EReal := a * Ideal.logistic a * b

theorem swish_eq (a b : EReal) :
    a * Ideal.div (FloatOps.ofBits (F := Ideal) .f32 0x3F800000#32)
      (FloatOps.ofBits (F := Ideal) .f32 0x3F800000#32 + Ideal.exp (0 - a)) * b = swish a b := by
  rw [oneWord, zero_sub]
  rfl

/-- Column `j` of the gates' half of the weights, and of the other half. -/
def gateCol (j : Fin 2816) : Fin 5632 := ⟨j.val, by omega⟩
def upCol (j : Fin 2816) : Fin 5632 := ⟨2816 + j.val, by omega⟩

/-- The hidden layer of one row `x`, already normalised, at a column. -/
def hidden (x : Fin 1024 → EReal) (w : S1024x5632.Idx → EReal) (j : Fin 2816) : EReal :=
  swish (∑ k : Fin 1024, x k * w (ix2 k (gateCol j))) (∑ k : Fin 1024, x k * w (ix2 k (upCol j)))

theorem xn_apply (v0 : Vec Ideal S512x1024 .f32) (v1 : Vec Ideal S1x1024 .f32) (r : Fin 512) (k : Fin 1024) :
    k0_pay3 (F := Ideal) v0 v1 (ix2 r k) = normRow (fun k => v0 (ix2 r k)) (fun k => v1 (ix2 0 k)) k := by
  pointwise [k0_pay3]
  rfl

theorem chunk_apply (v : FVec Ideal S512x1024 .bf16) (wg wu : Vec Ideal S1024x256 .bf16) (r : Fin 512) (j : Fin 256) :
    k0_pay7 (F := Ideal) v wg wu (ix2 r j)
      = swish (∑ k : Fin 1024, v (ix2 r k) * wg (ix2 k j)) (∑ k : Fin 1024, v (ix2 r k) * wu (ix2 k j)) := by
  rw [← swish_eq]
  pointwise [k0_pay7]

theorem down_apply (v0 : Vec Ideal S512x1024 .f32) (a : Vec Ideal S512x2816 .bf16) (w : Vec Ideal S2816x1024 .bf16) (g : Vec Ideal S1x1024 .f32)
    (r : Fin 512) (j : Fin 1024) :
    k0_pay2 (F := Ideal) v0 a w g (ix2 r j)
      = v0 (ix2 r j) + normRow (fun j => ∑ k : Fin 2816, a (ix2 r k) * w (ix2 k j)) (fun j => g (ix2 0 j)) j := by
  pointwise [k0_pay2]
  rfl

theorem ld_cols (w : Vec Ideal S1024x5632 .bf16) (p : ℕ) (hp : p ≤ 5376) (inb) (k : Fin 1024) (j : Fin 256) :
    View.ld w (Rect.unit (s := S1024x5632) ![0, p] S1024x256.size inb) (ix2 k j) = w (ix2 k ⟨p + j.val, by omega⟩) :=
  View.ld_unit_apply_of w _ _ _ _ _ fun a => by
    match a with
    | ⟨0, _⟩ => show k.val = 0 + k.val; omega
    | ⟨1, _⟩ => rfl

/-- The hidden layer of a block of rows. -/
def act (v : FVec Ideal S512x1024 .bf16) (w : Vec Ideal S1024x5632 .bf16) : Vec Ideal S512x2816 .bf16 :=
  fun i => hidden (fun k => v (ix2 (i 0) k)) w (i 1)

/-- One chunk of 256 columns is that block of the hidden layer. -/
theorem piece (v : FVec Ideal S512x1024 .bf16) (w : Vec Ideal S1024x5632 .bf16) (p q : ℕ) (hp : p ≤ 2560) (hq : q = 2816 + p)
    (inb inb' inb'') (x : S512x256.Idx) :
    k0_pay7 (F := Ideal) v (View.ld w (Rect.unit (s := S1024x5632) ![0, p] S1024x256.size inb))
      (View.ld w (Rect.unit (s := S1024x5632) ![0, q] S1024x256.size inb')) x
      = act v w ((Rect.unit (s := S512x2816) ![0, p] S512x256.size inb'').emb x) := by
  subst hq
  obtain ⟨r, j, rfl⟩ : ∃ (r : Fin 512) (j : Fin 256), x = ix2 r j :=
    ⟨x 0, x 1, funext fun a => by match a with | ⟨0, _⟩ => rfl | ⟨1, _⟩ => rfl⟩
  have e : (Rect.unit (s := S512x2816) ![0, p] S512x256.size inb'').emb (ix2 r j) = ix2 r (⟨p + j.val, by omega⟩ : Fin 2816) := by
    funext a
    refine Fin.ext ?_
    match a with
    | ⟨0, _⟩ => show 0 + 1 * r.val = r.val; omega
    | ⟨1, _⟩ => show p + 1 * j.val = p + j.val; omega
  have eu : ∀ k : Fin 1024, View.ld w (Rect.unit (s := S1024x5632) ![0, 2816 + p] S1024x256.size inb') (ix2 k j)
      = w (ix2 k (upCol ⟨p + j.val, by omega⟩)) := fun k =>
    (ld_cols w (2816 + p) (by omega) inb' k j).trans (congrArg (fun n => w (ix2 k n)) (Fin.ext (Nat.add_assoc _ _ _)))
  rw [e, chunk_apply]
  simp only [eu, ld_cols w p (by omega) inb]
  rfl

/-- The chunks make the hidden layer. -/
theorem scratch (arg7 : Memref sig .tc .vmem S512x2816 .bf16) (L : List (View.Piece (Elt Ideal) S512x2816 .bf16))
    (G : Vec Ideal S512x2816 .bf16) (hc : ∀ y : S512x2816.Idx, ∃ p ∈ L, y ∈ p.1.set)
    (hG : ∀ p ∈ L, ∀ x : p.1.shape.Idx, p.2 x = G (p.1.emb x)) (inb) :
    arg7.view.readCov L (Rect.unit (s := S512x2816) ![0, 0] S512x2816.size inb) = G := by
  rw [View.readCov_eq_canon_ld _ _ _ hc, View.ld_unit_zero lit2]
  exact funext fun y => View.canon_apply_of_pieces G L hG y (hc y)

set_option backward.isDefEq.respectTransparency false in
theorem out_val (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x2816 .bf16) (harg7 : arg7.IsWhole)
    (x0 : Vec Ideal S512x1024 .f32) (x1 : Vec Ideal S1x1024 .f32) (x2 : Vec Ideal S1024x5632 .bf16) (x3 : Vec Ideal S2816x1024 .bf16) (x4 : Vec Ideal S1x1024 .f32) :
    out0_A_5 (F := Ideal) c i arg1 harg1 arg2 harg2 arg3 harg3 arg4 harg4 arg5 harg5 arg6 harg6 arg7 harg7 x0 x1 x2 x3 x4
      = k0_pay2 (F := Ideal) x0 (act (k0_pay3 (F := Ideal) x0 x1) x2) x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  simp only [View.readAt_eq_ld, harg1.read_unread, harg2.read_unread, harg3.read_unread, harg4.read_unread, harg5.read_unread]
  have e1 : ∀ h, View.ld x0 (Rect.unit (s := S512x1024) ![0, 0] ![512, 1024] h) = x0 := fun h => View.ld_unit_zero lit2 _ _
  have e2 : ∀ h, View.ld x1 (Rect.unit (s := S1x1024) ![0, 0] ![1, 1024] h) = x1 := fun h => View.ld_unit_zero lit2 _ _
  have e3 : ∀ h, View.ld x3 (Rect.unit (s := S2816x1024) ![0, 0] ![2816, 1024] h) = x3 := fun h => View.ld_unit_zero lit2 _ _
  have e4 : ∀ h, View.ld x4 (Rect.unit (s := S1x1024) ![0, 0] ![1, 1024] h) = x4 := fun h => View.ld_unit_zero lit2 _ _
  simp only [e1, e2, e3, e4]
  refine (View.canon_unit_zero lit2 _ _).trans ?_
  refine congrArg (fun a : Vec Ideal S512x2816 .bf16 => k0_pay2 (F := Ideal) x0 a x3 x4) (scratch arg7 _ _ (fun y => View.cover_of_tiled _ ![512, 256] (by rfl) y) ?_ _)
  simp only [List.forall_mem_cons]
  refine ⟨fun x => ?_, fun x => ?_, fun x => ?_, fun x => ?_, fun x => ?_, fun x => ?_, fun x => ?_, fun x => ?_, fun x => ?_, fun x => ?_,
    fun x => ?_, fun p hp => absurd hp (List.not_mem_nil)⟩
  all_goals exact piece (k0_pay3 (F := Ideal) x0 x1) x2 _ _ (by omega) rfl _ _ _ x

end Cert.Kernel2Ideal.Hand

end
-- ==== Proof.SampleFfn.lean ====
/- The feed-forward layer of the sample group: one block of 128 rows, with the prompt's formula of a hidden row. -/
module

public import proofs.«01_k».proof.Proof.FfnOut
public import proofs.«01_k».proof.Proof.Gen.Kernel11Ideal.Value
public import proofs.«01_k».proof.Proof.Gen.Reference11Ideal.Read

@[expose] public section

set_option maxRecDepth 16384

noncomputable section

namespace Cert.Kernel11Ideal.Hand

open Cert.Kernel11Ideal Cert.Kernel11Ideal.Gen Idealize.ShloMosaic Idealize.ShloMosaic.TcCoe Idealize.ShloMosaic.Tactic
open Idealize.SL.Sem Cert.Hand
open Cert.Kernel2Ideal.Hand (lit2 swish swish_eq gateCol upCol hidden ld_cols)

theorem xn_apply (v0 : Vec Ideal S128x1024 .f32) (v1 : Vec Ideal S1x1024 .f32) (r : Fin 128) (k : Fin 1024) :
    k0_pay3 (F := Ideal) v0 v1 (ix2 r k) = normRow (fun k => v0 (ix2 r k)) (fun k => v1 (ix2 0 k)) k := by
  pointwise [k0_pay3]
  rfl

theorem chunk_apply (v : FVec Ideal S128x1024 .bf16) (wg wu : Vec Ideal S1024x256 .bf16) (r : Fin 128) (j : Fin 256) :
    k0_pay7 (F := Ideal) v wg wu (ix2 r j)
      = swish (∑ k : Fin 1024, v (ix2 r k) * wg (ix2 k j)) (∑ k : Fin 1024, v (ix2 r k) * wu (ix2 k j)) := by
  rw [← swish_eq]
  pointwise [k0_pay7]

theorem down_apply (v0 : Vec Ideal S128x1024 .f32) (a : Vec Ideal S128x2816 .bf16) (w : Vec Ideal S2816x1024 .bf16) (g : Vec Ideal S1x1024 .f32)
    (r : Fin 128) (j : Fin 1024) :
    k0_pay2 (F := Ideal) v0 a w g (ix2 r j)
      = v0 (ix2 r j) + normRow (fun j => ∑ k : Fin 2816, a (ix2 r k) * w (ix2 k j)) (fun j => g (ix2 0 j)) j := by
  pointwise [k0_pay2]
  rfl

/-- The hidden layer of the block's rows. -/
def act (v : FVec Ideal S128x1024 .bf16) (w : Vec Ideal S1024x5632 .bf16) : Vec Ideal S128x2816 .bf16 :=
  fun i => hidden (fun k => v (ix2 (i 0) k)) w (i 1)

/-- One chunk of 256 columns is that block of the hidden layer. -/
theorem piece (v : FVec Ideal S128x1024 .bf16) (w : Vec Ideal S1024x5632 .bf16) (p q : ℕ) (hp : p ≤ 2560) (hq : q = 2816 + p)
    (inb inb' inb'') (x : S128x256.Idx) :
    k0_pay7 (F := Ideal) v (View.ld w (Rect.unit (s := S1024x5632) ![0, p] S1024x256.size inb))
      (View.ld w (Rect.unit (s := S1024x5632) ![0, q] S1024x256.size inb')) x
      = act v w ((Rect.unit (s := S128x2816) ![0, p] S128x256.size inb'').emb x) := by
  subst hq
  obtain ⟨r, j, rfl⟩ : ∃ (r : Fin 128) (j : Fin 256), x = ix2 r j :=
    ⟨x 0, x 1, funext fun a => by match a with | ⟨0, _⟩ => rfl | ⟨1, _⟩ => rfl⟩
  have e : (Rect.unit (s := S128x2816) ![0, p] S128x256.size inb'').emb (ix2 r j) = ix2 r (⟨p + j.val, by omega⟩ : Fin 2816) := by
    funext a
    refine Fin.ext ?_
    match a with
    | ⟨0, _⟩ => show 0 + 1 * r.val = r.val; omega
    | ⟨1, _⟩ => show p + 1 * j.val = p + j.val; omega
  have eu : ∀ k : Fin 1024, View.ld w (Rect.unit (s := S1024x5632) ![0, 2816 + p] S1024x256.size inb') (ix2 k j)
      = w (ix2 k (upCol ⟨p + j.val, by omega⟩)) := fun k =>
    (ld_cols w (2816 + p) (by omega) inb' k j).trans (congrArg (fun n => w (ix2 k n)) (Fin.ext (Nat.add_assoc _ _ _)))
  have eg : ∀ k : Fin 1024, View.ld w (Rect.unit (s := S1024x5632) ![0, p] S1024x256.size inb) (ix2 k j)
      = w (ix2 k (gateCol ⟨p + j.val, by omega⟩)) := fun k => ld_cols w p (by omega) inb k j
  rw [e, chunk_apply]
  simp only [eu, eg]
  rfl

/-- The chunks make the hidden layer. -/
theorem scratch (arg7 : Memref sig .tc .vmem S128x2816 .bf16) (L : List (View.Piece (Elt Ideal) S128x2816 .bf16))
    (G : Vec Ideal S128x2816 .bf16) (hc : ∀ y : S128x2816.Idx, ∃ p ∈ L, y ∈ p.1.set)
    (hG : ∀ p ∈ L, ∀ x : p.1.shape.Idx, p.2 x = G (p.1.emb x)) (inb) :
    arg7.view.readCov L (Rect.unit (s := S128x2816) ![0, 0] S128x2816.size inb) = G := by
  rw [View.readCov_eq_canon_ld _ _ _ hc, View.ld_unit_zero lit2]
  exact funext fun y => View.canon_apply_of_pieces G L hG y (hc y)

set_option backward.isDefEq.respectTransparency false in
theorem out_val (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x2816 .bf16) (harg7 : arg7.IsWhole)
    (x0 : Vec Ideal S128x1024 .f32) (x1 : Vec Ideal S1x1024 .f32) (x2 : Vec Ideal S1024x5632 .bf16) (x3 : Vec Ideal S2816x1024 .bf16) (x4 : Vec Ideal S1x1024 .f32) :
    out0_A_5 (F := Ideal) c i arg1 harg1 arg2 harg2 arg3 harg3 arg4 harg4 arg5 harg5 arg6 harg6 arg7 harg7 x0 x1 x2 x3 x4
      = k0_pay2 (F := Ideal) x0 (act (k0_pay3 (F := Ideal) x0 x1) x2) x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  simp only [View.readAt_eq_ld, harg1.read_unread, harg2.read_unread, harg3.read_unread, harg4.read_unread, harg5.read_unread]
  have e1 : ∀ h, View.ld x0 (Rect.unit (s := S128x1024) ![0, 0] ![128, 1024] h) = x0 := fun h => View.ld_unit_zero lit2 _ _
  have e2 : ∀ h, View.ld x1 (Rect.unit (s := S1x1024) ![0, 0] ![1, 1024] h) = x1 := fun h => View.ld_unit_zero lit2 _ _
  have e3 : ∀ h, View.ld x3 (Rect.unit (s := S2816x1024) ![0, 0] ![2816, 1024] h) = x3 := fun h => View.ld_unit_zero lit2 _ _
  have e4 : ∀ h, View.ld x4 (Rect.unit (s := S1x1024) ![0, 0] ![1, 1024] h) = x4 := fun h => View.ld_unit_zero lit2 _ _
  simp only [e1, e2, e3, e4]
  refine (View.canon_unit_zero lit2 _ _).trans ?_
  refine congrArg (fun a : Vec Ideal S128x2816 .bf16 => k0_pay2 (F := Ideal) x0 a x3 x4) (scratch arg7 _ _ (fun y => View.cover_of_tiled _ ![128, 256] (by rfl) y) ?_ _)
  simp only [List.forall_mem_cons]
  refine ⟨fun x => ?_, fun x => ?_, fun x => ?_, fun x => ?_, fun x => ?_, fun x => ?_, fun x => ?_, fun x => ?_, fun x => ?_, fun x => ?_,
    fun x => ?_, fun p hp => absurd hp (List.not_mem_nil)⟩
  all_goals exact piece (k0_pay3 (F := Ideal) x0 x1) x2 _ _ (by omega) rfl _ _ _ x

variable (m : (ℓ : Loc nD τ sig) → Buf (Elt Ideal) ℓ)

/-- One entry of the layer: the residual stream plus the normalised product of the hidden layer and the second weights. -/
def layer (h : S128x1024.Idx → EReal) (g : S1024.Idx → EReal) (w : S1024x5632.Idx → EReal) (d : S2816x1024.Idx → EReal)
    (g' : S1024.Idx → EReal) (r : Fin 128) (j : Fin 1024) : EReal :=
  h (ix2 r j) + normRow (fun j => ∑ k : Fin 2816,
    hidden (normRow (fun k => h (ix2 r k)) (fun k => g (ix1 k))) w k * d (ix2 k j)) (fun j => g' (ix1 j)) j

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])

theorem V_main_v0 (c : Dev nD) : V m c main_v0 = m ((c.tc : Thread nD τ).loc main_arg2) := rfl
theorem V_main_v1 (c : Dev nD) : V m c main_v1 = m ((c.tc : Thread nD τ).loc main_arg3) := rfl
theorem V_main_v2 (c : Dev nD) (k : Fin 1024) : V m c main_v2 (ix2 0 k) = m ((c.tc : Thread nD τ).loc main_arg1) (ix1 k) := by
  show shapeCast S1x1024 (m ((c.tc : Thread nD τ).loc main_arg1)) shapeCasts_S1024_S1x1024 (ix2 0 k) = _
  pointwise
theorem V_main_v3 (c : Dev nD) (k : Fin 1024) : V m c main_v3 (ix2 0 k) = m ((c.tc : Thread nD τ).loc main_arg4) (ix1 k) := by
  show shapeCast S1x1024 (m ((c.tc : Thread nD τ).loc main_arg4)) shapeCasts_S1024_S1x1024 (ix2 0 k) = _
  pointwise

theorem iblk0_apply (c : Dev nD) (t : Fin cfg0.N) (r : Fin 128) (k : Fin 1024) :
    iblk m c 0 t (ix2 r k) = m ((c.tc : Thread nD τ).loc main_arg0) (ix2 r k) := by
  blk_simp [iblk]
  rw [← V_main_arg0 m c]
  refine congrArg (V m c main_arg0) ?_
  blk_ext [idx0 t]

theorem iblk1_apply (c : Dev nD) (t : Fin cfg0.N) (k : Fin 1024) :
    iblk m c 1 t (ix2 0 k) = m ((c.tc : Thread nD τ).loc main_arg1) (ix1 k) := by
  rw [← V_main_v2 m c]
  blk_simp [iblk]
  refine congrArg (V m c main_v2) ?_
  blk_ext [idx1 t]

theorem iblk2_apply (c : Dev nD) (t : Fin cfg0.N) (k : Fin 1024) (j : Fin 5632) :
    iblk m c 2 t (ix2 k j) = m ((c.tc : Thread nD τ).loc main_arg2) (ix2 k j) := by
  rw [← V_main_v0 m c]
  blk_simp [iblk]
  refine congrArg (V m c main_v0) ?_
  blk_ext [idx2 t]

theorem iblk3_apply (c : Dev nD) (t : Fin cfg0.N) (k : Fin 2816) (j : Fin 1024) :
    iblk m c 3 t (ix2 k j) = m ((c.tc : Thread nD τ).loc main_arg3) (ix2 k j) := by
  rw [← V_main_v1 m c]
  blk_simp [iblk]
  refine congrArg (V m c main_v1) ?_
  blk_ext [idx3 t]

theorem iblk4_apply (c : Dev nD) (t : Fin cfg0.N) (k : Fin 1024) :
    iblk m c 4 t (ix2 0 k) = m ((c.tc : Thread nD τ).loc main_arg4) (ix1 k) := by
  rw [← V_main_v3 m c]
  blk_simp [iblk]
  refine congrArg (V m c main_v3) ?_
  blk_ext [idx4 t]

theorem act_apply (v : FVec Ideal S128x1024 .bf16) (w : Vec Ideal S1024x5632 .bf16) (r : Fin 128) (j : Fin 2816) :
    act v w (ix2 r j) = hidden (fun k => v (ix2 r k)) w j := rfl

/-- What the point leaves, at an index. -/
theorem point (c : Dev nD) (t : Fin cfg0.N) (r : Fin 128) (j : Fin 1024) :
    outsAt0 m c t (ix2 r j) = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) r j := by
  have hw : (iblk m c 2 t : S1024x5632.Idx → EReal) = m ((c.tc : Thread nD τ).loc main_arg2) := funext fun i => by
    obtain ⟨k, j, rfl⟩ : ∃ (k : Fin 1024) (j : Fin 5632), i = ix2 k j :=
      ⟨i 0, i 1, funext fun a => by match a with | ⟨0, _⟩ => rfl | ⟨1, _⟩ => rfl⟩
    exact iblk2_apply m c t k j
  have hx : (fun k => k0_pay3 (F := Ideal) (iblk m c 0 t) (iblk m c 1 t) (ix2 r k))
      = normRow (fun k => m ((c.tc : Thread nD τ).loc main_arg0) (ix2 r k)) (fun k => m ((c.tc : Thread nD τ).loc main_arg1) (ix1 k)) := by
    funext k
    rw [xn_apply]
    simp only [iblk0_apply, iblk1_apply]
  unfold outsAt0
  rw [out_val, down_apply, layer]
  simp only [act_apply, iblk0_apply, iblk3_apply, iblk4_apply]
  rw [hx, hw]

/-- The output array after the run. -/
theorem final (c : Dev nD) : (dats m 0 c).arrAt 5 cfg0.N = fun i : S128x1024.Idx =>
    layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5]
  obtain ⟨r, j, rfl⟩ : ∃ (r : Fin 128) (j : Fin 1024), y = ix2 r j := ⟨y 0, y 1, funext fun a => by match a with | ⟨0, _⟩ => rfl | ⟨1, _⟩ => rfl⟩
  refine (point m c t r j).trans (congrArg₂ (layer _ _ _ _ _) (Fin.ext ?_) (Fin.ext ?_))
  · blk_simp
    rw [idx5 t]
    show r.val = 0 * 128 + r.val
    omega
  · blk_simp
    rw [idx5 t]
    show j.val = 0 * 1024 + j.val
    omega

end Cert.Kernel11Ideal.Hand

namespace Cert.Reference11Ideal.Hand

open Cert.Reference11Ideal Cert.Reference11Ideal.Gen Cert.Reference11Ideal.Read Idealize.ShloMosaic
open Cert.Hand
open Cert.Kernel2Ideal.Hand (swish swish_eq gateCol upCol)
open Cert.Kernel11Ideal.Hand (layer)

variable (x0 : (⟨S128x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S1024, .f32⟩ : BufTy).Contents (Elt Ideal))

theorem norm_apply (r : Fin 128) (k : Fin 1024) :
    val_main_v12 (F := Ideal) x0 x1 (ix2 r k) = normRow (fun k => x0 (ix2 r k)) (fun k => x1 (ix1 k)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply, zeroWord, zero_add]
  simp only [val_main_v0_apply]
  have e : ∀ l : Fin 1024, idx_main_v1 (idx_main_v2 (idx_main_v8 (ix2 r k))) l = ix2 r l := fun l => by idx_ext
  have e' : idx_main_v10 (idx_main_v11 (ix2 r k)) = ix1 k := by idx_ext
  simp only [e, e']
  rfl

theorem prod_apply (r : Fin 128) (j : Fin 5632) :
    val_main_v13 (F := Ideal) x0 x1 x2 (ix2 r j)
      = ∑ k : Fin 1024, normRow (fun k => x0 (ix2 r k)) (fun k => x1 (ix1 k)) k * x2 (ix2 k j) := by
  rw [val_main_v13_apply]
  refine Finset.sum_congr rfl fun k _ => ?_
  have e : lidx_main_v13 (ix2 r j) k = ix2 r k := by idx_ext
  have e' : ridx_main_v13 (ix2 r j) k = ix2 k j := by idx_ext
  rw [e, e', norm_apply]

theorem hidden_apply (r : Fin 128) (j : Fin 2816) :
    val_main_v17 (F := Ideal) x0 x1 x2 (ix2 r j) = Cert.Kernel2Ideal.Hand.hidden (normRow (fun k => x0 (ix2 r k)) (fun k => x1 (ix1 k))) x2 j := by
  have e : idx_main_v14 (ix2 r j) = ix2 r (gateCol j) := by idx_ext
  have e' : idx_main_v15 (ix2 r j) = ix2 r (upCol j) := by idx_ext
  rw [val_main_v17_apply, val_main_v16_apply, val_main_call0_v5_apply, val_main_call0_v4_apply, val_main_call0_v3_apply,
    val_main_call0_v2_apply, val_main_call0_v1_apply, val_main_call0_v0_apply, val_main_call0_cst_apply, val_main_call0_cst_0_apply,
    val_main_v14_apply, val_main_v15_apply, e, e', prod_apply, prod_apply, Cert.Kernel2Ideal.Hand.hidden, ← swish_eq, zero_sub]
  rfl

theorem down_apply (r : Fin 128) (j : Fin 1024) :
    val_main_v18 (F := Ideal) x0 x1 x2 x3 (ix2 r j)
      = ∑ k : Fin 2816, Cert.Kernel2Ideal.Hand.hidden (normRow (fun k => x0 (ix2 r k)) (fun k => x1 (ix1 k))) x2 k * x3 (ix2 k j) := by
  rw [val_main_v18_apply]
  refine Finset.sum_congr rfl fun k _ => ?_
  have e : lidx_main_v18 (ix2 r j) k = ix2 r k := by idx_ext
  have e' : ridx_main_v18 (ix2 r j) k = ix2 k j := by idx_ext
  rw [e, e', hidden_apply]

theorem final (i : S128x1024.Idx) : val_main_v32 (F := Ideal) x0 x1 x2 x3 x4 i = layer x0 x1 x2 x3 x4 (i 0) (i 1) := by
  obtain ⟨r, k, rfl⟩ : ∃ (r : Fin 128) (k : Fin 1024), i = ix2 r k := ⟨i 0, i 1, funext fun a => by match a with | ⟨0, _⟩ => rfl | ⟨1, _⟩ => rfl⟩
  rw [val_main_v32_apply, val_main_v31_apply, val_main_v28_apply, val_main_v27_apply, val_main_v26_apply, val_main_v25_apply, val_main_v23_apply,
    val_main_v21_apply, val_main_v20_apply, val_main_v22_apply, val_main_v24_apply, val_main_v30_apply, val_main_v29_apply,
    val_main_cst_2_apply, val_main_cst_3_apply, val_main_cst_4_apply, zeroWord, zero_add]
  simp only [val_main_v19_apply]
  have e : ∀ l : Fin 1024, idx_main_v20 (idx_main_v21 (idx_main_v27 (ix2 r k))) l = ix2 r l := fun l => by idx_ext
  have e' : idx_main_v29 (idx_main_v30 (ix2 r k)) = ix1 k := by idx_ext
  simp only [e, e', down_apply]
  rfl

end Cert.Reference11Ideal.Hand

end
-- ==== Proof.Step.lean ====
/- The stick-breaking kernel's block step, in the program's own operations: one block of 128 keys against a tile of 1024
   queries takes the pair (weighted values so far, tail so far) to the next. The block under the diagonal's tile is masked,
   the earlier blocks are not. The kernel's inner loop is eight unmasked steps a trip; its stores are the result of eight
   masked steps, then the loop. -/
module

public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

variable {F : FTy → Type} [FloatOps F] [Named F]

/-- A tile of scores: 1024 queries by 128 keys. -/
abbrev Tile (F : FTy → Type) := FVec F S1024x128 .f32
/-- One number per query of the tile. -/
abbrev Col (F : FTy → Type) := FVec F S1024x1 .f32

/-- The negated base-2 logits of a block: queries times keys plus the offset. -/
def zz (v2 : F .f32) (v7 : FVec F S1024x128 .bf16) (kb : Vec F S1x128x128 .f32) : Tile F :=
  addf (matmul dot_S1024x128_S128x128_S1024x128_1_1_0_0_n_n none v7
      (truncf .bf16 (shapeCast S128x128 kb shapeCasts_S1x128x128_S128x128) bitsLt_bf16_f32)
      (constant S1024x128 .f32 0x00000000#32))
    (broadcast S1024x128 v2)

/-- The base-2 logarithm of the share kept, from the negated logit. -/
def lk (z : Tile F) : Tile F :=
  subf (minimumf z (broadcast S1024x128 (Scalar.ofBits .f32 0x00000000#32)))
    (mulf (log (addf (broadcast S1024x128 (Scalar.ofBits .f32 0x3F800000#32))
        (exp2 (subf (broadcast S1024x128 (Scalar.ofBits .f32 0x00000000#32)) (absf z)))))
      (broadcast S1024x128 (Named.named κ "log2e" 0x3FB8AA3B#32)))

/-- A tile with the masked places zero. -/
def mk (msk : IVec S1024x128 1) (x : Tile F) : Tile F :=
  select msk x (broadcast S1024x128 (Scalar.ofBits .f32 0x00000000#32))

/-- The weights of a block before masking. -/
def wt (v8 : Vec F S128x128 .bf16) (l z : Tile F) (cc : Col F) : Tile F :=
  exp2 (addf (addf (subf l z) (broadcastTo S1024x128 cc broadcasts_S1024x1_S1024x128))
    (matmul dot_S1024x128_S128x128_S1024x128_1_0_0_1_n_n none (truncf .bf16 l bitsLt_bf16_f32) v8
      (constant S1024x128 .f32 0x00000000#32)))

/-- The weighted values with a block's added. -/
def acc1 (w : Tile F) (a : Tile F) (vb : Vec F S1x128x128 .f32) : Tile F :=
  addf a (matmul dot_S1024x128_S128x128_S1024x128_1_0_0_1_n_n none (truncf .bf16 w bitsLt_bf16_f32)
    (truncf .bf16 (shapeCast S128x128 vb shapeCasts_S1x128x128_S128x128) bitsLt_bf16_f32)
    (constant S1024x128 .f32 0x00000000#32))

/-- The tail with a block's sum added. -/
def tail1 (l : Tile F) (cc : Col F) : Col F :=
  addf cc (shapeCast S1024x1
    (multiReduction .add [1] S1024 l 0x00000000#32 reduces_S1024x128_S1024 (.inl rfl) rfl)
    shapeCasts_S1024_S1024x1)

/-- One unmasked step. -/
def stepU (v2 : F .f32) (v7 : FVec F S1024x128 .bf16) (v8 : Vec F S128x128 .bf16) (kb vb : Vec F S1x128x128 .f32)
    (s : Tile F × Col F) : Tile F × Col F :=
  (acc1 (wt v8 (lk (zz v2 v7 kb)) (zz v2 v7 kb) s.2) s.1 vb, tail1 (lk (zz v2 v7 kb)) s.2)

/-- One masked step. -/
def stepM (v2 : F .f32) (v7 : FVec F S1024x128 .bf16) (v8 : Vec F S128x128 .bf16) (msk : IVec S1024x128 1)
    (kb vb : Vec F S1x128x128 .f32) (s : Tile F × Col F) : Tile F × Col F :=
  (acc1 (mk msk (wt v8 (mk msk (lk (zz v2 v7 kb))) (zz v2 v7 kb) s.2)) s.1 vb,
    tail1 (mk msk (lk (zz v2 v7 kb))) s.2)

/-- The mask of the block that begins `o` keys into the tile: the keys before the query. -/
def msk (o : BitVec 32) : IVec S1024x128 1 :=
  cmpi .slt (addi (iota .tc S1024x128 32 [1] iota_S1024x128_d1_w32) (broadcast S1024x128 o))
    (iota .tc S1024x128 32 [0] iota_S1024x128_d0_w32)

/-- The pair both loops start from. -/
def zero2 : Tile F × Col F :=
  (broadcast S1024x128 (Scalar.ofBits .f32 0x00000000#32), broadcast S1024x1 (Scalar.ofBits .f32 0x00000000#32))

/-- The scaled queries. -/
def qn (x1 : Vec F S1x1024x128 .f32) : FVec F S1024x128 .bf16 :=
  truncf .bf16 (mulf (shapeCast S1024x128 x1 shapeCasts_S1x1024x128_S1024x128)
    (broadcast S1024x128 (Named.named κ "neg_scale_log2e" 0xBE0293EE#32))) bitsLt_bf16_f32

/-- The block of a diagonal step. -/
abbrev ldD (x : Vec F S1x8192x128 .f32) (i : grid0.Coords) (r : Fin 8) : Vec F S1x128x128 .f32 :=
  View.ld x (Rect.unit (s := S1x8192x128) (k0_off2 i (BitVec.ofNat 32 r.val)) S1x128x128.size (k0_off2_inb i r))

/-- The block of a step of the loop. -/
abbrev ldL (x : Vec F S1x8192x128 .f32) (i : grid0.Coords) (k : Fin (k0_t1_loop i).trips) (r : Fin 8) : Vec F S1x128x128 .f32 :=
  View.ld x (Rect.unit (s := S1x8192x128) (k0_off3 i k (BitVec.ofNat 32 r.val)) S1x128x128.size (k0_off3_inb i k r))

/-- Eight unmasked steps: one trip of the loop. -/
def trip8 (v2 : F .f32) (v7 : FVec F S1024x128 .bf16) (v8 : Vec F S128x128 .bf16) (x2 x3 : Vec F S1x8192x128 .f32)
    (i : grid0.Coords) (k : Fin (k0_t1_loop i).trips) (s : Tile F × Col F) : Tile F × Col F :=
  (List.finRange 8).foldl (fun s r => stepU v2 v7 v8 (ldL x2 i k r) (ldL x3 i k r) s) s

/-- Eight masked steps: the tile's own keys, last block first. -/
def diag8 (v2 : F .f32) (v7 : FVec F S1024x128 .bf16) (v8 : Vec F S128x128 .bf16) (x2 x3 : Vec F S1x8192x128 .f32)
    (i : grid0.Coords) : Tile F × Col F :=
  (List.finRange 8).foldl (fun s r => stepM v2 v7 v8 (msk (BitVec.ofNat 32 (128 * r.rev.val))) (ldD x2 i r.rev) (ldD x3 i r.rev) s) zero2

theorem trip_val (𝒱 : Variants) (c : Dev nD) (bd : Option 𝒱.V) (i : grid0.Coords) (arg3 : Memref sig .tc .smem S4 .f32) (harg3 : arg3.IsWhole) (arg4 : Memref sig .tc .vmem S1x1024x128 .f32) (harg4 : arg4.IsWhole) (arg5 : Memref sig .tc .vmem S1x8192x128 .f32) (harg5 : arg5.IsWhole) (arg6 : Memref sig .tc .vmem S1x8192x128 .f32) (harg6 : arg6.IsWhole) (arg7 : Memref sig .tc .vmem S128x128 .bf16) (harg7 : arg7.IsWhole) (arg8 : Memref sig .tc .vmem S1x1024x128 .f32) (harg8 : arg8.IsWhole) (arg2 : BitVec 32) (v2 : F .f32) (v7 : FVec F S1024x128 .bf16) (v8 : Vec F S128x128 .bf16) (x2 x3 : Vec F S1x8192x128 .f32) (k : Fin (k0_t1_loop i).trips) (s : Tile F × Col F) :
    tripR_k0_t1 (F := F) 𝒱 c bd i arg3 harg3 arg4 harg4 arg5 harg5 arg6 harg6 arg7 harg7 arg8 harg8 arg2 v2 v7 v8 (harg5.unread x2) (harg6.unread x3) k s
      = trip8 v2 v7 v8 x2 x3 i k s := by
  unfold tripR_k0_t1 trip_k0_t1
  dsimp only
  sl_unfold_words
  simp only [View.readAt_eq_ld, harg5.read_unread, harg6.read_unread]
  simp only [trip8, List.finRange_succ, List.finRange_zero, List.map_cons, List.map_nil, List.foldl_cons, List.foldl_nil]
  simp only [stepU, zz, lk, wt, acc1, tail1, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  rfl

end Cert.KernelIdeal.Hand

end
-- ==== Proof.Out.lean ====
/- What one grid point of the kernel stores: the weighted values after the eight masked steps of the tile's own keys and
   the loop over the earlier tiles. -/
module

public import proofs.«01_k».proof.Proof.Step

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

variable {F : FTy → Type} [FloatOps F] [Named F]

/-- The carried pair before trip `n` of the loop over the earlier tiles. -/
def loopN (v2 : F .f32) (v7 : FVec F S1024x128 .bf16) (v8 : Vec F S128x128 .bf16) (x2 x3 : Vec F S1x8192x128 .f32)
    (i : grid0.Coords) (s : Tile F × Col F) : ℕ → Tile F × Col F
  | 0 => s
  | n + 1 => if h : n < (k0_t1_loop i).trips then trip8 v2 v7 v8 x2 x3 i ⟨n, h⟩ (loopN v2 v7 v8 x2 x3 i s n)
      else loopN v2 v7 v8 x2 x3 i s n

theorem loop_val (𝒱 : Variants) (c : Dev nD) (bd : Option 𝒱.V) (i : grid0.Coords) (arg3 : Memref sig .tc .smem S4 .f32) (harg3 : arg3.IsWhole) (arg4 : Memref sig .tc .vmem S1x1024x128 .f32) (harg4 : arg4.IsWhole) (arg5 : Memref sig .tc .vmem S1x8192x128 .f32) (harg5 : arg5.IsWhole) (arg6 : Memref sig .tc .vmem S1x8192x128 .f32) (harg6 : arg6.IsWhole) (arg7 : Memref sig .tc .vmem S128x128 .bf16) (harg7 : arg7.IsWhole) (arg8 : Memref sig .tc .vmem S1x1024x128 .f32) (harg8 : arg8.IsWhole) (arg2 : BitVec 32) (v2 : F .f32) (v7 : FVec F S1024x128 .bf16) (v8 : Vec F S128x128 .bf16) (x2 x3 : Vec F S1x8192x128 .f32) (s : Tile F × Col F) :
    ∀ n, n ≤ (k0_t1_loop i).trips →
    st_k0_t1 (F := F) 𝒱 c bd i arg3 harg3 arg4 harg4 arg5 harg5 arg6 harg6 arg7 harg7 arg8 harg8 arg2 v2 v7 v8 (harg5.unread x2) (harg6.unread x3) s n
      = loopN v2 v7 v8 x2 x3 i s n
  | 0, _ => rfl
  | n + 1, h => by
    rw [show n + 1 = (⟨n, h⟩ : Fin (k0_t1_loop i).trips).val + 1 from rfl, st_k0_t1_succ, trip_val,
      loop_val 𝒱 c bd i arg3 harg3 arg4 harg4 arg5 harg5 arg6 harg6 arg7 harg7 arg8 harg8 arg2 v2 v7 v8 x2 x3 s n (Nat.le_of_succ_le h)]
    rw [loopN, dif_pos (show n < (k0_t1_loop i).trips from h)]

/-- The remainder loop makes no trip. -/
theorem rest_none : ∀ i : grid0.Coords, (k0_t2_loop i).trips = 0 := by
  intro i
  have h : ∀ b : Fin 8, (Scf.Loop.trips ⟨Scalar.addi 0#32 (Scalar.muli (Scalar.divsi (Scalar.subi (Scalar.muli (BitVec.ofNat 32 b.val) 1#32) 0#32) 1#32) 1#32), Scalar.addi 0#32 (Scalar.subi (Scalar.muli (BitVec.ofNat 32 b.val) 1#32) 0#32), 1#32⟩) = 0 := by decide +kernel
  exact h ⟨(i 2).val, (i 2).isLt⟩

theorem rest_val (𝒱 : Variants) (c : Dev nD) (bd : Option 𝒱.V) (i : grid0.Coords) (arg3 : Memref sig .tc .smem S4 .f32) (harg3 : arg3.IsWhole) (arg4 : Memref sig .tc .vmem S1x1024x128 .f32) (harg4 : arg4.IsWhole) (arg5 : Memref sig .tc .vmem S1x8192x128 .f32) (harg5 : arg5.IsWhole) (arg6 : Memref sig .tc .vmem S1x8192x128 .f32) (harg6 : arg6.IsWhole) (arg7 : Memref sig .tc .vmem S128x128 .bf16) (harg7 : arg7.IsWhole) (arg8 : Memref sig .tc .vmem S1x1024x128 .f32) (harg8 : arg8.IsWhole) (arg2 : BitVec 32) (v2 : F .f32) (v7 : FVec F S1024x128 .bf16) (v8 : Vec F S128x128 .bf16) (w : BitVec 32) (X5 : BufTy.Contents (Elt F) arg5.view.ty) (X6 : BufTy.Contents (Elt F) arg6.view.ty) (s : Tile F × Col F)
    {n : ℕ} (h : n = 0) :
    st_k0_t2 (F := F) 𝒱 c bd i arg3 harg3 arg4 harg4 arg5 harg5 arg6 harg6 arg7 harg7 arg8 harg8 arg2 v2 v7 v8 w X5 X6 s n = s := by
  subst h; rfl

theorem lit3 : (![0, 0, 0] : Fin 3 → ℕ) = fun _ => 0 := by
  funext a; fin_cases a <;> rfl
theorem lit2 : (![0, 0] : Fin 2 → ℕ) = fun _ => 0 := by
  funext a; fin_cases a <;> rfl

/-- The offset of a point's head, scaled: read from the scalar table. -/
def bn (x0 : Vec F S4 .f32) (i : grid0.Coords) : F .f32 :=
  Scalar.mulf (View.ld x0 (Rect.unit (s := S4) (k0_off1 i) S1.size (k0_off1_inb i)) (Shape.Idx.first (s := S1) (by decide)))
    (Named.named κ "neg_log2e" 0xBFB8AA3B#32)

/-- What a point stores, from its blocks. -/
def outV (x0 : Vec F S4 .f32) (x1 : Vec F S1x1024x128 .f32) (x2 x3 : Vec F S1x8192x128 .f32) (x4 : Vec F S128x128 .bf16)
    (i : grid0.Coords) : Vec F S1x1024x128 .f32 :=
  shapeCast S1x1024x128 (loopN (bn x0 i) (qn x1) x4 x2 x3 i (diag8 (bn x0 i) (qn x1) x4 x2 x3 i) (k0_t1_loop i).trips).1
    shapeCasts_S1024x128_S1x1024x128

set_option backward.isDefEq.respectTransparency false in
set_option pp.maxSteps 300 in
/-- A point stores `outV` of its blocks. -/
theorem out_val (c : Dev nD) (i : grid0.Coords) (arg3 : Memref sig .tc .smem S4 .f32) (harg3 : arg3.IsWhole) (arg4 : Memref sig .tc .vmem S1x1024x128 .f32) (harg4 : arg4.IsWhole) (arg5 : Memref sig .tc .vmem S1x8192x128 .f32) (harg5 : arg5.IsWhole) (arg6 : Memref sig .tc .vmem S1x8192x128 .f32) (harg6 : arg6.IsWhole) (arg7 : Memref sig .tc .vmem S128x128 .bf16) (harg7 : arg7.IsWhole) (arg8 : Memref sig .tc .vmem S1x1024x128 .f32) (harg8 : arg8.IsWhole)
    (x0 : Vec F S4 .f32) (x1 : Vec F S1x1024x128 .f32) (x2 : Vec F S1x8192x128 .f32) (x3 : Vec F S1x8192x128 .f32) (x4 : Vec F S128x128 .bf16) :
    out0_A_5 (F := F) c i arg3 harg3 arg4 harg4 arg5 harg5 arg6 harg6 arg7 harg7 arg8 harg8 x0 x1 x2 x3 x4 = outV x0 x1 x2 x3 x4 i := by
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  sl_unfold_words
  simp only [View.readAt_eq_ld, harg3.read_unread, harg4.read_unread, harg5.read_unread, harg6.read_unread, harg7.read_unread]
  have e3 : ∀ h, View.ld x1 (Rect.unit (s := S1x1024x128) ![0, 0, 0] ![1, 1024, 128] h) = x1 := fun h => View.ld_unit_zero lit3 _ _
  have e2 : ∀ h, View.ld x4 (Rect.unit (s := S128x128) ![0, 0] ![128, 128] h) = x4 := fun h => View.ld_unit_zero lit2 _ _
  simp only [e3, e2]
  refine (View.canon_unit_zero lit3 _ _).trans ?_
  unfold outV k0_pay5
  refine congrArg (fun s : Tile F => shapeCast S1x1024x128 s shapeCasts_S1024x128_S1x1024x128) (congrArg Prod.fst ?_)
  refine (rest_val _ c _ i _ _ _ _ _ _ _ _ _ _ _ _ _ _ _ _ _ _ _ _ (rest_none i)).trans ?_
  refine (Prod.eta _).trans ?_
  refine (loop_val _ c _ i _ _ _ _ _ _ _ _ _ _ _ _ _ _ _ _ _ _ _ _ le_rfl).trans ?_
  refine congrArg (fun s : Tile F × Col F => loopN (bn x0 i) (qn x1) x4 x2 x3 i s (k0_t1_loop i).trips) ?_
  simp only [diag8, List.finRange_succ, List.finRange_zero, List.map_cons, List.map_nil, List.foldl_cons, List.foldl_nil]
  simp only [stepM, zz, lk, mk, wt, acc1, tail1, msk, zero2, bn, qn, k0_pay1, k0_pay2, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134]
  rfl

end Cert.KernelIdeal.Hand

end
-- ==== Proof.StepVal.lean ====
/- The block step read at an index, over the extended reals. -/
module

public import proofs.«01_k».proof.Proof.Out
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

/-- The share kept, in base 2, of one negated logit. -/
def keepS (z : EReal) : EReal :=
  min z 0 - Ideal.log (1 + Ideal.exp2 (0 - max z (-z))) * Named.named (F := Ideal) (φ := .f32) κ "log2e" 0x3FB8AA3B#32

theorem zz_apply (v2 : EReal) (v7 : FVec Ideal S1024x128 .bf16) (kb : Vec Ideal S1x128x128 .f32) (r : Fin 1024) (l : Fin 128) :
    zz (F := Ideal) v2 v7 kb (ix2 r l) = (∑ d : Fin 128, v7 (ix2 r d) * kb (ix3 0 l d)) + v2 := by
  pointwise [zz]

theorem lk_apply (z : Tile Ideal) (r : Fin 1024) (l : Fin 128) : lk (F := Ideal) z (ix2 r l) = keepS (z (ix2 r l)) := by
  pointwise [lk]
  rfl

theorem mk_apply (m : IVec S1024x128 1) (x : Tile Ideal) (r : Fin 1024) (l : Fin 128) :
    mk (F := Ideal) m x (ix2 r l) = if m (ix2 r l) = 1 then x (ix2 r l) else 0 := by
  pointwise [mk]
  rfl

theorem wt_apply (v8 : Vec Ideal S128x128 .bf16) (l z : Tile Ideal) (cc : Col Ideal) (r : Fin 1024) (j : Fin 128) :
    wt (F := Ideal) v8 l z cc (ix2 r j)
      = Ideal.exp2 (l (ix2 r j) - z (ix2 r j) + cc (ix2 r 0) + ∑ k : Fin 128, l (ix2 r k) * v8 (ix2 k j)) := by
  pointwise [wt]
  rfl

theorem acc1_apply (w a : Tile Ideal) (vb : Vec Ideal S1x128x128 .f32) (r : Fin 1024) (d : Fin 128) :
    acc1 (F := Ideal) w a vb (ix2 r d) = a (ix2 r d) + ∑ k : Fin 128, w (ix2 r k) * vb (ix3 0 k d) := by
  pointwise [acc1]

theorem tail1_apply (l : Tile Ideal) (cc : Col Ideal) (r : Fin 1024) :
    tail1 (F := Ideal) l cc (ix2 r 0) = cc (ix2 r 0) + ∑ k : Fin 128, l (ix2 r k) := by
  pointwise [tail1]

end Cert.KernelIdeal.Hand

end
-- ==== Proof.Row.lean ====
/- One query's recursion over the key blocks: after the blocks from key `p` on, the tail is the sum of the base-2 keep
   logarithms of those keys and the accumulator the sum of their weights times values. -/
module

public import proofs.«01_k».proof.Proof.StepVal

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

/-- The masked base-2 keep logarithm of key `j` for the query at position `t`. -/
def keepM (Z : ℕ → EReal) (t j : ℕ) : EReal := if j < t then keepS (Z j) else 0

/-- The weight of key `j` for the query at position `t`, the keys from `T` on left out. -/
def weight (Z : ℕ → EReal) (t T j : ℕ) : EReal :=
  if j < t then Ideal.exp2 (keepS (Z j) - Z j + ∑ j' ∈ Finset.Ico (j + 1) T, keepM Z t j') else 0

/-- What the carried pair holds after the blocks from key `p` on. -/
def Inv (Z : Fin 1024 → ℕ → EReal) (V : ℕ → Fin 128 → EReal) (t : Fin 1024 → ℕ) (T p : ℕ)
    (s : Tile Ideal × Col Ideal) : Prop :=
  ∀ r, s.2 (ix2 r 0) = ∑ j ∈ Finset.Ico p T, keepM (Z r) (t r) j
    ∧ ∀ d, s.1 (ix2 r d) = ∑ j ∈ Finset.Ico p T, weight (Z r) (t r) T j * V j d

theorem sum_block (f : ℕ → EReal) (p : ℕ) : (∑ k : Fin 128, f (p + k.val)) = ∑ j ∈ Finset.Ico p (p + 128), f j := by
  rw [Finset.sum_Ico_eq_sum_range, Nat.add_sub_cancel_left, Fin.sum_univ_eq_sum_range (fun k => f (p + k))]

theorem sum_block_after (f : ℕ → EReal) (p : ℕ) (l : Fin 128) :
    (∑ k : Fin 128, f (p + k.val) * (if l < k then 1 else 0)) = ∑ j ∈ Finset.Ico (p + l.val + 1) (p + 128), f j := by
  have h : (∑ k : Fin 128, f (p + k.val) * (if l < k then 1 else 0))
      = ∑ k : Fin 128, (fun j => if p + l.val < j then f j else 0) (p + k.val) := by
    refine Finset.sum_congr rfl fun k _ => ?_
    by_cases hk : l < k
    · have : p + l.val < p + k.val := Nat.add_lt_add_left hk p
      simp only [hk, this, if_true, mul_one]
    · have : ¬ p + l.val < p + k.val := fun h => hk (Nat.lt_of_add_lt_add_left h)
      simp only [hk, this, if_false, mul_zero]
  refine h.trans ((sum_block (fun j => if p + l.val < j then f j else 0) p).trans ?_)
  rw [← Finset.sum_filter]
  refine Finset.sum_congr ?_ fun _ _ => rfl
  ext j
  simp only [Finset.mem_filter, Finset.mem_Ico]
  omega

theorem sum_split (f : ℕ → EReal) {p q T : ℕ} (h : p ≤ q) (h' : q ≤ T) :
    (∑ j ∈ Finset.Ico q T, f j) + ∑ j ∈ Finset.Ico p q, f j = ∑ j ∈ Finset.Ico p T, f j := by
  rw [add_comm, Finset.sum_Ico_consecutive f h h']

/-- One masked step takes the pair from key `p + 128` on to the pair from key `p` on. -/
theorem stepM_inv (Z : Fin 1024 → ℕ → EReal) (V : ℕ → Fin 128 → EReal) (t : Fin 1024 → ℕ) {T p : ℕ} (hp : p + 128 ≤ T)
    (v2 : EReal) (v7 : FVec Ideal S1024x128 .bf16) (v8 : Vec Ideal S128x128 .bf16) (m : IVec S1024x128 1)
    (kb vb : Vec Ideal S1x128x128 .f32) (s : Tile Ideal × Col Ideal)
    (hz : ∀ r l, zz (F := Ideal) v2 v7 kb (ix2 r l) = Z r (p + l.val)) (hv : ∀ l d, vb (ix3 0 l d) = V (p + l.val) d)
    (hm : ∀ r l, m (ix2 r l) = 1 ↔ p + l.val < t r)
    (hu : ∀ k l, v8 (ix2 k l) = if l < k then 1 else 0) (hs : Inv Z V t T (p + 128) s) :
    Inv Z V t T p (stepM (F := Ideal) v2 v7 v8 m kb vb s) := by
  have hl : ∀ r l, mk (F := Ideal) m (lk (zz v2 v7 kb)) (ix2 r l) = keepM (Z r) (t r) (p + l.val) := by
    intro r l
    rw [mk_apply, lk_apply, hz, keepM]
    simp only [hm]
  have hw : ∀ r l, mk (F := Ideal) m (wt v8 (mk m (lk (zz v2 v7 kb))) (zz v2 v7 kb) s.2) (ix2 r l) = weight (Z r) (t r) T (p + l.val) := by
    intro r l
    rw [mk_apply, wt_apply, weight]
    simp only [hm]
    by_cases ht : p + l.val < t r
    · simp only [ht, if_true]
      congr 1
      simp only [hl, hz, hu]
      rw [sum_block_after (keepM (Z r) (t r)) p l, (hs r).1, add_assoc, sum_split _ (by omega) hp, keepM, if_pos ht]
    · simp only [ht, if_false]
  intro r
  refine ⟨?_, fun d => ?_⟩
  · show tail1 (F := Ideal) _ _ _ = _
    rw [tail1_apply]
    simp only [hl]
    rw [sum_block (keepM (Z r) (t r)) p, (hs r).1, sum_split _ (by omega) hp]
  · show acc1 (F := Ideal) _ _ _ _ = _
    rw [acc1_apply]
    simp only [hw, hv]
    rw [sum_block (fun j => weight (Z r) (t r) T j * V j d) p, (hs r).2 d, sum_split _ (by omega) hp]

theorem mk_one (x : Tile Ideal) : mk (F := Ideal) (fun _ => 1#1) x = x := by
  funext j
  rfl

/-- An unmasked step is a masked one whose mask keeps everything. -/
theorem stepU_eq (v2 : EReal) (v7 : FVec Ideal S1024x128 .bf16) (v8 : Vec Ideal S128x128 .bf16)
    (kb vb : Vec Ideal S1x128x128 .f32) (s : Tile Ideal × Col Ideal) :
    stepU (F := Ideal) v2 v7 v8 kb vb s = stepM (F := Ideal) v2 v7 v8 (fun _ => 1#1) kb vb s := by
  unfold stepM
  simp only [mk_one]
  rfl

theorem zero2_inv (Z : Fin 1024 → ℕ → EReal) (V : ℕ → Fin 128 → EReal) (t : Fin 1024 → ℕ) (T : ℕ) :
    Inv Z V t T T (zero2 (F := Ideal)) := by
  intro r
  simp only [Finset.Ico_self, Finset.sum_empty]
  constructor
  · pointwise [zero2]
  · intro d
    pointwise [zero2]

end Cert.KernelIdeal.Hand

end
-- ==== Proof.Tile.lean ====
/- One query tile: the keys before the tile's end, block by block from the last. -/
module

public import proofs.«01_k».proof.Proof.Row
public import Idealize.ShloMosaic.Lib.WordCmp

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

theorem trips_eq : ∀ i : grid0.Coords, (k0_t1_loop i).trips = (i 2).val := by decide +kernel
theorem off2_eq : ∀ (i : grid0.Coords) (r : Fin 8),
    k0_off2 i (BitVec.ofNat 32 r.val) = ![0, 1024 * (i 2).val + 128 * r.val, 0] := by decide +kernel
theorem off3_le : ∀ (i : grid0.Coords) (k : Fin (k0_t1_loop i).trips) (r : Fin 8),
    k0_off3 i k (BitVec.ofNat 32 r.val) = ![0, 1024 * (i 2).val - (1024 * k.val + 128 * r.val + 128), 0]
      ∧ 1024 * k.val + 1024 ≤ 1024 * (i 2).val := by decide +kernel

/-- Key `j`'s row of a key or value block, zero past the end. -/
def rowOf (x : Vec Ideal S1x8192x128 .f32) (j : ℕ) (d : Fin 128) : EReal :=
  if h : j < 8192 then x (ix3 0 ⟨j, h⟩ d) else 0

/-- The negated base-2 logit of query row `r` against key `j`. -/
def zrow (v2 : EReal) (v7 : FVec Ideal S1024x128 .bf16) (x2 : Vec Ideal S1x8192x128 .f32) (r : Fin 1024) (j : ℕ) : EReal :=
  (∑ d : Fin 128, v7 (ix2 r d) * rowOf x2 j d) + v2

theorem ld_row (x : Vec Ideal S1x8192x128 .f32) (off : Fin 3 → ℕ) (p : ℕ) (h : off = ![0, p, 0]) (inb) (l d : Fin 128) :
    View.ld x (Rect.unit (s := S1x8192x128) off S1x128x128.size inb) (ix3 0 l d) = rowOf x (p + l.val) d := by
  subst h
  have hp : p + 128 ≤ 8192 := inb 1
  have hl : p + l.val < 8192 := by omega
  rw [rowOf, dif_pos hl]
  refine congrArg x (funext fun a => Fin.ext ?_)
  match a with
  | ⟨0, _⟩ => rfl
  | ⟨1, _⟩ => show p + 1 * l.val = p + l.val; omega
  | ⟨2, _⟩ => show 0 + 1 * d.val = d.val; omega

theorem msk_iff (o : Fin 1024) (r : Fin 1024) (l : Fin 128) :
    msk (BitVec.ofNat 32 o.val) (ix2 r l) = 1 ↔ o.val + l.val < r.val := by
  pointwise [msk]
  rw [WordCmp.addi_ofNat]
  refine (WordCmp.cmpi_slt_ofNat_eq_one_iff (w := 32) (by omega) (by omega)).trans ?_
  rw [Nat.add_comm]

variable (v2 : EReal) (v7 : FVec Ideal S1024x128 .bf16) (v8 : Vec Ideal S128x128 .bf16)
  (x2 x3 : Vec Ideal S1x8192x128 .f32) (i : grid0.Coords)

/-- What the pair holds after the blocks from key `p` on of the tile of point `i`. -/
abbrev TInv (p : ℕ) (s : Tile Ideal × Col Ideal) : Prop :=
  Inv (zrow v2 v7 x2) (rowOf x3) (fun r => 1024 * (i 2).val + r.val) (1024 * (i 2).val + 1024) p s

theorem zz_row (off : Fin 3 → ℕ) (p : ℕ) (h : off = ![0, p, 0]) (inb) (r : Fin 1024) (l : Fin 128) :
    zz (F := Ideal) v2 v7 (View.ld x2 (Rect.unit (s := S1x8192x128) off S1x128x128.size inb)) (ix2 r l) = zrow v2 v7 x2 r (p + l.val) := by
  rw [zz_apply, zrow]
  simp only [ld_row x2 off p h inb]

theorem foldl_inv {α : Type} {P : ℕ → α → Prop} {n : ℕ} (f : α → Fin n → α) (q : ℕ → ℕ)
    (hf : ∀ (k : Fin n) s, P (q k.val) s → P (q (k.val + 1)) (f s k)) :
    ∀ s, P (q 0) s → P (q n) ((List.finRange n).foldl f s) := by
  induction n with
  | zero => intro s h; simpa using h
  | succ n ih =>
    intro s h
    rw [List.finRange_succ_last, List.foldl_append, List.foldl_map]
    exact hf (Fin.last n) _ (ih (fun s k => f s k.castSucc) (fun k s hs => hf k.castSucc s hs) s h)

include v8 in
/-- The tile's own keys. -/
theorem diag8_inv (hu : ∀ k l, v8 (ix2 k l) = if l < k then 1 else 0) :
    TInv v2 v7 x2 x3 i (1024 * (i 2).val) (diag8 (F := Ideal) v2 v7 v8 x2 x3 i) := by
  refine foldl_inv (P := TInv v2 v7 x2 x3 i) _ (fun k => 1024 * (i 2).val + 1024 - 128 * k) (fun k s hs => ?_) _ (zero2_inv _ _ _ _)
  have hk := k.isLt
  have hr : k.rev.val = 7 - k.val := by rw [Fin.val_rev]; omega
  have e : 1024 * (i 2).val + 1024 - 128 * (k.val + 1) = 1024 * (i 2).val + 128 * k.rev.val := by omega
  have e' : 1024 * (i 2).val + 1024 - 128 * k.val = 1024 * (i 2).val + 128 * k.rev.val + 128 := by omega
  show TInv v2 v7 x2 x3 i (1024 * (i 2).val + 1024 - 128 * (k.val + 1)) _
  rw [e]
  refine stepM_inv _ _ _ (by omega) v2 v7 v8 _ _ _ s (zz_row v2 v7 x2 _ _ (off2_eq i k.rev) _)
    (ld_row x3 _ _ (off2_eq i k.rev) _) (fun r l => ?_) hu ?_
  · refine (msk_iff ⟨128 * k.rev.val, by omega⟩ r l).trans ?_
    show 128 * k.rev.val + l.val < r.val ↔ _ < 1024 * (i 2).val + r.val
    omega
  · rw [← e']; exact hs

include v8 in
/-- One trip of the loop: eight earlier blocks. -/
theorem trip8_inv (hu : ∀ k l, v8 (ix2 k l) = if l < k then 1 else 0) (k : Fin (k0_t1_loop i).trips) (s : Tile Ideal × Col Ideal)
    (hs : TInv v2 v7 x2 x3 i (1024 * (i 2).val - 1024 * k.val) s) :
    TInv v2 v7 x2 x3 i (1024 * (i 2).val - 1024 * (k.val + 1)) (trip8 (F := Ideal) v2 v7 v8 x2 x3 i k s) := by
  have hle := (off3_le i k 0).2
  have h := foldl_inv (P := TInv v2 v7 x2 x3 i) (fun s r => stepU (F := Ideal) v2 v7 v8 (ldL x2 i k r) (ldL x3 i k r) s)
    (fun r => 1024 * (i 2).val - (1024 * k.val + 128 * r)) (fun r s hs => ?_) s (by simpa using hs)
  · have e : 1024 * (i 2).val - 1024 * (k.val + 1) = 1024 * (i 2).val - (1024 * k.val + 128 * 8) := by omega
    rw [e]; exact h
  · have hr := r.isLt
    have e : 1024 * (i 2).val - (1024 * k.val + 128 * (r.val + 1)) = 1024 * (i 2).val - (1024 * k.val + 128 * r.val + 128) := by omega
    have e' : 1024 * (i 2).val - (1024 * k.val + 128 * r.val) = 1024 * (i 2).val - (1024 * k.val + 128 * r.val + 128) + 128 := by omega
    show TInv v2 v7 x2 x3 i (1024 * (i 2).val - (1024 * k.val + 128 * (r.val + 1))) _
    rw [e, stepU_eq]
    refine stepM_inv _ _ _ (by omega) v2 v7 v8 _ _ _ s (zz_row v2 v7 x2 _ _ (off3_le i k r).1 _)
      (ld_row x3 _ _ (off3_le i k r).1 _) (fun r' l => ?_) hu ?_
    · have hl := l.isLt
      refine iff_of_true rfl ?_
      show _ < 1024 * (i 2).val + r'.val
      omega
    · rw [← e']; exact hs

include v8 in
theorem loopN_inv (hu : ∀ k l, v8 (ix2 k l) = if l < k then 1 else 0) (s : Tile Ideal × Col Ideal)
    (hs : TInv v2 v7 x2 x3 i (1024 * (i 2).val) s) :
    ∀ n, n ≤ (k0_t1_loop i).trips → TInv v2 v7 x2 x3 i (1024 * (i 2).val - 1024 * n) (loopN (F := Ideal) v2 v7 v8 x2 x3 i s n)
  | 0, _ => hs
  | n + 1, h => by
    rw [loopN, dif_pos (show n < (k0_t1_loop i).trips from h)]
    exact trip8_inv v2 v7 v8 x2 x3 i hu ⟨n, h⟩ _ (loopN_inv hu s hs n (Nat.le_of_succ_le h))

include v8 in
/-- Every key before the tile's end. -/
theorem tile_inv (hu : ∀ k l, v8 (ix2 k l) = if l < k then 1 else 0) :
    TInv v2 v7 x2 x3 i 0
      (loopN (F := Ideal) v2 v7 v8 x2 x3 i (diag8 v2 v7 v8 x2 x3 i) (k0_t1_loop i).trips) := by
  have h := loopN_inv v2 v7 v8 x2 x3 i hu _ (diag8_inv v2 v7 v8 x2 x3 i hu) _ le_rfl
  rw [trips_eq, Nat.sub_self] at h
  rw [trips_eq]
  exact h

/-- What a point stores, at an index. -/
theorem outV_apply (x0 : Vec Ideal S4 .f32) (x1 : Vec Ideal S1x1024x128 .f32) (x4 : Vec Ideal S128x128 .bf16)
    (hu : ∀ k l, x4 (ix2 k l) = if l < k then 1 else 0) (r : Fin 1024) (d : Fin 128) :
    outV (F := Ideal) x0 x1 x2 x3 x4 i (ix3 0 r d)
      = ∑ j ∈ Finset.range (1024 * (i 2).val + 1024),
          weight (zrow (bn (F := Ideal) x0 i) (qn (F := Ideal) x1) x2 r) (1024 * (i 2).val + r.val) (1024 * (i 2).val + 1024) j
            * rowOf x3 j d := by
  have h := (tile_inv (bn (F := Ideal) x0 i) (qn (F := Ideal) x1) x4 x2 x3 i hu r).2 d
  rw [Finset.range_eq_Ico, ← h]
  unfold outV
  generalize loopN (F := Ideal) _ _ _ _ _ _ _ _ = s
  pointwise []

end Cert.KernelIdeal.Hand

end
-- ==== Proof.Lit.lean ====
/- The kernel's triangular table: one where the row is past the column, zero elsewhere. -/
module

public import proofs.«01_k».proof.Proof.Gen.KernelIdeal.Value
public import Idealize.ShloMosaic.Lib.Pointwise

@[expose] public section

set_option maxRecDepth 16384

noncomputable section

namespace Cert.KernelIdeal.Hand

open Cert.KernelIdeal Cert.KernelIdeal.Gen Idealize.ShloMosaic

theorem lit0t_eq : ∀ k l : Fin 128, lit0t (128 * k.val + l.val) = if l < k then 0x3F80#16 else 0x0000#16 := by
  decide +kernel

end Cert.KernelIdeal.Hand

end
-- ==== Proof.LitVal.lean ====
/- The kernel's triangular table over the extended reals. -/
module

public import proofs.«01_k».proof.Proof.Lit
public import Idealize.ShloMosaic.Lib.Pointwise

@[expose] public section

set_option maxRecDepth 16384

noncomputable section

namespace Cert.KernelIdeal.Hand

open Cert.KernelIdeal Cert.KernelIdeal.Gen Idealize.ShloMosaic

theorem bf16_one : Ideal.ofBits .bf16 0x3F80#16 = 1 := by
  simp [Ideal.ofBits, Ideal.ieee, -EReal.coe_mul]; norm_num

theorem bf16_zero : Ideal.ofBits .bf16 0x0000#16 = 0 := by
  simp [Ideal.ofBits, Ideal.ieee, -EReal.coe_mul]

/-- The table over the extended reals. -/
theorem table_apply (k l : Fin 128) :
    (FloatOps.ofBits .bf16 (lit0 (S128x128.rowMajor (ix2 k l))) : Ideal .bf16) = if l < k then 1 else 0 := by
  have h : lit0 (S128x128.rowMajor (ix2 k l)) = lit0t (128 * k.val + l.val) := by
    show lit0t (S128x128.rowMajor (ix2 k l)).val = _
    rw [Shape.rowMajor_val_two]
    exact congrArg lit0t (by show k.val * 128 + l.val = _; omega)
  rw [h, lit0t_eq]
  by_cases hl : l < k
  · simp only [hl, if_true]; exact bf16_one
  · simp only [hl, if_false]; exact bf16_zero

end Cert.KernelIdeal.Hand

end
-- ==== Proof.Array.lean ====
/- What the kernel's output array holds after the run, at an index, as a function of the argument arrays. -/
module

public import proofs.«01_k».proof.Proof.Tile
public import proofs.«01_k».proof.Proof.LitVal
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

/-- An array of three axes at natural coordinates, zero outside. -/
def at3 {n0 n1 n2 : ℕ} (A : (⟨3, ![n0, n1, n2]⟩ : Shape).Idx → EReal) (b t e : ℕ) : EReal :=
  if h : b < n0 ∧ t < n1 ∧ e < n2 then A (ix3 ⟨b, h.1⟩ ⟨t, h.2.1⟩ ⟨e, h.2.2⟩) else 0

/-- A vector at a natural coordinate, zero outside. -/
def at1 {n : ℕ} (A : (⟨1, ![n]⟩ : Shape).Idx → EReal) (h : ℕ) : EReal := if h' : h < n then A (ix1 ⟨h, h'⟩) else 0

/-- The negated base-2 logit of the query at `t` against the key at `j`, in head `h` of batch row `b`. -/
def zK (A0 : S2x8192x1024.Idx → EReal) (A1 : S2x8192x512.Idx → EReal) (A3 : S4.Idx → EReal) (b t h j : ℕ) : EReal :=
  (∑ d : Fin 128, at3 A0 b t (128 * h + d.val) * Named.named (F := Ideal) (φ := .f32) κ "neg_scale_log2e" 0xBE0293EE#32
      * at3 A1 b j (128 * h + d.val))
    + at1 A3 h * Named.named (F := Ideal) (φ := .f32) κ "neg_log2e" 0xBFB8AA3B#32

/-- The kernel's result at batch row `b`, position `t`, feature `e`. -/
def outAt (A0 : S2x8192x1024.Idx → EReal) (A1 A2 : S2x8192x512.Idx → EReal) (A3 : S4.Idx → EReal) (b t e : ℕ) : EReal :=
  ∑ j ∈ Finset.range (1024 * (t / 1024) + 1024),
    weight (zK A0 A1 A3 b t (e / 128)) t (1024 * (t / 1024) + 1024) j * at3 A2 b j e

variable (m : (ℓ : Loc nD τ sig) → Buf (Elt Ideal) ℓ)

theorem idx0 : ∀ t : Fin cfg0.N, win0_0.index t = ![0] :=
  (by decide +kernel : ∀ t : Fin grid0.N, win0_0.index t = ![0])
theorem idx1 : ∀ t : Fin cfg0.N, win0_1.index t = ![(grid0.coords t 0).val, (grid0.coords t 2).val, (grid0.coords t 1).val] :=
  (by decide +kernel : ∀ t : Fin grid0.N, win0_1.index t = ![(grid0.coords t 0).val, (grid0.coords t 2).val, (grid0.coords t 1).val])
theorem idx2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem idx3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
theorem idx4 : ∀ t : Fin cfg0.N, win0_4.index t = ![0, 0] :=
  (by decide +kernel : ∀ t : Fin grid0.N, win0_4.index t = ![0, 0])
theorem idx5 : ∀ t : Fin cfg0.N, win0_5.index t = ![(grid0.coords t 0).val, (grid0.coords t 2).val, (grid0.coords t 1).val] :=
  (by decide +kernel : ∀ t : Fin grid0.N, win0_5.index t = ![(grid0.coords t 0).val, (grid0.coords t 2).val, (grid0.coords t 1).val])

theorem coords_lt (t : Fin cfg0.N) : (grid0.coords t 0).val < 2 ∧ (grid0.coords t 1).val < 4 ∧ (grid0.coords t 2).val < 8 :=
  ⟨(grid0.coords t 0).isLt, (grid0.coords t 1).isLt, (grid0.coords t 2).isLt⟩

theorem iblk0_apply (c : Dev nD) (t : Fin cfg0.N) (h : Fin 4) :
    iblk m c 0 t (ix1 h) = at1 (m ((c.tc : Thread nD τ).loc main_arg3)) h.val := by
  rw [at1, dif_pos h.isLt]
  blk_simp [iblk]
  rw [← V_main_arg3 m c]
  refine congrArg (V m c main_arg3) ?_
  blk_ext [idx0 t]

theorem iblk1_apply (c : Dev nD) (t : Fin cfg0.N) (r : Fin 1024) (d : Fin 128) :
    iblk m c 1 t (ix3 0 r d) = at3 (m ((c.tc : Thread nD τ).loc main_arg0)) (grid0.coords t 0).val
      (1024 * (grid0.coords t 2).val + r.val) (128 * (grid0.coords t 1).val + d.val) := by
  have hc := coords_lt t
  rw [at3, dif_pos ⟨by omega, by omega, by omega⟩]
  blk_simp [iblk]
  rw [← V_main_arg0 m c]
  refine congrArg (V m c main_arg0) ?_
  blk_ext [idx1 t]

theorem iblk2_apply (c : Dev nD) (t : Fin cfg0.N) (j : Fin 8192) (d : Fin 128) :
    iblk m c 2 t (ix3 0 j d) = at3 (m ((c.tc : Thread nD τ).loc main_arg1)) (grid0.coords t 0).val
      j.val (128 * (grid0.coords t 1).val + d.val) := by
  have hc := coords_lt t
  rw [at3, dif_pos ⟨by omega, by omega, by omega⟩]
  blk_simp [iblk]
  rw [← V_main_arg1 m c]
  refine congrArg (V m c main_arg1) ?_
  blk_ext [idx2 t]

theorem iblk3_apply (c : Dev nD) (t : Fin cfg0.N) (j : Fin 8192) (d : Fin 128) :
    iblk m c 3 t (ix3 0 j d) = at3 (m ((c.tc : Thread nD τ).loc main_arg2)) (grid0.coords t 0).val
      j.val (128 * (grid0.coords t 1).val + d.val) := by
  have hc := coords_lt t
  rw [at3, dif_pos ⟨by omega, by omega, by omega⟩]
  blk_simp [iblk]
  rw [← V_main_arg2 m c]
  refine congrArg (V m c main_arg2) ?_
  blk_ext [idx3 t]

theorem V_main_cst (c : Dev nD) (i : S128x128.Idx) :
    V m c main_cst i = (FloatOps.ofBits .bf16 (lit0 (S128x128.rowMajor i)) : Ideal .bf16) := by
  rfl

theorem iblk4_apply (c : Dev nD) (t : Fin cfg0.N) (k l : Fin 128) :
    iblk m c 4 t (ix2 k l) = if l < k then (1 : EReal) else 0 := by
  rw [← table_apply, ← V_main_cst m c]
  blk_simp [iblk]
  refine congrArg (V m c main_cst) ?_
  blk_ext [idx4 t]

theorem rowOf_iblk2 (c : Dev nD) (t : Fin cfg0.N) (j : ℕ) (d : Fin 128) :
    rowOf (iblk m c 2 t) j d = at3 (m ((c.tc : Thread nD τ).loc main_arg1)) (grid0.coords t 0).val j (128 * (grid0.coords t 1).val + d.val) := by
  by_cases h : j < 8192
  · rw [rowOf, dif_pos h]; exact iblk2_apply m c t ⟨j, h⟩ d
  · rw [rowOf, dif_neg h, at3, dif_neg (fun h' => h h'.2.1)]

theorem rowOf_iblk3 (c : Dev nD) (t : Fin cfg0.N) (j : ℕ) (d : Fin 128) :
    rowOf (iblk m c 3 t) j d = at3 (m ((c.tc : Thread nD τ).loc main_arg2)) (grid0.coords t 0).val j (128 * (grid0.coords t 1).val + d.val) := by
  by_cases h : j < 8192
  · rw [rowOf, dif_pos h]; exact iblk3_apply m c t ⟨j, h⟩ d
  · rw [rowOf, dif_neg h, at3, dif_neg (fun h' => h h'.2.1)]

theorem qn_apply (x1 : Vec Ideal S1x1024x128 .f32) (r : Fin 1024) (d : Fin 128) :
    qn (F := Ideal) x1 (ix2 r d) = x1 (ix3 0 r d) * Named.named (F := Ideal) (φ := .f32) κ "neg_scale_log2e" 0xBE0293EE#32 := by
  pointwise [qn]

theorem off1_eq : ∀ i : grid0.Coords, k0_off1 i = ![(i 1).val] := by decide +kernel

theorem bn_apply (x0 : Vec Ideal S4 .f32) (i : grid0.Coords) :
    bn (F := Ideal) x0 i = x0 (ix1 (i 1)) * Named.named (F := Ideal) (φ := .f32) κ "neg_log2e" 0xBFB8AA3B#32 := by
  refine congrArg (fun y : EReal => y * Named.named (F := Ideal) (φ := .f32) κ "neg_log2e" 0xBFB8AA3B#32)
    (View.ld_unit_apply_of x0 _ _ _ _ (ix1 (i 1)) fun a => ?_)
  match a with
  | ⟨0, _⟩ => exact (congrFun (off1_eq i) 0).symm

/-- What a point leaves, at an index. -/
theorem point (c : Dev nD) (t : Fin cfg0.N) (r : Fin 1024) (d : Fin 128) :
    outsAt0 m c t (ix3 0 r d) = outAt (m ((c.tc : Thread nD τ).loc main_arg0)) (m ((c.tc : Thread nD τ).loc main_arg1))
      (m ((c.tc : Thread nD τ).loc main_arg2)) (m ((c.tc : Thread nD τ).loc main_arg3)) (grid0.coords t 0).val
      (1024 * (grid0.coords t 2).val + r.val) (128 * (grid0.coords t 1).val + d.val) := by
  have ht : (1024 * (grid0.coords t 2).val + r.val) / 1024 = (grid0.coords t 2).val := by omega
  have he : (128 * (grid0.coords t 1).val + d.val) / 128 = (grid0.coords t 1).val := by omega
  have hz : zrow (bn (F := Ideal) (iblk m c 0 t) (grid0.coords t)) (qn (F := Ideal) (iblk m c 1 t)) (iblk m c 2 t) r
      = zK (m ((c.tc : Thread nD τ).loc main_arg0)) (m ((c.tc : Thread nD τ).loc main_arg1)) (m ((c.tc : Thread nD τ).loc main_arg3))
        (grid0.coords t 0).val (1024 * (grid0.coords t 2).val + r.val) (grid0.coords t 1).val := by
    funext j
    rw [zrow, zK, bn_apply]
    simp only [qn_apply, rowOf_iblk2]
    rw [iblk0_apply m c t (grid0.coords t 1)]
    simp only [iblk1_apply]
  unfold outsAt0
  rw [out_val, outV_apply _ _ _ _ _ _ (iblk4_apply m c t), outAt, ht, he, hz]
  simp only [rowOf_iblk3]

/-- The output array after the run. -/
theorem final (c : Dev nD) (i : S2x8192x512.Idx) :
    (dats m 0 c).arrAt 5 cfg0.N i = outAt (m ((c.tc : Thread nD τ).loc main_arg0)) (m ((c.tc : Thread nD τ).loc main_arg1))
      (m ((c.tc : Thread nD τ).loc main_arg2)) (m ((c.tc : Thread nD τ).loc main_arg3)) (i 0).val (i 1).val (i 2).val := by
  suffices h : (dats m 0 c).arrAt 5 cfg0.N = fun i : S2x8192x512.Idx => outAt (m ((c.tc : Thread nD τ).loc main_arg0)) (m ((c.tc : Thread nD τ).loc main_arg1))
      (m ((c.tc : Thread nD τ).loc main_arg2)) (m ((c.tc : Thread nD τ).loc main_arg3)) (i 0).val (i 1).val (i 2).val from congrFun h i
  refine (dats m 0 c).arrAt_eq_of_covers 5 _ (by decide +kernel) fun t hf y => ?_
  blk_simp
  rw [after0_5, idx5 t]
  obtain ⟨r, d, rfl⟩ : ∃ (r : Fin 1024) (d : Fin 128), y = ix3 0 r d := by
    refine ⟨y 1, y 2, funext fun a => ?_⟩
    match a with
    | ⟨0, _⟩ => exact Fin.ext (by have h : (y 0).val < 1 := (y 0).isLt; show (y 0).val = 0; omega)
    | ⟨1, _⟩ => rfl
    | ⟨2, _⟩ => rfl
  refine (point m c t r d).trans ?_
  show _ = outAt _ _ _ _ (grid0.coords t 0).val ((grid0.coords t 2).val * 1024 + r.val) ((grid0.coords t 1).val * 128 + d.val)
  rw [Nat.mul_comm 1024, Nat.mul_comm 128]

end Cert.KernelIdeal.Hand

end
-- ==== Proof.Cumsum.lean ====
/- A sum over a window of the last axis that runs to the axis's end. -/
module

public import Idealize.ShloMosaic.PureOps.Ideal.Laws
public import Idealize.ShloMosaic.Lib.Pointwise

@[expose] public section

noncomputable section

namespace Cert.ReferenceIdeal.Hand

open Idealize.ShloMosaic

theorem foldl_add_eq {α : Type} (f : α → EReal) : ∀ (l : List α) (r : EReal), l.foldl (fun r n => r + f n) r = r + (l.map f).sum
  | [], r => by rw [List.foldl_nil, List.map_nil, List.sum_nil, add_zero]
  | a :: l, r => by rw [List.foldl_cons, foldl_add_eq f l, List.map_cons, List.sum_cons, add_assoc]

/-- The indices of a window along the last axis. -/
def lastEquiv (N : ℕ) : (⟨4, ![1, 1, 1, N]⟩ : Shape).Idx ≃ Fin N where
  toFun i := i 3
  invFun k := ix4 0 0 0 k
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
    | ⟨3, _⟩ => rfl
  right_inv k := rfl

theorem window_tail {A B T N M : ℕ} (x : (⟨4, ![A, B, T, N]⟩ : Shape).Idx → EReal)
    (h : (⟨4, ![A, B, T, N]⟩ : Shape).ReduceWindows ![1, 1, 1, N] ![1, 1, 1, 1] ![0, 0, 0, 0] ![0, 0, 0, M] ⟨4, ![A, B, T, N]⟩)
    (b : Fin A) (hd : Fin B) (t : Fin T) (j : Fin N) :
    Ideal.hostReduceWindowAdd ![1, 1, 1, N] ![1, 1, 1, 1] ![0, 0, 0, 0] ![0, 0, 0, M] h x 0 (ix4 b hd t j)
      = ∑ k : Fin N, if hk : j.val + k.val < N then x (ix4 b hd t ⟨j.val + k.val, hk⟩) else 0 := by
  unfold Ideal.hostReduceWindowAdd Host.reduceWindow
  dsimp only
  rw [foldl_add_eq, ← Fin.sum_univ_def, zero_add]
  refine Fintype.sum_equiv ((Shape.rowMajor ⟨4, ![1, 1, 1, N]⟩).symm.trans (lastEquiv N)) _ _ fun n => ?_
  show _ = if hk : j.val + ((Shape.rowMajor ⟨4, ![1, 1, 1, N]⟩).symm n 3).val < N then
    x (ix4 b hd t ⟨j.val + ((Shape.rowMajor ⟨4, ![1, 1, 1, N]⟩).symm n 3).val, hk⟩) else 0
  have h0 : ((Shape.rowMajor ⟨4, ![1, 1, 1, N]⟩).symm n 0).val < 1 := ((Shape.rowMajor ⟨4, ![1, 1, 1, N]⟩).symm n 0).isLt
  have h1 : ((Shape.rowMajor ⟨4, ![1, 1, 1, N]⟩).symm n 1).val < 1 := ((Shape.rowMajor ⟨4, ![1, 1, 1, N]⟩).symm n 1).isLt
  have h2 : ((Shape.rowMajor ⟨4, ![1, 1, 1, N]⟩).symm n 2).val < 1 := ((Shape.rowMajor ⟨4, ![1, 1, 1, N]⟩).symm n 2).isLt
  have hb := b.isLt
  have hh := hd.isLt
  have ht := t.isLt
  by_cases hk : j.val + ((Shape.rowMajor ⟨4, ![1, 1, 1, N]⟩).symm n 3).val < N
  · rw [dif_pos hk, dif_pos (fun a => by
      match a with
      | ⟨0, _⟩ => exact ⟨Nat.zero_le _, by show b.val * 1 + ((Shape.rowMajor ⟨4, ![1, 1, 1, N]⟩).symm n 0).val - 0 < A; omega⟩
      | ⟨1, _⟩ => exact ⟨Nat.zero_le _, by show hd.val * 1 + ((Shape.rowMajor ⟨4, ![1, 1, 1, N]⟩).symm n 1).val - 0 < B; omega⟩
      | ⟨2, _⟩ => exact ⟨Nat.zero_le _, by show t.val * 1 + ((Shape.rowMajor ⟨4, ![1, 1, 1, N]⟩).symm n 2).val - 0 < T; omega⟩
      | ⟨3, _⟩ => exact ⟨Nat.zero_le _, by show j.val * 1 + ((Shape.rowMajor ⟨4, ![1, 1, 1, N]⟩).symm n 3).val - 0 < N; omega⟩)]
    refine congrArg x (funext fun a => Fin.ext ?_)
    match a with
    | ⟨0, _⟩ => show b.val * 1 + ((Shape.rowMajor ⟨4, ![1, 1, 1, N]⟩).symm n 0).val - 0 = b.val; omega
    | ⟨1, _⟩ => show hd.val * 1 + ((Shape.rowMajor ⟨4, ![1, 1, 1, N]⟩).symm n 1).val - 0 = hd.val; omega
    | ⟨2, _⟩ => show t.val * 1 + ((Shape.rowMajor ⟨4, ![1, 1, 1, N]⟩).symm n 2).val - 0 = t.val; omega
    | ⟨3, _⟩ => show j.val * 1 + ((Shape.rowMajor ⟨4, ![1, 1, 1, N]⟩).symm n 3).val - 0 = j.val + ((Shape.rowMajor ⟨4, ![1, 1, 1, N]⟩).symm n 3).val; omega
  · rw [dif_neg hk, dif_neg (fun h => hk (by
      have h3 : j.val * 1 + ((Shape.rowMajor ⟨4, ![1, 1, 1, N]⟩).symm n 3).val - 0 < N := (h 3).2
      omega))]

/-- The reference's running sum from the right, read at an entry. -/
theorem cumsum_tail {u : Shape} {A B T N M : ℕ} (x : (⟨4, ![A, B, T, N]⟩ : Shape).Idx → EReal) (v : u.Idx → EReal)
    (h : (⟨4, ![A, B, T, N]⟩ : Shape).ReduceWindows ![1, 1, 1, N] ![1, 1, 1, 1] ![0, 0, 0, 0] ![0, 0, 0, M] ⟨4, ![A, B, T, N]⟩)
    (hu : 0 < u.numel) (hv : v (Shape.Idx.first hu) = 0) (b : Fin A) (hd : Fin B) (t : Fin T) (j : Fin N) :
    Host.reduceWindowAdd (F := Ideal) (φ := .f32) ![1, 1, 1, N] ![1, 1, 1, 1] ![0, 0, 0, 0] ![0, 0, 0, M] x v h hu (ix4 b hd t j)
      = ∑ k : Fin N, if hk : j.val + k.val < N then x (ix4 b hd t ⟨j.val + k.val, hk⟩) else 0 := by
  rw [← window_tail x h b hd t j, ← hv]
  rfl

end Cert.ReferenceIdeal.Hand

end
-- ==== Proof.RealMath.lean ====
/- The logarithms of the shares, on real logits: base two against base e. -/
module

public import proofs.«01_k».proof.Proof.Row

@[expose] public section

noncomputable section

namespace Cert.KernelIdeal.Hand

open Cert.KernelIdeal Idealize.ShloMosaic

theorem log2e_val : Named.named (F := Ideal) (φ := .f32) κ "log2e" 0x3FB8AA3B#32 = (((Real.log 2)⁻¹ : ℝ) : EReal) :=
  IdealRules.named_const.ideal_named_scalar _ _ _ _ rfl
theorem neg_log2e_val : Named.named (F := Ideal) (φ := .f32) κ "neg_log2e" 0xBFB8AA3B#32 = ((-((Real.log 2)⁻¹) : ℝ) : EReal) :=
  IdealRules.named_const.ideal_named_scalar _ _ _ _ rfl
theorem neg_scale_val : Named.named (F := Ideal) (φ := .f32) κ "neg_scale_log2e" 0xBE0293EE#32
    = ((-((11863283 / 134217728) * (Real.log 2)⁻¹) : ℝ) : EReal) :=
  IdealRules.named_const.ideal_named_scalar _ _ _ _ rfl

theorem coe_max (a b : ℝ) : max (a : EReal) (b : EReal) = ((max a b : ℝ) : EReal) :=
  ((EReal.coe_strictMono.monotone).map_max (a := a) (b := b)).symm
theorem coe_min (a b : ℝ) : min (a : EReal) (b : EReal) = ((min a b : ℝ) : EReal) :=
  ((EReal.coe_strictMono.monotone).map_min (a := a) (b := b)).symm

/-- The softplus of a real, as it is computed. -/
def sp (z : ℝ) : ℝ := max z 0 + Real.log (1 + Real.exp (-|z|))

theorem sp_neg (z : ℝ) : sp (-z) = sp z - z := by
  unfold sp
  rw [abs_neg]
  rcases le_total z 0 with h | h
  · rw [max_eq_left (by linarith : (0 : ℝ) ≤ -z), max_eq_right h]; ring
  · rw [max_eq_right (by linarith : -z ≤ (0 : ℝ)), max_eq_left h]; ring

theorem log_one_add_exp (x : ℝ) : Ideal.log (1 + ((Real.exp x : ℝ) : EReal)) = ((Real.log (1 + Real.exp x) : ℝ) : EReal) := by
  rw [← EReal.coe_one, ← EReal.coe_add, Ideal.log_coe, if_neg (by have := Real.exp_pos x; linarith)]

theorem exp2_scaled (x : ℝ) : Ideal.exp2 ((x * (Real.log 2)⁻¹ : ℝ) : EReal) = ((Real.exp x : ℝ) : EReal) := by
  have h2 : Real.log 2 ≠ 0 := (Real.log_pos one_lt_two).ne'
  rw [Ideal.exp2_coe]
  refine congrArg (fun y : ℝ => (y : EReal)) ?_
  show (2 : ℝ) ^ (x * (Real.log 2)⁻¹) = _
  rw [Real.rpow_def_of_pos two_pos]
  refine congrArg Real.exp ?_
  field_simp

/-- The base-2 keep logarithm of a real logit `z`, from the negated base-2 logit. -/
theorem keepS_coe (z : ℝ) : keepS ((-z * (Real.log 2)⁻¹ : ℝ) : EReal) = ((-(sp z) * (Real.log 2)⁻¹ : ℝ) : EReal) := by
  have hl : 0 < (Real.log 2)⁻¹ := inv_pos.mpr (Real.log_pos one_lt_two)
  have ha : max (-z * (Real.log 2)⁻¹) (-(-z * (Real.log 2)⁻¹)) = |z| * (Real.log 2)⁻¹ := by
    rw [max_comm, ← neg_mul, neg_neg, ← max_mul_of_nonneg _ _ hl.le]; rfl
  have hm : min (-z * (Real.log 2)⁻¹) 0 = -(max z 0) * (Real.log 2)⁻¹ := by
    rcases le_total z 0 with h | h
    · rw [max_eq_right h, min_eq_right (mul_nonneg (by linarith) hl.le)]; ring
    · rw [max_eq_left h, min_eq_left (mul_nonpos_of_nonpos_of_nonneg (by linarith) hl.le)]
  unfold keepS
  rw [log2e_val, ← EReal.coe_neg, coe_max, ha, ← EReal.coe_zero, coe_min, hm, ← EReal.coe_sub, zero_sub, ← neg_mul,
    exp2_scaled, log_one_add_exp, ← EReal.coe_mul, ← EReal.coe_sub]
  refine congrArg (fun y : ℝ => (y : EReal)) ?_
  unfold sp
  ring

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The masked natural-log keep logarithm of key `j` for the query at `t`. -/
def keepR (z : ℕ → ℝ) (t j : ℕ) : ℝ := if j < t then -(sp (z j)) else 0

/-- The stick-breaking weight of key `j` for the query at `t`, on real logits. -/
def weightR (z : ℕ → ℝ) (t T j : ℕ) : ℝ :=
  if j < t then Real.exp (-(sp (-(z j))) + ∑ j' ∈ Finset.Ico (j + 1) T, keepR z t j') else 0

theorem keepM_coe (Z : ℕ → EReal) (z : ℕ → ℝ) (t j : ℕ) (hZ : j < t → Z j = ((-(z j) * (Real.log 2)⁻¹ : ℝ) : EReal)) :
    keepM Z t j = ((keepR z t j * (Real.log 2)⁻¹ : ℝ) : EReal) := by
  unfold keepM keepR
  by_cases h : j < t
  · rw [if_pos h, if_pos h, hZ h, keepS_coe]
  · rw [if_neg h, if_neg h, zero_mul, EReal.coe_zero]

theorem weight_coe (Z : ℕ → EReal) (z : ℕ → ℝ) (t T j : ℕ) (hZ : ∀ j, j < t → Z j = ((-(z j) * (Real.log 2)⁻¹ : ℝ) : EReal)) :
    weight Z t T j = ((weightR z t T j : ℝ) : EReal) := by
  unfold weight weightR
  by_cases h : j < t
  · rw [if_pos h, if_pos h, hZ j h, keepS_coe, ← EReal.coe_sub]
    simp only [fun j => keepM_coe Z z t j (hZ j)]
    rw [← coe_sum, ← EReal.coe_add, ← Finset.sum_mul, ← exp2_scaled, sp_neg]
    refine congrArg (fun y : ℝ => Ideal.exp2 (y : EReal)) ?_
    ring
  · rw [if_neg h, if_neg h, EReal.coe_zero]

end Cert.KernelIdeal.Hand

end
-- ==== Proof.Ref.lean ====
/- The reference read at an entry, on real queries, keys and logit offsets. -/
module

public import proofs.«01_k».proof.Proof.Gen.ReferenceIdeal.Read
public import proofs.«01_k».proof.Proof.Cumsum
public import proofs.«01_k».proof.Proof.RealMath
public import Idealize.ShloMosaic.Lib.WordCmp

@[expose] public section

set_option maxRecDepth 16384

noncomputable section

namespace Cert.ReferenceIdeal.Hand

open Cert.ReferenceIdeal Cert.ReferenceIdeal.Gen Cert.ReferenceIdeal.Read Idealize.ShloMosaic
open Cert.KernelIdeal.Hand (sp keepR weightR coe_max coe_sum log_one_add_exp)

theorem zero_word : FloatOps.ofBits (F := Ideal) .f32 0x00000000#32 = (0 : EReal) := by
  show Ideal.ofBits .f32 0x00000000#32 = _
  simp [Ideal.ofBits, Ideal.ieee, -EReal.coe_mul]

theorem scale_word : FloatOps.ofBits (F := Ideal) .f32 0x3DB504F3#32 = ((11863283 / 134217728 : ℝ) : EReal) := by
  show Ideal.ofBits .f32 0x3DB504F3#32 = _
  simp [Ideal.ofBits, Ideal.ieee, -EReal.coe_mul]
  norm_num

/-- The softplus as the reference writes it, on a real. -/
theorem softplus_coe (z : ℝ) :
    Scalar.select (FloatOps.cmpf (F := Ideal) (φ := .f32) .une (FloatOps.subf (F := Ideal) (φ := .f32) (z : EReal) (0 : EReal)) (FloatOps.subf (F := Ideal) (φ := .f32) (z : EReal) (0 : EReal)))
      (FloatOps.addf (F := Ideal) (φ := .f32) (z : EReal) (0 : EReal))
      (FloatOps.addf (F := Ideal) (φ := .f32) (FloatOps.maximumf (F := Ideal) (φ := .f32) (z : EReal) (0 : EReal))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (z : EReal) (0 : EReal)))))))
      = ((sp z : ℝ) : EReal) := by
  have hs : FloatOps.subf (F := Ideal) (φ := .f32) (z : EReal) (0 : EReal) = (z : EReal) := sub_zero (z : EReal)
  rw [hs]
  have hc : FloatOps.cmpf (F := Ideal) (φ := .f32) .une (z : EReal) (z : EReal) = 0#1 := by
    show BitVec.ofBool (decide ((z : EReal) ≠ (z : EReal))) = 0#1
    simp
  rw [hc]
  show max (z : EReal) 0 + Ideal.log (1 + Ideal.exp (-(max (z : EReal) (-(z : EReal))))) = _
  rw [← EReal.coe_neg, coe_max, ← EReal.coe_neg, Ideal.exp_coe, log_one_add_exp, ← EReal.coe_zero, coe_max, ← EReal.coe_add]
  rfl

variable (x0 : S2x8192x1024.Idx → EReal) (x1 x2 : S2x8192x512.Idx → EReal) (x3 : S4.Idx → EReal)

/-- Feature `k` of head `h`. -/
def feat (h : Fin 4) (k : Fin 128) : Fin 512 := ⟨128 * h.val + k.val, by omega⟩
/-- The same feature among the columns of the query array. -/
def featQ (h : Fin 4) (k : Fin 128) : Fin 1024 := ⟨128 * h.val + k.val, by omega⟩

theorem v1_at (b : Fin 2) (t : Fin 8192) (h : Fin 4) (k : Fin 128) :
    val_main_v1 (F := Ideal) x0 (ix4 b t h k) = x0 (ix3 b t (featQ h k)) := by
  rw [val_main_v1_apply, val_main_v0_apply]
  refine congrArg x0 (funext fun a => Fin.ext ?_)
  match a with
  | ⟨0, _⟩ => show (((b.val * 8192 + t.val) * 4 + h.val) * 128 + k.val) / 4194304 = b.val; omega
  | ⟨1, _⟩ => show (((b.val * 8192 + t.val) * 4 + h.val) * 128 + k.val) / 512 % 8192 = t.val; omega
  | ⟨2, _⟩ => show (((b.val * 8192 + t.val) * 4 + h.val) * 128 + k.val) % 512 = 128 * h.val + k.val; omega

theorem v2_at (b : Fin 2) (t : Fin 8192) (h : Fin 4) (k : Fin 128) :
    val_main_v2 (F := Ideal) x1 (ix4 b t h k) = x1 (ix3 b t (feat h k)) := by
  rw [val_main_v2_apply]
  refine congrArg x1 (funext fun a => Fin.ext ?_)
  match a with
  | ⟨0, _⟩ => show (((b.val * 8192 + t.val) * 4 + h.val) * 128 + k.val) / 4194304 = b.val; omega
  | ⟨1, _⟩ => show (((b.val * 8192 + t.val) * 4 + h.val) * 128 + k.val) / 512 % 8192 = t.val; omega
  | ⟨2, _⟩ => show (((b.val * 8192 + t.val) * 4 + h.val) * 128 + k.val) % 512 = 128 * h.val + k.val; omega

theorem v3_at (b : Fin 2) (t : Fin 8192) (h : Fin 4) (k : Fin 128) :
    val_main_v3 (F := Ideal) x2 (ix4 b t h k) = x2 (ix3 b t (feat h k)) := v2_at x2 b t h k

/-- The logit of the query at `t` against the key at `j`. -/
theorem v10_at (b : Fin 2) (h : Fin 4) (t j : Fin 8192) :
    val_main_v10 (F := Ideal) x0 x1 x3 (ix4 b h t j)
      = (∑ k : Fin 128, x0 (ix3 b t (featQ h k)) * x1 (ix3 b j (feat h k))) * ((11863283 / 134217728 : ℝ) : EReal) + x3 (ix1 h) := by
  rw [val_main_v10_apply, val_main_v7_apply, val_main_v5_apply, val_main_v6_apply, val_main_cst_apply, val_main_v9_apply,
    val_main_v8_apply, scale_word]
  show (∑ k : Fin 128, _) * _ + _ = _
  refine congrArg₂ (· + ·) (congrArg (· * _) (Finset.sum_congr rfl fun k _ => ?_)) (congrArg x3 (funext fun a => Fin.ext ?_))
  · rw [← v1_at x0, ← v2_at x1]
    refine congrArg₂ (· * ·) (congrArg _ (funext fun a => ?_)) (congrArg _ (funext fun a => ?_)) <;>
    · match a with
      | ⟨0, _⟩ => rfl
      | ⟨1, _⟩ => rfl
      | ⟨2, _⟩ => rfl
      | ⟨3, _⟩ => rfl
  · match a with
    | ⟨0, _⟩ => rfl

theorem mask_at (b : Fin 2) (h : Fin 4) (t j : Fin 8192) :
    val_main_call1_v1 (F := Ideal) (ix4 b h t j) = IntOp.cmpi .slt (BitVec.ofNat 32 j.val) (BitVec.ofNat 32 t.val) := by
  rw [val_main_call1_v1_apply, val_main_v16_apply, val_main_v15_apply, val_main_v13_apply, val_main_v14_apply, val_main_v11_apply,
    val_main_v12_apply, val_main_v4_apply, val_main_v4_apply]
  rfl

theorem mask4_at (b : Fin 2) (h : Fin 4) (t j : Fin 8192) :
    val_main_call4_v1 (F := Ideal) (ix4 b h t j) = IntOp.cmpi .slt (BitVec.ofNat 32 j.val) (BitVec.ofNat 32 t.val) := by
  rw [val_main_call4_v1_apply, val_main_v16_apply, val_main_v15_apply, val_main_v13_apply, val_main_v14_apply, val_main_v11_apply,
    val_main_v12_apply, val_main_v4_apply, val_main_v4_apply]
  rfl

theorem select_slt {α : Type} (j t : Fin 8192) (x y : α) :
    Scalar.select (IntOp.cmpi .slt (BitVec.ofNat 32 j.val) (BitVec.ofNat 32 t.val)) x y = if j.val < t.val then x else y := by
  have hj := j.isLt
  have ht := t.isLt
  unfold Scalar.select
  by_cases h : j.val < t.val
  · exact (if_pos ((WordCmp.cmpi_slt_ofNat_eq_one_iff (w := 32) (by omega) (by omega)).mpr h)).trans (if_pos h).symm
  · exact (if_neg (fun e => h ((WordCmp.cmpi_slt_ofNat_eq_one_iff (w := 32) (by omega) (by omega)).mp e))).trans (if_neg h).symm

section real

variable (b : Fin 2) (h : Fin 4) (t : Fin 8192) (z : ℕ → ℝ)
  (hz : ∀ j : Fin 8192, val_main_v10 (F := Ideal) x0 x1 x3 (ix4 b h t j) = ((z j.val : ℝ) : EReal))

include hz

theorem v18_at (j : Fin 8192) : val_main_v18 (F := Ideal) x0 x1 x3 (ix4 b h t j) = ((-(sp (z j.val)) : ℝ) : EReal) := by
  have h0 : val_main_call0_v0 (F := Ideal) x0 x1 x3 (ix4 b h t j) = ((z j.val : ℝ) : EReal) := by
    rw [val_main_call0_v0_apply, val_main_v17_apply, hz]
    exact neg_neg (z j.val : EReal)
  rw [val_main_v18_apply, val_main_call0_v1_apply, val_main_call0_call0_v4_apply, val_main_call0_call0_v6_apply,
    val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v0_apply,
    val_main_call0_call0_v2_apply, val_main_call0_call0_v5_apply, val_main_call0_call0_cst_apply,
    h0, zero_word, softplus_coe, EReal.coe_neg]
  rfl

theorem v22_at (j : Fin 8192) : val_main_v22 (F := Ideal) x0 x1 x3 (ix4 b h t j) = ((-(sp (-(z j.val))) : ℝ) : EReal) := by
  have h0 : val_main_call3_v0 (F := Ideal) x0 x1 x3 (ix4 b h t j) = ((-(z j.val) : ℝ) : EReal) := by
    rw [val_main_call3_v0_apply, hz, EReal.coe_neg]
    rfl
  rw [val_main_v22_apply, val_main_call3_v1_apply, val_main_call3_call0_v4_apply, val_main_call3_call0_v6_apply,
    val_main_call3_call0_v11_apply, val_main_call3_call0_v1_apply, val_main_call3_call0_v10_apply, val_main_call3_call0_v9_apply,
    val_main_call3_call0_v8_apply, val_main_call3_call0_v7_apply, val_main_call3_call0_v3_apply, val_main_call3_call0_v0_apply,
    val_main_call3_call0_v2_apply, val_main_call3_call0_v5_apply, val_main_call3_call0_cst_apply,
    h0, zero_word, softplus_coe, EReal.coe_neg]
  rfl

theorem v19_at (j : Fin 8192) : val_main_v19 (F := Ideal) x0 x1 x3 (ix4 b h t j) = ((keepR z t.val j.val : ℝ) : EReal) := by
  rw [val_main_v19_apply, mask_at, select_slt, v18_at x0 x1 x3 b h t z hz, val_main_call1_v2_apply, val_main_call1_v0_apply,
    val_main_cst_0_apply, zero_word]
  unfold keepR
  split <;> rfl

theorem v20_at (j : Fin 8192) : val_main_v20 (F := Ideal) x0 x1 x3 (ix4 b h t j)
    = ((∑ j' ∈ Finset.Ico j.val 8192, keepR z t.val j' : ℝ) : EReal) := by
  have hc : val_main_call2_v0 (F := Ideal) (Shape.Idx.first h_S_) = (0 : EReal) := by
    rw [val_main_call2_v0_apply]; exact zero_word
  have hw := cumsum_tail (val_main_v19 (F := Ideal) x0 x1 x3) (val_main_call2_v0 (F := Ideal))
    reduceWindows_S2x4x8192x8192_S2x4x8192x8192_w1s1p0_0_w1s1p0_0_w1s1p0_0_w8192s1p0_8191 h_S_ hc b h t j
  unfold val_main_v20
  rw [hw, coe_sum, Finset.sum_Ico_eq_sum_range, Finset.sum_fin_eq_sum_range]
  rw [← Finset.sum_subset (Finset.range_subset_range.2 (Nat.sub_le 8192 j.val))]
  · refine Finset.sum_congr rfl fun k hk => ?_
    have hk' : j.val + k < 8192 := by have := Finset.mem_range.1 hk; omega
    rw [dif_pos (by omega), dif_pos hk', v19_at x0 x1 x3 b h t z hz]
  · intro k hk hk2
    have h1 := Finset.mem_range.1 hk
    rw [dif_pos h1, dif_neg (fun h3 : j.val + k < 8192 => hk2 (Finset.mem_range.2 (by omega)))]

theorem v25_at (j : Fin 8192) (T : ℕ) (hT : t.val ≤ T) (hT2 : T ≤ 8192) :
    val_main_v25 (F := Ideal) x0 x1 x3 (ix4 b h t j) = ((weightR z t.val T j.val : ℝ) : EReal) := by
  rw [val_main_v25_apply, mask4_at, select_slt, val_main_call4_v2_apply, val_main_call4_v0_apply, val_main_cst_1_apply, zero_word]
  unfold weightR
  by_cases hj : j.val < t.val
  · rw [if_pos hj, if_pos hj, val_main_v24_apply, val_main_v23_apply, val_main_v21_apply, v22_at x0 x1 x3 b h t z hz,
      v20_at x0 x1 x3 b h t z hz, v19_at x0 x1 x3 b h t z hz]
    show Ideal.exp (((-(sp (-(z j.val))) : ℝ) : EReal) + (((∑ j' ∈ Finset.Ico j.val 8192, keepR z t.val j' : ℝ) : EReal) - ((keepR z t.val j.val : ℝ) : EReal))) = _
    rw [← EReal.coe_sub, ← EReal.coe_add, Ideal.exp_coe]
    refine congrArg (fun y : ℝ => ((Real.exp y : ℝ) : EReal)) (congrArg (fun x : ℝ => -(sp (-(z j.val))) + x) ?_)
    rw [Finset.sum_eq_sum_Ico_succ_bot j.isLt, add_sub_cancel_left]
    symm
    refine Finset.sum_subset (Finset.Ico_subset_Ico_right hT2) fun k hk hk2 => ?_
    have h1 := Finset.mem_Ico.1 hk
    unfold keepR
    rw [if_neg (fun h3 => hk2 (Finset.mem_Ico.2 ⟨h1.1, by omega⟩))]
  · rw [if_neg hj, if_neg hj, EReal.coe_zero]

end real

/-- The result at batch row `b`, position `t`, feature `k` of head `h`. -/
theorem v28_at (b : Fin 2) (t : Fin 8192) (h : Fin 4) (k : Fin 128) :
    val_main_v28 (F := Ideal) x0 x1 x2 x3 (ix3 b t (feat h k))
      = ∑ j : Fin 8192, x2 (ix3 b j (feat h k)) * val_main_v25 (F := Ideal) x0 x1 x3 (ix4 b h t j) := by
  have hi : idx_main_v27 (idx_main_v28 (ix3 b t (feat h k))) = ix4 b h k t := by
    funext a
    refine Fin.ext ?_
    match a with
    | ⟨0, _⟩ => show ((b.val * 8192 + t.val) * 512 + (128 * h.val + k.val)) / 4194304 = b.val; omega
    | ⟨1, _⟩ => show ((b.val * 8192 + t.val) * 512 + (128 * h.val + k.val)) / 128 % 4 = h.val; omega
    | ⟨2, _⟩ => show ((b.val * 8192 + t.val) * 512 + (128 * h.val + k.val)) % 128 = k.val; omega
    | ⟨3, _⟩ => show ((b.val * 8192 + t.val) * 512 + (128 * h.val + k.val)) / 512 % 8192 = t.val; omega
  rw [val_main_v28_apply, val_main_v27_apply, hi, val_main_v26_apply]
  refine Finset.sum_congr rfl fun j _ => ?_
  rw [← v3_at x2]
  refine congrArg₂ (· * ·) (congrArg _ (funext fun a => ?_)) (congrArg _ (funext fun a => ?_)) <;>
  · match a with
    | ⟨0, _⟩ => rfl
    | ⟨1, _⟩ => rfl
    | ⟨2, _⟩ => rfl
    | ⟨3, _⟩ => rfl

end Cert.ReferenceIdeal.Hand

end
-- ==== Proof.Equation.lean ====
/- The kernel's result equals the reference's, on real queries, keys and logit offsets. -/
module

public import proofs.«01_k».proof.Proof.Array
public import proofs.«01_k».proof.Proof.Ref

@[expose] public section

set_option maxRecDepth 16384

noncomputable section

namespace Cert.ReferenceIdeal.Hand

open Cert.ReferenceIdeal Cert.ReferenceIdeal.Read Idealize.ShloMosaic
open Cert.KernelIdeal.Hand (sp keepR weightR weight weight_coe coe_sum at3 at1 zK outAt neg_scale_val neg_log2e_val)

theorem at3_of {n0 n1 n2 : ℕ} (A : (⟨3, ![n0, n1, n2]⟩ : Shape).Idx → EReal) (b : Fin n0) (t : Fin n1) (e : Fin n2) :
    at3 A b.val t.val e.val = A (ix3 b t e) := dif_pos ⟨b.isLt, t.isLt, e.isLt⟩

theorem at1_of {n : ℕ} (A : (⟨1, ![n]⟩ : Shape).Idx → EReal) (h : Fin n) : at1 A h.val = A (ix1 h) := dif_pos h.isLt

/-- The logit of real queries, keys and offset. -/
def logit (q k : Fin 128 → ℝ) (a : ℝ) : ℝ := (∑ d, q d * k d) * (11863283 / 134217728) + a

/-- The logit as the reference computes it. -/
theorem logit_ref (q k : Fin 128 → ℝ) (a : ℝ) :
    (∑ d : Fin 128, (q d : EReal) * (k d : EReal)) * ((11863283 / 134217728 : ℝ) : EReal) + (a : EReal) = ((logit q k a : ℝ) : EReal) := by
  unfold logit
  rw [EReal.coe_add, EReal.coe_mul, coe_sum]
  simp only [EReal.coe_mul]

/-- The negated base-2 logit as the kernel computes it. -/
theorem logit_ker (q k : Fin 128 → ℝ) (a : ℝ) :
    (∑ d : Fin 128, (q d : EReal) * ((-((11863283 / 134217728) * (Real.log 2)⁻¹) : ℝ) : EReal) * (k d : EReal))
      + (a : EReal) * ((-((Real.log 2)⁻¹) : ℝ) : EReal) = ((-(logit q k a) * (Real.log 2)⁻¹ : ℝ) : EReal) := by
  have h : (-(logit q k a) * (Real.log 2)⁻¹ : ℝ)
      = (∑ d : Fin 128, q d * (-((11863283 / 134217728) * (Real.log 2)⁻¹)) * k d) + a * (-((Real.log 2)⁻¹)) := by
    unfold logit
    have hs : (∑ d : Fin 128, q d * (-((11863283 / 134217728) * (Real.log 2)⁻¹)) * k d)
        = (∑ d : Fin 128, q d * k d) * (-((11863283 / 134217728) * (Real.log 2)⁻¹)) := by
      rw [Finset.sum_mul]
      exact Finset.sum_congr rfl fun d _ => by ring
    rw [hs]; ring
  rw [h, EReal.coe_add, EReal.coe_mul, coe_sum]
  simp only [EReal.coe_mul]

variable (x0 : S2x8192x1024.Idx → EReal) (x1 x2 : S2x8192x512.Idx → EReal) (x3 : S4.Idx → EReal)

theorem equation_at (h0 : ∀ (b : Fin 2) (t : Fin 8192) (e : Fin 1024), e.val < 512 → ∃ r : ℝ, x0 (ix3 b t e) = (r : EReal))
    (h1 : ∀ i, ∃ r : ℝ, x1 i = (r : EReal)) (h3 : ∀ i, ∃ r : ℝ, x3 i = (r : EReal))
    (b : Fin 2) (t : Fin 8192) (h : Fin 4) (k : Fin 128) :
    outAt x0 x1 x2 x3 b.val t.val (feat h k).val = val_main_v28 (F := Ideal) x0 x1 x2 x3 (ix3 b t (feat h k)) := by
  choose q hq using fun d : Fin 128 => h0 b t (featQ h d) (by show 128 * h.val + d.val < 512; omega)
  choose y hy using fun (j : Fin 8192) (d : Fin 128) => h1 (ix3 b j (feat h d))
  obtain ⟨a, ha⟩ := h3 (ix1 h)
  let z : ℕ → ℝ := fun j => if hj : j < 8192 then logit q (y ⟨j, hj⟩) a else 0
  have zv : ∀ j : Fin 8192, z j.val = logit q (y j) a := fun j => dif_pos j.isLt
  have hz : ∀ j : Fin 8192, val_main_v10 (F := Ideal) x0 x1 x3 (ix4 b h t j) = ((z j.val : ℝ) : EReal) := by
    intro j
    rw [v10_at, zv, ← logit_ref, ha]
    simp only [hq, hy]
  have hh : (feat h k).val / 128 = h.val := by show (128 * h.val + k.val) / 128 = h.val; omega
  have hZ : ∀ j, j < t.val → zK x0 x1 x3 b.val t.val ((feat h k).val / 128) j = ((-(z j) * (Real.log 2)⁻¹ : ℝ) : EReal) := by
    intro j hj
    have hj' : j < 8192 := hj.trans t.isLt
    have hjz : z j = logit q (y ⟨j, hj'⟩) a := zv ⟨j, hj'⟩
    rw [hjz, ← logit_ker, hh, zK, neg_scale_val, neg_log2e_val, at1_of x3 h, ha]
    refine congrArg (· + _) (Finset.sum_congr rfl fun d _ => ?_)
    rw [← hq d, ← hy ⟨j, hj'⟩ d]
    exact congrArg₂ (fun u v => u * _ * v) (at3_of x0 b t (featQ h d)) (at3_of x1 b ⟨j, hj'⟩ (feat h d))
  have ht := t.isLt
  have hT : t.val ≤ 1024 * (t.val / 1024) + 1024 := by omega
  have hT2 : 1024 * (t.val / 1024) + 1024 ≤ 8192 := by omega
  rw [v28_at, outAt, Finset.sum_fin_eq_sum_range]
  refine Eq.trans (Finset.sum_congr rfl fun j hj => ?_) (Finset.sum_subset (Finset.range_subset_range.2 hT2) fun j hj hj2 => ?_)
  · have hj' : j < 8192 := by have := Finset.mem_range.1 hj; omega
    rw [dif_pos hj', weight_coe _ z _ _ _ hZ, v25_at x0 x1 x3 b h t z hz ⟨j, hj'⟩ _ hT hT2, mul_comm]
    exact congrArg (· * _) (at3_of x2 b ⟨j, hj'⟩ (feat h k))
  · have hj' := Finset.mem_range.1 hj
    rw [dif_pos hj', v25_at x0 x1 x3 b h t z hz ⟨j, hj'⟩ _ hT hT2]
    unfold weightR
    rw [if_neg (fun hlt : j < t.val => hj2 (Finset.mem_range.2 (by omega))), EReal.coe_zero, mul_zero]

/-- The whole result. -/
theorem equation (h0 : ∀ (b : Fin 2) (t : Fin 8192) (e : Fin 1024), e.val < 512 → ∃ r : ℝ, x0 (ix3 b t e) = (r : EReal))
    (h1 : ∀ i, ∃ r : ℝ, x1 i = (r : EReal)) (h3 : ∀ i, ∃ r : ℝ, x3 i = (r : EReal)) (i : S2x8192x512.Idx) :
    outAt x0 x1 x2 x3 (i 0).val (i 1).val (i 2).val = val_main_v28 (F := Ideal) x0 x1 x2 x3 i := by
  have he : (i 2).val < 512 := (i 2).isLt
  have hi : i = ix3 (i 0) (i 1) (feat ⟨(i 2).val / 128, by omega⟩ ⟨(i 2).val % 128, by omega⟩) := by
    funext a
    match a with
    | ⟨0, _⟩ => rfl
    | ⟨1, _⟩ => rfl
    | ⟨2, _⟩ => exact Fin.ext (by show (i 2).val = 128 * ((i 2).val / 128) + (i 2).val % 128; omega)
  generalize (⟨(i 2).val / 128, by omega⟩ : Fin 4) = h at hi
  generalize (⟨(i 2).val % 128, by omega⟩ : Fin 128) = k at hi
  have key := equation_at x0 x1 x2 x3 h0 h1 h3 (i 0) (i 1) h k
  exact (congrArg (outAt x0 x1 x2 x3 (i 0).val (i 1).val) (congrArg Fin.val (congrFun hi 2))).trans
    (key.trans (congrArg (val_main_v28 (F := Ideal) x0 x1 x2 x3) hi.symm))

end Cert.ReferenceIdeal.Hand

end
-- ==== Proof.Finite.lean ====
/- The precondition read: the queries, keys and logit offsets are reals. -/
module

public import proofs.«01_k».proof.Pre_finite
public import Idealize.ShloMosaic.PureOps.Ideal.Laws
public import Idealize.ShloMosaic.Lib.ReduceAll
public import Idealize.ShloMosaic.Lib.WordCmp
public import Idealize.ShloMosaic.Lib.Pointwise

@[expose] public section

noncomputable section

namespace Cert.Pre_finite.Hand

open Cert.Pre_finite Idealize.ShloMosaic

/-- The shape relations of the precondition. -/
theorem facts : Cert.Pre_finite.Facts where
  slices_S2x8192x1024_S2x8192x512_0_0_0 := by decide
  bcast_S_S2x8192x512 := by decide
  reducesTo_S2x8192x512_S_d0_1_2 := by decide
  h_S_ := by decide
  bcast_S_S4 := by decide
  reducesTo_S4_S_d0 := by decide

theorem top_word : FloatOps.ofBits (F := Ideal) .f32 0x7F800000#32 = (⊤ : EReal) := by
  show Ideal.ofBits .f32 0x7F800000#32 = _
  simp [Ideal.ofBits, Ideal.ieee]

/-- An extended real whose magnitude is below the top is a real. -/
theorem real_of_abs_lt (x : EReal)
    (h : FloatOps.cmpf (F := Ideal) (φ := .f32) .olt (FloatOps.hostAbsf (F := Ideal) (φ := .f32) x) (⊤ : EReal) = 1#1) : ∃ r : ℝ, x = (r : EReal) := by
  have h' : BitVec.ofBool (decide (max x (-x) < (⊤ : EReal))) = 1#1 := h
  have hlt : max x (-x) < ⊤ := by
    by_contra hn
    rw [decide_eq_false hn] at h'
    exact absurd h' (by decide)
  obtain ⟨h1, h2⟩ := max_lt_iff.1 hlt
  have hb : x ≠ ⊥ := fun e => by rw [e] at h2; exact absurd h2 (by simp)
  exact ⟨x.toReal, (EReal.coe_toReal h1.ne hb).symm⟩

instance : Subsingleton S_.Idx := ⟨fun a b => funext fun i => i.elim0⟩

/-- One `all(abs(x) < inf)` of the precondition. -/
theorem all_real {s : Shape} {axes : List (Fin s.rank)} (x : s.Idx → EReal) (hb : S_.BroadcastsInDim s (![] : Fin 0 → Fin s.rank))
    (h : s.ReducesTo axes S_) (hu : 0 < S_.numel) (j : S_.Idx)
    (e : Host.reduce IntOp.andi (cmpf .olt (Host.absf (F := Ideal) (φ := .f32) x) (broadcastInDim s ![] hb (constant (F := Ideal) S_ .f32 0x7F800000#32)))
      (constantI S_ 1 1#1) h hu j = 1#1) (i : s.Idx) : ∃ r : ℝ, x i = (r : EReal) := by
  have h1 := Host.reduce_andi_all _ _ _ _ j e i
  refine real_of_abs_lt (x i) ?_
  rw [← top_word]
  exact h1

variable [Cert.Pre_finite.Facts]

/-- The precondition's three parts. -/
theorem parts (x0 : S2x8192x1024.Idx → EReal) (x1 x2 : S2x8192x512.Idx → EReal) (x3 : S4.Idx → EReal) (j : S_.Idx)
    (h : fn (F := Ideal) x0 x1 x2 x3 j = 1#1) :
    (∀ (b : Fin 2) (t : Fin 8192) (e : Fin 1024), e.val < 512 → ∃ r : ℝ, x0 (ix3 b t e) = (r : EReal))
      ∧ (∀ i, ∃ r : ℝ, x1 i = (r : EReal)) ∧ (∀ i, ∃ r : ℝ, x3 i = (r : EReal)) := by
  unfold fn at h
  obtain ⟨h12, h3⟩ := IntOp.andi_eq_one.1 h
  obtain ⟨h1, h2⟩ := IntOp.andi_eq_one.1 h12
  refine ⟨fun b t e he => ?_, all_real x1 _ _ _ j h2, all_real x3 _ _ _ j h3⟩
  obtain ⟨r, hr⟩ := all_real _ _ _ _ j h1 (ix3 b t ⟨e.val, he⟩)
  refine ⟨r, Eq.trans ?_ hr⟩
  symm
  refine extractStridedSlice_apply ![0, 0, 0] x0 Facts.slices_S2x8192x1024_S2x8192x512_0_0_0 _ (ix3 b t e) fun a => ?_
  match a with
  | ⟨0, _⟩ => exact (Nat.zero_add b.val).symm
  | ⟨1, _⟩ => exact (Nat.zero_add t.val).symm
  | ⟨2, _⟩ => exact (Nat.zero_add e.val).symm

end Cert.Pre_finite.Hand

end
-- ==== Proof.Ffn.lean ====
/- The feed-forward layer: what the kernel leaves in its output array. -/
module

public import proofs.«01_k».proof.Proof.FfnOut

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL.Sem Cert.Hand

variable (m : (ℓ : Loc nD τ sig) → Buf (Elt Ideal) ℓ)

/-- One entry of the layer: the residual stream plus the normalised product of the hidden layer and the second weights. -/
def layer (h : S16384x1024.Idx → EReal) (g : S1024.Idx → EReal) (w : S1024x5632.Idx → EReal) (d : S2816x1024.Idx → EReal)
    (g' : S1024.Idx → EReal) (r : Fin 16384) (j : Fin 1024) : EReal :=
  h (ix2 r j) + normRow (fun j => ∑ k : Fin 2816,
    hidden (normRow (fun k => h (ix2 r k)) (fun k => g (ix1 k))) w k * d (ix2 k j)) (fun j => g' (ix1 j)) j

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![(grid0.coords t 0).val, 0] :=
  (by decide +kernel : ∀ t : Fin grid0.N, win0_5.index t = ![(grid0.coords t 0).val, 0])

/-- Row `r` of block `t`, in the array. -/
def row (t : Fin cfg0.N) (r : Fin 512) : Fin 16384 :=
  ⟨(grid0.coords t 0).val * 512 + r.val, by have h : (grid0.coords t 0).val < 32 := (grid0.coords t 0).isLt; omega⟩

theorem iblk0_apply (c : Dev nD) (t : Fin cfg0.N) (r : Fin 512) (k : Fin 1024) :
    iblk m c 0 t (ix2 r k) = m ((c.tc : Thread nD τ).loc main_arg0) (ix2 (row t r) k) := by
  blk_simp [iblk]
  rw [← V_main_arg0 m c]
  refine congrArg (V m c main_arg0) ?_
  blk_ext [idx0 t, row]

theorem V_main_v0 (c : Dev nD) : V m c main_v0 = m ((c.tc : Thread nD τ).loc main_arg2) := rfl
theorem V_main_v1 (c : Dev nD) : V m c main_v1 = m ((c.tc : Thread nD τ).loc main_arg3) := rfl
theorem V_main_v2 (c : Dev nD) (k : Fin 1024) : V m c main_v2 (ix2 0 k) = m ((c.tc : Thread nD τ).loc main_arg1) (ix1 k) := by
  show shapeCast S1x1024 (m ((c.tc : Thread nD τ).loc main_arg1)) shapeCasts_S1024_S1x1024 (ix2 0 k) = _
  pointwise
theorem V_main_v3 (c : Dev nD) (k : Fin 1024) : V m c main_v3 (ix2 0 k) = m ((c.tc : Thread nD τ).loc main_arg4) (ix1 k) := by
  show shapeCast S1x1024 (m ((c.tc : Thread nD τ).loc main_arg4)) shapeCasts_S1024_S1x1024 (ix2 0 k) = _
  pointwise

theorem iblk1_apply (c : Dev nD) (t : Fin cfg0.N) (k : Fin 1024) :
    iblk m c 1 t (ix2 0 k) = m ((c.tc : Thread nD τ).loc main_arg1) (ix1 k) := by
  rw [← V_main_v2 m c]
  blk_simp [iblk]
  refine congrArg (V m c main_v2) ?_
  blk_ext [idx1 t]

theorem iblk2_apply (c : Dev nD) (t : Fin cfg0.N) (k : Fin 1024) (j : Fin 5632) :
    iblk m c 2 t (ix2 k j) = m ((c.tc : Thread nD τ).loc main_arg2) (ix2 k j) := by
  rw [← V_main_v0 m c]
  blk_simp [iblk]
  refine congrArg (V m c main_v0) ?_
  blk_ext [idx2 t]

theorem iblk3_apply (c : Dev nD) (t : Fin cfg0.N) (k : Fin 2816) (j : Fin 1024) :
    iblk m c 3 t (ix2 k j) = m ((c.tc : Thread nD τ).loc main_arg3) (ix2 k j) := by
  rw [← V_main_v1 m c]
  blk_simp [iblk]
  refine congrArg (V m c main_v1) ?_
  blk_ext [idx3 t]

theorem iblk4_apply (c : Dev nD) (t : Fin cfg0.N) (k : Fin 1024) :
    iblk m c 4 t (ix2 0 k) = m ((c.tc : Thread nD τ).loc main_arg4) (ix1 k) := by
  rw [← V_main_v3 m c]
  blk_simp [iblk]
  refine congrArg (V m c main_v3) ?_
  blk_ext [idx4 t]

theorem act_apply (v : FVec Ideal S512x1024 .bf16) (w : Vec Ideal S1024x5632 .bf16) (r : Fin 512) (j : Fin 2816) :
    act v w (ix2 r j) = hidden (fun k => v (ix2 r k)) w j := rfl

/-- What a point leaves, at an index. -/
theorem point (c : Dev nD) (t : Fin cfg0.N) (r : Fin 512) (j : Fin 1024) :
    outsAt0 m c t (ix2 r j) = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (row t r) j := by
  have hw : (iblk m c 2 t : S1024x5632.Idx → EReal) = m ((c.tc : Thread nD τ).loc main_arg2) := funext fun i => by
    obtain ⟨k, j, rfl⟩ : ∃ (k : Fin 1024) (j : Fin 5632), i = ix2 k j :=
      ⟨i 0, i 1, funext fun a => by match a with | ⟨0, _⟩ => rfl | ⟨1, _⟩ => rfl⟩
    exact iblk2_apply m c t k j
  have hx : (fun k => k0_pay3 (F := Ideal) (iblk m c 0 t) (iblk m c 1 t) (ix2 r k))
      = normRow (fun k => m ((c.tc : Thread nD τ).loc main_arg0) (ix2 (row t r) k)) (fun k => m ((c.tc : Thread nD τ).loc main_arg1) (ix1 k)) := by
    funext k
    rw [xn_apply]
    simp only [iblk0_apply, iblk1_apply]
  unfold outsAt0
  rw [out_val, down_apply, layer]
  simp only [act_apply, iblk0_apply, iblk3_apply, iblk4_apply]
  rw [hx, hw]

/-- The output array after the run. -/
theorem final (c : Dev nD) : (dats m 0 c).arrAt 5 cfg0.N = fun i : S16384x1024.Idx =>
    layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, funext fun a => by match a with | ⟨0, _⟩ => rfl | ⟨1, _⟩ => rfl⟩
  refine (point m c t r j).trans (congrArg₂ (layer _ _ _ _ _) (Fin.ext ?_) (Fin.ext ?_))
  · blk_simp
    rw [idx5 t]
    rfl
  · blk_simp
    rw [idx5 t]
    show j.val = 0 * 1024 + j.val
    omega

end Cert.Kernel2Ideal.Hand

end
-- ==== Proof.FfnRef.lean ====
/- The feed-forward layer: the reference's array is the kernel's. -/
module

public import proofs.«01_k».proof.Proof.Ffn
public import proofs.«01_k».proof.Proof.Gen.Reference2Ideal.Read

@[expose] public section

set_option maxRecDepth 16384

noncomputable section

namespace Cert.Reference2Ideal.Hand

open Cert.Reference2Ideal Cert.Reference2Ideal.Gen Cert.Reference2Ideal.Read Idealize.ShloMosaic
open Cert.Hand
open Cert.Kernel2Ideal.Hand (swish swish_eq gateCol upCol layer)

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S1024, .f32⟩ : BufTy).Contents (Elt Ideal))

theorem norm_apply (r : Fin 16384) (k : Fin 1024) :
    val_main_v12 (F := Ideal) x0 x1 (ix2 r k) = normRow (fun k => x0 (ix2 r k)) (fun k => x1 (ix1 k)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply, zeroWord, zero_add]
  simp only [val_main_v0_apply]
  have e : ∀ l : Fin 1024, idx_main_v1 (idx_main_v2 (idx_main_v8 (ix2 r k))) l = ix2 r l := fun l => by idx_ext
  have e' : idx_main_v10 (idx_main_v11 (ix2 r k)) = ix1 k := by idx_ext
  simp only [e, e']
  rfl

theorem prod_apply (r : Fin 16384) (j : Fin 5632) :
    val_main_v13 (F := Ideal) x0 x1 x2 (ix2 r j)
      = ∑ k : Fin 1024, normRow (fun k => x0 (ix2 r k)) (fun k => x1 (ix1 k)) k * x2 (ix2 k j) := by
  rw [val_main_v13_apply]
  refine Finset.sum_congr rfl fun k _ => ?_
  have e : lidx_main_v13 (ix2 r j) k = ix2 r k := by idx_ext
  have e' : ridx_main_v13 (ix2 r j) k = ix2 k j := by idx_ext
  rw [e, e', norm_apply]

theorem hidden_apply (r : Fin 16384) (j : Fin 2816) :
    val_main_v17 (F := Ideal) x0 x1 x2 (ix2 r j) = Cert.Kernel2Ideal.Hand.hidden (normRow (fun k => x0 (ix2 r k)) (fun k => x1 (ix1 k))) x2 j := by
  have e : idx_main_v14 (ix2 r j) = ix2 r (gateCol j) := by idx_ext
  have e' : idx_main_v15 (ix2 r j) = ix2 r (upCol j) := by idx_ext
  rw [val_main_v17_apply, val_main_v16_apply, val_main_call0_v5_apply, val_main_call0_v4_apply, val_main_call0_v3_apply,
    val_main_call0_v2_apply, val_main_call0_v1_apply, val_main_call0_v0_apply, val_main_call0_cst_apply, val_main_call0_cst_0_apply,
    val_main_v14_apply, val_main_v15_apply, e, e', prod_apply, prod_apply, Cert.Kernel2Ideal.Hand.hidden, ← swish_eq, zero_sub]
  rfl

theorem down_apply (r : Fin 16384) (j : Fin 1024) :
    val_main_v18 (F := Ideal) x0 x1 x2 x3 (ix2 r j)
      = ∑ k : Fin 2816, Cert.Kernel2Ideal.Hand.hidden (normRow (fun k => x0 (ix2 r k)) (fun k => x1 (ix1 k))) x2 k * x3 (ix2 k j) := by
  rw [val_main_v18_apply]
  refine Finset.sum_congr rfl fun k _ => ?_
  have e : lidx_main_v18 (ix2 r j) k = ix2 r k := by idx_ext
  have e' : ridx_main_v18 (ix2 r j) k = ix2 k j := by idx_ext
  rw [e, e', hidden_apply]

theorem final (i : S16384x1024.Idx) : val_main_v32 (F := Ideal) x0 x1 x2 x3 x4 i = layer x0 x1 x2 x3 x4 (i 0) (i 1) := by
  obtain ⟨r, k, rfl⟩ : ∃ (r : Fin 16384) (k : Fin 1024), i = ix2 r k := ⟨i 0, i 1, funext fun a => by match a with | ⟨0, _⟩ => rfl | ⟨1, _⟩ => rfl⟩
  rw [val_main_v32_apply, val_main_v31_apply, val_main_v28_apply, val_main_v27_apply, val_main_v26_apply, val_main_v25_apply, val_main_v23_apply,
    val_main_v21_apply, val_main_v20_apply, val_main_v22_apply, val_main_v24_apply, val_main_v30_apply, val_main_v29_apply,
    val_main_cst_2_apply, val_main_cst_3_apply, val_main_cst_4_apply, zeroWord, zero_add]
  simp only [val_main_v19_apply]
  have e : ∀ l : Fin 1024, idx_main_v20 (idx_main_v21 (idx_main_v27 (ix2 r k))) l = ix2 r l := fun l => by idx_ext
  have e' : idx_main_v29 (idx_main_v30 (ix2 r k)) = ix1 k := by idx_ext
  simp only [e, e', down_apply]
  rfl

end Cert.Reference2Ideal.Hand

end
-- ==== Proof.KvRef.lean ====
/- The key and value projection: the reference's two arrays, and that the kernel's are the same. -/
module

public import proofs.«01_k».proof.Proof.Kv
public import proofs.«01_k».proof.Proof.Gen.Reference4Ideal.Read

@[expose] public section

set_option maxRecDepth 16384

noncomputable section

namespace Cert.Reference4Ideal.Hand

open Cert.Reference4Ideal Cert.Reference4Ideal.Gen Cert.Reference4Ideal.Read Idealize.ShloMosaic
open Cert.Hand

variable (x0 : (⟨S16384x1024, .f32⟩ : BufTy).Contents (Elt Ideal)) (x1 : (⟨S1024, .f32⟩ : BufTy).Contents (Elt Ideal))
  (x2 : (⟨S1024x1024, .f32⟩ : BufTy).Contents (Elt Ideal))

theorem norm_apply (r : Fin 16384) (k : Fin 1024) :
    val_main_v12 (F := Ideal) x0 x1 (ix2 r k) = normRow (fun k => x0 (ix2 r k)) (fun k => x1 (ix1 k)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply, zeroWord, zero_add]
  simp only [val_main_v0_apply]
  have e : ∀ l : Fin 1024, idx_main_v1 (idx_main_v2 (idx_main_v8 (ix2 r k))) l = ix2 r l := fun l => by idx_ext
  have e' : idx_main_v10 (idx_main_v11 (ix2 r k)) = ix1 k := by idx_ext
  simp only [e, e']
  rfl

theorem prod_apply (r : Fin 16384) (j : Fin 1024) :
    val_main_v13 (F := Ideal) x0 x1 x2 (ix2 r j) = Cert.Kernel4Ideal.Hand.proj x0 x1 x2 r j := by
  rw [val_main_v13_apply]
  refine Finset.sum_congr rfl fun k _ => ?_
  have e : lidx_main_v13 (ix2 r j) k = ix2 r k := by idx_ext
  have e' : ridx_main_v13 (ix2 r j) k = ix2 k j := by idx_ext
  rw [e, e', norm_apply]

theorem keys_apply (i : S16384x512.Idx) :
    val_main_v14 (F := Ideal) x0 x1 x2 i = Cert.Kernel4Ideal.Hand.proj x0 x1 x2 (i 0) (Cert.Kernel4Ideal.Hand.low (i 1)) := by
  rw [val_main_v14_apply]
  refine (congrArg (val_main_v13 (F := Ideal) x0 x1 x2) (funext fun a => ?_)).trans (prod_apply x0 x1 x2 _ _)
  match a with
  | ⟨0, _⟩ => exact Fin.ext rfl
  | ⟨1, _⟩ => exact Fin.ext rfl

theorem values_apply (i : S16384x512.Idx) :
    val_main_v15 (F := Ideal) x0 x1 x2 i = Cert.Kernel4Ideal.Hand.proj x0 x1 x2 (i 0) (Cert.Kernel4Ideal.Hand.high (i 1)) := by
  rw [val_main_v15_apply]
  refine (congrArg (val_main_v13 (F := Ideal) x0 x1 x2) (funext fun a => ?_)).trans (prod_apply x0 x1 x2 _ _)
  match a with
  | ⟨0, _⟩ => exact Fin.ext rfl
  | ⟨1, _⟩ => exact Fin.ext rfl

end Cert.Reference4Ideal.Hand

end
-- ==== Proof.MemKv.lean ====
/- The memory's keys and values: what the kernel leaves in its two arrays, and that the reference's are the same. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic
open Idealize.SL.Sem

variable (m : (ℓ : Loc nD τ sig) → Buf (Elt Ideal) ℓ)

/-- Memory slot `s` of all the batches in turn: its batch and its place in it. -/
def batch (s : Fin 512) : Fin 2 := ⟨s.val / 256, by omega⟩
def slot (s : Fin 512) : Fin 256 := ⟨s.val % 256, by omega⟩

/-- Column `j` of the keys' half of the weights, and of the values' half. -/
def low (j : Fin 512) : Fin 1024 := ⟨j.val, by omega⟩
def high (j : Fin 512) : Fin 1024 := ⟨512 + j.val, by omega⟩

/-- One entry of the memory times layer `l`'s weights. -/
def memProj (x : S2x256x1024.Idx → EReal) (w : S4x1024x1024.Idx → EReal) (l : Fin 4) (s : Fin 512) (j : Fin 1024) : EReal :=
  ∑ k : Fin 1024, x (ix3 (batch s) (slot s) k) * w (ix3 l k j)

theorem pay1_apply (v0 : Vec Ideal S512x1024 .f32) (w : Vec Ideal S1x1024x1024 .f32) (s : Fin 512) (j : Fin 1024) :
    k0_pay1 (F := Ideal) v0 w (ix2 s j) = ∑ k : Fin 1024, v0 (ix2 s k) * w (ix3 0 k j) := by
  pointwise [k0_pay1]

theorem pay2_apply (v0 : Vec Ideal S512x1024 .f32) (w : Vec Ideal S1x1024x1024 .f32) (s j : Fin 512) :
    k0_pay2 (F := Ideal) v0 w (ix3 0 s j) = ∑ k : Fin 1024, v0 (ix2 s k) * w (ix3 0 k (low j)) := by
  rw [← pay1_apply]
  pointwise [k0_pay2]
  rfl

theorem pay3_apply (v0 : Vec Ideal S512x1024 .f32) (w : Vec Ideal S1x1024x1024 .f32) (s j : Fin 512) :
    k0_pay3 (F := Ideal) v0 w (ix3 0 s j) = ∑ k : Fin 1024, v0 (ix2 s k) * w (ix3 0 k (high j)) := by
  rw [← pay1_apply]
  pointwise [k0_pay3]
  rfl

theorem idx0 : ∀ t : Fin cfg0.N, win0_0.index t = ![0, 0] :=
  (by decide +kernel : ∀ t : Fin grid0.N, win0_0.index t = ![0, 0])
theorem idx1 : ∀ t : Fin cfg0.N, win0_1.index t = ![(grid0.coords t 0).val, 0, 0] :=
  (by decide +kernel : ∀ t : Fin grid0.N, win0_1.index t = ![(grid0.coords t 0).val, 0, 0])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, 0] :=
  (by decide +kernel : ∀ t : Fin grid0.N, win0_3.index t = ![(grid0.coords t 0).val, 0, 0])

/-- The layer a point handles. -/
def lay (t : Fin cfg0.N) : Fin 4 := ⟨(grid0.coords t 0).val, (grid0.coords t 0).isLt⟩

theorem V_main_v0 (c : Dev nD) (s : Fin 512) (k : Fin 1024) :
    V m c main_v0 (ix2 s k) = m ((c.tc : Thread nD τ).loc main_arg0) (ix3 (batch s) (slot s) k) := by
  show shapeCast S512x1024 (m ((c.tc : Thread nD τ).loc main_arg0)) shapeCasts_S2x256x1024_S512x1024 (ix2 s k) = _
  refine shapeCast_apply _ shapeCasts_S2x256x1024_S512x1024 (ix2 s k) (ix3 (batch s) (slot s) k) ?_
  rw [Shape.rowMajor_val_three, Shape.rowMajor_val_two]
  show (s.val / 256 * 256 + s.val % 256) * 1024 + k.val = s.val * 1024 + k.val
  omega

theorem iblk0_apply (c : Dev nD) (t : Fin cfg0.N) (s : Fin 512) (k : Fin 1024) :
    iblk m c 0 t (ix2 s k) = m ((c.tc : Thread nD τ).loc main_arg0) (ix3 (batch s) (slot s) k) := by
  rw [← V_main_v0 m c]
  blk_simp [iblk]
  refine congrArg (V m c main_v0) ?_
  blk_ext [idx0 t]

theorem iblk1_apply (c : Dev nD) (t : Fin cfg0.N) (k j : Fin 1024) :
    iblk m c 1 t (ix3 0 k j) = m ((c.tc : Thread nD τ).loc main_arg1) (ix3 (lay t) k j) := by
  rw [← V_main_arg1 m c]
  blk_simp [iblk]
  refine congrArg (V m c main_arg1) ?_
  blk_ext [idx1 t, lay]

theorem lit2 : (![0, 0] : Fin 2 → ℕ) = fun _ => 0 := by
  funext a; fin_cases a <;> rfl
theorem lit3 : (![0, 0, 0] : Fin 3 → ℕ) = fun _ => 0 := by
  funext a; fin_cases a <;> rfl

theorem out2_apply (c : Dev nD) (t : Fin cfg0.N) (s j : Fin 512) :
    out0_2 (F := Ideal) (iblk m c 0 t) (iblk m c 1 t) (ix3 0 s j)
      = memProj (m ((c.tc : Thread nD τ).loc main_arg0)) (m ((c.tc : Thread nD τ).loc main_arg1)) (lay t) s (low j) := by
  unfold out0_2
  refine (congrFun (View.canon_unit_zero lit3 _ _) _).trans ?_
  refine (pay2_apply _ _ s j).trans ?_
  rw [View.ld_unit_zero lit2, View.ld_unit_zero lit3]
  simp only [iblk0_apply, iblk1_apply]
  rfl

theorem out3_apply (c : Dev nD) (t : Fin cfg0.N) (s j : Fin 512) :
    out0_3 (F := Ideal) (iblk m c 0 t) (iblk m c 1 t) (ix3 0 s j)
      = memProj (m ((c.tc : Thread nD τ).loc main_arg0)) (m ((c.tc : Thread nD τ).loc main_arg1)) (lay t) s (high j) := by
  unfold out0_3
  refine (congrFun (View.canon_unit_zero lit3 _ _) _).trans ?_
  refine (pay3_apply _ _ s j).trans ?_
  rw [View.ld_unit_zero lit2, View.ld_unit_zero lit3]
  simp only [iblk0_apply, iblk1_apply]
  rfl

theorem block_ix (y : S1x512x512.Idx) : ∃ s j : Fin 512, y = ix3 0 s j := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

/-- The keys' array after the run. -/
theorem final2 (c : Dev nD) : (dats m 0 c).arrAt 2 cfg0.N = fun i : S4x512x512.Idx =>
    memProj (m ((c.tc : Thread nD τ).loc main_arg0)) (m ((c.tc : Thread nD τ).loc main_arg1)) (i 0) (i 1) (low (i 2)) := by
  refine (dats m 0 c).arrAt_eq_of_covers 2 _ (by decide +kernel) fun t hf y => ?_
  blk_simp
  rw [after0_2]
  obtain ⟨s, j, rfl⟩ := block_ix y
  refine (out2_apply m c t s j).trans ?_
  have e : (win0_2.blk t).view.emb (ix3 0 s j) = ix3 (lay t) s j := by blk_ext [idx2 t, lay]
  exact (congrArg (fun i : S4x512x512.Idx => memProj (m ((c.tc : Thread nD τ).loc main_arg0)) (m ((c.tc : Thread nD τ).loc main_arg1)) (i 0) (i 1) (low (i 2))) e).symm

/-- The values' array after the run. -/
theorem final3 (c : Dev nD) : (dats m 0 c).arrAt 3 cfg0.N = fun i : S4x512x512.Idx =>
    memProj (m ((c.tc : Thread nD τ).loc main_arg0)) (m ((c.tc : Thread nD τ).loc main_arg1)) (i 0) (i 1) (high (i 2)) := by
  refine (dats m 0 c).arrAt_eq_of_covers 3 _ (by decide +kernel) fun t hf y => ?_
  blk_simp
  rw [after0_3]
  obtain ⟨s, j, rfl⟩ := block_ix y
  refine (out3_apply m c t s j).trans ?_
  have e : (win0_3.blk t).view.emb (ix3 0 s j) = ix3 (lay t) s j := by blk_ext [idx3 t, lay]
  exact (congrArg (fun i : S4x512x512.Idx => memProj (m ((c.tc : Thread nD τ).loc main_arg0)) (m ((c.tc : Thread nD τ).loc main_arg1)) (i 0) (i 1) (high (i 2))) e).symm

end Cert.Kernel3Ideal.Hand

namespace Cert.Reference3Ideal.Hand

open Cert.Reference3Ideal Cert.Reference3Ideal.Gen Cert.Reference3Ideal.Read Idealize.ShloMosaic
open Cert.Kernel3Ideal.Hand (memProj batch slot low high)

variable (x0 : (⟨S2x256x1024, .f32⟩ : BufTy).Contents (Elt Ideal)) (x1 : (⟨S4x1024x1024, .f32⟩ : BufTy).Contents (Elt Ideal))

theorem prod_apply (l : Fin 4) (b : Fin 2) (p : Fin 256) (j : Fin 1024) :
    val_main_v1 (F := Ideal) x0 x1 (ix4 l b p j) = ∑ k : Fin 1024, x0 (ix3 b p k) * x1 (ix3 l k j) := by
  rw [val_main_v1_apply, val_main_v0_apply]
  refine Finset.sum_congr rfl fun k _ => ?_
  have e : lidx_main_v0 (idx_main_v1 (ix4 l b p j)) k = ix3 l k j := by idx_ext
  have e' : ridx_main_v0 (idx_main_v1 (ix4 l b p j)) k = ix3 b p k := by idx_ext
  rw [e, e', mul_comm]

theorem keys_apply (l : Fin 4) (s j : Fin 512) :
    val_main_v4 (F := Ideal) x0 x1 (ix3 l s j) = memProj x0 x1 l s (low j) := by
  rw [val_main_v4_apply, val_main_v2_apply]
  refine (congrArg (val_main_v1 (F := Ideal) x0 x1) (funext fun a => Fin.ext ?_)).trans (prod_apply x0 x1 l (batch s) (slot s) (low j))
  match a with
  | ⟨0, _⟩ => show ((l.val * 512 + s.val) * 512 + j.val) / 262144 = l.val; omega
  | ⟨1, _⟩ => show ((l.val * 512 + s.val) * 512 + j.val) / 131072 % 2 = s.val / 256; omega
  | ⟨2, _⟩ => show ((l.val * 512 + s.val) * 512 + j.val) / 512 % 256 = s.val % 256; omega
  | ⟨3, _⟩ => show ((l.val * 512 + s.val) * 512 + j.val) % 512 = j.val; omega

theorem values_apply (l : Fin 4) (s j : Fin 512) :
    val_main_v5 (F := Ideal) x0 x1 (ix3 l s j) = memProj x0 x1 l s (high j) := by
  rw [val_main_v5_apply, val_main_v3_apply]
  refine (congrArg (val_main_v1 (F := Ideal) x0 x1) (funext fun a => Fin.ext ?_)).trans (prod_apply x0 x1 l (batch s) (slot s) (high j))
  match a with
  | ⟨0, _⟩ => show ((l.val * 512 + s.val) * 512 + j.val) / 262144 = l.val; omega
  | ⟨1, _⟩ => show ((l.val * 512 + s.val) * 512 + j.val) / 131072 % 2 = s.val / 256; omega
  | ⟨2, _⟩ => show ((l.val * 512 + s.val) * 512 + j.val) / 512 % 256 = s.val % 256; omega
  | ⟨3, _⟩ => show 512 + ((l.val * 512 + s.val) * 512 + j.val) % 512 = 512 + j.val; omega

theorem out_ix (i : S4x512x512.Idx) : ∃ (l : Fin 4) (s j : Fin 512), i = ix3 l s j :=
  ⟨i 0, i 1, i 2, funext fun a => by match a with | ⟨0, _⟩ => rfl | ⟨1, _⟩ => rfl | ⟨2, _⟩ => rfl⟩

end Cert.Reference3Ideal.Hand

end
-- ==== Proof.InprojB.lean ====
/- The input projection of the cross-decoder layers: the kernel's array and the reference's. -/
module

public import proofs.«01_k».proof.Proof.KvRef
public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.Hand

open Cert.Kernel5Ideal Cert.Kernel5Ideal.Gen Idealize.ShloMosaic Idealize.ShloMosaic.TcCoe Idealize.ShloMosaic.Tactic
open Idealize.SL.Sem Cert.Hand
open Cert.Kernel4Ideal.Hand (proj lit2)

variable (m : (ℓ : Loc nD τ sig) → Buf (Elt Ideal) ℓ)

theorem pay_apply (v0 : Vec Ideal S512x1024 .f32) (v1 : Vec Ideal S1x1024 .f32) (w : Vec Ideal S1024x1024 .bf16) (r : Fin 512) (j : Fin 1024) :
    k0_pay1 (F := Ideal) v0 v1 w (ix2 r j) = ∑ k : Fin 1024, normRow (fun k => v0 (ix2 r k)) (fun k => v1 (ix2 0 k)) k * w (ix2 k j) := by
  pointwise [k0_pay1]
  rfl

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![(grid0.coords t 0).val, 0] :=
  (by decide +kernel : ∀ t : Fin grid0.N, win0_3.index t = ![(grid0.coords t 0).val, 0])

/-- Row `r` of block `t`, in the array. -/
def row (t : Fin cfg0.N) (r : Fin 512) : Fin 16384 :=
  ⟨(grid0.coords t 0).val * 512 + r.val, by have h : (grid0.coords t 0).val < 32 := (grid0.coords t 0).isLt; omega⟩

theorem iblk0_apply (c : Dev nD) (t : Fin cfg0.N) (r : Fin 512) (k : Fin 1024) :
    iblk m c 0 t (ix2 r k) = m ((c.tc : Thread nD τ).loc main_arg0) (ix2 (row t r) k) := by
  blk_simp [iblk]
  rw [← V_main_arg0 m c]
  refine congrArg (V m c main_arg0) ?_
  blk_ext [idx0 t, row]

theorem V_main_v0 (c : Dev nD) : V m c main_v0 = m ((c.tc : Thread nD τ).loc main_arg2) := rfl
theorem V_main_v1 (c : Dev nD) (k : Fin 1024) : V m c main_v1 (ix2 0 k) = m ((c.tc : Thread nD τ).loc main_arg1) (ix1 k) := by
  show shapeCast S1x1024 (m ((c.tc : Thread nD τ).loc main_arg1)) shapeCasts_S1024_S1x1024 (ix2 0 k) = _
  pointwise

theorem iblk1_apply (c : Dev nD) (t : Fin cfg0.N) (k : Fin 1024) :
    iblk m c 1 t (ix2 0 k) = m ((c.tc : Thread nD τ).loc main_arg1) (ix1 k) := by
  rw [← V_main_v1 m c]
  blk_simp [iblk]
  refine congrArg (V m c main_v1) ?_
  blk_ext [idx1 t]

theorem iblk2_apply (c : Dev nD) (t : Fin cfg0.N) (k j : Fin 1024) :
    iblk m c 2 t (ix2 k j) = m ((c.tc : Thread nD τ).loc main_arg2) (ix2 k j) := by
  rw [← V_main_v0 m c]
  blk_simp [iblk]
  refine congrArg (V m c main_v0) ?_
  blk_ext [idx2 t]

/-- What a point leaves, at an index. -/
theorem point (c : Dev nD) (t : Fin cfg0.N) (r : Fin 512) (j : Fin 1024) :
    out0_3 (F := Ideal) (iblk m c 0 t) (iblk m c 1 t) (iblk m c 2 t) (ix2 r j)
      = proj (m ((c.tc : Thread nD τ).loc main_arg0)) (m ((c.tc : Thread nD τ).loc main_arg1)) (m ((c.tc : Thread nD τ).loc main_arg2)) (row t r) j := by
  unfold out0_3
  refine (congrFun (View.canon_unit_zero lit2 _ _) _).trans ?_
  refine (pay_apply _ _ _ r j).trans ?_
  rw [View.ld_unit_zero lit2, View.ld_unit_zero lit2, View.ld_unit_zero lit2]
  simp only [iblk0_apply, iblk1_apply, iblk2_apply]
  rfl

/-- The output array after the run. -/
theorem final (c : Dev nD) : (dats m 0 c).arrAt 3 cfg0.N = fun i : S16384x1024.Idx =>
    proj (m ((c.tc : Thread nD τ).loc main_arg0)) (m ((c.tc : Thread nD τ).loc main_arg1)) (m ((c.tc : Thread nD τ).loc main_arg2))
      (i 0) (i 1) := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, funext fun a => by match a with | ⟨0, _⟩ => rfl | ⟨1, _⟩ => rfl⟩
  refine (point m c t r j).trans (congrArg₂ (proj _ _ _) (Fin.ext ?_) (Fin.ext ?_))
  · blk_simp
    rw [idx3 t]
    rfl
  · blk_simp
    rw [idx3 t]
    show j.val = 0 * 1024 + j.val
    omega

end Cert.Kernel5Ideal.Hand

namespace Cert.Reference5Ideal.Hand

open Cert.Reference5Ideal Cert.Reference5Ideal.Gen Cert.Reference5Ideal.Read Idealize.ShloMosaic

/-- The reference's array: the product that the key-value projection forms too. -/
theorem final (x0 : S16384x1024.Idx → EReal) (x1 : S1024.Idx → EReal) (x2 : S1024x1024.Idx → EReal) (i : S16384x1024.Idx) :
    val_main_v13 (F := Ideal) x0 x1 x2 i = Cert.Kernel4Ideal.Hand.proj x0 x1 x2 (i 0) (i 1) := by
  obtain ⟨r, k, rfl⟩ : ∃ (r : Fin 16384) (k : Fin 1024), i = ix2 r k := ⟨i 0, i 1, funext fun a => by match a with | ⟨0, _⟩ => rfl | ⟨1, _⟩ => rfl⟩
  exact Cert.Reference4Ideal.Hand.prod_apply x0 x1 x2 r k

end Cert.Reference5Ideal.Hand

end
-- ==== Proof.InprojA.lean ====
/- The input projection of the self-decoder layers: what the kernel leaves in its output array. -/
module

public import proofs.«01_k».proof.Proof.Kv
public import proofs.«01_k».proof.Proof.Gen.Kernel6Ideal.Value
public import Idealize.ShloMosaic.Lib.Pipeline.ValueKit

@[expose] public section

set_option maxRecDepth 16384

noncomputable section

namespace Cert.Kernel6Ideal.Hand

open Cert.Kernel6Ideal Cert.Kernel6Ideal.Gen Idealize.ShloMosaic Idealize.ShloMosaic.TcCoe Idealize.ShloMosaic.Tactic
open Idealize.SL.Sem Cert.Hand
open Cert.Kernel4Ideal.Hand (lit2)

/-- A number times its logistic. -/
def silu (a : EReal) : EReal := a * Ideal.logistic a

theorem silu_eq (a : EReal) :
    a * Ideal.div (FloatOps.ofBits (F := Ideal) .f32 0x3F800000#32)
      (FloatOps.ofBits (F := Ideal) .f32 0x3F800000#32 + Ideal.exp (0 - a)) = silu a := by
  rw [oneWord, zero_sub]
  rfl

/-- The logarithm of the logistic. -/
def logSig (y : EReal) : EReal := min y 0 - Ideal.log1p (Ideal.exp (0 - max y (-y)))

/-- The logarithm of the sum of two exponentials. -/
def logAddExp (a b : EReal) : EReal := max a b + Ideal.log1p (Ideal.exp (0 - max (a - b) (-(a - b))))

/-- The logarithm of the forget factor, from its lower bound and its gate. -/
def decay (l y : EReal) : EReal := logAddExp (Ideal.log l) (Ideal.log1p (0 - l) + logSig y)

/-- One row of the output, from the five products of 512 columns and the lower bounds: the queries, the forget factors, the inputs,
the gates and the queries of the memory attention. -/
def mixed (y : Fin 2560 → EReal) (lb : Fin 512 → EReal) (c : Fin 2560) : EReal :=
  if c.val < 512 then silu (y c)
  else if h : c.val < 1024 then decay (lb ⟨c.val - 512, by omega⟩) (y c)
  else if c.val < 1536 then y c
  else if c.val < 2048 then silu (y c)
  else y c

theorem xn_apply (v0 : Vec Ideal S512x1024 .f32) (v1 : Vec Ideal S1x1024 .f32) (r : Fin 512) (k : Fin 1024) :
    k0_pay2 (F := Ideal) v0 v1 (ix2 r k) = normRow (fun k => v0 (ix2 r k)) (fun k => v1 (ix2 0 k)) k := by
  pointwise [k0_pay2]
  rfl

theorem plain_apply (v : FVec Ideal S512x1024 .bf16) (w : Vec Ideal S1024x512 .bf16) (r j : Fin 512) :
    k0_pay1 (F := Ideal) v w (ix2 r j) = ∑ k : Fin 1024, v (ix2 r k) * w (ix2 k j) := by
  pointwise [k0_pay1]

theorem silu_apply (v : FVec Ideal S512x1024 .bf16) (w : Vec Ideal S1024x512 .bf16) (r j : Fin 512) :
    k0_pay10 (F := Ideal) v w (ix2 r j) = silu (∑ k : Fin 1024, v (ix2 r k) * w (ix2 k j)) := by
  rw [← silu_eq]
  pointwise [k0_pay10]

theorem decay_apply (y : FVec Ideal S512x512 .f32) (l : Vec Ideal S1x512 .f32) (r j : Fin 512) :
    k0_pay8 (F := Ideal) y (k0_pay6 (F := Ideal) l) (k0_pay7 (F := Ideal) l) (ix2 r j) = decay (l (ix2 0 j)) (y (ix2 r j)) := by
  pointwise [k0_pay8, k0_pay6, k0_pay7, k0_pay5]
  rfl

/-- The row of products that the block's rows and the weights make. -/
def prods (v : FVec Ideal S512x1024 .bf16) (w : Vec Ideal S1024x2560 .bf16) (r : Fin 512) (c : Fin 2560) : EReal :=
  ∑ k : Fin 1024, v (ix2 r k) * w (ix2 k c)

/-- The output block. -/
def block (v : FVec Ideal S512x1024 .bf16) (w : Vec Ideal S1024x2560 .bf16) (l : Vec Ideal S1x512 .f32) : Vec Ideal S512x2560 .f32 :=
  fun i => mixed (prods v w (i 0)) (fun j => l (ix2 0 j)) (i 1)

/-- The products of columns `p` onward. -/
theorem prods_cols (v : FVec Ideal S512x1024 .bf16) (w : Vec Ideal S1024x2560 .bf16) (p : ℕ) (hp : p ≤ 2048) (inb) (r j : Fin 512) :
    ∑ k : Fin 1024, v (ix2 r k) * View.ld w (Rect.unit (s := S1024x2560) ![0, p] S1024x512.size inb) (ix2 k j)
      = prods v w r ⟨p + j.val, by omega⟩ :=
  Finset.sum_congr rfl fun k _ => congrArg (v (ix2 r k) * ·) (View.ld_unit_apply_of w _ _ _ _ _ fun a => by
    match a with
    | ⟨0, _⟩ => show k.val = 0 + k.val; omega
    | ⟨1, _⟩ => rfl)

/-- Where entry `(r, j)` of the piece at column `p` lies. -/
theorem emb_cols (p : ℕ) (hp : p ≤ 2048) (inb) (r j : Fin 512) :
    (Rect.unit (s := S512x2560) ![0, p] S512x512.size inb).emb (ix2 r j) = ix2 r (⟨p + j.val, by omega⟩ : Fin 2560) := by
  funext a
  refine Fin.ext ?_
  match a with
  | ⟨0, _⟩ => show 0 + 1 * r.val = r.val; omega
  | ⟨1, _⟩ => show p + 1 * j.val = p + j.val; omega

theorem ix_out (x : S512x512.Idx) : ∃ r j : Fin 512, x = ix2 r j :=
  ⟨x 0, x 1, funext fun a => by match a with | ⟨0, _⟩ => rfl | ⟨1, _⟩ => rfl⟩

/-- A piece that stores the products as they are. -/
theorem piece_plain (v : FVec Ideal S512x1024 .bf16) (w : Vec Ideal S1024x2560 .bf16) (l : Vec Ideal S1x512 .f32) (p : ℕ)
    (hp : p = 1024 ∨ p = 2048) (inb inb') (x : S512x512.Idx) :
    k0_pay1 (F := Ideal) v (View.ld w (Rect.unit (s := S1024x2560) ![0, p] S1024x512.size inb)) x
      = block v w l ((Rect.unit (s := S512x2560) ![0, p] S512x512.size inb').emb x) := by
  obtain ⟨r, j, rfl⟩ := ix_out x
  rw [emb_cols p (by omega), plain_apply, prods_cols v w p (by omega)]
  show _ = mixed (prods v w r) _ (⟨p + j.val, _⟩ : Fin 2560)
  unfold mixed
  rcases hp with rfl | rfl
  · rw [if_neg (by simp <;> omega), dif_neg (by simp <;> omega), if_pos (by simp <;> omega)]
  · rw [if_neg (by simp <;> omega), dif_neg (by simp <;> omega), if_neg (by simp <;> omega), if_neg (by simp <;> omega)]

/-- A piece that stores the products times their logistics. -/
theorem piece_silu (v : FVec Ideal S512x1024 .bf16) (w : Vec Ideal S1024x2560 .bf16) (l : Vec Ideal S1x512 .f32) (p : ℕ)
    (hp : p = 0 ∨ p = 1536) (inb inb') (x : S512x512.Idx) :
    k0_pay10 (F := Ideal) v (View.ld w (Rect.unit (s := S1024x2560) ![0, p] S1024x512.size inb)) x
      = block v w l ((Rect.unit (s := S512x2560) ![0, p] S512x512.size inb').emb x) := by
  obtain ⟨r, j, rfl⟩ := ix_out x
  rw [emb_cols p (by omega), silu_apply, prods_cols v w p (by omega)]
  show _ = mixed (prods v w r) _ (⟨p + j.val, _⟩ : Fin 2560)
  unfold mixed
  rcases hp with rfl | rfl
  · rw [if_pos (by simp <;> omega)]
  · rw [if_neg (by simp <;> omega), dif_neg (by simp <;> omega), if_neg (by simp <;> omega), if_pos (by simp <;> omega)]

/-- The piece that stores the forget factors. -/
theorem piece_decay (v : FVec Ideal S512x1024 .bf16) (w : Vec Ideal S1024x2560 .bf16) (l : Vec Ideal S1x512 .f32) (inb inb') (x : S512x512.Idx) :
    k0_pay8 (F := Ideal) (k0_pay1 (F := Ideal) v (View.ld w (Rect.unit (s := S1024x2560) ![0, 512] S1024x512.size inb)))
        (k0_pay6 (F := Ideal) l) (k0_pay7 (F := Ideal) l) x
      = block v w l ((Rect.unit (s := S512x2560) ![0, 512] S512x512.size inb').emb x) := by
  obtain ⟨r, j, rfl⟩ := ix_out x
  rw [emb_cols 512 (by omega), decay_apply, plain_apply, prods_cols v w 512 (by omega)]
  show _ = mixed (prods v w r) (fun j => l (ix2 0 j)) (⟨512 + j.val, _⟩ : Fin 2560)
  unfold mixed
  rw [if_neg (by simp <;> omega), dif_pos (show 512 + j.val < 1024 by omega)]
  exact congrArg (fun i : Fin 512 => decay (l (ix2 0 i)) _) (Fin.ext (by simp))

/-- What the body leaves in its output block. -/
theorem out_val (x0 : Vec Ideal S512x1024 .f32) (x1 : Vec Ideal S1x1024 .f32) (x2 : Vec Ideal S1x512 .f32) (x3 : Vec Ideal S1024x2560 .bf16) :
    out0_4 (F := Ideal) x0 x1 x2 x3 = block (k0_pay2 (F := Ideal) x0 x1) x3 x2 := by
  unfold out0_4 k0_pay11
  rw [show View.ld x0 r0_0 = x0 from View.ld_unit_zero lit2 _ _, show View.ld x1 r0_1 = x1 from View.ld_unit_zero lit2 _ _,
    show View.ld x2 r0_5 = x2 from View.ld_unit_zero lit2 _ _]
  refine funext fun y => View.canon_apply_of_pieces _ _ ?_ y (cover0_4 _ _ _ _ _ y)
  simp only [List.forall_mem_cons]
  exact ⟨fun x => piece_plain _ _ _ _ (.inr rfl) _ _ x, fun x => piece_silu _ _ _ _ (.inr rfl) _ _ x,
    fun x => piece_plain _ _ _ _ (.inl rfl) _ _ x, fun x => piece_decay _ _ _ _ _ x, fun x => piece_silu _ _ _ _ (.inl rfl) _ _ x,
    fun p hp => absurd hp (List.not_mem_nil)⟩

variable (m : (ℓ : Loc nD τ sig) → Buf (Elt Ideal) ℓ)

/-- One entry of the projection. -/
def proj (h : S16384x1024.Idx → EReal) (g : S1024.Idx → EReal) (lb : S512.Idx → EReal) (w : S1024x2560.Idx → EReal)
    (r : Fin 16384) (c : Fin 2560) : EReal :=
  mixed (fun c => ∑ k : Fin 1024, normRow (fun k => h (ix2 r k)) (fun k => g (ix1 k)) k * w (ix2 k c)) (fun j => lb (ix1 j)) c

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![(grid0.coords t 0).val, 0] :=
  (by decide +kernel : ∀ t : Fin grid0.N, win0_4.index t = ![(grid0.coords t 0).val, 0])

/-- Row `r` of block `t`, in the array. -/
def row (t : Fin cfg0.N) (r : Fin 512) : Fin 16384 :=
  ⟨(grid0.coords t 0).val * 512 + r.val, by have h : (grid0.coords t 0).val < 32 := (grid0.coords t 0).isLt; omega⟩

theorem iblk0_apply (c : Dev nD) (t : Fin cfg0.N) (r : Fin 512) (k : Fin 1024) :
    iblk m c 0 t (ix2 r k) = m ((c.tc : Thread nD τ).loc main_arg0) (ix2 (row t r) k) := by
  blk_simp [iblk]
  rw [← V_main_arg0 m c]
  refine congrArg (V m c main_arg0) ?_
  blk_ext [idx0 t, row]

theorem V_main_v0 (c : Dev nD) : V m c main_v0 = m ((c.tc : Thread nD τ).loc main_arg3) := rfl
theorem V_main_v1 (c : Dev nD) (k : Fin 1024) : V m c main_v1 (ix2 0 k) = m ((c.tc : Thread nD τ).loc main_arg1) (ix1 k) := by
  show shapeCast S1x1024 (m ((c.tc : Thread nD τ).loc main_arg1)) shapeCasts_S1024_S1x1024 (ix2 0 k) = _
  pointwise
theorem V_main_v2 (c : Dev nD) (k : Fin 512) : V m c main_v2 (ix2 0 k) = m ((c.tc : Thread nD τ).loc main_arg2) (ix1 k) := by
  show shapeCast S1x512 (m ((c.tc : Thread nD τ).loc main_arg2)) shapeCasts_S512_S1x512 (ix2 0 k) = _
  pointwise

theorem iblk1_apply (c : Dev nD) (t : Fin cfg0.N) (k : Fin 1024) :
    iblk m c 1 t (ix2 0 k) = m ((c.tc : Thread nD τ).loc main_arg1) (ix1 k) := by
  rw [← V_main_v1 m c]
  blk_simp [iblk]
  refine congrArg (V m c main_v1) ?_
  blk_ext [idx1 t]

theorem iblk2_apply (c : Dev nD) (t : Fin cfg0.N) (k : Fin 512) :
    iblk m c 2 t (ix2 0 k) = m ((c.tc : Thread nD τ).loc main_arg2) (ix1 k) := by
  rw [← V_main_v2 m c]
  blk_simp [iblk]
  refine congrArg (V m c main_v2) ?_
  blk_ext [idx2 t]

theorem iblk3_apply (c : Dev nD) (t : Fin cfg0.N) (k : Fin 1024) (j : Fin 2560) :
    iblk m c 3 t (ix2 k j) = m ((c.tc : Thread nD τ).loc main_arg3) (ix2 k j) := by
  rw [← V_main_v0 m c]
  blk_simp [iblk]
  refine congrArg (V m c main_v0) ?_
  blk_ext [idx3 t]

/-- What a point leaves, at an index. -/
theorem point (c : Dev nD) (t : Fin cfg0.N) (r : Fin 512) (j : Fin 2560) :
    out0_4 (F := Ideal) (iblk m c 0 t) (iblk m c 1 t) (iblk m c 2 t) (iblk m c 3 t) (ix2 r j)
      = proj (m ((c.tc : Thread nD τ).loc main_arg0)) (m ((c.tc : Thread nD τ).loc main_arg1)) (m ((c.tc : Thread nD τ).loc main_arg2))
          (m ((c.tc : Thread nD τ).loc main_arg3)) (row t r) j := by
  rw [out_val]
  show mixed (prods _ _ r) (fun j => iblk m c 2 t (ix2 0 j)) j = mixed _ _ j
  refine congrArg₂ (fun a b => mixed a b j) (funext fun q => Finset.sum_congr rfl fun k _ => ?_) (funext fun q => iblk2_apply m c t q)
  rw [xn_apply, iblk3_apply]
  simp only [iblk0_apply, iblk1_apply]

/-- The output array after the run. -/
theorem final (c : Dev nD) : (dats m 0 c).arrAt 4 cfg0.N = fun i : S16384x2560.Idx =>
    proj (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  obtain ⟨r, j, rfl⟩ : ∃ (r : Fin 512) (j : Fin 2560), y = ix2 r j := ⟨y 0, y 1, funext fun a => by match a with | ⟨0, _⟩ => rfl | ⟨1, _⟩ => rfl⟩
  refine (point m c t r j).trans (congrArg₂ (proj _ _ _ _) (Fin.ext ?_) (Fin.ext ?_))
  · blk_simp
    rw [idx4 t]
    rfl
  · blk_simp
    rw [idx4 t]
    show j.val = 0 * 2560 + j.val
    omega

end Cert.Kernel6Ideal.Hand

end
-- ==== Proof.InprojARef.lean ====
/- The input projection of the self-decoder layers: the reference's array is the kernel's. -/
module

public import proofs.«01_k».proof.Proof.InprojA
public import proofs.«01_k».proof.Proof.KvRef
public import proofs.«01_k».proof.Proof.RealMath
public import proofs.«01_k».proof.Proof.Gen.Reference6Ideal.Read

@[expose] public section

set_option maxRecDepth 16384

noncomputable section

namespace Cert.Reference6Ideal.Hand

open Cert.Reference6Ideal Cert.Reference6Ideal.Gen Cert.Reference6Ideal.Read Idealize.ShloMosaic Idealize.ShloMosaic.Tactic
open Cert.Hand
open Cert.Kernel6Ideal.Hand (silu silu_eq logSig logAddExp decay mixed proj)

/-- A value is never unequal to itself. -/
theorem select_une (z a b : EReal) : Scalar.select (FloatOps.cmpf (F := Ideal) (φ := .f32) .une z z) a b = b := by
  have hc : FloatOps.cmpf (F := Ideal) (φ := .f32) .une z z = 0#1 := by
    show BitVec.ofBool (decide (z ≠ z)) = 0#1
    simp
  rw [hc]
  rfl

/-- The logarithm of one plus an exponential is not negative. -/
theorem log1p_exp_nonneg (x : EReal) : 0 ≤ Ideal.log1p (Ideal.exp x) := by
  induction x with
  | bot =>
    show (0 : EReal) ≤ Ideal.log (1 + Ideal.exp ⊥)
    rw [Ideal.exp_bot, add_zero, ← EReal.coe_one, Ideal.log_coe, if_neg (by norm_num), Real.log_one]
    exact le_rfl
  | coe x =>
    show (0 : EReal) ≤ Ideal.log (1 + Ideal.exp (x : EReal))
    rw [Ideal.exp_coe, Cert.KernelIdeal.Hand.log_one_add_exp]
    exact EReal.coe_nonneg.2 (Real.log_nonneg (by have := Real.exp_pos x; linarith))
  | top =>
    show (0 : EReal) ≤ Ideal.log (1 + Ideal.exp ⊤)
    rw [Ideal.exp_top, EReal.add_top_of_ne_bot (by decide), Ideal.log_top]
    exact le_top

/-- The logarithm of the logistic is minus the softplus of minus the number. -/
theorem logSig_eq (y : EReal) : -(max (-y) 0 + Ideal.log1p (Ideal.exp (-(max (-y) (-(-y)))))) = logSig y := by
  unfold logSig
  rw [neg_neg, max_comm (-y) y, zero_sub, EReal.neg_add (.inl (ne_bot_of_le_ne_bot (by simp) (le_max_right _ _)))
    (.inr (ne_bot_of_le_ne_bot (by simp) (log1p_exp_nonneg _)))]
  refine congrArg (· - _) ?_
  rcases le_total y 0 with h | h
  · rw [max_eq_left (EReal.neg_nonneg.2 h), min_eq_left h, neg_neg]
  · rw [max_eq_right (EReal.neg_le.2 (by simpa using h)), min_eq_right h, neg_zero]

variable (x0 : S16384x1024.Idx → EReal) (x1 : S1024.Idx → EReal) (x2 : S512.Idx → EReal) (x3 : S1024x2560.Idx → EReal)

/-- The row of products. -/
def prods (r : Fin 16384) (c : Fin 2560) : EReal :=
  ∑ k : Fin 1024, normRow (fun k => x0 (ix2 r k)) (fun k => x1 (ix1 k)) k * x3 (ix2 k c)

theorem prod_apply (r : Fin 16384) (c : Fin 2560) : val_main_v13 (F := Ideal) x0 x1 x3 (ix2 r c) = prods x0 x1 x3 r c := by
  rw [val_main_v13_apply]
  refine Finset.sum_congr rfl fun k _ => ?_
  have e : lidx_main_v13 (ix2 r c) k = ix2 r k := by idx_ext
  have e' : ridx_main_v13 (ix2 r c) k = ix2 k c := by idx_ext
  rw [e, e']
  exact congrArg (· * _) (Cert.Reference4Ideal.Hand.norm_apply x0 x1 r k)

/-- Column `p` onward of the products. -/
def col (p : ℕ) (hp : p ≤ 2048) (j : Fin 512) : Fin 2560 := ⟨p + j.val, by omega⟩

theorem v14_at (r : Fin 16384) (j : Fin 512) : val_main_v14 (F := Ideal) x0 x1 x3 (ix2 r j) = prods x0 x1 x3 r (col 0 (by omega) j) := by
  rw [val_main_v14_apply, ← prod_apply]
  refine congrArg _ (funext fun a => ?_)
  match a with
  | ⟨0, _⟩ => exact Fin.ext rfl
  | ⟨1, _⟩ => exact Fin.ext (Nat.zero_add _).symm
theorem v15_at (r : Fin 16384) (j : Fin 512) : val_main_v15 (F := Ideal) x0 x1 x3 (ix2 r j) = prods x0 x1 x3 r (col 512 (by omega) j) := by
  rw [val_main_v15_apply, ← prod_apply]
  refine congrArg _ (funext fun a => ?_)
  match a with
  | ⟨0, _⟩ => exact Fin.ext rfl
  | ⟨1, _⟩ => exact Fin.ext rfl
theorem v16_at (r : Fin 16384) (j : Fin 512) : val_main_v16 (F := Ideal) x0 x1 x3 (ix2 r j) = prods x0 x1 x3 r (col 1024 (by omega) j) := by
  rw [val_main_v16_apply, ← prod_apply]
  refine congrArg _ (funext fun a => ?_)
  match a with
  | ⟨0, _⟩ => exact Fin.ext rfl
  | ⟨1, _⟩ => exact Fin.ext rfl
theorem v17_at (r : Fin 16384) (j : Fin 512) : val_main_v17 (F := Ideal) x0 x1 x3 (ix2 r j) = prods x0 x1 x3 r (col 1536 (by omega) j) := by
  rw [val_main_v17_apply, ← prod_apply]
  refine congrArg _ (funext fun a => ?_)
  match a with
  | ⟨0, _⟩ => exact Fin.ext rfl
  | ⟨1, _⟩ => exact Fin.ext rfl
theorem v18_at (r : Fin 16384) (j : Fin 512) : val_main_v18 (F := Ideal) x0 x1 x3 (ix2 r j) = prods x0 x1 x3 r (col 2048 (by omega) j) := by
  rw [val_main_v18_apply, ← prod_apply]
  refine congrArg _ (funext fun a => ?_)
  match a with
  | ⟨0, _⟩ => exact Fin.ext rfl
  | ⟨1, _⟩ => exact Fin.ext rfl

theorem v40_at (r : Fin 16384) (j : Fin 512) : val_main_v40 (F := Ideal) x0 x1 x3 (ix2 r j) = silu (prods x0 x1 x3 r (col 0 (by omega) j)) := by
  rw [val_main_v40_apply, val_main_call1_v5_apply, val_main_call1_v3_apply, val_main_call1_v1_apply, val_main_call1_v0_apply,
    val_main_call1_v2_apply, val_main_call1_v4_apply, val_main_call1_cst_apply, val_main_call1_cst_0_apply, v14_at, ← silu_eq, zero_sub]
  rfl
theorem v41_at (r : Fin 16384) (j : Fin 512) : val_main_v41 (F := Ideal) x0 x1 x3 (ix2 r j) = silu (prods x0 x1 x3 r (col 1536 (by omega) j)) := by
  rw [val_main_v41_apply, val_main_call2_v5_apply, val_main_call2_v3_apply, val_main_call2_v1_apply, val_main_call2_v0_apply,
    val_main_call2_v2_apply, val_main_call2_v4_apply, val_main_call2_cst_apply, val_main_call2_cst_0_apply, v17_at, ← silu_eq, zero_sub]
  rfl

/-- The logarithm of the logistic of the forget gate. -/
theorem v22_at (r : Fin 16384) (j : Fin 512) : val_main_v22 (F := Ideal) x0 x1 x3 (ix2 r j) = logSig (prods x0 x1 x3 r (col 512 (by omega) j)) := by
  have h3 : val_main_call0_call0_v3 (F := Ideal) x0 x1 x3 (ix2 r j) = -(prods x0 x1 x3 r (col 512 (by omega) j)) := by
    rw [val_main_call0_call0_v3_apply, val_main_call0_v0_apply, val_main_call0_call0_v2_apply, val_main_call0_call0_cst_apply, zeroWord, v15_at]
    exact sub_zero _
  rw [← logSig_eq, val_main_v22_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, h3, val_main_call0_call0_v0_apply, val_main_call0_call0_cst_apply, val_main_call0_v0_apply, v15_at, zeroWord, select_une]
  rfl

theorem v39_at (r : Fin 16384) (j : Fin 512) :
    val_main_v39 (F := Ideal) x0 x1 x2 x3 (ix2 r j) = decay (x2 (ix1 j)) (prods x0 x1 x3 r (col 512 (by omega) j)) := by
  have e23 : idx_main_v23 (idx_main_v24 (ix2 r j)) = ix1 j := by idx_ext
  have e26 : idx_main_v26 (idx_main_v27 (ix2 r j)) = ix1 j := by idx_ext
  have h25 : val_main_v25 (F := Ideal) x0 x1 x2 x3 (ix2 r j)
      = Ideal.log1p (0 - x2 (ix1 j)) + logSig (prods x0 x1 x3 r (col 512 (by omega) j)) := by
    rw [val_main_v25_apply, val_main_v24_apply, val_main_v23_apply, e23, val_main_v21_apply, val_main_v20_apply, v22_at, zero_sub]
    rfl
  rw [val_main_v39_apply, val_main_v31_apply, select_une, val_main_v38_apply, val_main_v37_apply, val_main_v36_apply, val_main_v35_apply,
    val_main_v34_apply, val_main_v30_apply, val_main_v28_apply, val_main_v27_apply, val_main_v29_apply, val_main_v26_apply,
    e26, h25, val_main_v19_apply]
  unfold decay logAddExp
  rw [zero_sub (max _ _)]
  rfl

/-- The reference's array. -/
theorem final (i : S16384x2560.Idx) : val_main_v42 (F := Ideal) x0 x1 x2 x3 i = proj x0 x1 x2 x3 (i 0) (i 1) := by
  obtain ⟨r, c, rfl⟩ : ∃ (r : Fin 16384) (c : Fin 2560), i = ix2 r c := ⟨i 0, i 1, funext fun a => by match a with | ⟨0, _⟩ => rfl | ⟨1, _⟩ => rfl⟩
  show _ = mixed (prods x0 x1 x3 r) (fun j => x2 (ix1 j)) c
  pointwise [val_main_v42]
  unfold mixed
  have e : ∀ (p : ℕ) (hp : p ≤ 2048) (q : Fin 512), p + q.val = c.val → col p hp q = c := fun p hp q h => Fin.ext h
  simp only [v40_at, v39_at, v16_at, v41_at, v18_at]
  by_cases h0 : c.val < 512
  · rw [dif_pos h0, if_pos h0, e _ _ _ (by simp)]
  rw [dif_neg h0, if_neg h0]
  by_cases h1 : c.val < 1024
  · rw [dif_pos (by omega), dif_pos h1, e _ _ _ (by simp <;> omega)]
  rw [dif_neg (by omega), dif_neg h1]
  by_cases h2 : c.val < 1536
  · rw [dif_pos (by omega), if_pos h2, e _ _ _ (by simp <;> omega)]
  rw [dif_neg (by omega), if_neg h2]
  by_cases h3 : c.val < 2048
  · rw [dif_pos (by omega), if_pos h3, e _ _ _ (by simp <;> omega)]
  rw [dif_neg (by omega), if_neg h3, e _ _ _ (by simp <;> omega)]

end Cert.Reference6Ideal.Hand

end
-- ==== Proof.MixOut.lean ====
/- The output projection with the memory attention: what the kernel leaves in its output array. -/
module

public import proofs.«01_k».proof.Proof.Norm
public import proofs.«01_k».proof.Proof.Gen.Kernel7Ideal.Value
public import Idealize.ShloMosaic.Lib.Pipeline.ValueKit

@[expose] public section

set_option maxRecDepth 16384

noncomputable section

namespace Cert.Kernel7Ideal.Hand

open Cert.Kernel7Ideal Cert.Kernel7Ideal.Gen Idealize.ShloMosaic Idealize.ShloMosaic.TcCoe Idealize.ShloMosaic.Tactic
open Idealize.SL.Sem Cert.Hand

/-- The word of the logits' scale. -/
def scale : EReal := FloatOps.ofBits (F := Ideal) .f32 0x3DB504F3#32

/-- The greatest of 256 logits. -/
def top (l : Fin 256 → EReal) : EReal := Finset.univ.fold max (FloatOps.ofBits (F := Ideal) .f32 0xFF800000#32) l

/-- The weight of a memory slot before the division. -/
def wt (l : Fin 256 → EReal) (j : Fin 256) : EReal := Ideal.exp (l j - top l)

/-- One head's logits: the query is scaled before the product. -/
def logits (q : Fin 128 → EReal) (mk : Fin 256 → Fin 128 → EReal) (j : Fin 256) : EReal := ∑ k : Fin 128, q k * scale * mk j k

/-- One head's output: the weighted values, divided by the sum of the weights. -/
def headOut (q : Fin 128 → EReal) (mk mv : Fin 256 → Fin 128 → EReal) (k : Fin 128) : EReal :=
  Ideal.div (∑ j : Fin 256, wt (logits q mk) j * mv j k) (∑ j : Fin 256, wt (logits q mk) j)

theorem head_apply (acc : FVec Ideal S512x1024 .f32) (q : Vec Ideal S1x512x128 .f32) (mk mv : Vec Ideal S1x256x128 .f32)
    (w : Vec Ideal S128x1024 .bf16) (r : Fin 512) (n : Fin 1024) :
    k0_pay3 (F := Ideal) acc q mk mv w (ix2 r n) = acc (ix2 r n) + ∑ k : Fin 128,
      headOut (fun k => q (ix3 0 r k)) (fun j k => mk (ix3 0 j k)) (fun j k => mv (ix3 0 j k)) k * w (ix2 k n) := by
  pointwise [k0_pay3]
  rfl

/-- The rows of the first product. -/
def first (a : Vec Ideal S1x512x512 .f32) (w : Vec Ideal S512x1024 .bf16) : FVec Ideal S512x1024 .f32 :=
  matmul dot_S512x512_S512x1024_S512x1024_1_0_0_1_n_n none
    (truncf .bf16 (shapeCast S512x512 a shapeCasts_S1x512x512_S512x512 : FVec Ideal S512x512 .f32) bitsLt_bf16_f32 : FVec Ideal S512x512 .bf16)
    (shapeCast S512x1024 w shapeCasts_S512x1024_S512x1024 : FVec Ideal S512x1024 .bf16) (constant S512x1024 .f32 0x00000000#32)

theorem first_apply (a : Vec Ideal S1x512x512 .f32) (w : Vec Ideal S512x1024 .bf16) (r : Fin 512) (n : Fin 1024) :
    first a w (ix2 r n) = ∑ k : Fin 512, a (ix3 0 r k) * w (ix2 k n) := by
  pointwise [first]

theorem pay2_eq (a : Vec Ideal S1x512x512 .f32) (w : Vec Ideal S512x1024 .bf16) (q : Vec Ideal S1x512x128 .f32)
    (mk mv : Vec Ideal S1x256x128 .f32) (w' : Vec Ideal S128x1024 .bf16) :
    k0_pay2 (F := Ideal) a w q mk mv w' = k0_pay3 (F := Ideal) (first a w) q mk mv w' := rfl

theorem pay6_eq (acc : FVec Ideal S512x1024 .f32) (q : Vec Ideal S1x512x128 .f32) (mk mv : Vec Ideal S1x256x128 .f32)
    (w : Vec Ideal S128x1024 .bf16) :
    k0_pay6 (F := Ideal) acc (k0_pay4 (F := Ideal) q) (k0_pay5 (F := Ideal) mk) (constant S512x256 .f32 0x00000000#32) mv w
      = k0_pay3 (F := Ideal) acc q mk mv w := rfl

theorem pay1_apply (acc : FVec Ideal S512x1024 .f32) (q : Vec Ideal S1x512x128 .f32) (mk mv : Vec Ideal S1x256x128 .f32)
    (w : Vec Ideal S128x1024 .bf16) (h : Vec Ideal S1x512x1024 .f32) (g : Vec Ideal S1x1024 .f32) (r : Fin 512) (n : Fin 1024) :
    k0_pay1 (F := Ideal) acc (k0_pay7 (F := Ideal) q mk) (k0_pay8 (F := Ideal) q mk) (k0_pay9 (F := Ideal) mv)
        (constant S512x128 .f32 0x00000000#32) w h g (ix3 0 r n)
      = h (ix3 0 r n) + normRow (fun n => k0_pay3 (F := Ideal) acc q mk mv w (ix2 r n)) (fun n => g (ix2 0 n)) n := by
  simp only [head_apply]
  pointwise [k0_pay1, k0_pay7, k0_pay8, k0_pay9]
  rfl

/-- Feature `k` of head `h`. -/
def feat (h : Fin 4) (k : Fin 128) : Fin 512 := ⟨128 * h.val + k.val, by omega⟩
/-- The row of the weights for a feature of the first operand. -/
def lowRow (k : Fin 512) : Fin 1024 := ⟨k.val, by omega⟩
/-- The row of the weights for a feature of the memory attention. -/
def highRow (k : Fin 512) : Fin 1024 := ⟨512 + k.val, by omega⟩

/-- One head's part of the product with the weights. -/
def headPart (q : Fin 512 → EReal) (mk mv : Fin 256 → Fin 512 → EReal) (w : Fin 1024 → Fin 1024 → EReal) (n : Fin 1024) (h : Fin 4) : EReal :=
  ∑ k : Fin 128, headOut (fun k => q (feat h k)) (fun j k => mk j (feat h k)) (fun j k => mv j (feat h k)) k * w (highRow (feat h k)) n

/-- One row of the product. -/
def mixRow (a q : Fin 512 → EReal) (mk mv : Fin 256 → Fin 512 → EReal) (w : Fin 1024 → Fin 1024 → EReal) (n : Fin 1024) : EReal :=
  (∑ k : Fin 512, a k * w (lowRow k) n) + headPart q mk mv w n 0 + headPart q mk mv w n 1 + headPart q mk mv w n 2 + headPart q mk mv w n 3

/-- A head's columns of the queries, the keys or the values. -/
theorem ld_feat {S : ℕ} (x : Vec Ideal ⟨3, ![1, S, 512]⟩ .f32) (h : Fin 4) (p : ℕ) (hp : p = 128 * h.val) (inb) (r : Fin S) (k : Fin 128) :
    View.ld x (Rect.unit (s := ⟨3, ![1, S, 512]⟩) ![0, 0, p] (⟨3, ![1, S, 128]⟩ : Shape).size inb) (ix3 0 r k) = x (ix3 0 r (feat h k)) :=
  View.ld_unit_apply_of x _ _ _ _ _ fun a => by
    match a with
    | ⟨0, _⟩ => rfl
    | ⟨1, _⟩ => exact (Nat.zero_add r.val).symm
    | ⟨2, _⟩ => show 128 * h.val + k.val = p + k.val; omega

/-- A head's rows of the weights. -/
theorem ld_rows (x : Vec Ideal S1024x1024 .bf16) (h : Fin 4) (p : ℕ) (hp : p = 512 + 128 * h.val) (inb) (k : Fin 128) (n : Fin 1024) :
    View.ld x (Rect.unit (s := S1024x1024) ![p, 0] S128x1024.size inb) (ix2 k n) = x (ix2 (highRow (feat h k)) n) :=
  View.ld_unit_apply_of x _ _ _ _ _ fun a => by
    match a with
    | ⟨0, _⟩ => show 512 + (128 * h.val + k.val) = p + k.val; omega
    | ⟨1, _⟩ => exact (Nat.zero_add n.val).symm

theorem ld_first (x : Vec Ideal S1024x1024 .bf16) (inb) (k : Fin 512) (n : Fin 1024) :
    View.ld x (Rect.unit (s := S1024x1024) ![0, 0] S512x1024.size inb) (ix2 k n) = x (ix2 (lowRow k) n) :=
  View.ld_unit_apply_of x _ _ _ _ _ fun a => by
    match a with
    | ⟨0, _⟩ => exact (Nat.zero_add k.val).symm
    | ⟨1, _⟩ => exact (Nat.zero_add n.val).symm

/-- A head's step of the kernel on its blocks. -/
theorem step (acc : FVec Ideal S512x1024 .f32) (x2 : Vec Ideal S1x512x512 .f32) (x3 x4 : Vec Ideal S1x256x512 .f32)
    (x5 : Vec Ideal S1024x1024 .bf16) (h : Fin 4) (p p' : ℕ) (hp : p = 128 * h.val) (hp' : p' = 512 + 128 * h.val) (i2 i3 i4 i5)
    (r : Fin 512) (n : Fin 1024) :
    k0_pay3 (F := Ideal) acc (View.ld x2 (Rect.unit (s := S1x512x512) ![0, 0, p] S1x512x128.size i2))
        (View.ld x3 (Rect.unit (s := S1x256x512) ![0, 0, p] S1x256x128.size i3))
        (View.ld x4 (Rect.unit (s := S1x256x512) ![0, 0, p] S1x256x128.size i4))
        (View.ld x5 (Rect.unit (s := S1024x1024) ![p', 0] S128x1024.size i5)) (ix2 r n)
      = acc (ix2 r n) + headPart (fun e => x2 (ix3 0 r e)) (fun j e => x3 (ix3 0 j e)) (fun j e => x4 (ix3 0 j e)) (fun k n => x5 (ix2 k n)) n h := by
  rw [head_apply]
  refine congrArg (acc (ix2 r n) + ·) (Finset.sum_congr rfl fun k _ => ?_)
  rw [ld_rows x5 h p' hp' i5 k n]
  refine congrArg (· * _) ?_
  have e2 := fun k => ld_feat x2 h p hp i2 r k
  have e3 := fun j k => ld_feat x3 h p hp i3 j k
  have e4 := fun j k => ld_feat x4 h p hp i4 j k
  exact congrFun (congr (congrArg₂ headOut (funext e2) (funext fun j => funext fun k => e3 j k)) (funext fun j => funext fun k => e4 j k)) k

theorem lit2 : (![0, 0] : Fin 2 → ℕ) = fun _ => 0 := by
  funext a; fin_cases a <;> rfl
theorem lit3 : (![0, 0, 0] : Fin 3 → ℕ) = fun _ => 0 := by
  funext a; fin_cases a <;> rfl

/-- What the body leaves in its output block. -/
theorem out_val (x0 : Vec Ideal S1x512x1024 .f32) (x1 x2 : Vec Ideal S1x512x512 .f32) (x3 x4 : Vec Ideal S1x256x512 .f32)
    (x5 : Vec Ideal S1024x1024 .bf16) (x6 : Vec Ideal S1x1024 .f32) (r : Fin 512) (n : Fin 1024) :
    out0_7 (F := Ideal) x0 x1 x2 x3 x4 x5 x6 (ix3 0 r n)
      = x0 (ix3 0 r n) + normRow (mixRow (fun e => x1 (ix3 0 r e)) (fun e => x2 (ix3 0 r e)) (fun j e => x3 (ix3 0 j e))
          (fun j e => x4 (ix3 0 j e)) (fun k n => x5 (ix2 k n))) (fun n => x6 (ix2 0 n)) n := by
  unfold out0_7
  refine (congrFun (View.canon_unit_zero lit3 _ _) _).trans ?_
  rw [show View.ld x0 r0_14 = x0 from View.ld_unit_zero lit3 _ _, show View.ld x1 r0_0 = x1 from View.ld_unit_zero lit3 _ _,
    show View.ld x6 r0_15 = x6 from View.ld_unit_zero lit2 _ _, pay1_apply]
  refine congrArg (fun f => x0 (ix3 0 r n) + normRow f (fun n => x6 (ix2 0 n)) n) (funext fun n => ?_)
  rw [step _ x2 x3 x4 x5 3 384 896 rfl rfl, pay6_eq, step _ x2 x3 x4 x5 2 256 768 rfl rfl, step _ x2 x3 x4 x5 1 128 640 rfl rfl, pay2_eq,
    step _ x2 x3 x4 x5 0 0 512 rfl rfl, first_apply]
  unfold mixRow
  exact congrArg (· + _ + _ + _ + _) (Finset.sum_congr rfl fun k _ => congrArg (_ * ·) (ld_first x5 _ k n))

variable (m : (ℓ : Loc nD τ sig) → Buf (Elt Ideal) ℓ)

/-- The column of the query array for a feature. -/
def queryCol (e : Fin 512) : Fin 1024 := ⟨512 + e.val, by omega⟩

/-- One entry of the output. -/
def layer (h : S2x8192x1024.Idx → EReal) (a : S2x8192x512.Idx → EReal) (y : S2x8192x1024.Idx → EReal) (mk mv : S2x256x512.Idx → EReal)
    (w : S1024x1024.Idx → EReal) (g : S1024.Idx → EReal) (b : Fin 2) (s : Fin 8192) (n : Fin 1024) : EReal :=
  h (ix3 b s n) + normRow (mixRow (fun e => a (ix3 b s e)) (fun e => y (ix3 b s (queryCol e))) (fun j e => mk (ix3 b j e))
    (fun j e => mv (ix3 b j e)) (fun k n => w (ix2 k n))) (fun n => g (ix1 n)) n

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem idx2 : ∀ t : Fin cfg0.N, win0_2.index t = ![(grid0.coords t 0).val, (grid0.coords t 1).val, 1] :=
  (by decide +kernel : ∀ t : Fin grid0.N, win0_2.index t = ![(grid0.coords t 0).val, (grid0.coords t 1).val, 1])
theorem idx3 : ∀ t : Fin cfg0.N, win0_3.index t = ![(grid0.coords t 0).val, 0, 0] :=
  (by decide +kernel : ∀ t : Fin grid0.N, win0_3.index t = ![(grid0.coords t 0).val, 0, 0])
theorem idx4 : ∀ t : Fin cfg0.N, win0_4.index t = ![(grid0.coords t 0).val, 0, 0] :=
  (by decide +kernel : ∀ t : Fin grid0.N, win0_4.index t = ![(grid0.coords t 0).val, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

/-- The batch entry of block `t`. -/
def bat (t : Fin cfg0.N) : Fin 2 := ⟨(grid0.coords t 0).val, (grid0.coords t 0).isLt⟩
/-- Row `r` of block `t`, in the array. -/
def row (t : Fin cfg0.N) (r : Fin 512) : Fin 8192 :=
  ⟨(grid0.coords t 1).val * 512 + r.val, by have h : (grid0.coords t 1).val < 16 := (grid0.coords t 1).isLt; omega⟩

theorem V_main_v0 (c : Dev nD) : V m c main_v0 = m ((c.tc : Thread nD τ).loc main_arg5) := rfl
theorem V_main_v1 (c : Dev nD) (k : Fin 1024) : V m c main_v1 (ix2 0 k) = m ((c.tc : Thread nD τ).loc main_arg6) (ix1 k) := by
  show shapeCast S1x1024 (m ((c.tc : Thread nD τ).loc main_arg6)) shapeCasts_S1024_S1x1024 (ix2 0 k) = _
  pointwise

theorem iblk0_apply (c : Dev nD) (t : Fin cfg0.N) (r : Fin 512) (n : Fin 1024) :
    iblk m c 0 t (ix3 0 r n) = m ((c.tc : Thread nD τ).loc main_arg0) (ix3 (bat t) (row t r) n) := by
  rw [← V_main_arg0 m c]
  blk_simp [iblk]
  refine congrArg (V m c main_arg0) ?_
  blk_ext [idx0 t, row, bat]
theorem iblk1_apply (c : Dev nD) (t : Fin cfg0.N) (r e : Fin 512) :
    iblk m c 1 t (ix3 0 r e) = m ((c.tc : Thread nD τ).loc main_arg1) (ix3 (bat t) (row t r) e) := by
  rw [← V_main_arg1 m c]
  blk_simp [iblk]
  refine congrArg (V m c main_arg1) ?_
  blk_ext [idx1 t, row, bat]
theorem iblk2_apply (c : Dev nD) (t : Fin cfg0.N) (r e : Fin 512) :
    iblk m c 2 t (ix3 0 r e) = m ((c.tc : Thread nD τ).loc main_arg2) (ix3 (bat t) (row t r) (queryCol e)) := by
  rw [← V_main_arg2 m c]
  blk_simp [iblk]
  refine congrArg (V m c main_arg2) ?_
  blk_ext [idx2 t, row, bat, queryCol]
theorem iblk3_apply (c : Dev nD) (t : Fin cfg0.N) (j : Fin 256) (e : Fin 512) :
    iblk m c 3 t (ix3 0 j e) = m ((c.tc : Thread nD τ).loc main_arg3) (ix3 (bat t) j e) := by
  rw [← V_main_arg3 m c]
  blk_simp [iblk]
  refine congrArg (V m c main_arg3) ?_
  blk_ext [idx3 t, bat]
theorem iblk4_apply (c : Dev nD) (t : Fin cfg0.N) (j : Fin 256) (e : Fin 512) :
    iblk m c 4 t (ix3 0 j e) = m ((c.tc : Thread nD τ).loc main_arg4) (ix3 (bat t) j e) := by
  rw [← V_main_arg4 m c]
  blk_simp [iblk]
  refine congrArg (V m c main_arg4) ?_
  blk_ext [idx4 t, bat]
theorem iblk5_apply (c : Dev nD) (t : Fin cfg0.N) (k n : Fin 1024) :
    iblk m c 5 t (ix2 k n) = m ((c.tc : Thread nD τ).loc main_arg5) (ix2 k n) := by
  rw [← V_main_v0 m c]
  blk_simp [iblk]
  refine congrArg (V m c main_v0) ?_
  blk_ext [idx5 t]
theorem iblk6_apply (c : Dev nD) (t : Fin cfg0.N) (n : Fin 1024) :
    iblk m c 6 t (ix2 0 n) = m ((c.tc : Thread nD τ).loc main_arg6) (ix1 n) := by
  rw [← V_main_v1 m c]
  blk_simp [iblk]
  refine congrArg (V m c main_v1) ?_
  blk_ext [idx6 t]

/-- What a point leaves, at an index. -/
theorem point (c : Dev nD) (t : Fin cfg0.N) (r : Fin 512) (n : Fin 1024) :
    out0_7 (F := Ideal) (iblk m c 0 t) (iblk m c 1 t) (iblk m c 2 t) (iblk m c 3 t) (iblk m c 4 t) (iblk m c 5 t) (iblk m c 6 t) (ix3 0 r n)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (bat t) (row t r) n := by
  rw [out_val]
  simp only [iblk0_apply, iblk1_apply, iblk2_apply, iblk3_apply, iblk4_apply, iblk5_apply, iblk6_apply]
  rfl

/-- The output array after the run. -/
theorem final (c : Dev nD) : (dats m 0 c).arrAt 7 cfg0.N = fun i : S2x8192x1024.Idx =>
    layer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (i 0) (i 1) (i 2) := by
  refine (dats m 0 c).arrAt_eq_of_covers 7 _ (by decide +kernel) fun t hf y => ?_
  blk_simp
  rw [after0_7]
  obtain ⟨r, n, rfl⟩ : ∃ (r : Fin 512) (n : Fin 1024), y = ix3 0 r n :=
    ⟨y 1, y 2, funext fun a => by match a with | ⟨0, _⟩ => exact Fin.ext (by have h : (y 0).val < 1 := (y 0).isLt; show (y 0).val = 0; omega) | ⟨1, _⟩ => rfl | ⟨2, _⟩ => rfl⟩
  refine (point m c t r n).trans (congr (congrArg₂ (layer _ _ _ _ _ _ _) (Fin.ext ?_) (Fin.ext ?_)) (Fin.ext ?_))
  · blk_simp
    rw [idx7 t]
    rfl
  · blk_simp
    rw [idx7 t]
    rfl
  · blk_simp
    rw [idx7 t]
    show n.val = 0 * 1024 + n.val
    omega

end Cert.Kernel7Ideal.Hand

end
-- ==== Proof.MixMath.lean ====
/- The memory attention on real logits: dividing each weight, or dividing the weighted sum, gives one number. -/
module

public import proofs.«01_k».proof.Proof.MixOut
public import proofs.«01_k».proof.Proof.RealMath

@[expose] public section

noncomputable section

namespace Cert.Kernel7Ideal.Hand

open Cert.Kernel7Ideal Idealize.ShloMosaic

theorem scale_val : scale = ((11863283 / 134217728 : ℝ) : EReal) := by
  show Ideal.ofBits .f32 0x3DB504F3#32 = _
  simp [Ideal.ofBits, Ideal.ieee, -EReal.coe_mul]
  norm_num

theorem least_word : FloatOps.ofBits (F := Ideal) .f32 0xFF800000#32 = (⊥ : EReal) := by
  show Ideal.ofBits .f32 0xFF800000#32 = _
  simp [Ideal.ofBits, Ideal.ieee]

/-- The greatest of real logits is a real. -/
theorem top_real (l : Fin 256 → ℝ) : ∃ T : ℝ, top (fun j => (l j : EReal)) = (T : EReal) := by
  have h1 : top (fun j => (l j : EReal)) < ⊤ := by
    unfold top
    rw [Finset.fold_max_lt, least_word]
    exact ⟨bot_lt_top, fun j _ => EReal.coe_lt_top _⟩
  have h2 : ((l 0 : ℝ) : EReal) ≤ top (fun j => (l j : EReal)) := by
    unfold top
    rw [Finset.le_fold_max]
    exact .inr ⟨0, Finset.mem_univ _, le_rfl⟩
  exact ⟨_, (EReal.coe_toReal h1.ne (ne_bot_of_le_ne_bot (EReal.coe_ne_bot _) h2)).symm⟩

/-- A sum times a nonnegative real. -/
theorem sum_mul_real {n : ℕ} (f : Fin n → EReal) (c : ℝ) (hc : 0 ≤ c) : ∑ j, f j * (c : EReal) = (∑ j, f j) * (c : EReal) := by
  classical
  induction (Finset.univ : Finset (Fin n)) using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- On real logits the weighted values may be divided one by one. -/
theorem divide (l : Fin 256 → ℝ) (v : Fin 256 → EReal) :
    ∑ j, v j * Ideal.div (wt (fun j => (l j : EReal)) j) (∑ j, wt (fun j => (l j : EReal)) j)
      = Ideal.div (∑ j, wt (fun j => (l j : EReal)) j * v j) (∑ j, wt (fun j => (l j : EReal)) j) := by
  obtain ⟨T, hT⟩ := top_real l
  have hw : ∀ j, wt (fun j => (l j : EReal)) j = ((Real.exp (l j - T) : ℝ) : EReal) := fun j => by
    unfold wt
    rw [hT, ← EReal.coe_sub, Ideal.exp_coe]
  have hs : ∑ j, wt (fun j => (l j : EReal)) j = ((∑ j, Real.exp (l j - T) : ℝ) : EReal) := by
    simp only [hw]
    exact (Cert.KernelIdeal.Hand.coe_sum _ _).symm
  have hpos : 0 < ∑ j : Fin 256, Real.exp (l j - T) := Finset.sum_pos (fun j _ => Real.exp_pos _) Finset.univ_nonempty
  have hd : ∀ x : EReal, Ideal.div x ((∑ j, Real.exp (l j - T) : ℝ) : EReal) = x * (((∑ j, Real.exp (l j - T))⁻¹ : ℝ) : EReal) := fun x => by
    unfold Ideal.div
    rw [if_neg (fun e => hpos.ne' (EReal.coe_eq_zero.1 e)), EReal.coe_inv]
  rw [hs, hd, ← sum_mul_real _ _ (inv_nonneg.2 hpos.le)]
  refine Finset.sum_congr rfl fun j _ => ?_
  rw [hd, ← mul_assoc, mul_comm (v j)]

/-- Real queries and keys: the scale may be applied after the product, and the logits are real. -/
theorem logits_real (q : Fin 128 → EReal) (mk : Fin 256 → Fin 128 → EReal) (hq : ∀ k, ∃ r : ℝ, q k = (r : EReal))
    (hk : ∀ j k, ∃ r : ℝ, mk j k = (r : EReal)) :
    ∃ l : Fin 256 → ℝ, logits q mk = (fun j => (l j : EReal)) ∧ ∀ j, (∑ k : Fin 128, q k * mk j k) * scale = (l j : EReal) := by
  choose q' hq' using hq
  choose k' hk' using hk
  refine ⟨fun j => (∑ k : Fin 128, q' k * k' j k) * (11863283 / 134217728), funext fun j => ?_, fun j => ?_⟩
  · unfold logits
    simp only [hq', hk', scale_val, ← EReal.coe_mul]
    rw [← Cert.KernelIdeal.Hand.coe_sum, Finset.sum_mul]
    exact congrArg _ (Finset.sum_congr rfl fun k _ => by ring)
  · simp only [hq', hk', scale_val, ← EReal.coe_mul]
    rw [← Cert.KernelIdeal.Hand.coe_sum, ← EReal.coe_mul]

/-- One head as the reference computes it, on real queries and keys. -/
theorem headOut_eq (q : Fin 128 → EReal) (mk mv : Fin 256 → Fin 128 → EReal) (hq : ∀ k, ∃ r : ℝ, q k = (r : EReal))
    (hk : ∀ j k, ∃ r : ℝ, mk j k = (r : EReal)) (k : Fin 128) :
    ∑ j, mv j k * Ideal.div (wt (fun j => (∑ k : Fin 128, q k * mk j k) * scale) j) (∑ j, wt (fun j => (∑ k : Fin 128, q k * mk j k) * scale) j)
      = headOut q mk mv k := by
  obtain ⟨l, h1, h2⟩ := logits_real q mk hq hk
  unfold headOut
  simp only [h1, h2]
  exact divide l fun j => mv j k

end Cert.Kernel7Ideal.Hand

end
-- ==== Proof.MixRef.lean ====
/- The output projection with the memory attention: on real queries and memory keys the reference's array is the kernel's. -/
module

public import proofs.«01_k».proof.Proof.MixMath
public import proofs.«01_k».proof.Proof.Gen.Reference7Ideal.Read

@[expose] public section

set_option maxRecDepth 16384

noncomputable section

namespace Cert.Reference7Ideal.Hand

open Cert.Reference7Ideal Cert.Reference7Ideal.Gen Cert.Reference7Ideal.Read Idealize.ShloMosaic Idealize.ShloMosaic.Tactic
open Cert.Hand
open Cert.Kernel7Ideal.Hand (scale top wt headOut headPart mixRow layer feat lowRow highRow queryCol headOut_eq least_word)

variable (x0 : S2x8192x1024.Idx → EReal) (x1 : S2x8192x512.Idx → EReal) (x2 : S2x8192x1024.Idx → EReal) (x3 x4 : S2x256x512.Idx → EReal)
  (x5 : S1024x1024.Idx → EReal) (x6 : S1024.Idx → EReal)

theorem v1_at (b : Fin 2) (s : Fin 8192) (h : Fin 4) (k : Fin 128) :
    val_main_v1 (F := Ideal) x2 (ix4 b s h k) = x2 (ix3 b s (queryCol (feat h k))) := by
  rw [val_main_v1_apply, val_main_v0_apply]
  refine congrArg x2 (funext fun a => Fin.ext ?_)
  match a with
  | ⟨0, _⟩ => show (((b.val * 8192 + s.val) * 4 + h.val) * 128 + k.val) / 4194304 = b.val; omega
  | ⟨1, _⟩ => show (((b.val * 8192 + s.val) * 4 + h.val) * 128 + k.val) / 512 % 8192 = s.val; omega
  | ⟨2, _⟩ => show 512 + (((b.val * 8192 + s.val) * 4 + h.val) * 128 + k.val) % 512 = 512 + (128 * h.val + k.val); omega

theorem v2_at (b : Fin 2) (j : Fin 256) (h : Fin 4) (k : Fin 128) :
    val_main_v2 (F := Ideal) x3 (ix4 b j h k) = x3 (ix3 b j (feat h k)) := by
  rw [val_main_v2_apply]
  refine congrArg x3 (funext fun a => Fin.ext ?_)
  match a with
  | ⟨0, _⟩ => show (((b.val * 256 + j.val) * 4 + h.val) * 128 + k.val) / 131072 = b.val; omega
  | ⟨1, _⟩ => show (((b.val * 256 + j.val) * 4 + h.val) * 128 + k.val) / 512 % 256 = j.val; omega
  | ⟨2, _⟩ => show (((b.val * 256 + j.val) * 4 + h.val) * 128 + k.val) % 512 = 128 * h.val + k.val; omega

theorem v3_at (b : Fin 2) (j : Fin 256) (h : Fin 4) (k : Fin 128) :
    val_main_v3 (F := Ideal) x4 (ix4 b j h k) = x4 (ix3 b j (feat h k)) := v2_at x4 b j h k

/-- The logits of head `h` at query `s`, scaled after the product. -/
def lg (b : Fin 2) (h : Fin 4) (s : Fin 8192) (j : Fin 256) : EReal :=
  (∑ k : Fin 128, x2 (ix3 b s (queryCol (feat h k))) * x3 (ix3 b j (feat h k))) * scale

theorem v6_at (b : Fin 2) (h : Fin 4) (s : Fin 8192) (j : Fin 256) :
    val_main_v6 (F := Ideal) x2 x3 (ix4 b h s j) = lg x2 x3 b h s j := by
  rw [val_main_v6_apply, val_main_v4_apply, val_main_v5_apply, val_main_cst_apply]
  refine congrArg (· * scale) (Finset.sum_congr rfl fun k _ => ?_)
  rw [← v1_at x2, ← v2_at x3]
  refine congrArg₂ (· * ·) (congrArg _ (funext fun a => ?_)) (congrArg _ (funext fun a => ?_)) <;>
  · match a with
    | ⟨0, _⟩ => rfl
    | ⟨1, _⟩ => rfl
    | ⟨2, _⟩ => rfl
    | ⟨3, _⟩ => rfl

theorem v7_at (b : Fin 2) (h : Fin 4) (s : Fin 8192) :
    val_main_v7 (F := Ideal) x2 x3 (ix3 b h s) = top (lg x2 x3 b h s) := by
  unfold top
  rw [show lg x2 x3 b h s = fun j => val_main_v6 (F := Ideal) x2 x3 (ix4 b h s j) from funext fun j => (v6_at x2 x3 b h s j).symm]
  pointwise [val_main_v7]
  rfl

theorem v13_at (b : Fin 2) (h : Fin 4) (s : Fin 8192) (j : Fin 256) :
    val_main_v13 (F := Ideal) x2 x3 (ix4 b h s j) = wt (lg x2 x3 b h s) j := by
  have e : idx_main_v10 (idx_main_v11 (ix4 b h s j)) = ix3 b h s := by idx_ext
  rw [val_main_v13_apply, val_main_v12_apply, val_main_v11_apply, val_main_v10_apply, val_main_v9_apply, val_main_v8_apply, val_main_cst_1_apply,
    e, v6_at, v7_at, least_word]
  show Ideal.exp (_ - max ⊥ _) = _
  rw [max_eq_right bot_le]
  rfl

theorem v17_at (b : Fin 2) (h : Fin 4) (s : Fin 8192) (j : Fin 256) :
    val_main_v17 (F := Ideal) x2 x3 (ix4 b h s j) = Ideal.div (wt (lg x2 x3 b h s) j) (∑ j, wt (lg x2 x3 b h s) j) := by
  have e : idx_main_v15 (idx_main_v16 (ix4 b h s j)) = ix3 b h s := by idx_ext
  have e' : ∀ l : Fin 256, idx_main_v14 (ix3 b h s) l = ix4 b h s l := fun l => by idx_ext
  rw [val_main_v17_apply, val_main_v16_apply, val_main_v15_apply, e, val_main_v14_apply, val_main_cst_2_apply, zeroWord, zero_add]
  simp only [e', v13_at]
  rfl

theorem v20_at (b : Fin 2) (s : Fin 8192) (h : Fin 4) (k : Fin 128) :
    val_main_v20 (F := Ideal) x2 x3 x4 (ix3 b s (feat h k))
      = ∑ j : Fin 256, x4 (ix3 b j (feat h k)) * Ideal.div (wt (lg x2 x3 b h s) j) (∑ j, wt (lg x2 x3 b h s) j) := by
  have e : idx_main_v20 (ix3 b s (feat h k)) = ix4 b s h k := funext fun a => Fin.ext (by
    match a with
    | ⟨0, _⟩ => show ((b.val * 8192 + s.val) * 512 + (128 * h.val + k.val)) / 4194304 = b.val; omega
    | ⟨1, _⟩ => show ((b.val * 8192 + s.val) * 512 + (128 * h.val + k.val)) / 512 % 8192 = s.val; omega
    | ⟨2, _⟩ => show ((b.val * 8192 + s.val) * 512 + (128 * h.val + k.val)) / 128 % 4 = h.val; omega
    | ⟨3, _⟩ => show ((b.val * 8192 + s.val) * 512 + (128 * h.val + k.val)) % 128 = k.val; omega)
  rw [val_main_v20_apply, e, val_main_v19_apply, val_main_v18_apply]
  refine Finset.sum_congr rfl fun j _ => ?_
  rw [← v3_at x4, ← v17_at]
  refine congrArg₂ (· * ·) (congrArg _ (funext fun a => ?_)) (congrArg _ (funext fun a => ?_)) <;>
  · match a with
    | ⟨0, _⟩ => rfl
    | ⟨1, _⟩ => rfl
    | ⟨2, _⟩ => rfl
    | ⟨3, _⟩ => rfl

theorem v21_low (b : Fin 2) (s : Fin 8192) (k : Fin 512) :
    val_main_v21 (F := Ideal) x1 x2 x3 x4 (ix3 b s (lowRow k)) = x1 (ix3 b s k) := by
  pointwise [val_main_v21]
  exact dif_pos k.isLt

theorem v21_high (b : Fin 2) (s : Fin 8192) (k : Fin 512) :
    val_main_v21 (F := Ideal) x1 x2 x3 x4 (ix3 b s (highRow k)) = val_main_v20 (F := Ideal) x2 x3 x4 (ix3 b s k) := by
  pointwise [val_main_v21]
  refine (dif_neg (by show ¬512 + k.val < 512; omega)).trans (congrArg (fun i => val_main_v20 (F := Ideal) x2 x3 x4 (ix3 b s i)) (Fin.ext ?_))
  show 512 + k.val - 512 = k.val
  omega

/-- A sum over 1024 columns: the first 512, then the four heads'. -/
theorem sum_split (f : Fin 1024 → EReal) :
    ∑ k, f k = (∑ k : Fin 512, f (lowRow k)) + (∑ k : Fin 128, f (highRow (feat 0 k))) + (∑ k : Fin 128, f (highRow (feat 1 k)))
      + (∑ k : Fin 128, f (highRow (feat 2 k))) + ∑ k : Fin 128, f (highRow (feat 3 k)) := by
  have h1 : ∑ k, f k = (∑ k : Fin 512, f (lowRow k)) + ∑ k : Fin 512, f (highRow k) := Fin.sum_univ_add (a := 512) (b := 512) f
  have h2 : ∀ g : Fin 512 → EReal, ∑ k, g k = (∑ k : Fin 128, g (feat 0 k)) + (∑ k : Fin 128, g (feat 1 k))
      + (∑ k : Fin 128, g (feat 2 k)) + ∑ k : Fin 128, g (feat 3 k) := fun g => by
    refine (Fin.sum_univ_add (a := 384) (b := 128) g).trans (congrArg (· + _) ?_)
    refine (Fin.sum_univ_add (a := 256) (b := 128) fun k : Fin 384 => g (Fin.castAdd 128 k)).trans (congrArg (· + _) ?_)
    refine (Fin.sum_univ_add (a := 128) (b := 128) fun k : Fin 256 => g (Fin.castAdd 128 (Fin.castAdd 128 k))).trans (congrArg (· + _) ?_)
    exact Finset.sum_congr rfl fun k _ => congrArg g (Fin.ext (by show k.val = 128 * 0 + k.val; omega))
  rw [h1, h2 fun k => f (highRow k)]
  simp only [add_assoc]

variable (hq : ∀ (b : Fin 2) (s : Fin 8192) (e : Fin 512), ∃ r : ℝ, x2 (ix3 b s (queryCol e)) = (r : EReal)) (hk : ∀ i, ∃ r : ℝ, x3 i = (r : EReal))

include hq hk

theorem v22_at (b : Fin 2) (s : Fin 8192) (n : Fin 1024) :
    val_main_v22 (F := Ideal) x1 x2 x3 x4 x5 (ix3 b s n)
      = mixRow (fun e => x1 (ix3 b s e)) (fun e => x2 (ix3 b s (queryCol e))) (fun j e => x3 (ix3 b j e)) (fun j e => x4 (ix3 b j e))
          (fun k n => x5 (ix2 k n)) n := by
  have e : ∀ k, lidx_main_v22 (ix3 b s n) k = ix3 b s k := fun k => by idx_ext
  have e' : ∀ k, ridx_main_v22 (ix3 b s n) k = ix2 k n := fun k => by idx_ext
  have hh : ∀ h k, val_main_v20 (F := Ideal) x2 x3 x4 (ix3 b s (feat h k))
      = headOut (fun k => x2 (ix3 b s (queryCol (feat h k)))) (fun j k => x3 (ix3 b j (feat h k))) (fun j k => x4 (ix3 b j (feat h k))) k := fun h k => by
    rw [v20_at, ← headOut_eq _ _ _ (fun k => hq b s (feat h k)) (fun j k => hk _)]
    rfl
  rw [val_main_v22_apply]
  simp only [e, e']
  rw [sum_split]
  simp only [v21_low, v21_high, hh]
  rfl

/-- The reference's array. -/
theorem final (i : S2x8192x1024.Idx) :
    val_main_v36 (F := Ideal) x0 x1 x2 x3 x4 x5 x6 i = layer x0 x1 x2 x3 x4 x5 x6 (i 0) (i 1) (i 2) := by
  obtain ⟨b, s, n, rfl⟩ : ∃ (b : Fin 2) (s : Fin 8192) (n : Fin 1024), i = ix3 b s n :=
    ⟨i 0, i 1, i 2, funext fun a => by match a with | ⟨0, _⟩ => rfl | ⟨1, _⟩ => rfl | ⟨2, _⟩ => rfl⟩
  rw [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_cst_3_apply, val_main_cst_4_apply, val_main_cst_5_apply, zeroWord, zero_add]
  simp only [val_main_v23_apply]
  have e : ∀ l : Fin 1024, idx_main_v24 (idx_main_v25 (idx_main_v31 (ix3 b s n))) l = ix3 b s l := fun l => by idx_ext
  have e' : idx_main_v33 (idx_main_v34 (ix3 b s n)) = ix1 n := by idx_ext
  simp only [e, e', v22_at x1 x2 x3 x4 x5 hq hk]
  rfl

end Cert.Reference7Ideal.Hand

end
-- ==== Proof.Finite7.lean ====
/- The precondition of the output projection read: the queries and the memory keys are reals. -/
module

public import proofs.«01_k».proof.Pre_finite7
public import proofs.«01_k».proof.Proof.Finite

@[expose] public section

noncomputable section

namespace Cert.Pre_finite7.Hand

open Cert.Pre_finite7 Idealize.ShloMosaic

/-- The shape relations of the precondition. -/
theorem facts : Cert.Pre_finite7.Facts where
  slices_S2x8192x1024_S2x8192x512_0_0_512 := by decide
  bcast_S_S2x8192x512 := by decide
  reducesTo_S2x8192x512_S_d0_1_2 := by decide
  h_S_ := by decide
  bcast_S_S2x256x512 := by decide
  reducesTo_S2x256x512_S_d0_1_2 := by decide

variable [Cert.Pre_finite7.Facts]

/-- The precondition's two parts. -/
theorem parts (x0 : S2x8192x1024.Idx → EReal) (x1 : S2x8192x512.Idx → EReal) (x2 : S2x8192x1024.Idx → EReal) (x3 x4 : S2x256x512.Idx → EReal)
    (x5 : S1024x1024.Idx → EReal) (x6 : S1024.Idx → EReal) (j : S_.Idx) (h : fn (F := Ideal) x0 x1 x2 x3 x4 x5 x6 j = 1#1) :
    (∀ (b : Fin 2) (t : Fin 8192) (e : Fin 512), ∃ r : ℝ, x2 (ix3 b t (⟨512 + e.val, by omega⟩ : Fin 1024)) = (r : EReal))
      ∧ (∀ i, ∃ r : ℝ, x3 i = (r : EReal)) := by
  unfold fn at h
  obtain ⟨h1, h2⟩ := IntOp.andi_eq_one.1 h
  refine ⟨fun b t e => ?_, Cert.Pre_finite.Hand.all_real x3 _ _ _ j h2⟩
  obtain ⟨r, hr⟩ := Cert.Pre_finite.Hand.all_real _ _ _ _ j h1 (ix3 b t e)
  refine ⟨r, Eq.trans ?_ hr⟩
  symm
  refine extractStridedSlice_apply ![0, 0, 512] x2 Facts.slices_S2x8192x1024_S2x8192x512_0_0_512 _ (ix3 b t (⟨512 + e.val, by omega⟩ : Fin 1024)) fun a => ?_
  match a with
  | ⟨0, _⟩ => exact (Nat.zero_add b.val).symm
  | ⟨1, _⟩ => exact (Nat.zero_add t.val).symm
  | ⟨2, _⟩ => rfl

end Cert.Pre_finite7.Hand

end
-- ==== Proof.HgrnRun.lean ====
/- The recurrence reference's run: its results, as its step iterated 128 times. -/
module

public import proofs.«01_k».proof.Proof.Gen.Reference8Ideal.Run
public import proofs.«01_k».proof.Proof.Gen.Reference8Ideal.Step
public import Idealize.ShloMosaic.PureOps.Ideal.Laws

@[expose] public section

set_option maxRecDepth 65536

noncomputable section

namespace Cert.Reference8Ideal.Hand

open Idealize.ShloMosaic Idealize.ShloMosaic.TcCoe Idealize.SL.Sem Idealize.ShloMosaic.StableHlo
open Cert.Reference8Ideal Cert.Reference8Ideal.Gen Cert.Reference8Ideal.Value
open Cert.Reference8Ideal.Step (State step init)

variable (V0 : Valuation τ sig (Elt Ideal)) (s : State Ideal) (j : ℕ)

/-- The loop's buffers hold a state and the trip's number. -/
structure Holds : Prop where
  f_6 : V0 (Proc.devRef .tc main_v18_6) = s.main_v18_6
  f_7 : V0 (Proc.devRef .tc main_v18_7) = s.main_v18_7
  f_0 : V0 (Proc.devRef .tc main_v18_0) = s.main_v18_0
  f_1 : V0 (Proc.devRef .tc main_v18_1) = s.main_v18_1
  f_2 : V0 (Proc.devRef .tc main_v18_2) = s.main_v18_2
  f_3 : V0 (Proc.devRef .tc main_v18_3) = s.main_v18_3
  n_5 : V0 (Proc.devRef .tc main_v18_5) = constantI S_ 32 (BitVec.ofNat 32 j)
  k_4 : V0 (Proc.devRef .tc main_v18_4) = Cert.Reference8Ideal.Step.K_main_v7 (F := Ideal)

variable {V0 s j}

theorem v38 (h : Holds V0 s j) : res_main_while0b_v38 V0 = Step.b5 j s := by
  unfold res_main_while0b_v38
  rw [h.f_0, h.n_5]
  rfl
theorem v39 (h : Holds V0 s j) : res_main_while0b_v39 V0 = Step.b11 j s := by
  unfold res_main_while0b_v39
  rw [h.f_1, h.n_5]
  rfl
theorem v40 (h : Holds V0 s j) : res_main_while0b_v40 V0 = Step.b17 j s := by
  unfold res_main_while0b_v40
  rw [h.f_2, h.n_5]
  rfl
theorem v42 (h : Holds V0 s j) : res_main_while0b_v42 V0 = Step.b26 j s := by
  unfold res_main_while0b_v42
  rw [h.f_3, h.n_5]
  rfl
theorem v62 (h : Holds V0 s j) : res_main_while0b_v62 V0 = Step.b50 j s := by
  unfold res_main_while0b_v62
  rw [v42 h]
  rfl

theorem step_6 (h : Holds V0 s j) : step_main_v18_6 V0 = (step j s).main_v18_6 := by
  unfold step_main_v18_6
  rw [v62 h, v39 h, v42 h, v40 h, h.f_6]
  rfl
theorem step_7 (h : Holds V0 s j) : step_main_v18_7 V0 = (step j s).main_v18_7 := by
  unfold step_main_v18_7
  rw [v38 h, v39 h, v42 h, v40 h, h.f_6, h.f_7, h.n_5, h.k_4]
  rfl
theorem step_5 (h : Holds V0 s j) : step_main_v18_5 V0 = constantI S_ 32 (BitVec.ofNat 32 (j + 1)) := by
  unfold step_main_v18_5
  rw [h.n_5]
  funext i
  show BitVec.ofNat 32 j + 1#32 = BitVec.ofNat 32 (j + 1)
  simp only [BitVec.ofNat_add]

theorem out_holds (h : Holds V0 s j) {a0 : (⟨S2x8192x2560, .f32⟩ : BufTy).Contents (Elt Ideal)} (h0 : V0 (Proc.devRef .tc main_arg0) = a0)
    {a1 : (⟨S128, .f32⟩ : BufTy).Contents (Elt Ideal)} (h1 : V0 (Proc.devRef .tc main_arg1) = a1) : out_main_v37 V0 = Step.R_main_v37 s a0 a1 := by
  unfold out_main_v37 Step.R_main_v37
  rw [h.f_7, h0, h1]
  try rfl

/-- One trip is one step. -/
theorem holds_step (h : Holds V0 s j) : Holds (STEP V0) (step j s) (j + 1) where
  f_6 := (STEP_main_v18_6 V0).trans (step_6 h)
  f_7 := (STEP_main_v18_7 V0).trans (step_7 h)
  n_5 := (STEP_main_v18_5 V0).trans (step_5 h)
  k_4 := (STEP_main_v18_4 V0).trans h.k_4
  f_0 := (STEP_main_v18_0 V0).trans h.f_0
  f_1 := (STEP_main_v18_1 V0).trans h.f_1
  f_2 := (STEP_main_v18_2 V0).trans h.f_2
  f_3 := (STEP_main_v18_3 V0).trans h.f_3

variable (m : (ℓ : Loc nD τ sig) → Buf (Elt Ideal) ℓ) (c : Dev nD)

/-- The states, from the arguments. -/
def it : ℕ → State Ideal
  | 0 => init (m ((c.tc : Thread nD τ).loc main_arg0))
  | n + 1 => step n (it n)

set_option maxHeartbeats 400000 in
theorem entry_holds : Holds (entryContents preI m c) (it m c 0) 0 := by
  constructor <;> (simp only [entryContents, afterL_cons, afterL_nil]; after_reads_simp) <;> rfl

theorem holds_iter : ∀ k, Holds (STEP^[k] (entryContents preI m c)) (it m c k) k
  | 0 => entry_holds m c
  | k + 1 => by
    rw [Function.iterate_succ_apply']
    exact holds_step (holds_iter k)

/-- The run's results: what follows the loop, on the state after 128 trips, and that state's own array. -/
theorem run_it (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37) = Step.R_main_v37 (it m c 128) (m ((c.tc : Thread nD τ).loc main_arg0)) (m ((c.tc : Thread nD τ).loc main_arg1))
        ∧ r.2.mem ((c.tc : Thread nD τ).loc main_v18_6) = (it m c 128).main_v18_6
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (defs (F := Ideal)) (onTc (τ := τ) (main (F := Ideal))) ⟨m, fun _ => 0, ρ⟩).mono (fun _ h c =>
    have hk := holds_iter m c 128
    ⟨(h c).1.trans (out_holds hk (iter_main_arg0 m c 128) (iter_main_arg1 m c 128)), (h c).2.1.trans hk.f_6, (h c).2.2.1, (h c).2.2.2⟩) (Value.run m ρ)

end Cert.Reference8Ideal.Hand

end
-- ==== Proof.HgrnSum.lean ====
/- A sum over a window of the third of four axes that runs back to the axis's start. -/
module

public import proofs.«01_k».proof.Proof.Cumsum

@[expose] public section

noncomputable section

namespace Cert.Reference8Ideal.Hand

open Idealize.ShloMosaic
open Cert.ReferenceIdeal.Hand (foldl_add_eq)

/-- The window's shape, and its indices. -/
abbrev Wd : Shape := ⟨4, ![1, 1, 64, 1]⟩

def midEquiv : Wd.Idx ≃ Fin 64 where
  toFun i := i 2
  invFun k := ix4 0 0 k 0
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
    | ⟨3, _⟩ => exact Fin.ext (by have h : (i 3).val < 1 := (i 3).isLt; show 0 = (i 3).val; omega)
  right_inv k := rfl

/-- The window's sum. -/
theorem window_head {A B N : ℕ} (x : (⟨4, ![A, B, 64, N]⟩ : Shape).Idx → EReal)
    (h : (⟨4, ![A, B, 64, N]⟩ : Shape).ReduceWindows ![1, 1, 64, 1] ![1, 1, 1, 1] ![0, 0, 63, 0] ![0, 0, 0, 0] ⟨4, ![A, B, 64, N]⟩)
    (b : Fin A) (hd : Fin B) (t : Fin 64) (e : Fin N) :
    Ideal.hostReduceWindowAdd ![1, 1, 64, 1] ![1, 1, 1, 1] ![0, 0, 63, 0] ![0, 0, 0, 0] h x 0 (ix4 b hd t e)
      = ∑ k : Fin 64, if hk : 63 ≤ t.val + k.val then x (ix4 b hd ⟨t.val + k.val - 63, by omega⟩ e) else 0 := by
  unfold Ideal.hostReduceWindowAdd Host.reduceWindow
  dsimp only
  rw [foldl_add_eq, ← Fin.sum_univ_def, zero_add]
  refine Fintype.sum_equiv (Wd.rowMajor.symm.trans midEquiv) _ _ fun n => ?_
  show _ = if hk : 63 ≤ t.val + (Wd.rowMajor.symm n 2).val then x (ix4 b hd ⟨t.val + (Wd.rowMajor.symm n 2).val - 63, _⟩ e) else 0
  have h0 : (Wd.rowMajor.symm n 0).val < 1 := (Wd.rowMajor.symm n 0).isLt
  have h1 : (Wd.rowMajor.symm n 1).val < 1 := (Wd.rowMajor.symm n 1).isLt
  have h2 : (Wd.rowMajor.symm n 2).val < 64 := (Wd.rowMajor.symm n 2).isLt
  have h3 : (Wd.rowMajor.symm n 3).val < 1 := (Wd.rowMajor.symm n 3).isLt
  have hb := b.isLt
  have hh := hd.isLt
  have ht := t.isLt
  have he := e.isLt
  by_cases hk : 63 ≤ t.val + (Wd.rowMajor.symm n 2).val
  · rw [dif_pos hk, dif_pos (fun a => by
      match a with
      | ⟨0, _⟩ => exact ⟨Nat.zero_le _, by show b.val * 1 + (Wd.rowMajor.symm n 0).val - 0 < A; omega⟩
      | ⟨1, _⟩ => exact ⟨Nat.zero_le _, by show hd.val * 1 + (Wd.rowMajor.symm n 1).val - 0 < B; omega⟩
      | ⟨2, _⟩ => exact ⟨by show 63 ≤ t.val * 1 + (Wd.rowMajor.symm n 2).val; omega, by show t.val * 1 + (Wd.rowMajor.symm n 2).val - 63 < 64; omega⟩
      | ⟨3, _⟩ => exact ⟨Nat.zero_le _, by show e.val * 1 + (Wd.rowMajor.symm n 3).val - 0 < N; omega⟩)]
    refine congrArg x (funext fun a => Fin.ext ?_)
    match a with
    | ⟨0, _⟩ => show b.val * 1 + (Wd.rowMajor.symm n 0).val - 0 = b.val; omega
    | ⟨1, _⟩ => show hd.val * 1 + (Wd.rowMajor.symm n 1).val - 0 = hd.val; omega
    | ⟨2, _⟩ => show t.val * 1 + (Wd.rowMajor.symm n 2).val - 63 = t.val + (Wd.rowMajor.symm n 2).val - 63; omega
    | ⟨3, _⟩ => show e.val * 1 + (Wd.rowMajor.symm n 3).val - 0 = e.val; omega
  · rw [dif_neg hk, dif_neg (fun h => hk (by
      have h2 : 63 ≤ t.val * 1 + (Wd.rowMajor.symm n 2).val := (h 2).1
      omega))]

/-- The window ends at `t`: the sum is over the positions up to `t`. -/
theorem sum_head (f : Fin 64 → EReal) (t : Fin 64) :
    (∑ k : Fin 64, if hk : 63 ≤ t.val + k.val then f ⟨t.val + k.val - 63, by omega⟩ else 0) = ∑ j : Fin 64, if j ≤ t then f j else 0 := by
  refine Fintype.sum_equiv (Equiv.addRight (t + 1)) _ _ fun k => ?_
  have hv : (k + (t + 1)).val = (t.val + k.val + 1) % 64 := by
    rw [Fin.val_add, Fin.val_add]
    show (k.val + (t.val + 1) % 64) % 64 = _
    omega
  show _ = if k + (t + 1) ≤ t then f (k + (t + 1)) else 0
  have hk64 := k.isLt
  have ht64 := t.isLt
  by_cases hk : 63 ≤ t.val + k.val
  · have e : k + (t + 1) = ⟨t.val + k.val - 63, by omega⟩ := Fin.ext (by rw [hv]; show _ = t.val + k.val - 63; omega)
    rw [dif_pos hk, e]
    exact (if_pos (Fin.le_def.mpr (by show t.val + k.val - 63 ≤ t.val; omega))).symm
  · rw [dif_neg hk, if_neg (fun h => hk (by have h : (k + (t + 1)).val ≤ t.val := h; omega))]

/-- The reference's running sum, read at an entry. -/
theorem cumsum_head {u : Shape} {A B N : ℕ} (x : (⟨4, ![A, B, 64, N]⟩ : Shape).Idx → EReal) (v : u.Idx → EReal)
    (h : (⟨4, ![A, B, 64, N]⟩ : Shape).ReduceWindows ![1, 1, 64, 1] ![1, 1, 1, 1] ![0, 0, 63, 0] ![0, 0, 0, 0] ⟨4, ![A, B, 64, N]⟩)
    (hu : 0 < u.numel) (hv : v (Shape.Idx.first hu) = 0) (b : Fin A) (hd : Fin B) (t : Fin 64) (e : Fin N) :
    Host.reduceWindowAdd (F := Ideal) (φ := .f32) ![1, 1, 64, 1] ![1, 1, 1, 1] ![0, 0, 63, 0] ![0, 0, 0, 0] x v h hu (ix4 b hd t e)
      = ∑ j : Fin 64, if j ≤ t then x (ix4 b hd j e) else 0 := by
  rw [← sum_head (fun j => x (ix4 b hd j e)) t, ← window_head x h b hd t e, ← hv]
  rfl

end Cert.Reference8Ideal.Hand

end
-- ==== Proof.HgrnMath.lean ====
/- One chunk of the recurrence on real logarithms of the forget factors: the levels and diagonals the kernel adds up
   give the decayed weights of the reference. -/
module

public import Mathlib.Tactic.IntervalCases
public import Mathlib.Tactic.FinCases
public import Idealize.ShloMosaic.PureOps.Ideal.Laws
public import Idealize.ShloMosaic.Lib.Pointwise

@[expose] public section

set_option maxRecDepth 16384

noncomputable section

namespace Cert.Kernel8Ideal.Hand

open Idealize.ShloMosaic

/-- The rows of the decay table: block `r`, row `t`, column `j`. -/
def cmB (r t j : ℕ) : Bool :=
  if r = 0 then decide (j ≤ t)
  else if r < 4 then
    (if 4 * 2 ^ r ≤ t % (2 * (4 * 2 ^ r)) then decide (t / (2 * (4 * 2 ^ r)) * (2 * (4 * 2 ^ r)) + 4 * 2 ^ r ≤ j) && decide (j ≤ t)
    else decide (t + 1 ≤ j) && decide (j + 1 ≤ t / (2 * (4 * 2 ^ r)) * (2 * (4 * 2 ^ r)) + 4 * 2 ^ r))
  else if r = 4 then decide (t + 1 ≤ j)
  else decide (r - 4 ≤ t % 8) && decide (t + 1 ≤ j + (r - 4)) && decide (j ≤ t)

/-- The masks: three levels, then the diagonals below the main one within a block of eight. -/
def mkB (i t s : ℕ) : Bool :=
  if i < 3 then decide (t / (2 * (8 * 2 ^ i)) = s / (2 * (8 * 2 ^ i))) && decide (8 * 2 ^ i ≤ t % (2 * (8 * 2 ^ i)))
    && decide (s % (2 * (8 * 2 ^ i)) < 8 * 2 ^ i)
  else decide (s + (i - 3) = t) && decide (i - 3 ≤ t % 8)

/-- A flag as a number. -/
def bit (b : Bool) : EReal := if b then 1 else 0

/-- Every pair of a row and an earlier (or the same) row lies in one mask. -/
theorem one_mask : ∀ t s : Fin 64, s ≤ t → ∃ i : Fin 11, ∀ i' : Fin 11, mkB i' t s = decide (i' = i) := by decide +kernel

/-- Every other pair lies in none. -/
theorem no_mask : ∀ t s : Fin 64, t < s → ∀ i : Fin 11, mkB i t s = false := by decide +kernel

/-- The flag times a real. -/
def pick (b : Bool) (a : ℝ) : ℝ := if b then a else 0

theorem pick_level (i t s j : ℕ) (hi : i < 3) (h : mkB i t s = true) (a : ℝ) :
    pick (cmB (i + 1) t j) a + pick (cmB (i + 1) s j) a = pick (decide (j ≤ t)) a - pick (decide (j ≤ s)) a := by
  have key : ∀ p q u w : Bool, p.toNat + q.toNat + w.toNat = u.toNat → pick p a + pick q a = pick u a - pick w a := by
    intro p q u w h
    cases p <;> cases q <;> cases u <;> cases w <;> simp [pick] at h ⊢
  refine key _ _ _ _ ?_
  interval_cases i <;>
  · simp [cmB, mkB] at h ⊢
    split_ifs <;> simp only [Bool.toNat, Bool.cond_eq_ite, Bool.and_eq_true, decide_eq_true_eq] <;> split_ifs <;> omega

theorem pick_diag (d t s j : ℕ) (hd : d < 8) (hd0 : 0 < d) (h : mkB (3 + d) t s = true) (a : ℝ) :
    pick (cmB (4 + d) t j) a = pick (decide (j ≤ t)) a - pick (decide (j ≤ s)) a := by
  have key : ∀ p u w : Bool, p.toNat + w.toNat = u.toNat → pick p a = pick u a - pick w a := by
    intro p u w h
    cases p <;> cases u <;> cases w <;> simp [pick] at h ⊢
  refine key _ _ _ ?_
  have e0 : ¬ (3 + d < 3) := by omega
  have e1 : ¬ (4 + d = 0) := by omega
  have e2 : ¬ (4 + d < 4) := by omega
  have e3 : ¬ (4 + d = 4) := by omega
  have e4 : 3 + d - 3 = d := by omega
  have e5 : 4 + d - 4 = d := by omega
  rw [mkB, if_neg e0, e4] at h
  rw [cmB, if_neg e1, if_neg e2, if_neg e3, e5]
  simp only [Bool.and_eq_true, decide_eq_true_eq] at h
  simp only [Bool.toNat, Bool.cond_eq_ite, Bool.and_eq_true, decide_eq_true_eq]
  split_ifs <;> omega

theorem pick_last (s j : ℕ) (hj : j < 64) (a : ℝ) :
    pick (cmB 4 s j) a = pick (decide (j ≤ 63)) a - pick (decide (j ≤ s)) a := by
  have hj' : j ≤ 63 := by omega
  by_cases h : j ≤ s
  · have : ¬ (s + 1 ≤ j) := by omega
    simp [pick, cmB, h, hj', this]
  · have : s + 1 ≤ j := by omega
    simp [pick, cmB, h, hj', this]

section Chunk

variable (L : Fin 64 → Fin 128 → ℝ) (q kk v : Fin 64 → Fin 128 → EReal)

/-- The exponent of row `t` of block `r`. -/
def dk (r : ℕ) (t : Fin 64) (k : Fin 128) : ℝ := ∑ j : Fin 64, pick (cmB r t j) (L j k)

/-- The running sum of the logarithms. -/
def run (t : Fin 64) (k : Fin 128) : ℝ := ∑ j : Fin 64, pick (decide (j.val ≤ t.val)) (L j k)

/-- The decay. -/
def dx (r : ℕ) (t : Fin 64) (k : Fin 128) : EReal := ((Real.exp (dk L r t k) : ℝ) : EReal)

theorem dx_zero (t : Fin 64) (k : Fin 128) : dx L 0 t k = ((Real.exp (run L t k) : ℝ) : EReal) := rfl

theorem dx_last (s : Fin 64) (k : Fin 128) : dx L 4 s k = ((Real.exp (run L 63 k - run L s k) : ℝ) : EReal) := by
  unfold dx dk run
  rw [← Finset.sum_sub_distrib]
  exact congrArg (fun x : ℝ => ((Real.exp x : ℝ) : EReal)) (Finset.sum_congr rfl fun j _ => pick_last s.val j.val j.isLt _)

theorem dx_diag (d : ℕ) (t s : Fin 64) (hd : d < 8) (hd0 : 0 < d) (h : mkB (3 + d) t s = true) (k : Fin 128) :
    dx L (4 + d) t k = ((Real.exp (run L t k - run L s k) : ℝ) : EReal) := by
  unfold dx dk run
  rw [← Finset.sum_sub_distrib]
  exact congrArg (fun x : ℝ => ((Real.exp x : ℝ) : EReal)) (Finset.sum_congr rfl fun j _ => pick_diag d t s j hd hd0 h _)

theorem dx_level (i : ℕ) (t s : Fin 64) (hi : i < 3) (h : mkB i t s = true) (k : Fin 128) :
    dx L (i + 1) t k * dx L (i + 1) s k = ((Real.exp (run L t k - run L s k) : ℝ) : EReal) := by
  unfold dx dk run
  rw [← EReal.coe_mul, ← Real.exp_add, ← Finset.sum_add_distrib, ← Finset.sum_sub_distrib]
  exact congrArg (fun x : ℝ => ((Real.exp x : ℝ) : EReal)) (Finset.sum_congr rfl fun j _ => pick_level i t s j hi h _)

/-- A pair's weight, as the reference has it. -/
def wgt (t s : Fin 64) : EReal := ∑ k, q t k * kk s k * ((Real.exp (run L t k - run L s k) : ℝ) : EReal)

/-- The sum of one level. -/
def lvlT (r : ℕ) (t s : Fin 64) : EReal := ∑ k, (q t k * dx L r t k) * (kk s k * dx L r s k)

/-- The row sum of one diagonal: the keys rolled down by `d`. -/
def dgT (d : ℕ) (t : Fin 64) : EReal := ∑ k, q t k * kk ⟨(t.val + 64 - d) % 64, by omega⟩ k * dx L (4 + d) t k

/-- The kernel's weights. -/
def attK (t s : Fin 64) : EReal :=
  bit (mkB 3 t s) * (∑ k, q t k * kk t k) + bit (mkB 0 t s) * lvlT L q kk 1 t s + bit (mkB 1 t s) * lvlT L q kk 2 t s
    + bit (mkB 2 t s) * lvlT L q kk 3 t s + bit (mkB 4 t s) * dgT L q kk 1 t + bit (mkB 5 t s) * dgT L q kk 2 t
    + bit (mkB 6 t s) * dgT L q kk 3 t + bit (mkB 7 t s) * dgT L q kk 4 t + bit (mkB 8 t s) * dgT L q kk 5 t
    + bit (mkB 9 t s) * dgT L q kk 6 t + bit (mkB 10 t s) * dgT L q kk 7 t

theorem lvlT_eq (i : ℕ) (hi : i < 3) (t s : Fin 64) : bit (mkB i t s) * lvlT L q kk (i + 1) t s = bit (mkB i t s) * wgt L q kk t s := by
  cases h : mkB i t s
  · simp [bit]
  · refine congrArg (bit true * ·) (Finset.sum_congr rfl fun k _ => ?_)
    rw [mul_mul_mul_comm, dx_level L i t s hi h k]

theorem dgT_eq (d : ℕ) (hd : d < 8) (hd0 : 0 < d) (t s : Fin 64) :
    bit (mkB (3 + d) t s) * dgT L q kk d t = bit (mkB (3 + d) t s) * wgt L q kk t s := by
  cases h : mkB (3 + d) t s
  · simp [bit]
  · refine congrArg (bit true * ·) (Finset.sum_congr rfl fun k _ => ?_)
    have hs : (⟨(t.val + 64 - d) % 64, by omega⟩ : Fin 64) = s := by
      refine Fin.ext ?_
      have e0 : ¬ (3 + d < 3) := by omega
      have e4 : 3 + d - 3 = d := by omega
      rw [mkB, if_neg e0, e4] at h
      simp only [Bool.and_eq_true, decide_eq_true_eq] at h
      show (t.val + 64 - d) % 64 = s.val
      omega
    rw [hs, dx_diag L d t s hd hd0 h k]

theorem main_eq (t s : Fin 64) : bit (mkB 3 t s) * (∑ k, q t k * kk t k) = bit (mkB 3 t s) * wgt L q kk t s := by
  cases h : mkB 3 t s
  · simp [bit]
  · refine congrArg (bit true * ·) (Finset.sum_congr rfl fun k _ => ?_)
    have hs : t = s := by
      refine Fin.ext ?_
      simp [mkB] at h
      omega
    rw [hs, sub_self, Real.exp_zero, EReal.coe_one, mul_one]

/-- The levels and the diagonals together weigh every pair as the reference does. -/
theorem attK_eq (t s : Fin 64) : attK L q kk t s = if s ≤ t then wgt L q kk t s else 0 := by
  unfold attK
  rw [main_eq L q kk, lvlT_eq L q kk 0 (by omega), lvlT_eq L q kk 1 (by omega), lvlT_eq L q kk 2 (by omega),
    dgT_eq L q kk 1 (by omega) (by omega), dgT_eq L q kk 2 (by omega) (by omega), dgT_eq L q kk 3 (by omega) (by omega),
    dgT_eq L q kk 4 (by omega) (by omega), dgT_eq L q kk 5 (by omega) (by omega), dgT_eq L q kk 6 (by omega) (by omega),
    dgT_eq L q kk 7 (by omega) (by omega)]
  by_cases h : s ≤ t
  · rw [if_pos h]
    obtain ⟨i, hi⟩ := one_mask t s h
    rw [show mkB 3 t s = decide ((3 : Fin 11) = i) from hi 3, show mkB 0 t s = decide ((0 : Fin 11) = i) from hi 0,
      show mkB 1 t s = decide ((1 : Fin 11) = i) from hi 1, show mkB 2 t s = decide ((2 : Fin 11) = i) from hi 2,
      show mkB (3 + 1) t s = decide ((4 : Fin 11) = i) from hi 4, show mkB (3 + 2) t s = decide ((5 : Fin 11) = i) from hi 5,
      show mkB (3 + 3) t s = decide ((6 : Fin 11) = i) from hi 6, show mkB (3 + 4) t s = decide ((7 : Fin 11) = i) from hi 7,
      show mkB (3 + 5) t s = decide ((8 : Fin 11) = i) from hi 8, show mkB (3 + 6) t s = decide ((9 : Fin 11) = i) from hi 9,
      show mkB (3 + 7) t s = decide ((10 : Fin 11) = i) from hi 10]
    fin_cases i <;> simp [bit]
  · rw [if_neg h]
    have hn := no_mask t s (lt_of_not_ge h)
    rw [show mkB 3 t s = false from hn 3, show mkB 0 t s = false from hn 0,
      show mkB 1 t s = false from hn 1, show mkB 2 t s = false from hn 2,
      show mkB (3 + 1) t s = false from hn 4, show mkB (3 + 2) t s = false from hn 5,
      show mkB (3 + 3) t s = false from hn 6, show mkB (3 + 4) t s = false from hn 7,
      show mkB (3 + 5) t s = false from hn 8, show mkB (3 + 6) t s = false from hn 9,
      show mkB (3 + 7) t s = false from hn 10]
    simp [bit]

end Chunk

/-! The chunk as the reference has it, of any logarithms. -/

section Ref

variable (q f v : Fin 64 → Fin 128 → EReal) (S : Fin 128 → Fin 128 → EReal)

/-- The running sum of the logarithms. -/
def runE (t : Fin 64) (k : Fin 128) : EReal := ∑ j : Fin 64, if j ≤ t then f j k else 0

/-- The write gate. -/
def wr (t : Fin 64) (k : Fin 128) : EReal := -(Ideal.expm1 (f t k))

/-- The chunk's output. -/
def chunkO (t : Fin 64) (e : Fin 128) : EReal :=
  (∑ k, q t k * Ideal.exp (runE f t k) * S k e)
    + ∑ s, (∑ k, q t k * wr f s k * Ideal.exp (if s ≤ t then runE f t k - runE f s k else ⊥)) * v s e

/-- The state after the chunk. -/
def chunkS (k e : Fin 128) : EReal :=
  Ideal.exp (runE f 63 k) * S k e + ∑ s, wr f s k * Ideal.exp (runE f 63 k - runE f s k) * v s e

end Ref

theorem runE_coe (L : Fin 64 → Fin 128 → ℝ) (t : Fin 64) (k : Fin 128) :
    runE (fun t k => (L t k : EReal)) t k = ((run L t k : ℝ) : EReal) := by
  unfold runE run
  rw [show ((∑ j : Fin 64, pick (decide (j.val ≤ t.val)) (L j k) : ℝ) : EReal) = ∑ j : Fin 64, ((pick (decide (j.val ≤ t.val)) (L j k) : ℝ) : EReal) from
    map_sum (⟨⟨((↑) : ℝ → EReal), EReal.coe_zero⟩, EReal.coe_add⟩ : ℝ →+ EReal) _ _]
  refine Finset.sum_congr rfl fun j _ => ?_
  by_cases h : j ≤ t
  · rw [if_pos h]; simp [pick, show j.val ≤ t.val from h]
  · rw [if_neg h]; simp [pick, show ¬ j.val ≤ t.val from h]

theorem wr_coe (L : Fin 64 → Fin 128 → ℝ) (t : Fin 64) (k : Fin 128) :
    wr (fun t k => (L t k : EReal)) t k = 1 - Ideal.exp (L t k : EReal) := by
  unfold wr Ideal.expm1
  rw [Ideal.exp_coe, ← EReal.coe_one, ← EReal.coe_sub, ← EReal.coe_sub, ← EReal.coe_neg]
  exact congrArg (fun x : ℝ => (x : EReal)) (by ring)

variable (L : Fin 64 → Fin 128 → ℝ) (q v : Fin 64 → Fin 128 → EReal) (S : Fin 128 → Fin 128 → EReal)

/-- The kernel's chunk output is the reference's. -/
theorem outK_eq (t : Fin 64) (e : Fin 128) :
    (∑ k, (q t k * dx L 0 t k) * S k e) + ∑ s, attK L q (fun t k => 1 - Ideal.exp (L t k : EReal)) t s * v s e
      = chunkO q (fun t k => (L t k : EReal)) v S t e := by
  unfold chunkO
  refine congrArg₂ (· + ·) (Finset.sum_congr rfl fun k _ => ?_) (Finset.sum_congr rfl fun s _ => ?_)
  · rw [runE_coe, Ideal.exp_coe, dx_zero]
  · rw [attK_eq]
    refine congrArg (· * v s e) ?_
    by_cases h : s ≤ t
    · rw [if_pos h]
      refine Finset.sum_congr rfl fun k _ => ?_
      rw [if_pos h, runE_coe, runE_coe, ← EReal.coe_sub, Ideal.exp_coe, wr_coe]
    · rw [if_neg h]
      symm
      refine Finset.sum_eq_zero fun k _ => ?_
      rw [if_neg h, Ideal.exp_bot, mul_zero]

/-- The kernel's state after the chunk is the reference's. -/
theorem stK_eq (k e : Fin 128) :
    S k e * dx L 0 63 k + ∑ s, v s e * ((1 - Ideal.exp (L s k : EReal)) * dx L 4 s k) = chunkS (fun t k => (L t k : EReal)) v S k e := by
  unfold chunkS
  refine congrArg₂ (· + ·) ?_ (Finset.sum_congr rfl fun s _ => ?_)
  · rw [runE_coe, Ideal.exp_coe, dx_zero, mul_comm]
  · rw [runE_coe, runE_coe, ← EReal.coe_sub, wr_coe, dx_last, Ideal.exp_coe, Ideal.exp_coe, mul_comm]

end Cert.Kernel8Ideal.Hand

end
-- ==== Proof.HgrnSpec.lean ====
/- The recurrence, chunk by chunk, as a function of the two argument arrays. -/
module

public import proofs.«01_k».proof.Proof.HgrnMath

@[expose] public section

set_option maxRecDepth 16384

noncomputable section

namespace Cert.Kernel8Ideal.Hand

open Idealize.ShloMosaic

/-- One entry of a head's output, normalised over the head and scaled by the gain. -/
def nrm (x g : Fin 128 → EReal) (k : Fin 128) : EReal :=
  x k * Ideal.rsqrt (Ideal.div (∑ l : Fin 128, x l * x l) (FloatOps.ofBits (F := Ideal) .f32 0x43000000#32)
    + FloatOps.ofBits (F := Ideal) .f32 0x358637BD#32) * g k

section

variable (y : (⟨3, ![2, 8192, 2560]⟩ : Shape).Idx → EReal) (g : (⟨1, ![128]⟩ : Shape).Idx → EReal) (b : Fin 2)

/-- The row of position `t` in chunk `n`. -/
def chRow (n : ℕ) (t : Fin 64) : Fin 8192 := ⟨(64 * n + t.val) % 8192, by omega⟩
/-- The column of feature `k` in head `hd` of the group of 512 columns numbered `o`. -/
def chCol (o hd : Fin 4) (k : Fin 128) : Fin 2560 := ⟨512 * o.val + 128 * hd.val + k.val, by omega⟩

/-- One head's rows of chunk `n`, in one group of columns. -/
def ch (o : Fin 4) (n : ℕ) (hd : Fin 4) (t : Fin 64) (k : Fin 128) : EReal := y (ix3 b (chRow n t) (chCol o hd k))

/-- The state before chunk `n`. -/
def SR : ℕ → Fin 4 → Fin 128 → Fin 128 → EReal
  | 0, _ => fun _ _ => 0
  | n + 1, hd => chunkS (ch y b 1 n hd) (ch y b 2 n hd) (SR n hd)

/-- A head's output in chunk `n`, before the normalisation. -/
def OR (n : ℕ) (hd : Fin 4) (t : Fin 64) (e : Fin 128) : EReal :=
  chunkO (ch y b 0 n hd) (ch y b 1 n hd) (ch y b 2 n hd) (SR y b n hd) t e

/-- The gated result. -/
def YR (n : ℕ) (hd : Fin 4) (t : Fin 64) (e : Fin 128) : EReal :=
  nrm (OR y b n hd t) (fun e => g (ix1 e)) e * ch y b 3 n hd t e

end

end Cert.Kernel8Ideal.Hand

end
-- ==== Proof.HgrnRef.lean ====
/- The recurrence reference's arrays: each trip of its loop is one chunk of the recurrence. -/
module

public import proofs.«01_k».proof.Proof.HgrnRun
public import proofs.«01_k».proof.Proof.HgrnSum
public import proofs.«01_k».proof.Proof.HgrnSpec
public import proofs.«01_k».proof.Proof.Norm
public import Idealize.ShloMosaic.Lib.DynamicIndex
public import Idealize.ShloMosaic.Lib.WordCmp
public import Idealize.ShloMosaic.Lib.Pointwise

@[expose] public section

set_option maxRecDepth 16384

noncomputable section

namespace Cert.Reference8Ideal.Hand

open Idealize.ShloMosaic Idealize.ShloMosaic.TcCoe Idealize.SL.Sem
open Cert.Reference8Ideal Cert.Reference8Ideal.Gen
open Cert.Reference8Ideal.Step (State step init)
open Cert.Hand
open Cert.Kernel8Ideal.Hand (runE wr chunkO chunkS ch chRow chCol SR OR YR nrm)

theorem least : FloatOps.ofBits (F := Ideal) .f32 0xFF800000#32 = (⊥ : EReal) := by
  show Ideal.ofBits .f32 0xFF800000#32 = _
  simp [Ideal.ofBits, Ideal.ieee]

/-- The starts of a trip's slices. -/
abbrev starts (j : ℕ) : Fin 5 → Int := fun k => (((![(constantI S_ 32 (BitVec.ofNat 32 j) : (⟨S_, .i32⟩ : BufTy).Contents (Elt Ideal)), constantI S_ 32 0#32,
  constantI S_ 32 0#32, constantI S_ 32 0#32, constantI S_ 32 0#32] : Fin 5 → (⟨S_, .i32⟩ : BufTy).Contents (Elt Ideal))) k (Shape.Idx.first h_S_)).toInt

theorem starts_eq (j : ℕ) (hj : j < 128) : ∀ a : Fin 5, starts j a = ((![j, 0, 0, 0, 0] : Fin 5 → ℕ) a : Int) := fun a => by
  match a with
  | ⟨0, _⟩ => exact toInt_ofNat_of_lt (by omega)
  | ⟨1, _⟩ => rfl
  | ⟨2, _⟩ => rfl
  | ⟨3, _⟩ => rfl
  | ⟨4, _⟩ => rfl

theorem slices_j (j : ℕ) (hj : j < 128) : S128x2x4x64x128.Slices ![j, 0, 0, 0, 0] S1x2x4x64x128 :=
  ⟨rfl, fun a => by
    match a with
    | ⟨0, _⟩ => show j + 1 ≤ 128; omega
    | ⟨1, _⟩ => show 0 + 2 ≤ 2; omega
    | ⟨2, _⟩ => show 0 + 4 ≤ 4; omega
    | ⟨3, _⟩ => show 0 + 64 ≤ 64; omega
    | ⟨4, _⟩ => show 0 + 128 ≤ 128; omega⟩

/-- A trip's chunk of a stack. -/
theorem slice_at (x : S128x2x4x64x128.Idx → EReal) (j : Fin 128) (b : Fin 2) (h : Fin 4) (t : Fin 64) (k : Fin 128) :
    shapeCast S2x4x64x128 (Host.dynamicSlice S1x2x4x64x128 x (starts j.val) sliceFits_S128x2x4x64x128_S1x2x4x64x128)
      shapeCasts_S1x2x4x64x128_S2x4x64x128 (ix4 b h t k) = x (ix5 j b h t k) := by
  rw [Host.dynamicSlice_eq_extractStridedSlice _ x _ ![j.val, 0, 0, 0, 0] _ (slices_j j.val j.isLt) (starts_eq j.val j.isLt)]
  pointwise

/-- Writing a trip's chunk into a stack. -/
theorem update_at (x : S128x2x4x64x128.Idx → EReal) (u : S1x2x4x64x128.Idx → EReal) (j i : Fin 128) (b : Fin 2) (h : Fin 4) (t : Fin 64) (k : Fin 128) :
    Host.dynamicUpdateSlice x u (starts j.val) updateFits_S128x2x4x64x128_S1x2x4x64x128 (ix5 i b h t k)
      = if i = j then u (ix5 0 b h t k) else x (ix5 i b h t k) := by
  rw [Idealize.ShloMosaic.WordCmp.dynamicUpdateSlice_eq_update x u _ _ ![j.val, 0, 0, 0, 0] (slices_j j.val j.isLt) (starts_eq j.val j.isLt), updateSlice_apply]
  by_cases hij : i = j
  · subst hij
    rw [if_pos rfl, dif_pos (fun a => by
      match a with
      | ⟨0, _⟩ => exact ⟨le_rfl, Nat.lt_succ_self _⟩
      | ⟨1, _⟩ => exact ⟨Nat.zero_le _, by show b.val < 0 + 2; omega⟩
      | ⟨2, _⟩ => exact ⟨Nat.zero_le _, by show h.val < 0 + 4; omega⟩
      | ⟨3, _⟩ => exact ⟨Nat.zero_le _, by show t.val < 0 + 64; omega⟩
      | ⟨4, _⟩ => exact ⟨Nat.zero_le _, by show k.val < 0 + 128; omega⟩)]
    refine congrArg u (funext fun a => Fin.ext ?_)
    match a with
    | ⟨0, _⟩ => show i.val - i.val = 0; omega
    | ⟨1, _⟩ => rfl
    | ⟨2, _⟩ => rfl
    | ⟨3, _⟩ => rfl
    | ⟨4, _⟩ => rfl
  · rw [if_neg hij, dif_neg (fun hh => hij (Fin.ext (by
      have h0 : j.val ≤ i.val ∧ i.val < j.val + 1 := hh 0
      omega)))]

section Trip

variable (s : State Ideal) (j : Fin 128)

theorem b5_at (b : Fin 2) (h : Fin 4) (t : Fin 64) (k : Fin 128) : Step.b5 j.val s (ix4 b h t k) = s.main_v18_0 (ix5 j b h t k) := slice_at _ j b h t k
theorem b11_at (b : Fin 2) (h : Fin 4) (t : Fin 64) (k : Fin 128) : Step.b11 j.val s (ix4 b h t k) = s.main_v18_1 (ix5 j b h t k) := slice_at _ j b h t k
theorem b17_at (b : Fin 2) (h : Fin 4) (t : Fin 64) (k : Fin 128) : Step.b17 j.val s (ix4 b h t k) = s.main_v18_2 (ix5 j b h t k) := slice_at _ j b h t k
theorem b23_at (b : Fin 2) (h : Fin 4) (t : Fin 64) (k : Fin 128) : Step.b23 j.val s (ix4 b h t k) = s.main_v18_3 (ix5 j b h t k) := slice_at _ j b h t k

theorem b26_at (b : Fin 2) (h : Fin 4) (t : Fin 64) (k : Fin 128) :
    Step.b26 j.val s (ix4 b h t k) = runE (fun t k => s.main_v18_3 (ix5 j b h t k)) t k := by
  unfold Step.b26 runE
  rw [cumsum_head _ _ _ _ zeroWord]
  simp only [b23_at]

/-- The causal mask. -/
theorem mask_at (t r : Fin 64) : Step.K_main_v7 (F := Ideal) (ix5 0 0 t r 0) = if r ≤ t then 1#1 else 0#1 := by
  have h : Step.K_main_v7 (F := Ideal) (ix5 0 0 t r 0)
      = if IntOp.cmpi .sge (BitVec.ofNat 32 t.val + 0#32) (BitVec.ofNat 32 r.val) = 1#1 then 1#1 else 0#1 := rfl
  rw [h]
  have e : ∀ t r : Fin 64, (if IntOp.cmpi .sge (BitVec.ofNat 32 t.val + 0#32) (BitVec.ofNat 32 r.val) = 1#1 then 1#1 else 0#1)
      = if r ≤ t then 1#1 else (0#1 : BitVec 1) := by decide +kernel
  exact e t r

theorem b29_at (b : Fin 2) (h : Fin 4) (t : Fin 64) (e : Fin 128) :
    Step.b29 j.val s (ix4 b h t e) = ∑ k, Step.b5 j.val s (ix4 b h t k) * Ideal.exp (Step.b26 j.val s (ix4 b h t k)) * s.main_v18_6 (ix4 b h k e) := by
  pointwise [Step.b29, Step.b28, Step.b27]

theorem b39_at (b : Fin 2) (h : Fin 4) (t r : Fin 64) (k : Fin 128) :
    Step.b39 j.val s (ix5 b h t r k)
      = Ideal.exp (if r ≤ t then Step.b26 j.val s (ix4 b h t k) - Step.b26 j.val s (ix4 b h r k) else ⊥) := by
  have h1 : Step.b39 j.val s (ix5 b h t r k) = Ideal.exp (if Step.K_main_v7 (F := Ideal) (ix5 0 0 t r 0) = 1#1 then
      Step.b26 j.val s (ix4 b h t k) - Step.b26 j.val s (ix4 b h r k) else FloatOps.ofBits (F := Ideal) .f32 0xFF800000#32) := by
    pointwise [Step.b39, Step.b38, Step.b37, Step.b36, Step.b35, Step.b34, Step.b33, Step.b32, Step.b31, Step.b30]
    rfl
  rw [h1, mask_at, least]
  by_cases hr : r ≤ t
  · simp [hr]
  · simp [hr]

theorem b47_at (b : Fin 2) (h : Fin 4) (t r : Fin 64) :
    Step.b47 j.val s (ix4 b h t r)
      = ∑ k, Step.b5 j.val s (ix4 b h t k) * Step.b11 j.val s (ix4 b h r k) * Step.b39 j.val s (ix5 b h t r k) := by
  pointwise [Step.b47, Step.b46, Step.b45, Step.b44, Step.b43, Step.b42, Step.b41, Step.b40]

theorem b48_at (b : Fin 2) (h : Fin 4) (t : Fin 64) (e : Fin 128) :
    Step.b48 j.val s (ix4 b h t e) = ∑ r, Step.b47 j.val s (ix4 b h t r) * Step.b17 j.val s (ix4 b h r e) := by
  pointwise [Step.b48]

theorem b61_at (b : Fin 2) (h : Fin 4) (k e : Fin 128) :
    Step.b61 j.val s (ix4 b h k e) = Ideal.exp (Step.b26 j.val s (ix4 b h 63 k)) * s.main_v18_6 (ix4 b h k e)
      + ∑ r, Step.b11 j.val s (ix4 b h r k) * Ideal.exp (Step.b26 j.val s (ix4 b h 63 k) - Step.b26 j.val s (ix4 b h r k)) * Step.b17 j.val s (ix4 b h r e) := by
  pointwise [Step.b61, Step.b60, Step.b59, Step.b58, Step.b57, Step.b56, Step.b55, Step.b54, Step.b53, Step.b52, Step.b51, Step.b50]

theorem b62_at (b : Fin 2) (h : Fin 4) (t : Fin 64) (e : Fin 128) :
    Step.b62 j.val s (ix5 0 b h t e) = Step.b29 j.val s (ix4 b h t e) + Step.b48 j.val s (ix4 b h t e) := by
  pointwise [Step.b62, Step.b49]

end Trip

/-! What the loop starts from. -/

variable (y : S2x8192x2560.Idx → EReal) (g : S128.Idx → EReal)

theorem y_congr {b : Fin 2} {r r' : Fin 8192} {k k' : Fin 2560} (h : r.val = r'.val) (h' : k.val = k'.val) : y (ix3 b r k) = y (ix3 b r' k') := by
  rw [Fin.ext h, Fin.ext h']

theorem v10_at (n : Fin 128) (b : Fin 2) (h : Fin 4) (t : Fin 64) (k : Fin 128) :
    Step.A_main_v10 (F := Ideal) y (ix5 n b h t k) = ch y b 0 n.val h t k := by
  pointwise [Step.A_main_v10, Step.A_main_v9, Step.A_main_v0, ch, chRow, chCol]
  exact y_congr y (by show n.val * 64 + t.val = (64 * n.val + t.val) % 8192; omega) (by show h.val * 128 + k.val = 128 * h.val + k.val; omega)
theorem v14_at (n : Fin 128) (b : Fin 2) (h : Fin 4) (t : Fin 64) (k : Fin 128) :
    Step.A_main_v14 (F := Ideal) y (ix5 n b h t k) = ch y b 2 n.val h t k := by
  pointwise [Step.A_main_v14, Step.A_main_v13, Step.A_main_v2, ch, chRow, chCol]
  exact y_congr y (by show n.val * 64 + t.val = (64 * n.val + t.val) % 8192; omega) (by show 1024 + (h.val * 128 + k.val) = 512 * 2 + 128 * h.val + k.val; omega)
theorem v16_at (n : Fin 128) (b : Fin 2) (h : Fin 4) (t : Fin 64) (k : Fin 128) :
    Step.A_main_v16 (F := Ideal) y (ix5 n b h t k) = ch y b 1 n.val h t k := by
  pointwise [Step.A_main_v16, Step.A_main_v15, Step.A_main_v1, ch, chRow, chCol]
  exact y_congr y (by show n.val * 64 + t.val = (64 * n.val + t.val) % 8192; omega) (by show 512 + (h.val * 128 + k.val) = 512 * 1 + 128 * h.val + k.val; omega)
theorem v12_at (n : Fin 128) (b : Fin 2) (h : Fin 4) (t : Fin 64) (k : Fin 128) :
    Step.A_main_v12 (F := Ideal) y (ix5 n b h t k) = wr (ch y b 1 n.val h) t k := by
  pointwise [Step.A_main_v12, Step.A_main_v11, Step.A_main_v4, Step.A_main_v3, Step.A_main_v1, wr, ch, chRow, chCol]
  exact congrArg (fun x => -(Ideal.exp x - 1)) (y_congr y (by show n.val * 64 + t.val = (64 * n.val + t.val) % 8192; omega) (by show 512 + (h.val * 128 + k.val) = 512 * 1 + 128 * h.val + k.val; omega))

/-- The state before trip `n`. -/
structure Inv (n : ℕ) (s : State Ideal) : Prop where
  S : ∀ b h k e, s.main_v18_6 (ix4 b h k e) = SR y b n h k e
  O : ∀ (i : Fin 128) b h t e, i.val < n → s.main_v18_7 (ix5 i b h t e) = OR y b i.val h t e
  q : s.main_v18_0 = Step.A_main_v10 y
  w : s.main_v18_1 = Step.A_main_v12 y
  v : s.main_v18_2 = Step.A_main_v14 y
  f : s.main_v18_3 = Step.A_main_v16 y

theorem inv_step (n : Fin 128) (s : State Ideal) (hs : Inv y n.val s) : Inv y (n.val + 1) (step n.val s) where
  q := hs.q
  w := hs.w
  v := hs.v
  f := hs.f
  S b h k e := by
    rw [Step.step_main_v18_6, b61_at]
    simp only [b26_at, b11_at, b17_at, hs.S, hs.w, hs.v, hs.f, v12_at, v14_at, v16_at]
    rfl
  O i b h t e hi := by
    rw [Step.step_main_v18_7]
    refine (update_at _ _ n i b h t e).trans ?_
    by_cases hin : i = n
    · subst hin
      rw [if_pos rfl, b62_at, b29_at, b48_at]
      simp only [b47_at, b39_at, b26_at, b5_at, b11_at, b17_at, hs.S, hs.q, hs.w, hs.v, hs.f, v10_at, v12_at, v14_at, v16_at]
      rfl
    · rw [if_neg hin]
      exact hs.O i b h t e (lt_of_le_of_ne (Nat.lt_succ_iff.mp hi) fun h => hin (Fin.ext h))

section Run

variable (m : (ℓ : Loc nD τ sig) → Buf (Elt Ideal) ℓ) (c : Dev nD)

theorem inv_it : ∀ n : ℕ, n ≤ 128 → Inv (m ((c.tc : Thread nD τ).loc main_arg0)) n (it m c n)
  | 0, _ => {
      S := fun b h k e => by
        show Step.K_main_v8 (F := Ideal) (ix4 b h k e) = 0
        exact zeroWord
      O := fun i b h t e hi => absurd hi (Nat.not_lt_zero _)
      q := rfl
      w := rfl
      v := rfl
      f := rfl }
  | n + 1, hn => inv_step _ ⟨n, hn⟩ _ (inv_it n (Nat.le_of_succ_le hn))

end Run

/-! What follows the loop. -/

/-- The stacked outputs, one row per position. -/
def rows (o : S128x2x4x64x128.Idx → EReal) : S2x8192x4x128.Idx → EReal :=
  shapeCast S2x8192x4x128 (transpose S2x128x64x4x128 [1, 0, 3, 2, 4] o transposes_S128x2x4x64x128_S2x128x64x4x128_1_0_3_2_4)
    shapeCasts_S2x128x64x4x128_S2x8192x4x128

theorem rows_at (o : S128x2x4x64x128.Idx → EReal) (b : Fin 2) (p : Fin 8192) (h : Fin 4) (e : Fin 128) :
    rows o (ix4 b p h e) = o (ix5 ⟨p.val / 64, by omega⟩ b h ⟨p.val % 64, by omega⟩ e) := by
  pointwise [rows]

/-- The normalised rows, times the gain. -/
def normed (o : FVec Ideal S2x8192x4x128 .f32) (g : FVec Ideal S128 .f32) : FVec Ideal S2x8192x4x128 .f32 :=
  mulf (mulf o (broadcastInDim S2x8192x4x128 ![0, 1, 2, 3] bcast_S2x8192x4x1_S2x8192x4x128_0_1_2_3 (Host.rsqrt (addf (Host.divf
    (broadcastInDim S2x8192x4x1 ![0, 1, 2] bcast_S2x8192x4_S2x8192x4x1_0_1_2 (Host.reduceAdd (mulf o o) (constant S_ .f32 0x00000000#32)
      reducesTo_S2x8192x4x128_S2x8192x4_d3 h_S_))
    (broadcastInDim S2x8192x4x1 ![] bcast_S_S2x8192x4x1 (constant S_ .f32 0x43000000#32)))
    (broadcastInDim S2x8192x4x1 ![] bcast_S_S2x8192x4x1 (constant S_ .f32 0x358637BD#32))))))
    (broadcastInDim S2x8192x4x128 ![0, 1, 2, 3] bcast_S1x1x1x128_S2x8192x4x128_0_1_2_3 (broadcastInDim S1x1x1x128 ![3] bcast_S128_S1x1x1x128_3 g))

theorem normed_at (o : FVec Ideal S2x8192x4x128 .f32) (g : FVec Ideal S128 .f32) (b : Fin 2) (p : Fin 8192) (h : Fin 4) (e : Fin 128) :
    normed o g (ix4 b p h e) = nrm (fun e => o (ix4 b p h e)) (fun e => g (ix1 e)) e := by
  pointwise [normed, nrm]

theorem R_eq (s : State Ideal) : Step.R_main_v37 s y g = shapeCast S2x8192x512 (mulf (normed (rows s.main_v18_7) g)
    (shapeCast S2x8192x4x128 (extractStridedSlice S2x8192x512 ![0, 0, 1536] y slices_S2x8192x2560_S2x8192x512_0_0_1536)
      shapeCasts_S2x8192x512_S2x8192x4x128 : FVec Ideal S2x8192x4x128 .f32)) shapeCasts_S2x8192x4x128_S2x8192x512 := rfl

/-- The rows before the last reshape, at one entry of the result. -/
theorem cast_at (x : S2x8192x4x128.Idx → EReal) (b : Fin 2) (p : Fin 8192) (k : Fin 512) :
    shapeCast S2x8192x512 x shapeCasts_S2x8192x4x128_S2x8192x512 (ix3 b p k) = x (ix4 b p ⟨k.val / 128, by omega⟩ ⟨k.val % 128, by omega⟩) := by
  pointwise

theorem gate_at (b : Fin 2) (p : Fin 8192) (h : Fin 4) (e : Fin 128) :
    shapeCast S2x8192x4x128 (extractStridedSlice S2x8192x512 ![0, 0, 1536] y slices_S2x8192x2560_S2x8192x512_0_0_1536)
      shapeCasts_S2x8192x512_S2x8192x4x128 (ix4 b p h e) = ch y b 3 (p.val / 64) h ⟨p.val % 64, by omega⟩ e := by
  have h1 : chRow (p.val / 64) ⟨p.val % 64, by omega⟩ = p := Fin.ext (by show (64 * (p.val / 64) + p.val % 64) % 8192 = p.val; omega)
  unfold ch
  rw [h1]
  pointwise [chCol]
  exact y_congr y rfl (by show 1536 + (h.val * 128 + e.val) = 1536 + 128 * h.val + e.val; omega)

theorem R_at (s : State Ideal) (hs : Inv y 128 s) (b : Fin 2) (p : Fin 8192) (k : Fin 512) :
    Step.R_main_v37 s y g (ix3 b p k)
      = YR y g b (p.val / 64) ⟨k.val / 128, by omega⟩ ⟨p.val % 64, by omega⟩ ⟨k.val % 128, by omega⟩ := by
  rw [R_eq, cast_at]
  show normed (rows s.main_v18_7) g _ * _ = _
  rw [normed_at, gate_at]
  unfold YR
  simp only [rows_at, fun i b h t e => hs.O i b h t e i.isLt]

end Cert.Reference8Ideal.Hand

end
-- ==== Proof.HgrnTile.lean ====
/- The recurrence kernel's body: one tile of 64 rows of one head, and that every case of the body writes these tiles. -/
module

public import proofs.«01_k».proof.Proof.Gen.Kernel8Ideal.Frame
public import Idealize.ShloMosaic.Lib.Pointwise

@[expose] public section

set_option maxRecDepth 65536

noncomputable section

namespace Cert.Kernel8Ideal.Hand

open Cert.Kernel8Ideal Cert.Kernel8Ideal.Gen Idealize.ShloMosaic Idealize.ShloMosaic.TcCoe Idealize.ShloMosaic.Tactic
open Idealize.SL.Sem

variable {F : FTy → Type} [FloatOps F]

/-- A loaded tile. -/
abbrev Tl (F : FTy → Type) := Vec F S1x64x128 .f32
/-- A tile of 64 rows. -/
abbrev Sq (F : FTy → Type) := FVec F S64x128 .f32
/-- A head's state. -/
abbrev St (F : FTy → Type) := FVec F S128x128 .f32

/-- The loaded tile as rows. -/
def sq (v : Tl F) : Sq F := shapeCast S64x128 v shapeCasts_S1x64x128_S64x128

/-- The keys: one less the decay. -/
def kd (f : Tl F) : Sq F := subf (broadcast S64x128 (Scalar.ofBits .f32 0x3F800000#32)) (exp (sq f))

/-- The table of decays. -/
def xd (cm : Vec F S768x64 .bf16) (f : Tl F) : FVec F S768x128 .f32 :=
  exp (addf (matmul dot_S768x64_S64x128_S768x128_1_0_0_1_n_n none cm (truncf .bf16 (sq f) bitsLt_bf16_f32) (constant S768x128 .f32 0x00000000#32))
    (matmul dot_S768x64_S64x128_S768x128_1_0_0_1_n_n none cm
      (truncf .bf16 (subf (sq f) (extf .f32 (truncf .bf16 (sq f) bitsLt_bf16_f32 : FVec F S64x128 .bf16) bitsLt_bf16_f32)) bitsLt_bf16_f32)
      (constant S768x128 .f32 0x00000000#32)))

/-- A mask times the row sums of a product. -/
def dgV (m : Vec F S1x64x64 .f32) (p : Sq F) : FVec F S64x64 .f32 :=
  mulf (shapeCast S64x64 m shapeCasts_S1x64x64_S64x64)
    (broadcastTo S64x64 (shapeCast S64x1 (multiReduction .add [1] S64 p 0x00000000#32 reduces_S64x128_S64 (.inl rfl) rfl) shapeCasts_S64_S64x1)
      broadcasts_S64x1_S64x64)

/-- A mask times the product of the decayed rows with the decayed keys. -/
def lvV (m : Vec F S1x64x64 .f32) (q k a : Sq F) : FVec F S64x64 .f32 :=
  mulf (shapeCast S64x64 m shapeCasts_S1x64x64_S64x64)
    (matmul dot_S64x128_S64x128_S64x64_1_1_0_0_n_n none (truncf .bf16 (mulf q a) bitsLt_bf16_f32) (truncf .bf16 (mulf k a) bitsLt_bf16_f32)
      (constant S64x64 .f32 0x00000000#32))

/-- The queries times the keys rolled down, times a block of decays. -/
def rlV (q k a : Sq F) (d : BitVec 32) : Sq F := mulf (mulf q (dynamicRotate 0 d none k rotates_S64x128_d0)) a

/-- The weights within a tile. -/
def attV (M : Fin 11 → Vec F S1x64x64 .f32) (q k : Sq F) (x : FVec F S768x128 .f32) : FVec F S64x64 .f32 :=
  let a0 := dgV (M ⟨3, by decide⟩) (mulf q k)
  let a1 := addf a0 (lvV (M ⟨0, by decide⟩) q k (extractStridedSlice S64x128 ![64, 0] x slices_S768x128_o64_0_S64x128))
  let a2 := addf a1 (lvV (M ⟨1, by decide⟩) q k (extractStridedSlice S64x128 ![128, 0] x slices_S768x128_o128_0_S64x128))
  let a3 := addf a2 (lvV (M ⟨2, by decide⟩) q k (extractStridedSlice S64x128 ![192, 0] x slices_S768x128_o192_0_S64x128))
  let a4 := addf a3 (dgV (M ⟨4, by decide⟩) (rlV q k (extractStridedSlice S64x128 ![320, 0] x slices_S768x128_o320_0_S64x128) 1#32))
  let a5 := addf a4 (dgV (M ⟨5, by decide⟩) (rlV q k (extractStridedSlice S64x128 ![384, 0] x slices_S768x128_o384_0_S64x128) 2#32))
  let a6 := addf a5 (dgV (M ⟨6, by decide⟩) (rlV q k (extractStridedSlice S64x128 ![448, 0] x slices_S768x128_o448_0_S64x128) 3#32))
  let a7 := addf a6 (dgV (M ⟨7, by decide⟩) (rlV q k (extractStridedSlice S64x128 ![512, 0] x slices_S768x128_o512_0_S64x128) 4#32))
  let a8 := addf a7 (dgV (M ⟨8, by decide⟩) (rlV q k (extractStridedSlice S64x128 ![576, 0] x slices_S768x128_o576_0_S64x128) 5#32))
  let a9 := addf a8 (dgV (M ⟨9, by decide⟩) (rlV q k (extractStridedSlice S64x128 ![640, 0] x slices_S768x128_o640_0_S64x128) 6#32))
  addf a9 (dgV (M ⟨10, by decide⟩) (rlV q k (extractStridedSlice S64x128 ![704, 0] x slices_S768x128_o704_0_S64x128) 7#32))

/-- The first block of decays. -/
def ebV (x : FVec F S768x128 .f32) : Sq F := extractStridedSlice S64x128 ![0, 0] x slices_S768x128_o0_0_S64x128

/-- The state after a tile. -/
def stV (k : Sq F) (x : FVec F S768x128 .f32) (v : Tl F) (s : St F) : St F :=
  addf (mulf s (broadcastTo S128x128 (extractStridedSlice S1x128 ![63, 0] (ebV x) slices_S64x128_o63_0_S1x128) broadcasts_S1x128_S128x128))
    (matmul dot_S128x64_S64x128_S128x128_1_0_0_1_n_n none
      (truncf .bf16 (transpose S128x64 [1, 0] (sq v) transposes_S64x128_p1_0_S128x64) bitsLt_bf16_f32)
      (truncf .bf16 (mulf k (extractStridedSlice S64x128 ![256, 0] x slices_S768x128_o256_0_S64x128)) bitsLt_bf16_f32)
      (constant S128x128 .f32 0x00000000#32))

/-- The tile's output before the normalisation. -/
def oV (q : Sq F) (x : FVec F S768x128 .f32) (att : FVec F S64x64 .f32) (v : Tl F) (s : St F) : Sq F :=
  addf (matmul dot_S64x128_S128x128_S64x128_1_1_0_0_n_n none (truncf .bf16 (mulf q (ebV x)) bitsLt_bf16_f32) (truncf .bf16 s bitsLt_bf16_f32)
      (constant S64x128 .f32 0x00000000#32))
    (matmul dot_S64x64_S64x128_S64x128_1_0_0_1_n_n none (truncf .bf16 att bitsLt_bf16_f32) (truncf .bf16 (sq v) bitsLt_bf16_f32)
      (constant S64x128 .f32 0x00000000#32))

/-- The normalised output times its gain and its gate. -/
def nmV (g : Vec F S1x128 .f32) (o : Sq F) (w : Tl F) : Tl F :=
  shapeCast S1x64x128 (mulf (mulf (mulf o (broadcastTo S64x128 (rsqrt (addf (divf (shapeCast S64x1
      (multiReduction .add [1] S64 (mulf o o) 0x00000000#32 reduces_S64x128_S64 (.inl rfl) rfl) shapeCasts_S64_S64x1 : FVec F S64x1 .f32)
      (broadcast S64x1 (Scalar.ofBits .f32 0x43000000#32))) (broadcast S64x1 (Scalar.ofBits .f32 0x358637BD#32)))) broadcasts_S64x1_S64x128))
      (broadcastTo S64x128 (shapeCast S1x128 g shapeCasts_S1x128_S1x128) broadcasts_S1x128_S64x128)) (sq w)) shapeCasts_S64x128_S1x64x128

/-- The place of a tile in a block: chunk `ci`, head `hd`. -/
theorem inbT (ci hd : Fin 4) : ∀ a, (![0, 64 * ci.val, 128 * hd.val] : Fin 3 → ℕ) a + S1x64x128.size a ≤ S1x256x512.size a := by
  revert ci hd; decide

theorem inbS (hd : Fin 4) : ∀ a, (![hd.val, 0, 0] : Fin 3 → ℕ) a + S1x128x128.size a ≤ S4x128x128.size a := by revert hd; decide
theorem inbR (hd : Fin 4) : ∀ a, (![0, hd.val, 0, 0] : Fin 4 → ℕ) a + S1x1x128x128.size a ≤ S1x4x128x128.size a := by revert hd; decide
theorem inbM (i : Fin 11) : ∀ a, (![i.val, 0, 0] : Fin 3 → ℕ) a + S1x64x64.size a ≤ S11x64x64.size a := by revert i; decide

/-- The rectangles of the tiles, the states and the masks. -/
abbrev rT (ci hd : Fin 4) : Rect S1x256x512 := Rect.unit ![0, 64 * ci.val, 128 * hd.val] S1x64x128.size (inbT ci hd)
abbrev rS (hd : Fin 4) : Rect S4x128x128 := Rect.unit ![hd.val, 0, 0] S1x128x128.size (inbS hd)
abbrev rR (hd : Fin 4) : Rect S1x4x128x128 := Rect.unit ![0, hd.val, 0, 0] S1x1x128x128.size (inbR hd)
abbrev rM (i : Fin 11) : Rect S11x64x64 := Rect.unit ![i.val, 0, 0] S1x64x64.size (inbM i)

variable (q f v w : Fin 4 → Fin 4 → Tl F) (g : Vec F S1x128 .f32) (cm : Vec F S768x64 .bf16) (M : Fin 11 → Vec F S1x64x64 .f32)
  (S : Fin 4 → Vec F S1x128x128 .f32)

/-- One tile's step of a head's state. -/
def nxt (ci hd : Fin 4) (s : St F) : St F := stV (kd (f ci hd)) (xd cm (f ci hd)) (v ci hd) s

/-- A head's states in turn. -/
def s0 (hd : Fin 4) : St F := shapeCast S128x128 (S hd) shapeCasts_S1x128x128_S128x128
def s1 (hd : Fin 4) : St F := nxt f v cm ⟨0, by decide⟩ hd (s0 S hd)
def s2 (hd : Fin 4) : St F := nxt f v cm ⟨1, by decide⟩ hd (s1 f v cm S hd)
def s3 (hd : Fin 4) : St F := nxt f v cm ⟨2, by decide⟩ hd (s2 f v cm S hd)
def s4 (hd : Fin 4) : St F := nxt f v cm ⟨3, by decide⟩ hd (s3 f v cm S hd)

/-- One tile of the output. -/
def tl (ci hd : Fin 4) (s : St F) : Tl F :=
  nmV g (oV (sq (q ci hd)) (xd cm (f ci hd)) (attV M (sq (q ci hd)) (kd (f ci hd)) (xd cm (f ci hd))) (v ci hd) s) (w ci hd)

/-- A stored tile. -/
def pc (ci hd : Fin 4) (s : St F) : View.Piece (Elt F) S1x256x512 .f32 := ⟨rT ci hd, tl q f v w g cm M ci hd s⟩

/-- The four tiles of a chunk. -/
def pcs4 (ci : Fin 4) (s : Fin 4 → St F) (L : List (View.Piece (Elt F) S1x256x512 .f32)) : List (View.Piece (Elt F) S1x256x512 .f32) :=
  pc q f v w g cm M ci ⟨3, by decide⟩ (s ⟨3, by decide⟩) :: pc q f v w g cm M ci ⟨2, by decide⟩ (s ⟨2, by decide⟩)
    :: pc q f v w g cm M ci ⟨1, by decide⟩ (s ⟨1, by decide⟩) :: pc q f v w g cm M ci ⟨0, by decide⟩ (s ⟨0, by decide⟩) :: L

/-- The stores into the output block. -/
def pcsO : List (View.Piece (Elt F) S1x256x512 .f32) :=
  pcs4 q f v w g cm M ⟨3, by decide⟩ (s3 f v cm S) (pcs4 q f v w g cm M ⟨2, by decide⟩ (s2 f v cm S)
    (pcs4 q f v w g cm M ⟨1, by decide⟩ (s1 f v cm S) (pcs4 q f v w g cm M ⟨0, by decide⟩ (s0 S) [])))

/-- A stored state. -/
def pcS (hd : Fin 4) : View.Piece (Elt F) S4x128x128 .f32 :=
  ⟨rS hd, shapeCast S1x128x128 (s4 f v cm S hd) shapeCasts_S128x128_S1x128x128⟩

/-- The stores into the carried state. -/
def pcsS (L : List (View.Piece (Elt F) S4x128x128 .f32)) : List (View.Piece (Elt F) S4x128x128 .f32) :=
  pcS f v cm S ⟨3, by decide⟩ :: pcS f v cm S ⟨2, by decide⟩ :: pcS f v cm S ⟨1, by decide⟩ :: pcS f v cm S ⟨0, by decide⟩ :: L

/-- A state stored as a result, transposed. -/
def pcR (hd : Fin 4) : View.Piece (Elt F) S1x4x128x128 .f32 :=
  ⟨rR hd, shapeCast S1x1x128x128 (transpose S128x128 [1, 0] (s4 f v cm S hd) transposes_S128x128_p1_0_S128x128) shapeCasts_S128x128_S1x1x128x128⟩

/-- The stores into the final state. -/
def pcsR : List (View.Piece (Elt F) S1x4x128x128 .f32) :=
  [pcR f v cm S ⟨3, by decide⟩, pcR f v cm S ⟨2, by decide⟩, pcR f v cm S ⟨1, by decide⟩, pcR f v cm S ⟨0, by decide⟩]

variable (c : Dev nD) (i : grid0.Coords)
  (arg2 : Memref sig .tc .vmem S1x256x512 .f32) (harg2 : arg2.IsWhole) (arg3 : Memref sig .tc .vmem S1x256x512 .f32) (harg3 : arg3.IsWhole)
  (arg4 : Memref sig .tc .vmem S1x256x512 .f32) (harg4 : arg4.IsWhole) (arg5 : Memref sig .tc .vmem S1x256x512 .f32) (harg5 : arg5.IsWhole)
  (arg6 : Memref sig .tc .vmem S1x128 .f32) (harg6 : arg6.IsWhole) (arg7 : Memref sig .tc .vmem S768x64 .bf16) (harg7 : arg7.IsWhole)
  (arg8 : Memref sig .tc .vmem S11x64x64 .f32) (harg8 : arg8.IsWhole) (arg9 : Memref sig .tc .vmem S1x256x512 .f32) (harg9 : arg9.IsWhole)
  (arg10 : Memref sig .tc .vmem S1x4x128x128 .f32) (harg10 : arg10.IsWhole) (arg11 : Memref sig .tc .vmem S4x128x128 .f32) (harg11 : arg11.IsWhole)
  (x0 x1 x2 x3 : Vec F S1x256x512 .f32) (x4 : Vec F S1x128 .f32) (x5 : Vec F S768x64 .bf16) (x6 : Vec F S11x64x64 .f32)
  (xs0 : Vec F S4x128x128 .f32)

/-- The tiles loaded from a block. -/
abbrev ldT (a : Memref sig .tc .vmem S1x256x512 .f32) (h : a.IsWhole) (x : Vec F S1x256x512 .f32) (ci hd : Fin 4) : Tl F :=
  View.readAt (Elt F) a.view (rT ci hd).toLoadRect (h.unread x)

/-- The gain's, the table's, the masks' and the state's loads. -/
abbrev ldG : Vec F S1x128 .f32 := View.readAt (Elt F) arg6.view (Rect.unit ![0, 0] S1x128.size inb_S1x128_S1x128_0_0).toLoadRect (harg6.unread x4)
abbrev ldC : Vec F S768x64 .bf16 := View.readAt (Elt F) arg7.view (Rect.unit ![0, 0] S768x64.size inb_S768x64_S768x64_0_0).toLoadRect (harg7.unread x5)
abbrev ldM (i : Fin 11) : Vec F S1x64x64 .f32 := View.readAt (Elt F) arg8.view (rM i).toLoadRect (harg8.unread x6)
abbrev ldS (hd : Fin 4) : Vec F S1x128x128 .f32 := View.readAt (Elt F) arg11.view (rS hd).toLoadRect (harg11.unread xs0)
/-- The store of zeros at the first point, and the states read back from it. -/
abbrev zeros : List (View.Piece (Elt F) S4x128x128 .f32) := [⟨Rect.unit ![0, 0, 0] S4x128x128.size inb_S4x128x128_S4x128x128_0_0_0, k0_pay6⟩]
abbrev ldZ (hd : Fin 4) : Vec F S1x128x128 .f32 := arg11.view.readCov zeros (rS hd).toLoadRect

theorem runA_out (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 hc0 hc1 x0 x1 x2 x3 x4 x5 x6).1
      = pcsO (ldT arg2 harg2 x0) (ldT arg3 harg3 x1) (ldT arg4 harg4 x2) (ldT arg5 harg5 x3) (ldG arg6 harg6 x4) (ldC arg7 harg7 x5)
          (ldM arg8 harg8 x6) (ldZ arg11) := by
  unfold kernelRun0_A
  rfl

theorem runA_state (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1
      = pcsS (ldT arg3 harg3 x1) (ldT arg4 harg4 x2) (ldC arg7 harg7 x5) (ldZ arg11) zeros := by
  unfold kernelRun0_A
  rfl

theorem runB_out (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1
      = pcsO (ldT arg2 harg2 x0) (ldT arg3 harg3 x1) (ldT arg4 harg4 x2) (ldT arg5 harg5 x3) (ldG arg6 harg6 x4) (ldC arg7 harg7 x5)
          (ldM arg8 harg8 x6) (ldS arg11 harg11 xs0) := by
  unfold kernelRun0_B
  rfl

theorem runB_state (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1
      = pcsS (ldT arg3 harg3 x1) (ldT arg4 harg4 x2) (ldC arg7 harg7 x5) (ldS arg11 harg11 xs0) [] := by
  unfold kernelRun0_B
  rfl

theorem runC_out (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1
      = pcsO (ldT arg2 harg2 x0) (ldT arg3 harg3 x1) (ldT arg4 harg4 x2) (ldT arg5 harg5 x3) (ldG arg6 harg6 x4) (ldC arg7 harg7 x5)
          (ldM arg8 harg8 x6) (ldS arg11 harg11 xs0) := by
  unfold kernelRun0_C
  rfl

theorem runC_state (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1
      = pcsS (ldT arg3 harg3 x1) (ldT arg4 harg4 x2) (ldC arg7 harg7 x5) (ldS arg11 harg11 xs0) [] := by
  unfold kernelRun0_C
  rfl

theorem runC_final (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1
      = pcsR (ldT arg3 harg3 x1) (ldT arg4 harg4 x2) (ldC arg7 harg7 x5) (ldS arg11 harg11 xs0) := by
  unfold kernelRun0_C
  rfl

end Cert.Kernel8Ideal.Hand

end
-- ==== Proof.HgrnTileVal.lean ====
/- The recurrence kernel's tile on the ideal numbers. -/
module

public import proofs.«01_k».proof.Proof.HgrnTile
public import proofs.«01_k».proof.Proof.HgrnSpec
public import proofs.«01_k».proof.Proof.Norm
public import Idealize.ShloMosaic.Lib.KernelVsHost
public import Idealize.ShloMosaic.Lib.Pointwise

@[expose] public section

set_option maxRecDepth 16384

noncomputable section

namespace Cert.Kernel8Ideal.Hand

open Cert.Kernel8Ideal Cert.Kernel8Ideal.Gen Idealize.ShloMosaic Idealize.ShloMosaic.TcCoe
open Idealize.SL.Sem Cert.Hand

theorem sq_apply (v : Tl Ideal) (t : Fin 64) (k : Fin 128) : sq v (ix2 t k) = v (ix3 0 t k) := by
  pointwise [sq]

theorem kd_apply (f : Tl Ideal) (t : Fin 64) (k : Fin 128) : kd f (ix2 t k) = 1 - Ideal.exp (f (ix3 0 t k)) := by
  pointwise [kd, sq]

theorem xd_apply (cm : Vec Ideal S768x64 .bf16) (f : Tl Ideal) (r : Fin 768) (k : Fin 128) :
    xd cm f (ix2 r k) = Ideal.exp ((∑ j : Fin 64, cm (ix2 r j) * f (ix3 0 j k)) + ∑ j : Fin 64, cm (ix2 r j) * (f (ix3 0 j k) - f (ix3 0 j k))) := by
  pointwise [xd, sq]

theorem dgV_apply (m : Vec Ideal S1x64x64 .f32) (p : Sq Ideal) (t s : Fin 64) :
    dgV m p (ix2 t s) = m (ix3 0 t s) * ∑ k : Fin 128, p (ix2 t k) := by
  pointwise [dgV]

theorem lvV_apply (m : Vec Ideal S1x64x64 .f32) (q k a : Sq Ideal) (t s : Fin 64) :
    lvV m q k a (ix2 t s) = m (ix3 0 t s) * ∑ e : Fin 128, (q (ix2 t e) * a (ix2 t e)) * (k (ix2 s e) * a (ix2 s e)) := by
  pointwise [lvV]

theorem rlV_apply (q k a : Sq Ideal) (d : Fin 64) (t : Fin 64) (e : Fin 128) :
    rlV q k a (BitVec.ofNat 32 d.val) (ix2 t e) = q (ix2 t e) * k (ix2 ⟨(t.val + 64 - d.val) % 64, by omega⟩ e) * a (ix2 t e) := by
  have h : dynamicRotate (s := S64x128) 0 (BitVec.ofNat 32 d.val) none k rotates_S64x128_d0 (ix2 t e) = k (ix2 ⟨(t.val + 64 - d.val) % 64, by omega⟩ e) :=
    dynamicRotate_apply (s := S64x128) 0 (BitVec.ofNat 32 d.val) k rotates_S64x128_d0 (ix2 t e) (ix2 ⟨(t.val + 64 - d.val) % 64, by omega⟩ e) fun b => by
      match b with
      | ⟨0, _⟩ =>
        show (t.val + 64 - d.val) % 64 = (t.val + 64 - (BitVec.ofNat 32 d.val).toNat % 64) % 64
        rw [BitVec.toNat_ofNat]
        have := d.isLt
        omega
      | ⟨1, _⟩ => rfl
  show q (ix2 t e) * dynamicRotate (s := S64x128) 0 (BitVec.ofNat 32 d.val) none k rotates_S64x128_d0 (ix2 t e) * a (ix2 t e) = _
  rw [h]

theorem slice_apply (x : FVec Ideal S768x128 .f32) (o : ℕ) (h : S768x128.Slices ![o, 0] S64x128) (t : Fin 64) (k : Fin 128) (ho : o + 64 ≤ 768) :
    extractStridedSlice S64x128 ![o, 0] x h (ix2 t k) = x (ix2 ⟨o + t.val, by omega⟩ k) := by
  pointwise

theorem stV_apply (k : Sq Ideal) (x : FVec Ideal S768x128 .f32) (v : Tl Ideal) (s : St Ideal) (e d : Fin 128) :
    stV k x v s (ix2 e d) = s (ix2 e d) * x (ix2 ⟨63, by omega⟩ d)
      + ∑ t : Fin 64, v (ix3 0 t e) * (k (ix2 t d) * x (ix2 ⟨256 + t.val, by omega⟩ d)) := by
  pointwise [stV, ebV, sq]

theorem oV_apply (q : Sq Ideal) (x : FVec Ideal S768x128 .f32) (att : FVec Ideal S64x64 .f32) (v : Tl Ideal) (s : St Ideal) (t : Fin 64) (e : Fin 128) :
    oV q x att v s (ix2 t e) = (∑ k : Fin 128, (q (ix2 t k) * x (ix2 ⟨t.val, by omega⟩ k)) * s (ix2 e k))
      + ∑ j : Fin 64, att (ix2 t j) * v (ix3 0 j e) := by
  pointwise [oV, ebV, sq]

theorem nmV_apply (g : Vec Ideal S1x128 .f32) (o : Sq Ideal) (w : Tl Ideal) (t : Fin 64) (e : Fin 128) :
    nmV g o w (ix3 0 t e) = nrm (fun e => o (ix2 t e)) (fun e => g (ix2 0 e)) e * w (ix3 0 t e) := by
  pointwise [nmV, sq, nrm]

end Cert.Kernel8Ideal.Hand

end
-- ==== Proof.HgrnBody.lean ====
/- The recurrence kernel's body on one block: the tile's values by the chunk's formula, and what every case of the body leaves. -/
module

public import proofs.«01_k».proof.Proof.HgrnTileVal
public import Idealize.ShloMosaic.Lib.Pipeline.ValueKit

@[expose] public section

set_option maxRecDepth 16384

noncomputable section

namespace Cert.Kernel8Ideal.Hand

open Cert.Kernel8Ideal Cert.Kernel8Ideal.Gen Idealize.ShloMosaic Idealize.ShloMosaic.TcCoe Idealize.ShloMosaic.Tactic
open Idealize.SL.Sem Cert.Hand

theorem bit_mul (b : Bool) (a : ℝ) : bit b * (a : EReal) = ((pick b a : ℝ) : EReal) := by
  cases b <;> simp [bit, pick]

theorem coe_sum64 (f : Fin 64 → ℝ) : ((∑ j, f j : ℝ) : EReal) = ∑ j, ((f j : ℝ) : EReal) :=
  map_sum (⟨⟨((↑) : ℝ → EReal), EReal.coe_zero⟩, EReal.coe_add⟩ : ℝ →+ EReal) _ _

section Tile

variable (cm : Vec Ideal S768x64 .bf16)
  (hcm : ∀ (r : Fin 12) (t j : Fin 64) (r' : Fin 768), r'.val = 64 * r.val + t.val → cm (ix2 r' j) = bit (cmB r.val t.val j.val))
  (M : Fin 11 → Vec Ideal S1x64x64 .f32) (hM : ∀ (i : Fin 11) (t s : Fin 64), M i (ix3 0 t s) = bit (mkB i.val t.val s.val))
  (f : Tl Ideal) (L : Fin 64 → Fin 128 → ℝ) (hf : ∀ t k, f (ix3 0 t k) = ((L t k : ℝ) : EReal))

include hcm hf in
theorem xd_val (r : Fin 12) (t : Fin 64) (r' : Fin 768) (hr : r'.val = 64 * r.val + t.val) (k : Fin 128) :
    xd cm f (ix2 r' k) = dx L r.val t k := by
  have z : ∀ (b : Bool) (a : ℝ), bit b * ((a : EReal) - (a : EReal)) = 0 := fun b a => by
    rw [← EReal.coe_sub, sub_self, EReal.coe_zero, mul_zero]
  rw [xd_apply]
  simp only [fun j => hcm r t j r' hr, hf, z, bit_mul, Finset.sum_const_zero, add_zero]
  rw [← coe_sum64, Ideal.exp_coe]
  rfl

include hf in
theorem kd_val (t : Fin 64) (k : Fin 128) : kd f (ix2 t k) = 1 - Ideal.exp ((L t k : ℝ) : EReal) := by
  rw [kd_apply, hf]

include hcm hf in
theorem slice_val (r : Fin 12) (o : ℕ) (ho : o = 64 * r.val) (h) (t : Fin 64) (k : Fin 128) :
    extractStridedSlice S64x128 ![o, 0] (xd cm f) h (ix2 t k) = dx L r.val t k := by
  rw [slice_apply _ _ _ _ _ (by omega)]
  exact xd_val cm hcm f L hf r t _ (by show o + t.val = _; omega) k

include hcm hf in
theorem lv_val (q k : Sq Ideal) (m : Vec Ideal S1x64x64 .f32) (b : EReal) (r : Fin 12) (o : ℕ) (ho : o = 64 * r.val) (h) (t s : Fin 64)
    (hm : m (ix3 0 t s) = b) :
    lvV m q k (extractStridedSlice S64x128 ![o, 0] (xd cm f) h) (ix2 t s)
      = b * lvlT L (fun t k => q (ix2 t k)) (fun t e => k (ix2 t e)) r.val t s := by
  rw [lvV_apply, hm]
  refine congrArg (b * ·) (Finset.sum_congr rfl fun e _ => ?_)
  rw [slice_val cm hcm f L hf r o ho h, slice_val cm hcm f L hf r o ho h]

include hcm hf in
theorem dg_val (q k : Sq Ideal) (m : Vec Ideal S1x64x64 .f32) (b : EReal) (d : Fin 8) (w : BitVec 32) (hw : w = BitVec.ofNat 32 d.val)
    (o : ℕ) (ho : o = 64 * (4 + d.val)) (h) (t s : Fin 64) (hm : m (ix3 0 t s) = b) :
    dgV m (rlV q k (extractStridedSlice S64x128 ![o, 0] (xd cm f) h) w) (ix2 t s)
      = b * dgT L (fun t k => q (ix2 t k)) (fun t e => k (ix2 t e)) d.val t := by
  subst hw
  rw [dgV_apply, hm]
  refine congrArg (b * ·) (Finset.sum_congr rfl fun e _ => ?_)
  have e1 := rlV_apply q k (extractStridedSlice S64x128 ![o, 0] (xd cm f) h) ⟨d.val, by omega⟩ t e
  rw [slice_val cm hcm f L hf ⟨4 + d.val, by omega⟩ o ho h] at e1
  exact e1

include hcm hM hf in
/-- The kernel's weights within a tile. -/
theorem att_val (q k : Sq Ideal) (t s : Fin 64) :
    attV M q k (xd cm f) (ix2 t s) = attK L (fun t k => q (ix2 t k)) (fun t e => k (ix2 t e)) t s := by
  have lv := fun (m : Vec Ideal S1x64x64 .f32) (b : EReal) (r : Fin 12) (o : ℕ) (ho : o = 64 * r.val) (h) (hm : m (ix3 0 t s) = b) =>
    lv_val cm hcm f L hf q k m b r o ho h t s hm
  have dg := fun (m : Vec Ideal S1x64x64 .f32) (b : EReal) (d : Fin 8) (w : BitVec 32) (hw : w = BitVec.ofNat 32 d.val) (o : ℕ)
    (ho : o = 64 * (4 + d.val)) (h) (hm : m (ix3 0 t s) = b) => dg_val cm hcm f L hf q k m b d w hw o ho h t s hm
  have m0 : dgV (M ⟨3, by decide⟩) (mulf q k) (ix2 t s) = bit (mkB 3 t s) * ∑ e, q (ix2 t e) * k (ix2 t e) := by
    rw [dgV_apply, hM]; rfl
  unfold attV attK
  exact congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) m0
      (lv _ _ ⟨1, by decide⟩ _ rfl _ (hM ⟨0, by decide⟩ t s))) (lv _ _ ⟨2, by decide⟩ _ rfl _ (hM ⟨1, by decide⟩ t s)))
      (lv _ _ ⟨3, by decide⟩ _ rfl _ (hM ⟨2, by decide⟩ t s)))
      (dg _ _ ⟨1, by decide⟩ _ rfl _ rfl _ (hM ⟨4, by decide⟩ t s))) (dg _ _ ⟨2, by decide⟩ _ rfl _ rfl _ (hM ⟨5, by decide⟩ t s)))
      (dg _ _ ⟨3, by decide⟩ _ rfl _ rfl _ (hM ⟨6, by decide⟩ t s))) (dg _ _ ⟨4, by decide⟩ _ rfl _ rfl _ (hM ⟨7, by decide⟩ t s)))
      (dg _ _ ⟨5, by decide⟩ _ rfl _ rfl _ (hM ⟨8, by decide⟩ t s))) (dg _ _ ⟨6, by decide⟩ _ rfl _ rfl _ (hM ⟨9, by decide⟩ t s)))
      (dg _ _ ⟨7, by decide⟩ _ rfl _ rfl _ (hM ⟨10, by decide⟩ t s))

variable (q v w : Tl Ideal) (s : St Ideal) (σ : Fin 128 → Fin 128 → EReal) (hs : ∀ e k, s (ix2 e k) = σ k e)

include hcm hM hf hs in
/-- The tile's output. -/
theorem o_val (t : Fin 64) (e : Fin 128) :
    oV (sq q) (xd cm f) (attV M (sq q) (kd f) (xd cm f)) v s (ix2 t e)
      = chunkO (fun t k => q (ix3 0 t k)) (fun t k => f (ix3 0 t k)) (fun t e => v (ix3 0 t e)) σ t e := by
  rw [oV_apply, show (fun t k => f (ix3 0 t k)) = fun t k => ((L t k : ℝ) : EReal) from funext fun t => funext fun k => hf t k, ← outK_eq]
  refine congrArg₂ (· + ·) (Finset.sum_congr rfl fun k _ => ?_) (Finset.sum_congr rfl fun j _ => ?_)
  · rw [sq_apply, hs, xd_val cm hcm f L hf ⟨0, by decide⟩ t _ (by show t.val = 64 * 0 + t.val; omega)]
  · rw [att_val cm hcm M hM f L hf]
    have e1 : (fun t k => sq q (ix2 t k)) = fun t k => q (ix3 0 t k) := funext fun t => funext fun k => sq_apply q t k
    have e2 : (fun t k => kd f (ix2 t k)) = fun t k => 1 - Ideal.exp ((L t k : ℝ) : EReal) := funext fun t => funext fun k => kd_val f L hf t k
    rw [e1, e2]

include hcm hf hs in
/-- The state after the tile. -/
theorem st_val (e k : Fin 128) :
    stV (kd f) (xd cm f) v s (ix2 e k) = chunkS (fun t k => f (ix3 0 t k)) (fun t e => v (ix3 0 t e)) σ k e := by
  rw [stV_apply, show (fun t k => f (ix3 0 t k)) = fun t k => ((L t k : ℝ) : EReal) from funext fun t => funext fun k => hf t k, ← stK_eq]
  refine congrArg₂ (· + ·) ?_ (Finset.sum_congr rfl fun j _ => ?_)
  · rw [hs, xd_val cm hcm f L hf ⟨0, by decide⟩ ⟨63, by decide⟩ _ rfl]
    rfl
  · rw [kd_val f L hf, xd_val cm hcm f L hf ⟨4, by decide⟩ j _ (by show 256 + j.val = 64 * 4 + j.val; omega)]

end Tile

/-- Row `t` of chunk `n` of a block, and column `k` of a head. -/
def rowOf (n : ℕ) (t : Fin 64) : Fin 256 := ⟨(64 * n + t.val) % 256, by omega⟩
def colOf (hd : Fin 4) (k : Fin 128) : Fin 512 := ⟨128 * hd.val + k.val, by omega⟩

/-- A tile of a block. -/
def tlE (x : Vec Ideal S1x256x512 .f32) (n : ℕ) (hd : Fin 4) (t : Fin 64) (k : Fin 128) : EReal := x (ix3 0 (rowOf n t) (colOf hd k))

theorem ldT_apply (x : Vec Ideal S1x256x512 .f32) (ci hd : Fin 4) (t : Fin 64) (k : Fin 128) :
    View.ld x (rT ci hd) (ix3 0 t k) = tlE x ci.val hd t k :=
  View.ld_unit_apply_of x _ _ _ _ _ fun a => by
    match a with
    | ⟨0, _⟩ => rfl
    | ⟨1, _⟩ => show (64 * ci.val + t.val) % 256 = 64 * ci.val + t.val; omega
    | ⟨2, _⟩ => rfl

theorem ldM_apply (x : Vec Ideal S11x64x64 .f32) (i : Fin 11) (t s : Fin 64) : View.ld x (rM i) (ix3 0 t s) = x (ix3 i t s) :=
  View.ld_unit_apply_of x _ _ _ _ _ fun a => by
    match a with
    | ⟨0, _⟩ => rfl
    | ⟨1, _⟩ => exact (Nat.zero_add t.val).symm
    | ⟨2, _⟩ => exact (Nat.zero_add s.val).symm

theorem ldS_apply (x : Vec Ideal S4x128x128 .f32) (hd : Fin 4) (e k : Fin 128) : View.ld x (rS hd) (ix3 0 e k) = x (ix3 hd e k) :=
  View.ld_unit_apply_of x _ _ _ _ _ fun a => by
    match a with
    | ⟨0, _⟩ => rfl
    | ⟨1, _⟩ => exact (Nat.zero_add e.val).symm
    | ⟨2, _⟩ => exact (Nat.zero_add k.val).symm

section Block

variable (x0 x1 x2 x3 : Vec Ideal S1x256x512 .f32) (x4 : Vec Ideal S1x128 .f32) (x5 : Vec Ideal S768x64 .bf16) (x6 : Vec Ideal S11x64x64 .f32)
  (hcm : ∀ (r : Fin 12) (t j : Fin 64) (r' : Fin 768), r'.val = 64 * r.val + t.val → x5 (ix2 r' j) = bit (cmB r.val t.val j.val))
  (hM : ∀ (i : Fin 11) (t s : Fin 64), x6 (ix3 i t s) = bit (mkB i.val t.val s.val))
  (L : Fin 256 → Fin 512 → ℝ) (hf : ∀ r c, x1 (ix3 0 r c) = ((L r c : ℝ) : EReal))
  (σ : Fin 4 → Fin 128 → Fin 128 → EReal)

/-- A head's state after `n` chunks of a block. -/
def stE : ℕ → Fin 4 → Fin 128 → Fin 128 → EReal
  | 0 => σ
  | n + 1 => fun hd => chunkS (tlE x1 n hd) (tlE x2 n hd) (stE n hd)

/-- The block's tiles as loaded. -/
abbrev bl (x : Vec Ideal S1x256x512 .f32) : Fin 4 → Fin 4 → Tl Ideal := fun ci hd => View.ld x (rT ci hd)

theorem bl_fun (x : Vec Ideal S1x256x512 .f32) (ci hd : Fin 4) : (fun t k => bl x ci hd (ix3 0 t k)) = tlE x ci.val hd :=
  funext fun t => funext fun k => ldT_apply x ci hd t k

include hcm hf in
theorem nxt_val (ci hd : Fin 4) (s : St Ideal) (τ : Fin 128 → Fin 128 → EReal) (hs : ∀ e k, s (ix2 e k) = τ k e) (e k : Fin 128) :
    nxt (bl x1) (bl x2) x5 ci hd s (ix2 e k) = chunkS (tlE x1 ci.val hd) (tlE x2 ci.val hd) τ k e := by
  unfold nxt
  rw [st_val x5 hcm (bl x1 ci hd) (fun t k => L (rowOf ci.val t) (colOf hd k))
    (fun t k => (ldT_apply x1 ci hd t k).trans (hf _ _)) _ s τ hs, bl_fun, bl_fun]

include hcm hM hf in
theorem tl_val (ci hd : Fin 4) (s : St Ideal) (τ : Fin 128 → Fin 128 → EReal) (hs : ∀ e k, s (ix2 e k) = τ k e) (t : Fin 64) (e : Fin 128) :
    tl (bl x0) (bl x1) (bl x2) (bl x3) x4 x5 (fun i => View.ld x6 (rM i)) ci hd s (ix3 0 t e)
      = nrm (chunkO (tlE x0 ci.val hd) (tlE x1 ci.val hd) (tlE x2 ci.val hd) τ t) (fun e => x4 (ix2 0 e)) e * tlE x3 ci.val hd t e := by
  unfold tl
  rw [nmV_apply, show bl x3 ci hd (ix3 0 t e) = tlE x3 ci.val hd t e from ldT_apply x3 ci hd t e]
  refine congrArg (fun o => nrm o (fun e => x4 (ix2 0 e)) e * tlE x3 ci.val hd t e) (funext fun e => ?_)
  rw [o_val x5 hcm _ (fun i t s => (ldM_apply x6 i t s).trans (hM i t s)) (bl x1 ci hd) (fun t k => L (rowOf ci.val t) (colOf hd k))
    (fun t k => (ldT_apply x1 ci hd t k).trans (hf _ _)) _ _ s τ hs, bl_fun, bl_fun, bl_fun]

variable (S : Fin 4 → Vec Ideal S1x128x128 .f32) (hS : ∀ hd e k, S hd (ix3 0 e k) = σ hd k e)

include hS in
theorem s0_val (hd : Fin 4) (e k : Fin 128) : s0 S hd (ix2 e k) = stE x1 x2 σ 0 hd k e := by
  have h : s0 S hd (ix2 e k) = S hd (ix3 0 e k) := by pointwise [s0]
  exact h.trans (hS hd e k)

include hcm hf hS in
theorem s1_val (hd : Fin 4) (e k : Fin 128) : s1 (bl x1) (bl x2) x5 S hd (ix2 e k) = stE x1 x2 σ 1 hd k e :=
  nxt_val x1 x2 x5 hcm L hf ⟨0, by decide⟩ hd _ _ (s0_val x1 x2 σ S hS hd) e k

include hcm hf hS in
theorem s2_val (hd : Fin 4) (e k : Fin 128) : s2 (bl x1) (bl x2) x5 S hd (ix2 e k) = stE x1 x2 σ 2 hd k e :=
  nxt_val x1 x2 x5 hcm L hf ⟨1, by decide⟩ hd _ _ (s1_val x1 x2 x5 hcm L hf σ S hS hd) e k

include hcm hf hS in
theorem s3_val (hd : Fin 4) (e k : Fin 128) : s3 (bl x1) (bl x2) x5 S hd (ix2 e k) = stE x1 x2 σ 3 hd k e :=
  nxt_val x1 x2 x5 hcm L hf ⟨2, by decide⟩ hd _ _ (s2_val x1 x2 x5 hcm L hf σ S hS hd) e k

include hcm hf hS in
theorem s4_val (hd : Fin 4) (e k : Fin 128) : s4 (bl x1) (bl x2) x5 S hd (ix2 e k) = stE x1 x2 σ 4 hd k e :=
  nxt_val x1 x2 x5 hcm L hf ⟨3, by decide⟩ hd _ _ (s3_val x1 x2 x5 hcm L hf σ S hS hd) e k

/-- The output block. -/
def outG (i : S1x256x512.Idx) : EReal :=
  nrm (chunkO (tlE x0 ((i 1).val / 64) ⟨(i 2).val / 128, by have : (i 2).val < 512 := (i 2).isLt; omega⟩)
      (tlE x1 ((i 1).val / 64) ⟨(i 2).val / 128, by have : (i 2).val < 512 := (i 2).isLt; omega⟩)
      (tlE x2 ((i 1).val / 64) ⟨(i 2).val / 128, by have : (i 2).val < 512 := (i 2).isLt; omega⟩)
      (stE x1 x2 σ ((i 1).val / 64) ⟨(i 2).val / 128, by have : (i 2).val < 512 := (i 2).isLt; omega⟩) ⟨(i 1).val % 64, by omega⟩)
    (fun e => x4 (ix2 0 e)) ⟨(i 2).val % 128, by omega⟩ * x3 i

/-- The carried state, and the final state. -/
def stG (i : S4x128x128.Idx) : EReal := stE x1 x2 σ 4 (i 0) (i 2) (i 1)
def finG (i : S1x4x128x128.Idx) : EReal := stE x1 x2 σ 4 (i 1) (i 2) (i 3)

include hcm hM hf in
theorem pc_val (ci hd : Fin 4) (s : St Ideal) (hs : ∀ e k, s (ix2 e k) = stE x1 x2 σ ci.val hd k e) (x : S1x64x128.Idx) :
    tl (bl x0) (bl x1) (bl x2) (bl x3) x4 x5 (fun i => View.ld x6 (rM i)) ci hd s x = outG x0 x1 x2 x3 x4 σ ((rT ci hd).emb x) := by
  obtain ⟨t, e, rfl⟩ : ∃ (t : Fin 64) (e : Fin 128), x = ix3 0 t e :=
    ⟨x 1, x 2, funext fun a => by match a with | ⟨0, _⟩ => exact Fin.ext (by have : (x 0).val < 1 := (x 0).isLt; show (x 0).val = 0; omega) | ⟨1, _⟩ => rfl | ⟨2, _⟩ => rfl⟩
  have hemb : (rT ci hd).emb (ix3 0 t e) = ix3 0 (rowOf ci.val t) (colOf hd e) := by
    funext a
    refine Fin.ext ?_
    match a with
    | ⟨0, _⟩ => rfl
    | ⟨1, _⟩ => show 64 * ci.val + 1 * t.val = (64 * ci.val + t.val) % 256; omega
    | ⟨2, _⟩ => show 128 * hd.val + 1 * e.val = 128 * hd.val + e.val; omega
  rw [hemb, tl_val x0 x1 x2 x3 x4 x5 x6 hcm hM L hf ci hd s _ hs]
  unfold outG
  have h1 : (rowOf ci.val t).val / 64 = ci.val := by show (64 * ci.val + t.val) % 256 / 64 = _; omega
  have h2 : (rowOf ci.val t).val % 64 = t.val := by show (64 * ci.val + t.val) % 256 % 64 = _; omega
  have h3 : (colOf hd e).val / 128 = hd.val := by show (128 * hd.val + e.val) / 128 = _; omega
  have h4 : (colOf hd e).val % 128 = e.val := by show (128 * hd.val + e.val) % 128 = _; omega
  simp only [ix3_1, ix3_2, h1, h2, h3, h4]
  rfl

include hcm hM hf hS in
theorem pcsO_val : ∀ p ∈ pcsO (bl x0) (bl x1) (bl x2) (bl x3) x4 x5 (fun i => View.ld x6 (rM i)) S,
    ∀ x : p.1.shape.Idx, p.2 x = outG x0 x1 x2 x3 x4 σ (p.1.emb x) := by
  have pv := pc_val x0 x1 x2 x3 x4 x5 x6 hcm hM L hf σ
  have v0 := s0_val x1 x2 σ S hS
  have v1 := s1_val x1 x2 x5 hcm L hf σ S hS
  have v2 := s2_val x1 x2 x5 hcm L hf σ S hS
  have v3 := s3_val x1 x2 x5 hcm L hf σ S hS
  have four : ∀ (ci : Fin 4) (s : Fin 4 → St Ideal) (Q : List _), (∀ hd e k, s hd (ix2 e k) = stE x1 x2 σ ci.val hd k e) →
      (∀ p ∈ Q, ∀ x : p.1.shape.Idx, p.2 x = outG x0 x1 x2 x3 x4 σ (p.1.emb x)) →
      ∀ p ∈ pcs4 (bl x0) (bl x1) (bl x2) (bl x3) x4 x5 (fun i => View.ld x6 (rM i)) ci s Q,
        ∀ x : p.1.shape.Idx, p.2 x = outG x0 x1 x2 x3 x4 σ (p.1.emb x) := fun ci s Q hs hQ => by
    unfold pcs4
    simp only [List.forall_mem_cons]
    exact ⟨fun x => pv ci _ _ (hs _) x, fun x => pv ci _ _ (hs _) x, fun x => pv ci _ _ (hs _) x, fun x => pv ci _ _ (hs _) x, hQ⟩
  exact four _ _ _ v3 (four _ _ _ v2 (four _ _ _ v1 (four _ _ _ v0 fun p hp => absurd hp List.not_mem_nil)))

include hcm hf hS in
theorem pcS_val (hd : Fin 4) (x : S1x128x128.Idx) :
    (shapeCast S1x128x128 (s4 (bl x1) (bl x2) x5 S hd) shapeCasts_S128x128_S1x128x128 : Vec Ideal S1x128x128 .f32) x = stG x1 x2 σ ((rS hd).emb x) := by
  obtain ⟨e, k, rfl⟩ : ∃ (e k : Fin 128), x = ix3 0 e k :=
    ⟨x 1, x 2, funext fun a => by match a with | ⟨0, _⟩ => exact Fin.ext (by have : (x 0).val < 1 := (x 0).isLt; show (x 0).val = 0; omega) | ⟨1, _⟩ => rfl | ⟨2, _⟩ => rfl⟩
  have hemb : (rS hd).emb (ix3 0 e k) = ix3 hd e k := by
    funext a
    refine Fin.ext ?_
    match a with
    | ⟨0, _⟩ => show hd.val + 1 * 0 = hd.val; omega
    | ⟨1, _⟩ => show 0 + 1 * e.val = e.val; omega
    | ⟨2, _⟩ => show 0 + 1 * k.val = k.val; omega
  have h : (shapeCast S1x128x128 (s4 (bl x1) (bl x2) x5 S hd) shapeCasts_S128x128_S1x128x128 : Vec Ideal S1x128x128 .f32) (ix3 0 e k)
      = s4 (bl x1) (bl x2) x5 S hd (ix2 e k) := by pointwise
  rw [hemb, h, s4_val x1 x2 x5 hcm L hf σ S hS]
  rfl

include hcm hf hS in
theorem pcR_val (hd : Fin 4) (x : S1x1x128x128.Idx) :
    (shapeCast S1x1x128x128 (transpose S128x128 [1, 0] (s4 (bl x1) (bl x2) x5 S hd) transposes_S128x128_p1_0_S128x128)
      shapeCasts_S128x128_S1x1x128x128 : Vec Ideal S1x1x128x128 .f32) x = finG x1 x2 σ ((rR hd).emb x) := by
  obtain ⟨k, e, rfl⟩ : ∃ (k e : Fin 128), x = ix4 0 0 k e :=
    ⟨x 2, x 3, funext fun a => by
      match a with
      | ⟨0, _⟩ => exact Fin.ext (by have : (x 0).val < 1 := (x 0).isLt; show (x 0).val = 0; omega)
      | ⟨1, _⟩ => exact Fin.ext (by have : (x 1).val < 1 := (x 1).isLt; show (x 1).val = 0; omega)
      | ⟨2, _⟩ => rfl
      | ⟨3, _⟩ => rfl⟩
  have hemb : (rR hd).emb (ix4 0 0 k e) = ix4 0 hd k e := by
    funext a
    refine Fin.ext ?_
    match a with
    | ⟨0, _⟩ => rfl
    | ⟨1, _⟩ => show hd.val + 1 * 0 = hd.val; omega
    | ⟨2, _⟩ => show 0 + 1 * k.val = k.val; omega
    | ⟨3, _⟩ => show 0 + 1 * e.val = e.val; omega
  have h : (shapeCast S1x1x128x128 (transpose S128x128 [1, 0] (s4 (bl x1) (bl x2) x5 S hd) transposes_S128x128_p1_0_S128x128)
      shapeCasts_S128x128_S1x1x128x128 : Vec Ideal S1x1x128x128 .f32) (ix4 0 0 k e) = s4 (bl x1) (bl x2) x5 S hd (ix2 e k) := by pointwise
  rw [hemb, h, s4_val x1 x2 x5 hcm L hf σ S hS]
  rfl

end Block

end Cert.Kernel8Ideal.Hand

end
-- ==== Proof.HgrnCase.lean ====
/- The recurrence kernel's body: what each of its three cases leaves in the output block, in the carried state and in the final state. -/
module

public import proofs.«01_k».proof.Proof.HgrnBody

@[expose] public section

set_option maxRecDepth 16384

noncomputable section

namespace Cert.Kernel8Ideal.Hand

open Cert.Kernel8Ideal Cert.Kernel8Ideal.Gen Idealize.ShloMosaic Idealize.ShloMosaic.TcCoe Idealize.ShloMosaic.Tactic
open Idealize.SL.Sem Cert.Hand

variable (c : Dev nD) (i : grid0.Coords)
  (arg2 : Memref sig .tc .vmem S1x256x512 .f32) (harg2 : arg2.IsWhole) (arg3 : Memref sig .tc .vmem S1x256x512 .f32) (harg3 : arg3.IsWhole)
  (arg4 : Memref sig .tc .vmem S1x256x512 .f32) (harg4 : arg4.IsWhole) (arg5 : Memref sig .tc .vmem S1x256x512 .f32) (harg5 : arg5.IsWhole)
  (arg6 : Memref sig .tc .vmem S1x128 .f32) (harg6 : arg6.IsWhole) (arg7 : Memref sig .tc .vmem S768x64 .bf16) (harg7 : arg7.IsWhole)
  (arg8 : Memref sig .tc .vmem S11x64x64 .f32) (harg8 : arg8.IsWhole) (arg9 : Memref sig .tc .vmem S1x256x512 .f32) (harg9 : arg9.IsWhole)
  (arg10 : Memref sig .tc .vmem S1x4x128x128 .f32) (harg10 : arg10.IsWhole) (arg11 : Memref sig .tc .vmem S4x128x128 .f32) (harg11 : arg11.IsWhole)
  (x0 x1 x2 x3 : Vec Ideal S1x256x512 .f32) (x4 : Vec Ideal S1x128 .f32) (x5 : Vec Ideal S768x64 .bf16) (x6 : Vec Ideal S11x64x64 .f32)
  (xs0 : Vec Ideal S4x128x128 .f32)
  (hcm : ∀ (r : Fin 12) (t j : Fin 64) (r' : Fin 768), r'.val = 64 * r.val + t.val → x5 (ix2 r' j) = bit (cmB r.val t.val j.val))
  (hM : ∀ (i : Fin 11) (t s : Fin 64), x6 (ix3 i t s) = bit (mkB i.val t.val s.val))
  (L : Fin 256 → Fin 512 → ℝ) (hf : ∀ r c, x1 (ix3 0 r c) = ((L r c : ℝ) : EReal))

theorem lit2 : (![0, 0] : Fin 2 → ℕ) = fun _ => 0 := by
  funext a; fin_cases a <;> rfl
theorem lit3 : (![0, 0, 0] : Fin 3 → ℕ) = fun _ => 0 := by
  funext a; fin_cases a <;> rfl

theorem ldT_eq (a : Memref sig .tc .vmem S1x256x512 .f32) (h : a.IsWhole) (x : Vec Ideal S1x256x512 .f32) : ldT a h x = bl x :=
  funext fun ci => funext fun hd => by
    show View.readAt (Elt Ideal) a.view (rT ci hd).toLoadRect (h.unread x) = View.ld x (rT ci hd)
    rw [View.readAt_eq_ld, h.read_unread]

theorem ldG_eq : ldG arg6 harg6 x4 = x4 := by
  unfold ldG
  rw [View.readAt_eq_ld, harg6.read_unread]
  exact View.ld_unit_zero lit2 _ _

theorem ldC_eq : ldC arg7 harg7 x5 = x5 := by
  unfold ldC
  rw [View.readAt_eq_ld, harg7.read_unread]
  exact View.ld_unit_zero lit2 _ _

theorem ldM_eq : ldM arg8 harg8 x6 = fun i => View.ld x6 (rM i) :=
  funext fun i => by
    show View.readAt (Elt Ideal) arg8.view (rM i).toLoadRect (harg8.unread x6) = _
    rw [View.readAt_eq_ld, harg8.read_unread]

theorem ldS_eq (hd : Fin 4) (e k : Fin 128) : ldS arg11 harg11 xs0 hd (ix3 0 e k) = xs0 (ix3 hd e k) := by
  show View.readAt (Elt Ideal) arg11.view (rS hd).toLoadRect (harg11.unread xs0) (ix3 0 e k) = _
  rw [View.readAt_eq_ld, harg11.read_unread]
  exact ldS_apply xs0 hd e k

theorem ldZ_eq (hd : Fin 4) (e k : Fin 128) : ldZ (F := Ideal) arg11 hd (ix3 0 e k) = 0 := by
  have hc : ∀ y : S4x128x128.Idx, ∃ p ∈ (zeros : List (View.Piece (Elt Ideal) S4x128x128 .f32)), y ∈ p.1.set :=
    fun y => View.cover_of_tiledL (zeros : List (View.Piece (Elt Ideal) S4x128x128 .f32)) S4x128x128.size (by rfl) y
  show View.readAt (Elt Ideal) arg11.view (rS hd).toLoadRect (arg11.view.writes (Elt Ideal) arg11.view.junk zeros) (ix3 0 e k) = _
  rw [View.readAt_eq_ld, View.read_writes_eq_canon _ _ _ hc, ldS_apply]
  refine (congrFun (View.canon_unit_zero lit3 _ _) _).trans ?_
  pointwise [k0_pay6]

/-- Stores that cover an index decide what is read there, whatever was stored before them. -/
theorem canon_append_of_pieces {S : Shape} {e : EltTy} (G : S.Idx → Elt Ideal e) :
    ∀ (Q R : List (View.Piece (Elt Ideal) S e)) (_ : ∀ p ∈ Q, ∀ x : p.1.shape.Idx, p.2 x = G (p.1.emb x)) (y : S.Idx)
      (_ : ∃ p ∈ Q, y ∈ p.1.set), View.canon (Q ++ R) y = G y
  | [], _, _, _, hy => by obtain ⟨p, hp, _⟩ := hy; simp at hp
  | p :: Q, R, hQ, y, hy => by
    by_cases hm : y ∈ p.1.set
    · obtain ⟨x, rfl⟩ := p.1.exists_idx_of_mem hm
      rw [List.cons_append, show p.1.idx x = p.1.emb x from rfl, View.canon_cons_emb]
      exact hQ p (by simp) x
    · rw [List.cons_append, View.canon_cons_of_not_mem _ _ hm]
      refine canon_append_of_pieces G Q R (fun q hq => hQ q (List.mem_cons_of_mem _ hq)) y ?_
      obtain ⟨q, hq, hyq⟩ := hy
      rcases List.mem_cons.mp hq with rfl | hq'
      · exact absurd hyq hm
      · exact ⟨q, hq', hyq⟩

/-- The state a block starts from. -/
def ofS (x : Vec Ideal S4x128x128 .f32) (hd : Fin 4) (k e : Fin 128) : EReal := x (ix3 hd e k)

include hcm hM hf in
theorem outA_val (hc0 : cond0_0 i) (hc1 : ¬cond0_1 i) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 = outG x0 x1 x2 x3 x4 (fun _ _ _ => 0) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  refine funext fun y => View.canon_apply_of_pieces _ _ ?_ y (cover0_A_7 c i arg2 harg2 arg3 harg3 arg4 harg4 arg5 harg5 arg6 harg6 arg7 harg7 arg8 harg8 arg9 harg9 arg10 harg10 arg11 harg11 hc0 hc1 x0 x1 x2 x3 x4 x5 x6 y)
  rw [runA_out c i arg2 harg2 arg3 harg3 arg4 harg4 arg5 harg5 arg6 harg6 arg7 harg7 arg8 harg8 arg9 harg9 arg10 harg10 arg11 harg11 x0 x1 x2 x3 x4 x5 x6 hc0 hc1, ldT_eq, ldT_eq, ldT_eq, ldT_eq, ldG_eq, ldC_eq, ldM_eq]
  exact pcsO_val x0 x1 x2 x3 x4 x5 x6 hcm hM L hf _ _ (ldZ_eq arg11)

/-- The four states cover the carried state, so the zeros below them do not show. -/
theorem coverS (f v : Fin 4 → Fin 4 → Tl Ideal) (cm : Vec Ideal S768x64 .bf16) (S : Fin 4 → Vec Ideal S1x128x128 .f32) (y : S4x128x128.Idx) :
    ∃ p ∈ pcsS f v cm S [], y ∈ p.1.set :=
  View.cover_of_tiledL (pcsS f v cm S []) S1x128x128.size (by rfl) y

include hcm hf in
theorem stateA_val (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 = stG x1 x2 (fun _ _ _ => 0) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6), runA_state c i arg2 harg2 arg3 harg3 arg4 harg4 arg5 harg5 arg6 harg6 arg7 harg7 arg8 harg8 arg9 harg9 arg10 harg10 arg11 harg11 x0 x1 x2 x3 x4 x5 x6 hc0 hc1, ldT_eq, ldT_eq, ldC_eq]
  have h := pcS_val x1 x2 x5 hcm L hf _ _ (ldZ_eq arg11)
  have hL : ∀ p ∈ pcsS (bl x1) (bl x2) x5 (ldZ arg11) [], ∀ x : p.1.shape.Idx, p.2 x = stG x1 x2 (fun _ _ _ => 0) (p.1.emb x) := by
    unfold pcsS
    simp only [List.forall_mem_cons]
    exact ⟨h _, h _, h _, h _, fun p hp => absurd hp List.not_mem_nil⟩
  refine funext fun y => ?_
  have e1 : pcsS (bl x1) (bl x2) x5 (ldZ arg11) zeros = pcsS (bl x1) (bl x2) x5 (ldZ arg11) [] ++ zeros := rfl
  rw [e1]
  exact canon_append_of_pieces _ _ zeros hL y (coverS _ _ _ _ y)

include hcm hM hf in
theorem outB_val (hc0 : ¬cond0_0 i) (hc1 : ¬cond0_1 i) :
    out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = outG x0 x1 x2 x3 x4 (ofS xs0) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs0)]
  refine funext fun y => View.canon_apply_of_pieces _ _ ?_ y (cover0_B_7 c i arg2 harg2 arg3 harg3 arg4 harg4 arg5 harg5 arg6 harg6 arg7 harg7 arg8 harg8 arg9 harg9 arg10 harg10 arg11 harg11 hc0 hc1 x0 x1 x2 x3 x4 x5 x6 xs0 y)
  rw [runB_out c i arg2 harg2 arg3 harg3 arg4 harg4 arg5 harg5 arg6 harg6 arg7 harg7 arg8 harg8 arg9 harg9 arg10 harg10 arg11 harg11 x0 x1 x2 x3 x4 x5 x6 xs0 hc0 hc1, ldT_eq, ldT_eq, ldT_eq, ldT_eq, ldG_eq, ldC_eq, ldM_eq]
  exact pcsO_val x0 x1 x2 x3 x4 x5 x6 hcm hM L hf _ _ (ldS_eq arg11 harg11 xs0)

include hcm hf in
theorem stateB_val (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = stG x1 x2 (ofS xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  refine funext fun y => View.canon_apply_of_pieces _ _ ?_ y (scover0_B_0 c i arg2 harg2 arg3 harg3 arg4 harg4 arg5 harg5 arg6 harg6 arg7 harg7 arg8 harg8 arg9 harg9 arg10 harg10 arg11 harg11 hc0 hc1 x0 x1 x2 x3 x4 x5 x6 xs0 y)
  rw [runB_state c i arg2 harg2 arg3 harg3 arg4 harg4 arg5 harg5 arg6 harg6 arg7 harg7 arg8 harg8 arg9 harg9 arg10 harg10 arg11 harg11 x0 x1 x2 x3 x4 x5 x6 xs0 hc0 hc1, ldT_eq, ldT_eq, ldC_eq]
  unfold pcsS
  simp only [List.forall_mem_cons]
  have h := pcS_val x1 x2 x5 hcm L hf _ _ (ldS_eq arg11 harg11 xs0)
  exact ⟨h _, h _, h _, h _, fun p hp => absurd hp List.not_mem_nil⟩

include hcm hM hf in
theorem outC_val (hc0 : ¬cond0_0 i) (hc1 : cond0_1 i) :
    out0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = outG x0 x1 x2 x3 x4 (ofS xs0) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  refine funext fun y => View.canon_apply_of_pieces _ _ ?_ y (cover0_C_7 c i arg2 harg2 arg3 harg3 arg4 harg4 arg5 harg5 arg6 harg6 arg7 harg7 arg8 harg8 arg9 harg9 arg10 harg10 arg11 harg11 hc0 hc1 x0 x1 x2 x3 x4 x5 x6 xs0 y)
  rw [runC_out c i arg2 harg2 arg3 harg3 arg4 harg4 arg5 harg5 arg6 harg6 arg7 harg7 arg8 harg8 arg9 harg9 arg10 harg10 arg11 harg11 x0 x1 x2 x3 x4 x5 x6 xs0 hc0 hc1, ldT_eq, ldT_eq, ldT_eq, ldT_eq, ldG_eq, ldC_eq, ldM_eq]
  exact pcsO_val x0 x1 x2 x3 x4 x5 x6 hcm hM L hf _ _ (ldS_eq arg11 harg11 xs0)

include hcm hf in
theorem stateC_val (hc0 : ¬cond0_0 i) (hc1 : cond0_1 i) :
    sout0_C_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = stG x1 x2 (ofS xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  refine funext fun y => View.canon_apply_of_pieces _ _ ?_ y (scover0_C_0 c i arg2 harg2 arg3 harg3 arg4 harg4 arg5 harg5 arg6 harg6 arg7 harg7 arg8 harg8 arg9 harg9 arg10 harg10 arg11 harg11 hc0 hc1 x0 x1 x2 x3 x4 x5 x6 xs0 y)
  rw [runC_state c i arg2 harg2 arg3 harg3 arg4 harg4 arg5 harg5 arg6 harg6 arg7 harg7 arg8 harg8 arg9 harg9 arg10 harg10 arg11 harg11 x0 x1 x2 x3 x4 x5 x6 xs0 hc0 hc1, ldT_eq, ldT_eq, ldC_eq]
  unfold pcsS
  simp only [List.forall_mem_cons]
  have h := pcS_val x1 x2 x5 hcm L hf _ _ (ldS_eq arg11 harg11 xs0)
  exact ⟨h _, h _, h _, h _, fun p hp => absurd hp List.not_mem_nil⟩

include hcm hf in
theorem finalC_val (hc0 : ¬cond0_0 i) (hc1 : cond0_1 i) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = finG x1 x2 (ofS xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  refine funext fun y => View.canon_apply_of_pieces _ _ ?_ y (cover0_C_8 c i arg2 harg2 arg3 harg3 arg4 harg4 arg5 harg5 arg6 harg6 arg7 harg7 arg8 harg8 arg9 harg9 arg10 harg10 arg11 harg11 hc0 hc1 x0 x1 x2 x3 x4 x5 x6 xs0 y)
  rw [runC_final c i arg2 harg2 arg3 harg3 arg4 harg4 arg5 harg5 arg6 harg6 arg7 harg7 arg8 harg8 arg9 harg9 arg10 harg10 arg11 harg11 x0 x1 x2 x3 x4 x5 x6 xs0 hc0 hc1, ldT_eq, ldT_eq, ldC_eq]
  unfold pcsR
  simp only [List.forall_mem_cons]
  have h := pcR_val x1 x2 x5 hcm L hf _ _ (ldS_eq arg11 harg11 xs0)
  exact ⟨h _, h _, h _, h _, fun p hp => absurd hp List.not_mem_nil⟩

end Cert.Kernel8Ideal.Hand

end
-- ==== Proof.HgrnFold.lean ====
/- The recurrence kernel over its grid: what its two output arrays hold after the run. -/
module

public import proofs.«01_k».proof.Proof.HgrnCase
public import proofs.«01_k».proof.Proof.Gen.Kernel8Ideal.Value
public import Idealize.ShloMosaic.Lib.Pipeline.ValueKit

@[expose] public section

set_option maxRecDepth 16384

noncomputable section

namespace Cert.Kernel8Ideal.Hand

open Cert.Kernel8Ideal Cert.Kernel8Ideal.Gen Idealize.ShloMosaic Idealize.ShloMosaic.TcCoe Idealize.ShloMosaic.Tactic
open Idealize.SL.Sem Cert.Hand Cert.Kernel8Ideal.Value

theorem idx0 : ∀ t : Fin cfg0.N, win0_0.index t = ![t.val / 32, t.val % 32, 0] :=
  (by decide +kernel : ∀ t : Fin grid0.N, win0_0.index t = ![t.val / 32, t.val % 32, 0])
theorem idx1 : ∀ t : Fin cfg0.N, win0_1.index t = ![t.val / 32, t.val % 32, 1] :=
  (by decide +kernel : ∀ t : Fin grid0.N, win0_1.index t = ![t.val / 32, t.val % 32, 1])
theorem idx2 : ∀ t : Fin cfg0.N, win0_2.index t = ![t.val / 32, t.val % 32, 2] :=
  (by decide +kernel : ∀ t : Fin grid0.N, win0_2.index t = ![t.val / 32, t.val % 32, 2])
theorem idx3 : ∀ t : Fin cfg0.N, win0_3.index t = ![t.val / 32, t.val % 32, 3] :=
  (by decide +kernel : ∀ t : Fin grid0.N, win0_3.index t = ![t.val / 32, t.val % 32, 3])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])

theorem lt64 (t : Fin cfg0.N) : t.val < 64 := lt_of_lt_of_eq t.isLt N_0

/-- The batch row of a point, and the position of row `r` of its block. -/
def bat (t : Fin cfg0.N) : Fin 2 := ⟨t.val / 32, by have := lt64 t; omega⟩
def pos (t : Fin cfg0.N) (r : Fin 256) : Fin 8192 := ⟨256 * (t.val % 32) + r.val, by omega⟩
/-- Column `k` of the group of 512 columns numbered `o`. -/
def grp (o : Fin 4) (k : Fin 512) : Fin 2560 := ⟨512 * o.val + k.val, by omega⟩

variable (m : (ℓ : Loc nD τ sig) → Buf (Elt Ideal) ℓ) (c : Dev nD)

/-- The argument arrays. -/
abbrev ya : S2x8192x2560.Idx → EReal := m ((c.tc : Thread nD τ).loc main_arg0)
abbrev ga : S128.Idx → EReal := m ((c.tc : Thread nD τ).loc main_arg1)

theorem iblk0_apply (t : Fin cfg0.N) (r : Fin 256) (k : Fin 512) : iblk m c 0 t (ix3 0 r k) = ya m c (ix3 (bat t) (pos t r) (grp 0 k)) := by
  unfold ya
  rw [← V_main_arg0 m c]
  blk_simp [iblk]
  refine congrArg (V m c main_arg0) ?_
  blk_ext [idx0 t, bat, pos, grp]
theorem iblk1_apply (t : Fin cfg0.N) (r : Fin 256) (k : Fin 512) : iblk m c 1 t (ix3 0 r k) = ya m c (ix3 (bat t) (pos t r) (grp 1 k)) := by
  unfold ya
  rw [← V_main_arg0 m c]
  blk_simp [iblk]
  refine congrArg (V m c main_arg0) ?_
  blk_ext [idx1 t, bat, pos, grp]
theorem iblk2_apply (t : Fin cfg0.N) (r : Fin 256) (k : Fin 512) : iblk m c 2 t (ix3 0 r k) = ya m c (ix3 (bat t) (pos t r) (grp 2 k)) := by
  unfold ya
  rw [← V_main_arg0 m c]
  blk_simp [iblk]
  refine congrArg (V m c main_arg0) ?_
  blk_ext [idx2 t, bat, pos, grp]
theorem iblk3_apply (t : Fin cfg0.N) (r : Fin 256) (k : Fin 512) : iblk m c 3 t (ix3 0 r k) = ya m c (ix3 (bat t) (pos t r) (grp 3 k)) := by
  unfold ya
  rw [← V_main_arg0 m c]
  blk_simp [iblk]
  refine congrArg (V m c main_arg0) ?_
  blk_ext [idx3 t, bat, pos, grp]

theorem V_main_v0 : V m c main_v0 = (shapeCast S1x128 (ga m c) shapeCasts_S128_S1x128 : Vec Ideal S1x128 .f32) := rfl

theorem iblk4_apply (t : Fin cfg0.N) (e : Fin 128) : iblk m c 4 t (ix2 0 e) = ga m c (ix1 e) := by
  have h : (shapeCast S1x128 (ga m c) shapeCasts_S128_S1x128 : Vec Ideal S1x128 .f32) (ix2 0 e) = ga m c (ix1 e) := by pointwise
  rw [← h, ← V_main_v0]
  blk_simp [iblk]
  refine congrArg (V m c main_v0) ?_
  blk_ext [idx4 t]

theorem iblk5_apply (t : Fin cfg0.N) (r : Fin 768) (j : Fin 64) :
    iblk m c 5 t (ix2 r j) = (FloatOps.ofBits .bf16 (lit0 (S768x64.rowMajor (ix2 r j))) : Ideal .bf16) := by
  have h : V m c main_cst (ix2 r j) = (FloatOps.ofBits .bf16 (lit0 (S768x64.rowMajor (ix2 r j))) : Ideal .bf16) := by rfl
  rw [← h]
  blk_simp [iblk]
  refine congrArg (V m c main_cst) ?_
  blk_ext [idx5 t]

theorem iblk6_apply (t : Fin cfg0.N) (i : Fin 11) (r s : Fin 64) :
    iblk m c 6 t (ix3 i r s) = (FloatOps.ofBits .f32 (lit1 (S11x64x64.rowMajor (ix3 i r s))) : Ideal .f32) := by
  have h : V m c main_cst_0 (ix3 i r s) = (FloatOps.ofBits .f32 (lit1 (S11x64x64.rowMajor (ix3 i r s))) : Ideal .f32) := by rfl
  rw [← h]
  blk_simp [iblk]
  refine congrArg (V m c main_cst_0) ?_
  blk_ext [idx6 t]

/-- A tile of a block is a chunk of the array. -/
theorem tlE_eq (x : Vec Ideal S1x256x512 .f32) (t : Fin cfg0.N) (o : Fin 4)
    (hx : ∀ r k, x (ix3 0 r k) = ya m c (ix3 (bat t) (pos t r) (grp o k))) (n : ℕ) (hn : n < 4) (hd : Fin 4) :
    tlE x n hd = ch (ya m c) (bat t) o (4 * (t.val % 32) + n) hd := by
  have := lt64 t
  funext s k
  unfold tlE ch
  rw [hx]
  have h1 : pos t (rowOf n s) = chRow (4 * (t.val % 32) + n) s :=
    Fin.ext (by show 256 * (t.val % 32) + (64 * n + s.val) % 256 = (64 * (4 * (t.val % 32) + n) + s.val) % 8192; omega)
  have h2 : grp o (colOf hd k) = chCol o hd k :=
    Fin.ext (by show 512 * o.val + (128 * hd.val + k.val) = 512 * o.val + 128 * hd.val + k.val; omega)
  rw [h1, h2]

/-- The states within a block. -/
theorem stE_eq (t : Fin cfg0.N) (σ : Fin 4 → Fin 128 → Fin 128 → EReal) (hσ : σ = SR (ya m c) (bat t) (4 * (t.val % 32))) :
    ∀ n : ℕ, n ≤ 4 → stE (iblk m c 1 t) (iblk m c 2 t) σ n = SR (ya m c) (bat t) (4 * (t.val % 32) + n)
  | 0, _ => hσ
  | n + 1, hn => by
    have ih := stE_eq t σ hσ n (by omega)
    funext hd
    show chunkS (tlE (iblk m c 1 t) n hd) (tlE (iblk m c 2 t) n hd) (stE (iblk m c 1 t) (iblk m c 2 t) σ n hd) = _
    rw [ih, tlE_eq m c _ t 1 (iblk1_apply m c t) n (by omega), tlE_eq m c _ t 2 (iblk2_apply m c t) n (by omega)]
    rfl

/-- What a point leaves in its output block, in the carried state and in the final state. -/
def YB (t : Fin cfg0.N) (i : S1x256x512.Idx) : EReal :=
  YR (ya m c) (ga m c) (bat t) (4 * (t.val % 32) + (i 1).val / 64) ⟨(i 2).val / 128, by have : (i 2).val < 512 := (i 2).isLt; omega⟩
    ⟨(i 1).val % 64, by omega⟩ ⟨(i 2).val % 128, by omega⟩
def SB (t : Fin cfg0.N) (i : S4x128x128.Idx) : EReal := SR (ya m c) (bat t) (4 * (t.val % 32) + 4) (i 0) (i 2) (i 1)
def FB (t : Fin cfg0.N) (i : S1x4x128x128.Idx) : EReal := SR (ya m c) (bat t) (4 * (t.val % 32) + 4) (i 1) (i 2) (i 3)

theorem outG_eq (t : Fin cfg0.N) (σ : Fin 4 → Fin 128 → Fin 128 → EReal) (hσ : σ = SR (ya m c) (bat t) (4 * (t.val % 32))) :
    outG (iblk m c 0 t) (iblk m c 1 t) (iblk m c 2 t) (iblk m c 3 t) (iblk m c 4 t) σ = YB m c t := by
  funext i
  have hi1 : (i 1).val < 256 := (i 1).isLt
  have hi2 : (i 2).val < 512 := (i 2).isLt
  have hn : (i 1).val / 64 < 4 := by omega
  unfold outG YB YR OR
  rw [tlE_eq m c _ t 0 (iblk0_apply m c t) _ hn, tlE_eq m c _ t 1 (iblk1_apply m c t) _ hn, tlE_eq m c _ t 2 (iblk2_apply m c t) _ hn,
    stE_eq m c t σ hσ _ (by omega), ← tlE_eq m c _ t 3 (iblk3_apply m c t) _ hn]
  refine congrArg₂ (· * ·) ?_ ?_
  · exact congrArg (fun g => nrm _ g _) (funext fun e => iblk4_apply m c t e)
  · refine congrArg (iblk m c 3 t) (funext fun a => Fin.ext ?_)
    match a with
    | ⟨0, _⟩ => have : (i 0).val < 1 := (i 0).isLt; show (i 0).val = 0; omega
    | ⟨1, _⟩ => show (i 1).val = (64 * ((i 1).val / 64) + (i 1).val % 64) % 256; omega
    | ⟨2, _⟩ => show (i 2).val = 128 * ((i 2).val / 128) + (i 2).val % 128; omega

theorem stG_eq (t : Fin cfg0.N) (σ : Fin 4 → Fin 128 → Fin 128 → EReal) (hσ : σ = SR (ya m c) (bat t) (4 * (t.val % 32))) :
    stG (iblk m c 1 t) (iblk m c 2 t) σ = SB m c t := by
  funext i
  unfold stG SB
  rw [stE_eq m c t σ hσ 4 (by omega)]

theorem finG_eq (t : Fin cfg0.N) (σ : Fin 4 → Fin 128 → Fin 128 → EReal) (hσ : σ = SR (ya m c) (bat t) (4 * (t.val % 32))) :
    finG (iblk m c 1 t) (iblk m c 2 t) σ = FB m c t := by
  funext i
  unfold finG FB
  rw [stE_eq m c t σ hσ 4 (by omega)]

/-- What the two tables hold. -/
def Tabs : Prop := (∀ (r : Fin 12) (t j : Fin 64) (r' : Fin 768), r'.val = 64 * r.val + t.val →
      (FloatOps.ofBits .bf16 (lit0 (S768x64.rowMajor (ix2 r' j))) : Ideal .bf16) = bit (cmB r.val t.val j.val))
    ∧ ∀ (i : Fin 11) (t s : Fin 64), (FloatOps.ofBits .f32 (lit1 (S11x64x64.rowMajor (ix3 i t s))) : Ideal .f32) = bit (mkB i.val t.val s.val)

variable (hT : Tabs) (hr : ∀ b s (k : Fin 2560), 512 ≤ k.val → k.val < 1024 → ∃ x : ℝ, ya m c (ix3 b s k) = (x : EReal))

include hr in
theorem hf1 (t : Fin cfg0.N) : ∃ L : Fin 256 → Fin 512 → ℝ, ∀ r k, iblk m c 1 t (ix3 0 r k) = ((L r k : ℝ) : EReal) := by
  have h : ∀ r k, ∃ x : ℝ, iblk m c 1 t (ix3 0 r k) = (x : EReal) := fun r k => by
    rw [iblk1_apply]
    exact hr _ _ _ (by show 512 ≤ 512 * 1 + k.val; omega) (by show 512 * 1 + k.val < 1024; omega)
  exact ⟨fun r k => (h r k).choose, fun r k => (h r k).choose_spec⟩

/-- A point's contents, given the state before it. -/
def Good (t : Fin cfg0.N) (o : Vec Ideal S1x256x512 .f32 × Vec Ideal S1x4x128x128 .f32 × Vec Ideal S4x128x128 .f32) : Prop :=
  o.1 = YB m c t ∧ o.2.2 = SB m c t ∧ (t.val % 32 = 31 → o.2.1 = FB m c t)

include hT in
theorem hcm5 (t : Fin cfg0.N) (r : Fin 12) (s j : Fin 64) (r' : Fin 768) (h : r'.val = 64 * r.val + s.val) :
    iblk m c 5 t (ix2 r' j) = bit (cmB r.val s.val j.val) := (iblk5_apply m c t r' j).trans (hT.1 r s j r' h)
include hT in
theorem hM6 (t : Fin cfg0.N) (i : Fin 11) (s j : Fin 64) : iblk m c 6 t (ix3 i s j) = bit (mkB i.val s.val j.val) :=
  (iblk6_apply m c t i s j).trans (hT.2 i s j)

theorem good_of {t : Fin cfg0.N} {o : Vec Ideal S1x256x512 .f32 × Vec Ideal S1x4x128x128 .f32 × Vec Ideal S4x128x128 .f32} {x s f} (e : o = (x, f, s))
    (hx : x = YB m c t) (hs : s = SB m c t) (hf : t.val % 32 = 31 → f = FB m c t) : Good m c t o := by
  subst e
  exact ⟨hx, hs, hf⟩

section Cases

variable (t : Fin cfg0.N) (acc : Vec Ideal S1x256x512 .f32 × Vec Ideal S1x4x128x128 .f32 × Vec Ideal S4x128x128 .f32)
  (L : Fin 256 → Fin 512 → ℝ) (hf : ∀ r k, iblk m c 1 t (ix3 0 r k) = ((L r k : ℝ) : EReal))

include hT hf in
theorem goodA (h0 : t.val % 32 = 0) (h1 : ¬t.val % 32 = 31)
    (hσ : (fun _ _ _ => 0 : Fin 4 → Fin 128 → Fin 128 → EReal) = SR (ya m c) (bat t) (4 * (t.val % 32))) : Good m c t (stAt0 m c t.val t.isLt acc) := by
  have e := stAt0_A m c t acc h0 h1
  have e1 := outA_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (hcm5 m c hT t) (hM6 m c hT t) L hf ((hcond0_0 t).mpr h0) (fun h => h1 ((hcond0_1 t).mp h))
  have e2 := stateA_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (hcm5 m c hT t) L hf ((hcond0_0 t).mpr h0) (fun h => h1 ((hcond0_1 t).mp h))
  exact good_of m c e (e1.trans (outG_eq m c t _ hσ)) (e2.trans (stG_eq m c t _ hσ)) (fun h => absurd h h1)

include hT hf in
theorem goodB (h0 : ¬t.val % 32 = 0) (h1 : ¬t.val % 32 = 31)
    (hσ : ofS acc.2.2 = SR (ya m c) (bat t) (4 * (t.val % 32))) : Good m c t (stAt0 m c t.val t.isLt acc) := by
  have e := stAt0_B m c t acc h0 h1
  have e1 := outB_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) acc.2.2 (hcm5 m c hT t) (hM6 m c hT t) L hf (fun h => h0 ((hcond0_0 t).mp h)) (fun h => h1 ((hcond0_1 t).mp h))
  have e2 := stateB_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) acc.2.2 (hcm5 m c hT t) L hf (fun h => h0 ((hcond0_0 t).mp h)) (fun h => h1 ((hcond0_1 t).mp h))
  exact good_of m c e (e1.trans (outG_eq m c t _ hσ)) (e2.trans (stG_eq m c t _ hσ)) (fun h => absurd h h1)

include hT hf in
theorem goodC (h0 : ¬t.val % 32 = 0) (h1 : t.val % 32 = 31)
    (hσ : ofS acc.2.2 = SR (ya m c) (bat t) (4 * (t.val % 32))) : Good m c t (stAt0 m c t.val t.isLt acc) := by
  have e := stAt0_C m c t acc h0 h1
  have e1 := outC_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) acc.2.2 (hcm5 m c hT t) (hM6 m c hT t) L hf (fun h => h0 ((hcond0_0 t).mp h)) ((hcond0_1 t).mpr h1)
  have e2 := stateC_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) acc.2.2 (hcm5 m c hT t) L hf (fun h => h0 ((hcond0_0 t).mp h)) ((hcond0_1 t).mpr h1)
  have e3 := finalC_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) acc.2.2 (hcm5 m c hT t) L hf (fun h => h0 ((hcond0_0 t).mp h)) ((hcond0_1 t).mpr h1)
  exact good_of m c e (e1.trans (outG_eq m c t _ hσ)) (e2.trans (stG_eq m c t _ hσ)) (fun _ => e3.trans (finG_eq m c t _ hσ))

end Cases

include hT hr in
theorem good_step (t : Fin cfg0.N) (acc : Vec Ideal S1x256x512 .f32 × Vec Ideal S1x4x128x128 .f32 × Vec Ideal S4x128x128 .f32)
    (ha : t.val % 32 ≠ 0 → ofS acc.2.2 = SR (ya m c) (bat t) (4 * (t.val % 32))) : Good m c t (stAt0 m c t.val t.isLt acc) := by
  obtain ⟨L, hf⟩ := hf1 m c hr t
  by_cases h0 : t.val % 32 = 0
  · exact goodA m c hT t acc L hf h0 (by omega) (by rw [h0]; rfl)
  · by_cases h1 : t.val % 32 = 31
    · exact goodC m c hT t acc L hf h0 h1 (ha h0)
    · exact goodB m c hT t acc L hf h0 h1 (ha h0)

include hT hr in
theorem good : ∀ (n : ℕ) (h : n < cfg0.N), Good m c ⟨n, h⟩ (outsAt0 m c n h)
  | 0, h => by
    rw [outsAt0_zero]
    exact good_step m c hT hr ⟨0, h⟩ _ fun h0 => absurd rfl h0
  | n + 1, h => by
    have ih := good n (Nat.lt_of_succ_lt h)
    rw [outsAt0_succ]
    refine good_step m c hT hr ⟨n + 1, h⟩ _ fun h0 => ?_
    have h0 : (n + 1) % 32 ≠ 0 := h0
    rw [ih.2.1]
    have hb : bat ⟨n, Nat.lt_of_succ_lt h⟩ = bat ⟨n + 1, h⟩ := Fin.ext (by show n / 32 = (n + 1) / 32; omega)
    have hn : 4 * (n % 32) + 4 = 4 * ((n + 1) % 32) := by omega
    funext hd k e
    show SR (ya m c) (bat ⟨n, _⟩) (4 * (n % 32) + 4) hd k e = SR (ya m c) (bat ⟨n + 1, h⟩) (4 * ((n + 1) % 32)) hd k e
    rw [hb, hn]

include hT hr in
/-- The first output array. -/
theorem G7_apply (b : Fin 2) (s : Fin 8192) (k : Fin 512) : G7 m c (ix3 b s k)
    = YR (ya m c) (ga m c) b (s.val / 64) ⟨k.val / 128, by omega⟩ ⟨s.val % 64, by omega⟩ ⟨k.val % 128, by omega⟩ := by
  have hp : pt7Of (ix3 b s k) = 32 * b.val + s.val / 256 := by
    show 32 * (b.val / 1 - 0) + 1 * (s.val / 256 - 0) + 1 * (k.val / 512 - 0) = _; omega
  have hN : pt7Of (ix3 b s k) < cfg0.N := by rw [hp, show cfg0.N = 64 from N_0]; omega
  unfold G7
  rw [dif_pos hN, ← outsAt0_sweep m c _ hN, (good m c hT hr _ hN).1]
  unfold YB
  have hb : bat ⟨pt7Of (ix3 b s k), hN⟩ = b := Fin.ext (by show pt7Of (ix3 b s k) / 32 = b.val; rw [hp]; omega)
  have e1 : 4 * (pt7Of (ix3 b s k) % 32) + s.val % 256 / 64 = s.val / 64 := by rw [hp]; omega
  have e2 : k.val % 512 / 128 = k.val / 128 := by omega
  have e3 : s.val % 256 % 64 = s.val % 64 := by omega
  have e4 : k.val % 512 % 128 = k.val % 128 := by omega
  show YR (ya m c) (ga m c) (bat ⟨pt7Of (ix3 b s k), hN⟩) (4 * (pt7Of (ix3 b s k) % 32) + s.val % 256 / 64) ⟨k.val % 512 / 128, by omega⟩
    ⟨s.val % 256 % 64, by omega⟩ ⟨k.val % 512 % 128, by omega⟩ = _
  simp only [hb, e1, e2, e3, e4]

include hT hr in
/-- The second output array. -/
theorem G8_apply (b : Fin 2) (hd : Fin 4) (k e : Fin 128) : G8 m c (ix4 b hd k e) = SR (ya m c) b 128 hd k e := by
  have hp : pt8Of (ix4 b hd k e) = 32 * b.val + 31 := by
    show 32 * (1 * (b.val / 1 - 0) + 1 * (hd.val / 4 - 0) + 1 * (k.val / 128 - 0) + 1 * (e.val / 128 - 0)) + 31 = _; omega
  have hN : pt8Of (ix4 b hd k e) < cfg0.N := by rw [hp, show cfg0.N = 64 from N_0]; omega
  unfold G8
  rw [dif_pos hN, ← outsAt0_sweep m c _ hN, (good m c hT hr _ hN).2.2 (by show pt8Of (ix4 b hd k e) % 32 = 31; rw [hp]; omega)]
  unfold FB
  have hb : bat ⟨pt8Of (ix4 b hd k e), hN⟩ = b := Fin.ext (by show pt8Of (ix4 b hd k e) / 32 = b.val; rw [hp]; omega)
  have e1 : 4 * (pt8Of (ix4 b hd k e) % 32) + 4 = 128 := by rw [hp]; omega
  have h1 : (loc8Of (ix4 b hd k e)) 1 = hd := Fin.ext (Nat.mod_eq_of_lt hd.isLt)
  have h2 : (loc8Of (ix4 b hd k e)) 2 = k := Fin.ext (Nat.mod_eq_of_lt k.isLt)
  have h3 : (loc8Of (ix4 b hd k e)) 3 = e := Fin.ext (Nat.mod_eq_of_lt e.isLt)
  simp only [hb, e1, h1, h2, h3]

end Cert.Kernel8Ideal.Hand

end
-- ==== Proof.HgrnLit.lean ====
/- A table of the recurrence kernel: the ranges of the decays. -/
module

public import proofs.«01_k».proof.Proof.HgrnMath
public import proofs.«01_k».proof.Kernel8Ideal

@[expose] public section

set_option maxRecDepth 16384

noncomputable section

namespace Cert.Kernel8Ideal.Hand

open Cert.Kernel8Ideal Idealize.ShloMosaic

set_option maxHeartbeats 8000000 in
theorem lit0t_eq : ∀ (r : Fin 12) (t j : Fin 64),
    lit0t (64 * (64 * r.val + t.val) + j.val) = if cmB r.val t.val j.val then 0x3F80#16 else 0x0000#16 := by
  intro r
  fin_cases r <;> decide +kernel

end Cert.Kernel8Ideal.Hand

end
-- ==== Proof.HgrnLitM.lean ====
/- A table of the recurrence kernel: the masks. -/
module

public import proofs.«01_k».proof.Proof.HgrnMath
public import proofs.«01_k».proof.Kernel8Ideal

@[expose] public section

set_option maxRecDepth 16384

noncomputable section

namespace Cert.Kernel8Ideal.Hand

open Cert.Kernel8Ideal Idealize.ShloMosaic

set_option maxHeartbeats 8000000 in
theorem lit1t_eq : ∀ (i : Fin 11) (t j : Fin 64),
    lit1t (64 * (64 * i.val + t.val) + j.val) = if mkB i.val t.val j.val then 0x3F800000#32 else 0x00000000#32 := by
  intro i
  fin_cases i <;> decide +kernel

end Cert.Kernel8Ideal.Hand

end
-- ==== Proof.HgrnLitVal.lean ====
/- The kernel's two tables read as zeros and ones: the running sums' table and the masks. -/
module

public import proofs.«01_k».proof.Proof.HgrnFold
public import proofs.«01_k».proof.Proof.HgrnLit
public import proofs.«01_k».proof.Proof.HgrnLitM
public import proofs.«01_k».proof.Proof.LitVal
public import proofs.«01_k».proof.Proof.Norm

@[expose] public section

noncomputable section

namespace Cert.Kernel8Ideal.Hand

open Idealize.ShloMosaic Cert.Kernel8Ideal Cert.Kernel8Ideal.Gen
open Cert.Hand

theorem lit0_at (r : Fin 12) (t j : Fin 64) (r' : Fin 768) (h : r'.val = 64 * r.val + t.val) :
    lit0 (S768x64.rowMajor (ix2 r' j)) = if cmB r.val t.val j.val then 0x3F80#16 else 0x0000#16 := by
  refine Eq.trans ?_ (lit0t_eq r t j)
  show lit0t (S768x64.rowMajor (ix2 r' j)).val = _
  rw [Shape.rowMajor_val_two]
  exact congrArg lit0t (by show r'.val * 64 + j.val = 64 * (64 * r.val + t.val) + j.val; omega)

theorem lit1_at (i : Fin 11) (t s : Fin 64) :
    lit1 (S11x64x64.rowMajor (ix3 i t s)) = if mkB i.val t.val s.val then 0x3F800000#32 else 0x00000000#32 := by
  refine Eq.trans ?_ (lit1t_eq i t s)
  show lit1t (S11x64x64.rowMajor (ix3 i t s)).val = _
  rw [Shape.rowMajor_val_three]
  exact congrArg lit1t (by show (i.val * 64 + t.val) * 64 + s.val = 64 * (64 * i.val + t.val) + s.val; omega)

/-- The tables hold zeros and ones. -/
theorem tabs : Tabs := by
  refine ⟨fun r t j r' h => ?_, fun i t s => ?_⟩
  · rw [lit0_at r t j r' h]
    cases cmB r.val t.val j.val
    · exact Cert.KernelIdeal.Hand.bf16_zero
    · exact Cert.KernelIdeal.Hand.bf16_one
  · rw [lit1_at]
    cases mkB i.val t.val s.val
    · exact zeroWord
    · exact oneWord

end Cert.Kernel8Ideal.Hand

end
-- ==== Proof.Finite8.lean ====
/- The precondition of the recurrence read: the logarithms of the forget gates are reals. -/
module

public import proofs.«01_k».proof.Pre_finite8
public import proofs.«01_k».proof.Proof.Finite

@[expose] public section

noncomputable section

namespace Cert.Pre_finite8.Hand

open Cert.Pre_finite8 Idealize.ShloMosaic

/-- The shape relations of the precondition. -/
theorem facts : Cert.Pre_finite8.Facts where
  slices_S2x8192x2560_S2x8192x512_0_0_512 := by decide
  bcast_S_S2x8192x512 := by decide
  reducesTo_S2x8192x512_S_d0_1_2 := by decide
  h_S_ := by decide

variable [Cert.Pre_finite8.Facts]

/-- What the precondition says of the middle columns. -/
theorem logs (x0 : S2x8192x2560.Idx → EReal) (x1 : S128.Idx → EReal) (j : S_.Idx) (h : fn (F := Ideal) x0 x1 j = 1#1)
    (b : Fin 2) (t : Fin 8192) (k : Fin 2560) (h0 : 512 ≤ k.val) (h1 : k.val < 1024) : ∃ r : ℝ, x0 (ix3 b t k) = (r : EReal) := by
  unfold fn at h
  obtain ⟨r, hr⟩ := Cert.Pre_finite.Hand.all_real _ _ _ _ j h (ix3 b t (⟨k.val - 512, by omega⟩ : Fin 512))
  refine ⟨r, Eq.trans ?_ hr⟩
  symm
  refine extractStridedSlice_apply ![0, 0, 512] x0 Facts.slices_S2x8192x2560_S2x8192x512_0_0_512 _ (ix3 b t k) fun a => ?_
  match a with
  | ⟨0, _⟩ => exact (Nat.zero_add b.val).symm
  | ⟨1, _⟩ => exact (Nat.zero_add t.val).symm
  | ⟨2, _⟩ => show k.val = 512 + (k.val - 512); omega

end Cert.Pre_finite8.Hand

end
-- ==== Proof.MixWide.lean ====
/- The output projection of the self-decoder layers: the queries are the last 512 of 2560 columns, all else is as in the cross-decoder's. -/
module

public import proofs.«01_k».proof.Proof.MixRef
public import proofs.«01_k».proof.Proof.Gen.Kernel9Ideal.Value
public import proofs.«01_k».proof.Proof.Gen.Reference9Ideal.Read

@[expose] public section

set_option maxRecDepth 16384

noncomputable section

namespace Cert.Kernel9Ideal.Hand

open Cert.Kernel9Ideal Cert.Kernel9Ideal.Gen Idealize.ShloMosaic Idealize.ShloMosaic.TcCoe Idealize.ShloMosaic.Tactic
open Idealize.SL.Sem Cert.Hand
open Cert.Kernel7Ideal.Hand (mixRow layer queryCol out_val)

/-- The column of the wide array for a column of the narrow one. -/
def wideCol (e : Fin 1024) : Fin 2560 := ⟨1536 + e.val, by omega⟩

/-- The last 1024 columns of the wide array. -/
def cut (y : S2x8192x2560.Idx → EReal) : S2x8192x1024.Idx → EReal := fun i => y (ix3 (i 0) (i 1) (wideCol (i 2)))

/-- The body is the cross-decoder's. -/
theorem body_eq (x0 : Vec Ideal S1x512x1024 .f32) (x1 x2 : Vec Ideal S1x512x512 .f32) (x3 x4 : Vec Ideal S1x256x512 .f32)
    (x5 : Vec Ideal S1024x1024 .bf16) (x6 : Vec Ideal S1x1024 .f32) :
    out0_7 (F := Ideal) x0 x1 x2 x3 x4 x5 x6 = Cert.Kernel7Ideal.Gen.out0_7 (F := Ideal) x0 x1 x2 x3 x4 x5 x6 := rfl

variable (m : (ℓ : Loc nD τ sig) → Buf (Elt Ideal) ℓ)

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem idx2 : ∀ t : Fin cfg0.N, win0_2.index t = ![(grid0.coords t 0).val, (grid0.coords t 1).val, 4] :=
  (by decide +kernel : ∀ t : Fin grid0.N, win0_2.index t = ![(grid0.coords t 0).val, (grid0.coords t 1).val, 4])
theorem idx3 : ∀ t : Fin cfg0.N, win0_3.index t = ![(grid0.coords t 0).val, 0, 0] :=
  (by decide +kernel : ∀ t : Fin grid0.N, win0_3.index t = ![(grid0.coords t 0).val, 0, 0])
theorem idx4 : ∀ t : Fin cfg0.N, win0_4.index t = ![(grid0.coords t 0).val, 0, 0] :=
  (by decide +kernel : ∀ t : Fin grid0.N, win0_4.index t = ![(grid0.coords t 0).val, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

/-- The batch entry of block `t`. -/
def bat (t : Fin cfg0.N) : Fin 2 := ⟨(grid0.coords t 0).val, (grid0.coords t 0).isLt⟩
/-- Row `r` of block `t`, in the array. -/
def row (t : Fin cfg0.N) (r : Fin 512) : Fin 8192 :=
  ⟨(grid0.coords t 1).val * 512 + r.val, by have h : (grid0.coords t 1).val < 16 := (grid0.coords t 1).isLt; omega⟩

theorem V_main_v0 (c : Dev nD) : V m c main_v0 = m ((c.tc : Thread nD τ).loc main_arg5) := rfl
theorem V_main_v1 (c : Dev nD) (k : Fin 1024) : V m c main_v1 (ix2 0 k) = m ((c.tc : Thread nD τ).loc main_arg6) (ix1 k) := by
  show shapeCast S1x1024 (m ((c.tc : Thread nD τ).loc main_arg6)) shapeCasts_S1024_S1x1024 (ix2 0 k) = _
  pointwise

theorem iblk0_apply (c : Dev nD) (t : Fin cfg0.N) (r : Fin 512) (n : Fin 1024) :
    iblk m c 0 t (ix3 0 r n) = m ((c.tc : Thread nD τ).loc main_arg0) (ix3 (bat t) (row t r) n) := by
  rw [← V_main_arg0 m c]
  blk_simp [iblk]
  refine congrArg (V m c main_arg0) ?_
  blk_ext [idx0 t, row, bat]
theorem iblk1_apply (c : Dev nD) (t : Fin cfg0.N) (r e : Fin 512) :
    iblk m c 1 t (ix3 0 r e) = m ((c.tc : Thread nD τ).loc main_arg1) (ix3 (bat t) (row t r) e) := by
  rw [← V_main_arg1 m c]
  blk_simp [iblk]
  refine congrArg (V m c main_arg1) ?_
  blk_ext [idx1 t, row, bat]
theorem iblk2_apply (c : Dev nD) (t : Fin cfg0.N) (r e : Fin 512) :
    iblk m c 2 t (ix3 0 r e) = m ((c.tc : Thread nD τ).loc main_arg2) (ix3 (bat t) (row t r) (wideCol (queryCol e))) := by
  rw [← V_main_arg2 m c]
  blk_simp [iblk]
  refine congrArg (V m c main_arg2) ?_
  blk_ext [idx2 t, row, bat, wideCol, queryCol]
theorem iblk3_apply (c : Dev nD) (t : Fin cfg0.N) (j : Fin 256) (e : Fin 512) :
    iblk m c 3 t (ix3 0 j e) = m ((c.tc : Thread nD τ).loc main_arg3) (ix3 (bat t) j e) := by
  rw [← V_main_arg3 m c]
  blk_simp [iblk]
  refine congrArg (V m c main_arg3) ?_
  blk_ext [idx3 t, bat]
theorem iblk4_apply (c : Dev nD) (t : Fin cfg0.N) (j : Fin 256) (e : Fin 512) :
    iblk m c 4 t (ix3 0 j e) = m ((c.tc : Thread nD τ).loc main_arg4) (ix3 (bat t) j e) := by
  rw [← V_main_arg4 m c]
  blk_simp [iblk]
  refine congrArg (V m c main_arg4) ?_
  blk_ext [idx4 t, bat]
theorem iblk5_apply (c : Dev nD) (t : Fin cfg0.N) (k n : Fin 1024) :
    iblk m c 5 t (ix2 k n) = m ((c.tc : Thread nD τ).loc main_arg5) (ix2 k n) := by
  rw [← V_main_v0 m c]
  blk_simp [iblk]
  refine congrArg (V m c main_v0) ?_
  blk_ext [idx5 t]
theorem iblk6_apply (c : Dev nD) (t : Fin cfg0.N) (n : Fin 1024) :
    iblk m c 6 t (ix2 0 n) = m ((c.tc : Thread nD τ).loc main_arg6) (ix1 n) := by
  rw [← V_main_v1 m c]
  blk_simp [iblk]
  refine congrArg (V m c main_v1) ?_
  blk_ext [idx6 t]

/-- What a point leaves, at an index. -/
theorem point (c : Dev nD) (t : Fin cfg0.N) (r : Fin 512) (n : Fin 1024) :
    out0_7 (F := Ideal) (iblk m c 0 t) (iblk m c 1 t) (iblk m c 2 t) (iblk m c 3 t) (iblk m c 4 t) (iblk m c 5 t) (iblk m c 6 t) (ix3 0 r n)
      = layer (m ((c.tc : Thread nD τ).loc main_arg0)) (m ((c.tc : Thread nD τ).loc main_arg1)) (cut (m ((c.tc : Thread nD τ).loc main_arg2)))
          (m ((c.tc : Thread nD τ).loc main_arg3)) (m ((c.tc : Thread nD τ).loc main_arg4)) (m ((c.tc : Thread nD τ).loc main_arg5))
          (m ((c.tc : Thread nD τ).loc main_arg6)) (bat t) (row t r) n := by
  rw [body_eq, out_val]
  simp only [iblk0_apply, iblk1_apply, iblk2_apply, iblk3_apply, iblk4_apply, iblk5_apply, iblk6_apply]
  rfl

/-- The output array after the run. -/
theorem final (c : Dev nD) : (dats m 0 c).arrAt 7 cfg0.N = fun i : S2x8192x1024.Idx =>
    layer (m ((c.tc : Thread nD τ).loc main_arg0)) (m ((c.tc : Thread nD τ).loc main_arg1)) (cut (m ((c.tc : Thread nD τ).loc main_arg2)))
      (m ((c.tc : Thread nD τ).loc main_arg3)) (m ((c.tc : Thread nD τ).loc main_arg4)) (m ((c.tc : Thread nD τ).loc main_arg5))
      (m ((c.tc : Thread nD τ).loc main_arg6)) (i 0) (i 1) (i 2) := by
  refine (dats m 0 c).arrAt_eq_of_covers 7 _ (by decide +kernel) fun t hf y => ?_
  blk_simp
  rw [after0_7]
  obtain ⟨r, n, rfl⟩ : ∃ (r : Fin 512) (n : Fin 1024), y = ix3 0 r n :=
    ⟨y 1, y 2, funext fun a => by match a with | ⟨0, _⟩ => exact Fin.ext (by have h : (y 0).val < 1 := (y 0).isLt; show (y 0).val = 0; omega) | ⟨1, _⟩ => rfl | ⟨2, _⟩ => rfl⟩
  refine (point m c t r n).trans (congr (congrArg₂ (layer _ _ _ _ _ _ _) (Fin.ext ?_) (Fin.ext ?_)) (Fin.ext ?_))
  · blk_simp
    rw [idx7 t]
    rfl
  · blk_simp
    rw [idx7 t]
    rfl
  · blk_simp
    rw [idx7 t]
    show n.val = 0 * 1024 + n.val
    omega

end Cert.Kernel9Ideal.Hand

namespace Cert.Reference9Ideal.Hand

open Cert.Reference9Ideal Cert.Reference9Ideal.Gen Cert.Reference9Ideal.Read Idealize.ShloMosaic Idealize.ShloMosaic.Tactic
open Cert.Kernel7Ideal.Hand (layer queryCol)
open Cert.Kernel9Ideal.Hand (cut wideCol)

variable (x0 : S2x8192x1024.Idx → EReal) (x1 : S2x8192x512.Idx → EReal) (x2 : S2x8192x2560.Idx → EReal) (x3 x4 : S2x256x512.Idx → EReal)
  (x5 : S1024x1024.Idx → EReal) (x6 : S1024.Idx → EReal)

/-- The queries are those of the narrow array. -/
theorem v0_eq : val_main_v0 (F := Ideal) x2 = Cert.Reference7Ideal.Read.val_main_v0 (F := Ideal) (cut x2) := by
  funext i
  rw [val_main_v0_apply, Cert.Reference7Ideal.Read.val_main_v0_apply]
  refine congrArg x2 (funext fun a => Fin.ext ?_)
  match a with
  | ⟨0, _⟩ => rfl
  | ⟨1, _⟩ => rfl
  | ⟨2, _⟩ => show 2048 + (i 2).val = 1536 + (512 + (i 2).val); omega

theorem v6_eq : val_main_v6 (F := Ideal) x2 x3 = Cert.Reference7Ideal.Read.val_main_v6 (F := Ideal) (cut x2) x3 := by
  unfold val_main_v6 val_main_v4 val_main_v1
  rw [v0_eq]
  rfl

theorem v13_eq : val_main_v13 (F := Ideal) x2 x3 = Cert.Reference7Ideal.Read.val_main_v13 (F := Ideal) (cut x2) x3 := by
  unfold val_main_v13 val_main_v12 val_main_v11 val_main_v10 val_main_v9 val_main_v7
  rw [v6_eq]
  rfl

theorem v22_eq : val_main_v22 (F := Ideal) x1 x2 x3 x4 x5 = Cert.Reference7Ideal.Read.val_main_v22 (F := Ideal) x1 (cut x2) x3 x4 x5 := by
  unfold val_main_v22 val_main_v21 val_main_v20 val_main_v19 val_main_v18 val_main_v17 val_main_v16 val_main_v15 val_main_v14
  rw [v13_eq]
  rfl

theorem v36_eq : val_main_v36 (F := Ideal) x0 x1 x2 x3 x4 x5 x6 = Cert.Reference7Ideal.Read.val_main_v36 (F := Ideal) x0 x1 (cut x2) x3 x4 x5 x6 := by
  unfold val_main_v36 val_main_v35 val_main_v32 val_main_v31 val_main_v30 val_main_v29 val_main_v28 val_main_v27 val_main_v26 val_main_v25 val_main_v24
    val_main_v23
  rw [v22_eq]
  rfl

/-- The reference's array. -/
theorem final (hq : ∀ (b : Fin 2) (s : Fin 8192) (e : Fin 512), ∃ r : ℝ, x2 (ix3 b s (⟨2048 + e.val, by omega⟩ : Fin 2560)) = (r : EReal))
    (hk : ∀ i, ∃ r : ℝ, x3 i = (r : EReal)) (i : S2x8192x1024.Idx) :
    val_main_v36 (F := Ideal) x0 x1 x2 x3 x4 x5 x6 i = layer x0 x1 (cut x2) x3 x4 x5 x6 (i 0) (i 1) (i 2) := by
  rw [v36_eq]
  refine Cert.Reference7Ideal.Hand.final x0 x1 (cut x2) x3 x4 x5 x6 (fun b s e => ?_) hk i
  obtain ⟨r, hr⟩ := hq b s e
  refine ⟨r, Eq.trans ?_ hr⟩
  refine congrArg (fun k => x2 (ix3 b s k)) (Fin.ext ?_)
  show 1536 + (512 + e.val) = 2048 + e.val
  omega

end Cert.Reference9Ideal.Hand

end
-- ==== Proof.Finite9.lean ====
/- The precondition of the self-decoder layers' output projection read: the queries and the memory keys are reals. -/
module

public import proofs.«01_k».proof.Pre_finite9
public import proofs.«01_k».proof.Proof.Finite

@[expose] public section

noncomputable section

namespace Cert.Pre_finite9.Hand

open Cert.Pre_finite9 Idealize.ShloMosaic

/-- The shape relations of the precondition. -/
theorem facts : Cert.Pre_finite9.Facts where
  slices_S2x8192x2560_S2x8192x512_0_0_2048 := by decide
  bcast_S_S2x8192x512 := by decide
  reducesTo_S2x8192x512_S_d0_1_2 := by decide
  h_S_ := by decide
  bcast_S_S2x256x512 := by decide
  reducesTo_S2x256x512_S_d0_1_2 := by decide

variable [Cert.Pre_finite9.Facts]

/-- The precondition's two parts. -/
theorem parts (x0 : S2x8192x1024.Idx → EReal) (x1 : S2x8192x512.Idx → EReal) (x2 : S2x8192x2560.Idx → EReal) (x3 x4 : S2x256x512.Idx → EReal)
    (x5 : S1024x1024.Idx → EReal) (x6 : S1024.Idx → EReal) (j : S_.Idx) (h : fn (F := Ideal) x0 x1 x2 x3 x4 x5 x6 j = 1#1) :
    (∀ (b : Fin 2) (t : Fin 8192) (e : Fin 512), ∃ r : ℝ, x2 (ix3 b t (⟨2048 + e.val, by omega⟩ : Fin 2560)) = (r : EReal))
      ∧ (∀ i, ∃ r : ℝ, x3 i = (r : EReal)) := by
  unfold fn at h
  obtain ⟨h1, h2⟩ := IntOp.andi_eq_one.1 h
  refine ⟨fun b t e => ?_, Cert.Pre_finite.Hand.all_real x3 _ _ _ j h2⟩
  obtain ⟨r, hr⟩ := Cert.Pre_finite.Hand.all_real _ _ _ _ j h1 (ix3 b t e)
  refine ⟨r, Eq.trans ?_ hr⟩
  symm
  refine extractStridedSlice_apply ![0, 0, 2048] x2 Facts.slices_S2x8192x2560_S2x8192x512_0_0_2048 _ (ix3 b t (⟨2048 + e.val, by omega⟩ : Fin 2560)) fun a => ?_
  match a with
  | ⟨0, _⟩ => exact (Nat.zero_add b.val).symm
  | ⟨1, _⟩ => exact (Nat.zero_add t.val).symm
  | ⟨2, _⟩ => rfl

end Cert.Pre_finite9.Hand

end
-- ==== Proof.StepOut.lean ====
/- The recurrence of one position: what one point stores. -/
module

public import proofs.«01_k».proof.Proof.HgrnSpec
public import proofs.«01_k».proof.Proof.FfnOut
public import proofs.«01_k».proof.Proof.Gen.Kernel12Ideal.Value
public import Idealize.ShloMosaic.Lib.Pipeline.ValueKit

@[expose] public section

set_option maxRecDepth 16384

noncomputable section

namespace Cert.Kernel12Ideal.Hand

open Cert.Kernel12Ideal Cert.Kernel12Ideal.Gen Idealize.ShloMosaic Idealize.ShloMosaic.TcCoe Idealize.ShloMosaic.Tactic
open Idealize.SL.Sem Cert.Hand
open Cert.Kernel2Ideal.Hand (lit2)
open Cert.Kernel8Ideal.Hand (nrm)

/-- The state of sample `n` after the position, at row `k` and column `e`. -/
def newS (x1 x2 : Vec Ideal S128x128 .f32) (x5 : Vec Ideal S1x128x1x128x128 .f32) (n k e : Fin 128) : EReal :=
  Ideal.exp (x1 (ix2 n k)) * x5 (ix5 0 n 0 k e) + (1 - Ideal.exp (x1 (ix2 n k))) * x2 (ix2 n e)

/-- All states of one head. -/
def gS (x1 x2 : Vec Ideal S128x128 .f32) (x5 : Vec Ideal S1x128x1x128x128 .f32) : Vec Ideal S128x1x128x128 .f32 :=
  fun y => newS x1 x2 x5 (y 0) (y 2) (y 3)

/-- The queries times the states. -/
def gO (x0 x1 x2 : Vec Ideal S128x128 .f32) (x5 : Vec Ideal S1x128x1x128x128 .f32) : Vec Ideal S128x128 .f32 :=
  fun y => ∑ k : Fin 128, x0 (ix2 (y 0) k) * newS x1 x2 x5 (y 0) k (y 1)

/-- The new state of sample `i` in the kernel's operations. -/
def sn (i : ℕ) (h1 : S128x128.Slices ![0, i] S128x1) (h2 : S128x128.Slices ![i, 0] S1x128) (x1 x2 : Vec Ideal S128x128 .f32)
    (S : Vec Ideal S1x1x1x128x128 .f32) : FVec Ideal S128x128 .f32 :=
  addf (mulf (broadcastTo S128x128 (extractStridedSlice S128x1 ![0, i] (k0_pay4 (F := Ideal) x1) h1) broadcasts_S128x1_S128x128)
      (shapeCast S128x128 S shapeCasts_S1x1x1x128x128_S128x128))
    (mulf (broadcastTo S128x128 (extractStridedSlice S128x1 ![0, i] (k0_pay5 (F := Ideal) x1) h1) broadcasts_S128x1_S128x128)
      (broadcastTo S128x128 (extractStridedSlice S1x128 ![i, 0] x2 h2) broadcasts_S1x128_S128x128))

/-- The output of sample `i` in the kernel's operations. -/
def on (i : ℕ) (h1 : S128x128.Slices ![0, i] S128x1) (x0 : Vec Ideal S128x128 .f32) (s : FVec Ideal S128x128 .f32) : FVec Ideal S1x128 .f32 :=
  shapeCast S1x128 (shapeCast S1x128 (multiReduction .add [0] S128
    (mulf (broadcastTo S128x128 (extractStridedSlice S128x1 ![0, i] (k0_pay6 (F := Ideal) x0) h1) broadcasts_S128x1_S128x128) s)
    0x00000000#32 reduces_S128x128_S128 (.inl rfl) rfl) shapeCasts_S128_S1x128) shapeCasts_S1x128_S1x128

theorem col_apply (x : FVec Ideal S128x128 .f32) (i : ℕ) (hi : i < 128) (h1 : S128x128.Slices ![0, i] S128x1) (k : Fin 128) :
    extractStridedSlice S128x1 ![0, i] x h1 (ix2 k 0) = x (ix2 k ⟨i, hi⟩) :=
  extractStridedSlice_apply ![0, i] x h1 (ix2 k 0) (ix2 k ⟨i, hi⟩) fun a => by
    match a with
    | ⟨0, _⟩ => show k.val = 0 + k.val; omega
    | ⟨1, _⟩ => rfl

theorem row_apply (x : FVec Ideal S128x128 .f32) (i : ℕ) (hi : i < 128) (h2 : S128x128.Slices ![i, 0] S1x128) (e : Fin 128) :
    extractStridedSlice S1x128 ![i, 0] x h2 (ix2 0 e) = x (ix2 ⟨i, hi⟩ e) :=
  extractStridedSlice_apply ![i, 0] x h2 (ix2 0 e) (ix2 ⟨i, hi⟩ e) fun a => by
    match a with
    | ⟨0, _⟩ => rfl
    | ⟨1, _⟩ => show e.val = 0 + e.val; omega

theorem state_apply (x5 : Vec Ideal S1x128x1x128x128 .f32) (i : ℕ) (hi : i < 128) (inb) (k e : Fin 128) :
    View.ld x5 (Rect.unit (s := S1x128x1x128x128) ![0, i, 0, 0, 0] S1x1x1x128x128.size inb) (ix5 0 0 0 k e) = x5 (ix5 0 ⟨i, hi⟩ 0 k e) :=
  View.ld_unit_apply_of x5 _ _ _ _ _ fun a => by
    match a with
    | ⟨0, _⟩ => rfl
    | ⟨1, _⟩ => rfl
    | ⟨2, _⟩ => rfl
    | ⟨3, _⟩ => show k.val = 0 + k.val; omega
    | ⟨4, _⟩ => show e.val = 0 + e.val; omega

theorem forget_apply (x1 : Vec Ideal S128x128 .f32) (k n : Fin 128) : k0_pay4 (F := Ideal) x1 (ix2 k n) = Ideal.exp (x1 (ix2 n k)) := by
  pointwise [k0_pay4, k0_pay3]

theorem keep_apply (x1 : Vec Ideal S128x128 .f32) (k n : Fin 128) : k0_pay5 (F := Ideal) x1 (ix2 k n) = 1 - Ideal.exp (x1 (ix2 n k)) := by
  rw [← oneWord]
  pointwise [k0_pay5, k0_pay3]

theorem query_apply (x0 : Vec Ideal S128x128 .f32) (k n : Fin 128) : k0_pay6 (F := Ideal) x0 (ix2 k n) = x0 (ix2 n k) := by
  pointwise [k0_pay6]

theorem sn_apply (i : ℕ) (hi : i < 128) (h1 h2) (x1 x2 : Vec Ideal S128x128 .f32) (x5 : Vec Ideal S1x128x1x128x128 .f32) (inb) (k e : Fin 128) :
    sn i h1 h2 x1 x2 (View.ld x5 (Rect.unit (s := S1x128x1x128x128) ![0, i, 0, 0, 0] S1x1x1x128x128.size inb)) (ix2 k e)
      = newS x1 x2 x5 ⟨i, hi⟩ k e := by
  unfold newS
  rw [← keep_apply x1 k ⟨i, hi⟩, ← forget_apply x1 k ⟨i, hi⟩, ← state_apply x5 i hi inb, ← col_apply (k0_pay4 (F := Ideal) x1) i hi h1,
    ← col_apply (k0_pay5 (F := Ideal) x1) i hi h1,
    ← row_apply x2 i hi h2]
  unfold sn
  generalize extractStridedSlice S128x1 ![0, i] (k0_pay4 (F := Ideal) x1) h1 = a
  generalize extractStridedSlice S128x1 ![0, i] (k0_pay5 (F := Ideal) x1) h1 = b
  generalize extractStridedSlice S1x128 ![i, 0] x2 h2 = d
  generalize View.ld x5 (Rect.unit (s := S1x128x1x128x128) ![0, i, 0, 0, 0] S1x1x1x128x128.size inb) = f
  pointwise []

theorem on_apply (i : ℕ) (hi : i < 128) (h1) (x0 : Vec Ideal S128x128 .f32) (s : FVec Ideal S128x128 .f32) (e : Fin 128) :
    on i h1 x0 s (ix2 0 e) = ∑ k : Fin 128, x0 (ix2 ⟨i, hi⟩ k) * s (ix2 k e) := by
  have e1 : ∀ k : Fin 128, x0 (ix2 ⟨i, hi⟩ k) = extractStridedSlice S128x1 ![0, i] (k0_pay6 (F := Ideal) x0) h1 (ix2 k 0) := fun k => by
    rw [col_apply _ i hi h1, query_apply]
  simp only [e1]
  unfold on
  generalize extractStridedSlice S128x1 ![0, i] (k0_pay6 (F := Ideal) x0) h1 = a
  pointwise []

theorem cast_apply (s : FVec Ideal S128x128 .f32) (k e : Fin 128) :
    shapeCast S1x1x128x128 s shapeCasts_S128x128_S1x1x128x128 (ix4 0 0 k e) = s (ix2 k e) := by
  pointwise []

/-- The store of sample `i`'s state. -/
theorem pieceS (i : ℕ) (hi : i < 128) (h1 h2 inb inb') (x1 x2 : Vec Ideal S128x128 .f32) (x5 : Vec Ideal S1x128x1x128x128 .f32)
    (y : S1x1x128x128.Idx) :
    gS x1 x2 x5 ((Rect.unit (s := S128x1x128x128) ![i, 0, 0, 0] S1x1x128x128.size inb).emb y)
      = shapeCast S1x1x128x128 (sn i h1 h2 x1 x2 (View.ld x5 (Rect.unit (s := S1x128x1x128x128) ![0, i, 0, 0, 0] S1x1x1x128x128.size inb')))
          shapeCasts_S128x128_S1x1x128x128 y := by
  obtain ⟨k, e, rfl⟩ : ∃ (k e : Fin 128), y = ix4 0 0 k e := ⟨y 2, y 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  rw [cast_apply, sn_apply i hi]
  have e0 : (Rect.unit (s := S128x1x128x128) ![i, 0, 0, 0] S1x1x128x128.size inb).emb (ix4 0 0 k e) = ix4 (⟨i, hi⟩ : Fin 128) 0 k e := by
    funext a
    refine Fin.ext ?_
    match a with
    | ⟨0, _⟩ => rfl
    | ⟨1, _⟩ => rfl
    | ⟨2, _⟩ => show 0 + 1 * k.val = k.val; omega
    | ⟨3, _⟩ => show 0 + 1 * e.val = e.val; omega
  rw [e0]
  rfl

/-- The store of sample `i`'s output. -/
theorem pieceO (i : ℕ) (hi : i < 128) (h1 h1' h2 inb inb') (x0 x1 x2 : Vec Ideal S128x128 .f32) (x5 : Vec Ideal S1x128x1x128x128 .f32)
    (y : S1x128.Idx) :
    gO x0 x1 x2 x5 ((Rect.unit (s := S128x128) ![i, 0] S1x128.size inb).emb y)
      = on i h1 x0 (sn i h1' h2 x1 x2 (View.ld x5 (Rect.unit (s := S1x128x1x128x128) ![0, i, 0, 0, 0] S1x1x1x128x128.size inb'))) y := by
  obtain ⟨e, rfl⟩ : ∃ (e : Fin 128), y = ix2 0 e := ⟨y 1, funext fun a => by
    match a with
    | ⟨0, _⟩ => exact Subsingleton.elim (α := Fin 1) _ _
    | ⟨1, _⟩ => rfl⟩
  rw [on_apply i hi]
  have e0 : (Rect.unit (s := S128x128) ![i, 0] S1x128.size inb).emb (ix2 0 e) = ix2 (⟨i, hi⟩ : Fin 128) e := by
    funext a
    refine Fin.ext ?_
    match a with
    | ⟨0, _⟩ => rfl
    | ⟨1, _⟩ => show 0 + 1 * e.val = e.val; omega
  rw [e0]
  simp only [sn_apply i hi]
  rfl

/-- A store into the state's block agrees with the new states. -/
def okS (x1 x2 : Vec Ideal S128x128 .f32) (x5 : Vec Ideal S1x128x1x128x128 .f32) (p : View.Piece (Elt Ideal) S128x1x128x128 .f32) : Prop :=
  ∀ x, p.2 x = gS x1 x2 x5 (p.1.emb x)

theorem okS_piece (i : ℕ) (hi : i < 128) (h1 h2 inb inb') (x1 x2 : Vec Ideal S128x128 .f32) (x5 : Vec Ideal S1x128x1x128x128 .f32) :
    okS x1 x2 x5 ⟨Rect.unit (s := S128x1x128x128) ![i, 0, 0, 0] S1x1x128x128.size inb,
      shapeCast S1x1x128x128 (sn i h1 h2 x1 x2 (View.ld x5 (Rect.unit (s := S1x128x1x128x128) ![0, i, 0, 0, 0] S1x1x1x128x128.size inb')))
        shapeCasts_S128x128_S1x1x128x128⟩ :=
  fun y => (pieceS i hi h1 h2 inb inb' x1 x2 x5 y).symm

/-- A store into the scratch buffer agrees with the outputs. -/
def okO (x0 x1 x2 : Vec Ideal S128x128 .f32) (x5 : Vec Ideal S1x128x1x128x128 .f32) (p : View.Piece (Elt Ideal) S128x128 .f32) : Prop :=
  ∀ x, p.2 x = gO x0 x1 x2 x5 (p.1.emb x)

theorem okO_piece (i : ℕ) (hi : i < 128) (h1 h1' h2 inb inb') (x0 x1 x2 : Vec Ideal S128x128 .f32) (x5 : Vec Ideal S1x128x1x128x128 .f32) :
    okO x0 x1 x2 x5 ⟨Rect.unit (s := S128x128) ![i, 0] S1x128.size inb,
      on i h1 x0 (sn i h1' h2 x1 x2 (View.ld x5 (Rect.unit (s := S1x128x1x128x128) ![0, i, 0, 0, 0] S1x1x1x128x128.size inb')))⟩ :=
  fun y => (pieceO i hi h1 h1' h2 inb inb' x0 x1 x2 x5 y).symm

theorem norm_apply (o : Vec Ideal S128x128 .f32) (g : Vec Ideal S1x128 .f32) (z : Vec Ideal S128x128 .f32) (n e : Fin 128) :
    k0_pay2 (F := Ideal) o g z (ix2 n e) = nrm (fun e => o (ix2 n e)) (fun e => g (ix2 0 e)) e * z (ix2 n e) := by
  pointwise [k0_pay2]
  rfl

end Cert.Kernel12Ideal.Hand

end
-- ==== Proof.StepState.lean ====
/- The recurrence of one position: the two outputs of a point, read from its stores. -/
module

public import proofs.«01_k».proof.Proof.StepOut

@[expose] public section

set_option maxRecDepth 16384

noncomputable section

namespace Cert.Kernel12Ideal.Hand

open Cert.Kernel12Ideal Cert.Kernel12Ideal.Gen Idealize.ShloMosaic Idealize.ShloMosaic.TcCoe Idealize.ShloMosaic.Tactic
open Idealize.SL.Sem Cert.Hand
open Cert.Kernel2Ideal.Hand (lit2)

/-- An empty list has no piece to check. -/
theorem none_left {s : Shape} {e : EltTy} (Q : View.Piece (Elt Ideal) s e → Prop) : ∀ p ∈ ([] : List (View.Piece (Elt Ideal) s e)), Q p :=
  fun p hp => absurd hp List.not_mem_nil

set_option maxHeartbeats 8000000 in
set_option backward.isDefEq.respectTransparency false in
/-- The stores into the state's block make the new states. -/
theorem states (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128x1x128x128 .f32) (harg6 : arg6.IsWhole) (arg7 : Memref sig .tc .vmem S128x128 .f32) (harg7 : arg7.IsWhole) (arg8 : Memref sig .tc .vmem S128x1x128x128 .f32) (harg8 : arg8.IsWhole) (arg9 : Memref sig .tc .vmem S128x128 .f32) (harg9 : arg9.IsWhole)
    (x0 x1 x2 x3 : Vec Ideal S128x128 .f32) (x4 : Vec Ideal S1x128 .f32) (x5 : Vec Ideal S1x128x1x128x128 .f32) :
    out0_A_7 (F := Ideal) c i arg1 harg1 arg2 harg2 arg3 harg3 arg4 harg4 arg5 harg5 arg6 harg6 arg7 harg7 arg8 harg8 arg9 harg9 x0 x1 x2 x3 x4 x5 = gS x1 x2 x5 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  refine funext fun y => View.canon_apply_of_pieces (gS x1 x2 x5) _ ?_ y (cover0_A_7 c i arg1 harg1 arg2 harg2 arg3 harg3 arg4 harg4 arg5 harg5 arg6 harg6 arg7 harg7 arg8 harg8 arg9 harg9 x0 x1 x2 x3 x4 x5 y)
  unfold kernelRun0_A
  dsimp only
  sl_unfold_words
  simp only [View.readAt_eq_ld, harg2.read_unread, harg3.read_unread, harg6.read_unread]
  have e1 : ∀ (x : Vec Ideal S128x128 .f32) h, View.ld x (Rect.unit (s := S128x128) ![0, 0] ![128, 128] h) = x := fun x h => View.ld_unit_zero lit2 _ _
  simp only [e1]
  change ∀ p ∈ _, okS x1 x2 x5 p
  repeat refine List.forall_mem_cons.2 ⟨okS_piece _ (by omega) _ _ _ _ x1 x2 x5, ?_⟩
  exact none_left _

/-- The stores into the scratch buffer, read back whole. -/
theorem scratch (arg9 : Memref sig .tc .vmem S128x128 .f32) (L : List (View.Piece (Elt Ideal) S128x128 .f32))
    (x0 x1 x2 : Vec Ideal S128x128 .f32) (x5 : Vec Ideal S1x128x1x128x128 .f32) (hc : ∀ y : S128x128.Idx, ∃ p ∈ L, y ∈ p.1.set)
    (hG : ∀ p ∈ L, okO x0 x1 x2 x5 p) (inb) :
    arg9.view.readCov L (Rect.unit (s := S128x128) ![0, 0] S128x128.size inb) = gO x0 x1 x2 x5 := by
  rw [View.readCov_eq_canon_ld _ _ _ hc, View.ld_unit_zero lit2]
  exact funext fun y => View.canon_apply_of_pieces (gO x0 x1 x2 x5) L hG y (hc y)

set_option maxHeartbeats 8000000 in
set_option backward.isDefEq.respectTransparency false in
/-- The output's block: the norm of the outputs times the gate. -/
theorem outputs (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128x1x128x128 .f32) (harg6 : arg6.IsWhole) (arg7 : Memref sig .tc .vmem S128x128 .f32) (harg7 : arg7.IsWhole) (arg8 : Memref sig .tc .vmem S128x1x128x128 .f32) (harg8 : arg8.IsWhole) (arg9 : Memref sig .tc .vmem S128x128 .f32) (harg9 : arg9.IsWhole)
    (x0 x1 x2 x3 : Vec Ideal S128x128 .f32) (x4 : Vec Ideal S1x128 .f32) (x5 : Vec Ideal S1x128x1x128x128 .f32) :
    out0_A_6 (F := Ideal) c i arg1 harg1 arg2 harg2 arg3 harg3 arg4 harg4 arg5 harg5 arg6 harg6 arg7 harg7 arg8 harg8 arg9 harg9 x0 x1 x2 x3 x4 x5 = k0_pay2 (F := Ideal) (gO x0 x1 x2 x5) x4 x3 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg3.read_unread, harg4.read_unread, harg5.read_unread, harg6.read_unread]
  have e1 : ∀ (x : Vec Ideal S128x128 .f32) h, View.ld x (Rect.unit (s := S128x128) ![0, 0] ![128, 128] h) = x := fun x h => View.ld_unit_zero lit2 _ _
  have e2 : ∀ h, View.ld x4 (Rect.unit (s := S1x128) ![0, 0] ![1, 128] h) = x4 := fun h => View.ld_unit_zero lit2 _ _
  simp only [e1, e2]
  refine (View.canon_unit_zero lit2 _ _).trans ?_
  refine congrArg (fun a : Vec Ideal S128x128 .f32 => k0_pay2 (F := Ideal) a x4 x3)
    (scratch arg9 _ x0 x1 x2 x5 (fun y => View.cover_of_tiledL _ ![1, 128] (by sl_kernel_rfl) y) ?_ _)
  repeat refine List.forall_mem_cons.2 ⟨okO_piece _ (by omega) _ _ _ _ _ x0 x1 x2 x5, ?_⟩
  exact none_left _

end Cert.Kernel12Ideal.Hand

end
-- ==== Proof.StepMath.lean ====
/- The recurrence of one position: its values, and the two orders in which they are computed. -/
module

public import proofs.«01_k».proof.Proof.HgrnMath
public import proofs.«01_k».proof.Proof.HgrnSpec

@[expose] public section

noncomputable section

namespace Cert.Step

open Idealize.ShloMosaic
open Cert.Kernel8Ideal.Hand (nrm)

/-- Column `k` of head `h` in group `g` of the 2560 columns. -/
def col (g : ℕ) (hg : g < 5) (h : Fin 4) (k : Fin 128) : Fin 2560 := ⟨512 * g + (128 * h.val + k.val), by omega⟩

abbrev qc (h : Fin 4) (k : Fin 128) : Fin 2560 := col 0 (by decide) h k
abbrev lc (h : Fin 4) (k : Fin 128) : Fin 2560 := col 1 (by decide) h k
abbrev vc (h : Fin 4) (k : Fin 128) : Fin 2560 := col 2 (by decide) h k
abbrev gc (h : Fin 4) (k : Fin 128) : Fin 2560 := col 3 (by decide) h k

/-- The head and the column within it of one of the 512 output columns. -/
def hd (j : Fin 512) : Fin 4 := ⟨j.val / 128, by omega⟩
def ln (j : Fin 512) : Fin 128 := ⟨j.val % 128, by omega⟩

variable (y : (⟨2, ![128, 2560]⟩ : Shape).Idx → EReal) (g : (⟨1, ![128]⟩ : Shape).Idx → EReal)
  (s : (⟨5, ![2, 128, 4, 128, 128]⟩ : Shape).Idx → EReal)

/-- The new state: the old one by the forget factor, and its complement times the value. -/
def stepS (n : Fin 128) (h : Fin 4) (k e : Fin 128) : EReal :=
  Ideal.exp (y (ix2 n (lc h k))) * s (ix5 0 n h k e) + (1 - Ideal.exp (y (ix2 n (lc h k)))) * y (ix2 n (vc h e))

/-- The query times the new state. -/
def stepO (n : Fin 128) (h : Fin 4) (e : Fin 128) : EReal := ∑ k : Fin 128, y (ix2 n (qc h k)) * stepS y s n h k e

/-- The norm of the outputs of a head, times the gate. -/
def stepOn (n : Fin 128) (h : Fin 4) (e : Fin 128) : EReal :=
  nrm (fun e => stepO y s n h e) (fun e => g (ix1 e)) e * y (ix2 n (gc h e))

theorem mul_add_real (q w : ℝ) (T : EReal) : (q : EReal) * (T + w) = q * T + q * w := by
  induction T using EReal.rec with
  | coe r => norm_cast; ring
  | top =>
    rw [EReal.top_add_coe, ← EReal.coe_mul]
    rcases lt_trichotomy q 0 with h | h | h
    · rw [EReal.coe_mul_top_of_neg h, EReal.bot_add]
    · subst h; simp
    · rw [EReal.coe_mul_top_of_pos h, EReal.top_add_coe]
  | bot =>
    rw [EReal.bot_add, ← EReal.coe_mul]
    rcases lt_trichotomy q 0 with h | h | h
    · rw [EReal.coe_mul_bot_of_neg h, EReal.top_add_coe]
    · subst h; simp
    · rw [EReal.coe_mul_bot_of_pos h, EReal.bot_add]

theorem one_sub_exp (L : ℝ) : -(Ideal.expm1 (L : EReal)) = ((1 - Real.exp L : ℝ) : EReal) := by
  unfold Ideal.expm1
  rw [Ideal.exp_coe, ← EReal.coe_one, ← EReal.coe_sub, ← EReal.coe_neg]
  exact congrArg (fun x : ℝ => (x : EReal)) (by ring)

theorem exp_self_sub (L : ℝ) : Ideal.exp ((L : EReal) - L) = 1 := by
  rw [← EReal.coe_sub, Ideal.exp_coe, sub_self, Real.exp_zero, EReal.coe_one]

theorem keep_eq (L : ℝ) : -(Ideal.expm1 (L : EReal)) * Ideal.exp ((L : EReal) - L) = 1 - Ideal.exp (L : EReal) := by
  rw [one_sub_exp, exp_self_sub, mul_one, Ideal.exp_coe, EReal.coe_sub, EReal.coe_one]

theorem sum_mul_real (f : Fin 128 → ℝ) (v : ℝ) : (∑ k, (f k : EReal)) * v = ∑ k, (f k : EReal) * v := by
  have e : ∀ f : Fin 128 → ℝ, (∑ k, (f k : EReal)) = ((∑ k, f k : ℝ) : EReal) := fun f =>
    (map_sum (⟨⟨((↑) : ℝ → EReal), EReal.coe_zero⟩, EReal.coe_add⟩ : ℝ →+ EReal) f Finset.univ).symm
  simp only [← EReal.coe_mul]
  rw [e, e, ← EReal.coe_mul, Finset.sum_mul]

/-- The reference's order: the decayed queries on the old state, and the query's product with the key on the value. -/
theorem out_eq (q L : Fin 128 → ℝ) (v : ℝ) (S : Fin 128 → EReal) :
    (∑ k, ((q k : EReal) * Ideal.exp (L k : EReal)) * S k)
      + (∑ k, (q k : EReal) * (-(Ideal.expm1 (L k : EReal)) * Ideal.exp ((L k : EReal) - L k))) * v
      = ∑ k, (q k : EReal) * (Ideal.exp (L k : EReal) * S k + (1 - Ideal.exp (L k : EReal)) * v) := by
  have e1 : ∀ k, (1 - Ideal.exp (L k : EReal)) = ((1 - Real.exp (L k) : ℝ) : EReal) := fun k => by
    rw [Ideal.exp_coe, EReal.coe_sub, EReal.coe_one]
  simp only [keep_eq, e1, ← EReal.coe_mul]
  rw [sum_mul_real, ← Finset.sum_add_distrib]
  refine Finset.sum_congr rfl fun k _ => ?_
  rw [mul_add_real, mul_assoc, ← EReal.coe_mul, ← EReal.coe_mul]
  exact congrArg (fun x : ℝ => (q k : EReal) * (Ideal.exp (L k : EReal) * S k) + (x : EReal)) (by ring)

end Cert.Step

end
-- ==== Proof.StepFinal.lean ====
/- The recurrence of one position: the kernel's two arrays after the run. -/
module

public import proofs.«01_k».proof.Proof.StepState
public import proofs.«01_k».proof.Proof.StepMath

@[expose] public section

set_option maxRecDepth 16384

noncomputable section

namespace Cert.Kernel12Ideal.Hand

open Cert.Kernel12Ideal Cert.Kernel12Ideal.Gen Idealize.ShloMosaic Idealize.ShloMosaic.TcCoe Idealize.ShloMosaic.Tactic
open Idealize.SL.Sem Cert.Hand Cert.Step

variable (m : (ℓ : Loc nD τ sig) → Buf (Elt Ideal) ℓ)

theorem idx0 : ∀ t : Fin cfg0.N, win0_0.index t = ![0, t.val] := (by decide +kernel : ∀ t : Fin grid0.N, win0_0.index t = ![0, t.val])
theorem idx1 : ∀ t : Fin cfg0.N, win0_1.index t = ![0, 4 + t.val] := (by decide +kernel : ∀ t : Fin grid0.N, win0_1.index t = ![0, 4 + t.val])
theorem idx2 : ∀ t : Fin cfg0.N, win0_2.index t = ![0, 8 + t.val] := (by decide +kernel : ∀ t : Fin grid0.N, win0_2.index t = ![0, 8 + t.val])
theorem idx3 : ∀ t : Fin cfg0.N, win0_3.index t = ![0, 12 + t.val] := (by decide +kernel : ∀ t : Fin grid0.N, win0_3.index t = ![0, 12 + t.val])
theorem idx4 : ∀ t : Fin cfg0.N, win0_4.index t = ![0, 0] := (by decide +kernel : ∀ t : Fin grid0.N, win0_4.index t = ![0, 0])
theorem idx5 : ∀ t : Fin cfg0.N, win0_5.index t = ![0, 0, t.val, 0, 0] := (by decide +kernel : ∀ t : Fin grid0.N, win0_5.index t = ![0, 0, t.val, 0, 0])
theorem idx6 : ∀ t : Fin cfg0.N, win0_6.index t = ![0, t.val] := (by decide +kernel : ∀ t : Fin grid0.N, win0_6.index t = ![0, t.val])
theorem idx7 : ∀ t : Fin cfg0.N, win0_7.index t = ![0, t.val, 0, 0] := (by decide +kernel : ∀ t : Fin grid0.N, win0_7.index t = ![0, t.val, 0, 0])

/-- The head of a grid point. -/
def head (t : Fin cfg0.N) : Fin 4 := ⟨t.val, t.isLt⟩

/-- The three arguments. -/
abbrev ya (c : Dev nD) : S128x2560.Idx → EReal := m ((c.tc : Thread nD τ).loc main_arg0)
abbrev ga (c : Dev nD) : S128.Idx → EReal := m ((c.tc : Thread nD τ).loc main_arg1)
abbrev sa (c : Dev nD) : S2x128x4x128x128.Idx → EReal := m ((c.tc : Thread nD τ).loc main_arg2)

variable (c : Dev nD)

theorem iblk0_apply (t : Fin cfg0.N) (n k : Fin 128) : iblk m c 0 t (ix2 n k) = ya m c (ix2 n (qc (head t) k)) := by
  unfold ya
  rw [← V_main_arg0 m c]
  blk_simp [iblk]
  refine congrArg (V m c main_arg0) ?_
  blk_ext [idx0 t, head, col]
theorem iblk1_apply (t : Fin cfg0.N) (n k : Fin 128) : iblk m c 1 t (ix2 n k) = ya m c (ix2 n (lc (head t) k)) := by
  unfold ya
  rw [← V_main_arg0 m c]
  blk_simp [iblk]
  refine congrArg (V m c main_arg0) ?_
  blk_ext [idx1 t, head, col]
theorem iblk2_apply (t : Fin cfg0.N) (n k : Fin 128) : iblk m c 2 t (ix2 n k) = ya m c (ix2 n (vc (head t) k)) := by
  unfold ya
  rw [← V_main_arg0 m c]
  blk_simp [iblk]
  refine congrArg (V m c main_arg0) ?_
  blk_ext [idx2 t, head, col]
theorem iblk3_apply (t : Fin cfg0.N) (n k : Fin 128) : iblk m c 3 t (ix2 n k) = ya m c (ix2 n (gc (head t) k)) := by
  unfold ya
  rw [← V_main_arg0 m c]
  blk_simp [iblk]
  refine congrArg (V m c main_arg0) ?_
  blk_ext [idx3 t, head, col]

theorem V_main_v0 : V m c main_v0 = (shapeCast S1x128 (ga m c) shapeCasts_S128_S1x128 : Vec Ideal S1x128 .f32) := rfl

theorem iblk4_apply (t : Fin cfg0.N) (e : Fin 128) : iblk m c 4 t (ix2 0 e) = ga m c (ix1 e) := by
  have h : (shapeCast S1x128 (ga m c) shapeCasts_S128_S1x128 : Vec Ideal S1x128 .f32) (ix2 0 e) = ga m c (ix1 e) := by pointwise
  rw [← h, ← V_main_v0]
  blk_simp [iblk]
  refine congrArg (V m c main_v0) ?_
  blk_ext [idx4 t]

theorem iblk5_apply (t : Fin cfg0.N) (n k e : Fin 128) : iblk m c 5 t (ix5 0 n 0 k e) = sa m c (ix5 0 n (head t) k e) := by
  unfold sa
  rw [← V_main_arg2 m c]
  blk_simp [iblk]
  refine congrArg (V m c main_arg2) ?_
  blk_ext [idx5 t, head]

theorem newS_eq (t : Fin cfg0.N) (n k e : Fin 128) :
    newS (iblk m c 1 t) (iblk m c 2 t) (iblk m c 5 t) n k e = stepS (ya m c) (sa m c) n (head t) k e := by
  unfold newS stepS
  rw [iblk1_apply, iblk2_apply, iblk5_apply]

theorem point6 (t : Fin cfg0.N) (n e : Fin 128) :
    k0_pay2 (F := Ideal) (gO (iblk m c 0 t) (iblk m c 1 t) (iblk m c 2 t) (iblk m c 5 t)) (iblk m c 4 t) (iblk m c 3 t) (ix2 n e)
      = stepOn (ya m c) (ga m c) (sa m c) n (head t) e := by
  refine (norm_apply _ _ _ n e).trans ?_
  unfold stepOn stepO gO
  simp only [iblk3_apply, iblk4_apply]
  refine congrArg (fun x => Cert.Kernel8Ideal.Hand.nrm x _ e * _) (funext fun e => Finset.sum_congr rfl fun k _ => ?_)
  exact congrArg₂ (· * ·) (iblk0_apply m c t n k) (newS_eq m c t n k e)

/-- The output array after the run. -/
theorem final6 : (dats m 0 c).arrAt 6 cfg0.N = fun i : S128x512.Idx => stepOn (ya m c) (ga m c) (sa m c) (i 0) (hd (i 1)) (ln (i 1)) := by
  refine (dats m 0 c).arrAt_eq_of_covers 6 _ (by decide +kernel) fun t hf y => ?_
  blk_simp
  rw [after0_6]
  obtain ⟨r, j, rfl⟩ : ∃ (r j : Fin 128), y = ix2 r j := ⟨y 0, y 1, funext fun a => by match a with | ⟨0, _⟩ => rfl | ⟨1, _⟩ => rfl⟩
  refine (congrFun (outputs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ _ _ _ _) _).trans
    ((point6 m c t r j).trans ?_)
  have e : ∀ (n n' : Fin 128) (h h' : Fin 4) (l l' : Fin 128), n.val = n'.val → h.val = h'.val → l.val = l'.val →
      stepOn (ya m c) (ga m c) (sa m c) n h l = stepOn (ya m c) (ga m c) (sa m c) n' h' l' := fun n n' h h' l l' e1 e2 e3 => by
    rw [Fin.ext e1, Fin.ext e2, Fin.ext e3]
  have hj : ((win0_6.blk t).view.emb (ix2 r j) 1).val = 128 * t.val + j.val := by
    blk_simp
    rw [idx6 t]
    show t.val * 128 + j.val = _
    omega
  refine e _ _ _ _ _ _ ?_ ?_ ?_
  · blk_simp
    rw [idx6 t]
    show r.val = 0 * 128 + r.val
    omega
  · show t.val = ((win0_6.blk t).view.emb (ix2 r j) 1).val / 128
    rw [hj]
    omega
  · show j.val = ((win0_6.blk t).view.emb (ix2 r j) 1).val % 128
    rw [hj]
    omega

/-- A state at the grid point, of the block's index. -/
theorem point7 (t : Fin cfg0.N) (y : S128x1x128x128.Idx) :
    (outsAt0 m c t).2 y = stepS (ya m c) (sa m c) (y 0) (head t) (y 2) (y 3) := by
  unfold outsAt0
  rw [states]
  exact newS_eq m c t (y 0) (y 2) (y 3)

theorem stepS_congr (i i' : S128x4x128x128.Idx) (h : i = i') :
    stepS (ya m c) (sa m c) (i 0) (i 1) (i 2) (i 3) = stepS (ya m c) (sa m c) (i' 0) (i' 1) (i' 2) (i' 3) := by rw [h]

theorem emb7 (t : Fin cfg0.N) (y : S128x1x128x128.Idx) : ix4 (y 0) (head t) (y 2) (y 3) = (win0_7.blk t).view.emb y := by
  refine funext fun a => Fin.ext ?_
  have h1 : (y 1).val < 1 := (y 1).isLt
  match a with
  | ⟨0, _⟩ =>
    blk_simp
    rw [idx7 t]
    show (y 0).val = 0 * 128 + (y 0).val
    omega
  | ⟨1, _⟩ =>
    blk_simp
    rw [idx7 t]
    rfl
  | ⟨2, _⟩ =>
    blk_simp
    rw [idx7 t]
    show (y 2).val = 0 * 128 + (y 2).val
    omega
  | ⟨3, _⟩ =>
    blk_simp
    rw [idx7 t]
    show (y 3).val = 0 * 128 + (y 3).val
    omega

/-- The states' array after the run. -/
theorem final7 : (dats m 0 c).arrAt 7 cfg0.N = fun i : S128x4x128x128.Idx => stepS (ya m c) (sa m c) (i 0) (i 1) (i 2) (i 3) := by
  refine (dats m 0 c).arrAt_eq_of_covers 7 _ (by decide +kernel) fun t hf y => ?_
  rw [after0_7]
  exact (point7 m c t y).trans (stepS_congr m c _ _ (emb7 t y))

end Cert.Kernel12Ideal.Hand

end
-- ==== Proof.StepRef.lean ====
/- The recurrence of one position: on real queries, forget factors and values the reference's arrays are the kernel's. -/
module

public import proofs.«01_k».proof.Proof.StepMath
public import proofs.«01_k».proof.Proof.Norm
public import proofs.«01_k».proof.Proof.Gen.Reference12Ideal.Read

@[expose] public section

set_option maxRecDepth 16384

noncomputable section

namespace Cert.Reference12Ideal.Hand

open Cert.Reference12Ideal Cert.Reference12Ideal.Gen Cert.Reference12Ideal.Read Idealize.ShloMosaic Idealize.ShloMosaic.Tactic
open Cert.Hand Cert.Step
open Cert.Kernel8Ideal.Hand (nrm)

variable (y : S128x2560.Idx → EReal) (g : S128.Idx → EReal) (s : S2x128x4x128x128.Idx → EReal)

theorem v1_at (n : Fin 128) (h : Fin 4) (k : Fin 128) : val_main_v1 (F := Ideal) y (ix3 n h k) = y (ix2 n (qc h k)) := by
  rw [val_main_v1_apply, val_main_v0_apply]
  refine congrArg y (funext fun a => Fin.ext ?_)
  match a with
  | ⟨0, _⟩ => show ((n.val * 4 + h.val) * 128 + k.val) / 512 = n.val; omega
  | ⟨1, _⟩ => show ((n.val * 4 + h.val) * 128 + k.val) % 512 = 512 * 0 + (128 * h.val + k.val); omega

theorem v3_at (n : Fin 128) (h : Fin 4) (k : Fin 128) : val_main_v3 (F := Ideal) y (ix3 n h k) = y (ix2 n (lc h k)) := by
  rw [val_main_v3_apply, val_main_v2_apply]
  refine congrArg y (funext fun a => Fin.ext ?_)
  match a with
  | ⟨0, _⟩ => show ((n.val * 4 + h.val) * 128 + k.val) / 512 = n.val; omega
  | ⟨1, _⟩ => show 512 + ((n.val * 4 + h.val) * 128 + k.val) % 512 = 512 * 1 + (128 * h.val + k.val); omega

theorem v5_at (n : Fin 128) (h : Fin 4) (k : Fin 128) : val_main_v5 (F := Ideal) y (ix3 n h k) = y (ix2 n (vc h k)) := by
  rw [val_main_v5_apply, val_main_v4_apply]
  refine congrArg y (funext fun a => Fin.ext ?_)
  match a with
  | ⟨0, _⟩ => show ((n.val * 4 + h.val) * 128 + k.val) / 512 = n.val; omega
  | ⟨1, _⟩ => show 1024 + ((n.val * 4 + h.val) * 128 + k.val) % 512 = 512 * 2 + (128 * h.val + k.val); omega

theorem v7_at (n : Fin 128) (h : Fin 4) (k : Fin 128) : val_main_v7 (F := Ideal) y (ix3 n h k) = y (ix2 n (gc h k)) := by
  rw [val_main_v7_apply, val_main_v6_apply]
  refine congrArg y (funext fun a => Fin.ext ?_)
  match a with
  | ⟨0, _⟩ => show ((n.val * 4 + h.val) * 128 + k.val) / 512 = n.val; omega
  | ⟨1, _⟩ => show 1536 + ((n.val * 4 + h.val) * 128 + k.val) % 512 = 512 * 3 + (128 * h.val + k.val); omega

theorem v11_at (n : Fin 128) (h : Fin 4) (k e : Fin 128) : val_main_v11 (F := Ideal) s (ix4 n h k e) = s (ix5 0 n h k e) := by
  rw [val_main_v11_apply, val_main_v10_apply]
  refine congrArg s (funext fun a => Fin.ext ?_)
  match a with
  | ⟨0, _⟩ => rfl
  | ⟨1, _⟩ => show (((n.val * 4 + h.val) * 128 + k.val) * 128 + e.val) / 65536 % 128 = n.val; omega
  | ⟨2, _⟩ => show (((n.val * 4 + h.val) * 128 + k.val) * 128 + e.val) / 16384 % 4 = h.val; omega
  | ⟨3, _⟩ => show (((n.val * 4 + h.val) * 128 + k.val) * 128 + e.val) / 128 % 128 = k.val; omega
  | ⟨4, _⟩ => show (((n.val * 4 + h.val) * 128 + k.val) * 128 + e.val) % 128 = e.val; omega

/-- The key, as the reference computes it. -/
def key (n : Fin 128) (h : Fin 4) (k : Fin 128) : EReal :=
  -(Ideal.expm1 (y (ix2 n (lc h k)))) * Ideal.exp (y (ix2 n (lc h k)) - y (ix2 n (lc h k)))

theorem v17_at (n : Fin 128) (h : Fin 4) (k : Fin 128) : val_main_v17 (F := Ideal) y (ix3 n h k) = key y n h k := by
  rw [val_main_v17_apply, val_main_v9_apply, val_main_v8_apply, val_main_v16_apply, val_main_v15_apply, v3_at]
  rfl

theorem v29_at (n : Fin 128) (h : Fin 4) (k : Fin 128) : val_main_v29 (F := Ideal) y (ix3 n h k) = key y n h k := v17_at y n h k

theorem v13_at (n : Fin 128) (h : Fin 4) (k : Fin 128) :
    val_main_v13 (F := Ideal) y (ix3 n h k) = y (ix2 n (qc h k)) * Ideal.exp (y (ix2 n (lc h k))) := by
  rw [val_main_v13_apply, val_main_v12_apply, v1_at, v3_at]
  rfl

/-- The state result of the reference. -/
theorem v35_at (n : Fin 128) (h : Fin 4) (k e : Fin 128) : val_main_v35 (F := Ideal) y s (ix4 n h k e)
    = Ideal.exp (y (ix2 n (lc h k))) * s (ix5 0 n h k e) + key y n h k * y (ix2 n (vc h e)) := by
  have e1 : val_main_v25 (F := Ideal) y (ix4 n h k e) = Ideal.exp (y (ix2 n (lc h k))) := by
    rw [val_main_v25_apply, val_main_v24_apply, ← v3_at y]
    exact congrArg (fun i => val_main_v23 (F := Ideal) y i) (funext fun a => by
      match a with | ⟨0, _⟩ => rfl | ⟨1, _⟩ => rfl | ⟨2, _⟩ => rfl)
  have e2 : val_main_v32 (F := Ideal) y (ix4 n h k e) = key y n h k := by
    rw [val_main_v32_apply, val_main_v30_apply, ← v29_at y]
    exact congrArg (fun i => val_main_v29 (F := Ideal) y i) (funext fun a => by
      match a with | ⟨0, _⟩ => rfl | ⟨1, _⟩ => rfl | ⟨2, _⟩ => rfl)
  have e3 : val_main_v33 (F := Ideal) y (ix4 n h k e) = y (ix2 n (vc h e)) := by
    rw [val_main_v33_apply, val_main_v31_apply, ← v5_at y]
    exact congrArg (fun i => val_main_v5 (F := Ideal) y i) (funext fun a => by
      match a with | ⟨0, _⟩ => rfl | ⟨1, _⟩ => rfl | ⟨2, _⟩ => rfl)
  rw [val_main_v35_apply, val_main_v26_apply, val_main_v34_apply, e1, e2, e3, v11_at]
  rfl

/-- The output of the reference before its norm. -/
theorem v22_at (n : Fin 128) (h : Fin 4) (e : Fin 128) : val_main_v22 (F := Ideal) y s (ix3 n h e)
    = (∑ k : Fin 128, (y (ix2 n (qc h k)) * Ideal.exp (y (ix2 n (lc h k)))) * s (ix5 0 n h k e))
      + (∑ k : Fin 128, y (ix2 n (qc h k)) * key y n h k) * y (ix2 n (vc h e)) := by
  have e1 : val_main_v14 (F := Ideal) y s (ix3 n h e)
      = ∑ k : Fin 128, (y (ix2 n (qc h k)) * Ideal.exp (y (ix2 n (lc h k)))) * s (ix5 0 n h k e) := by
    rw [val_main_v14_apply]
    refine Finset.sum_congr rfl fun k _ => ?_
    rw [← v13_at y, ← v11_at s]
    refine congrArg₂ (· * ·) (congrArg _ (funext fun a => ?_)) (congrArg _ (funext fun a => ?_))
    · match a with | ⟨0, _⟩ => rfl | ⟨1, _⟩ => rfl | ⟨2, _⟩ => rfl
    · match a with | ⟨0, _⟩ => rfl | ⟨1, _⟩ => rfl | ⟨2, _⟩ => rfl | ⟨3, _⟩ => rfl
  have e2 : val_main_v20 (F := Ideal) y (ix3 n h e) = ∑ k : Fin 128, y (ix2 n (qc h k)) * key y n h k := by
    rw [val_main_v20_apply, val_main_v19_apply, val_main_v18_apply]
    refine Finset.sum_congr rfl fun k _ => ?_
    rw [← v17_at y, ← v1_at y]
    refine congrArg₂ (· * ·) (congrArg _ (funext fun a => ?_)) (congrArg _ (funext fun a => ?_)) <;>
    · match a with | ⟨0, _⟩ => rfl | ⟨1, _⟩ => rfl | ⟨2, _⟩ => rfl
  rw [val_main_v22_apply, val_main_v21_apply, e1, e2, v5_at]
  rfl

variable (hy : ∀ (n : Fin 128) (k : Fin 2560), k.val < 1536 → ∃ r : ℝ, y (ix2 n k) = (r : EReal))

include hy in
/-- The reference's states are the kernel's. -/
theorem state_eq : val_main_v35 (F := Ideal) y s = fun i : S128x4x128x128.Idx => stepS y s (i 0) (i 1) (i 2) (i 3) := by
  funext i
  obtain ⟨n, h, k, e, rfl⟩ : ∃ (n : Fin 128) (h : Fin 4) (k e : Fin 128), i = ix4 n h k e := ⟨i 0, i 1, i 2, i 3, eq_ix4 i⟩
  refine (v35_at y s n h k e).trans ?_
  show _ = stepS y s n h k e
  obtain ⟨L, hL⟩ := hy n (lc h k) (by show 512 * 1 + (128 * h.val + k.val) < 1536; omega)
  unfold stepS key
  rw [hL, keep_eq]

include hy in
theorem o_eq (n : Fin 128) (h : Fin 4) (e : Fin 128) : val_main_v22 (F := Ideal) y s (ix3 n h e) = stepO y s n h e := by
  rw [v22_at]
  choose q hq using fun k : Fin 128 => hy n (qc h k) (by show 512 * 0 + (128 * h.val + k.val) < 1536; omega)
  choose L hL using fun k : Fin 128 => hy n (lc h k) (by show 512 * 1 + (128 * h.val + k.val) < 1536; omega)
  obtain ⟨v, hv⟩ := hy n (vc h e) (by show 512 * 2 + (128 * h.val + e.val) < 1536; omega)
  unfold stepO stepS key
  simp only [hq, hL, hv]
  exact out_eq q L v fun k => s (ix5 0 n h k e)

theorem v44_at (n : Fin 128) (h : Fin 4) (e : Fin 128) : val_main_v44 (F := Ideal) y s (ix3 n h e)
    = Ideal.rsqrt (Ideal.div (∑ l : Fin 128, val_main_v22 (F := Ideal) y s (ix3 n h l) * val_main_v22 (F := Ideal) y s (ix3 n h l))
        (Ideal.ofBits .f32 0x43000000#32) + Ideal.ofBits .f32 0x358637BD#32) := by
  have e1 : val_main_v37 (F := Ideal) y s (ix2 n h)
      = ∑ l : Fin 128, val_main_v22 (F := Ideal) y s (ix3 n h l) * val_main_v22 (F := Ideal) y s (ix3 n h l) := by
    rw [val_main_v37_apply, val_main_cst_apply]
    refine (congrArg (· + _) zeroWord).trans ((zero_add _).trans (Finset.sum_congr rfl fun l _ => ?_))
    rw [val_main_v36_apply]
    refine congrArg (fun i => val_main_v22 (F := Ideal) y s i * val_main_v22 (F := Ideal) y s i) (funext fun a => ?_)
    match a with | ⟨0, _⟩ => rfl | ⟨1, _⟩ => rfl | ⟨2, _⟩ => rfl
  rw [val_main_v44_apply, val_main_v43_apply, val_main_v42_apply, val_main_v40_apply, val_main_v41_apply, val_main_cst_1_apply,
    val_main_v39_apply, val_main_cst_0_apply, val_main_v38_apply, ← e1]
  refine congrArg (fun i => Ideal.rsqrt (Ideal.div (val_main_v37 (F := Ideal) y s i) _ + _)) (funext fun a => ?_)
  match a with | ⟨0, _⟩ => rfl | ⟨1, _⟩ => rfl

theorem v47_at (n : Fin 128) (h : Fin 4) (e : Fin 128) : val_main_v47 (F := Ideal) g (ix3 n h e) = g (ix1 e) := by
  rw [val_main_v47_apply, val_main_v46_apply]
  refine congrArg g (funext fun a => ?_)
  match a with | ⟨0, _⟩ => rfl

include hy in
/-- The reference's outputs are the kernel's. -/
theorem out_eq' : val_main_v50 (F := Ideal) y g s = fun i : S128x512.Idx => stepOn y g s (i 0) (hd (i 1)) (ln (i 1)) := by
  funext i
  obtain ⟨n, j, rfl⟩ : ∃ (n : Fin 128) (j : Fin 512), i = ix2 n j := ⟨i 0, i 1, funext fun a => by match a with | ⟨0, _⟩ => rfl | ⟨1, _⟩ => rfl⟩
  show _ = stepOn y g s n (hd j) (ln j)
  have e1 : val_main_v50 (F := Ideal) y g s (ix2 n j) = val_main_v49 (F := Ideal) y g s (ix3 n (hd j) (ln j)) := by
    rw [val_main_v50_apply]
    refine congrArg (val_main_v49 (F := Ideal) y g s) (funext fun a => Fin.ext ?_)
    match a with
    | ⟨0, _⟩ => show (n.val * 512 + j.val) / 512 = n.val; omega
    | ⟨1, _⟩ => show (n.val * 512 + j.val) / 128 % 4 = j.val / 128; omega
    | ⟨2, _⟩ => show (n.val * 512 + j.val) % 128 = j.val % 128; omega
  rw [e1, val_main_v49_apply, val_main_v48_apply, val_main_v45_apply, v44_at, v47_at, v7_at]
  simp only [o_eq y s hy]
  rfl

end Cert.Reference12Ideal.Hand

end
-- ==== Proof.Finite12.lean ====
/- The precondition of the recurrence of one position read: queries, logarithms of forget factors and values are reals. -/
module

public import proofs.«01_k».proof.Pre_finite12
public import proofs.«01_k».proof.Proof.Finite

@[expose] public section

noncomputable section

namespace Cert.Pre_finite12.Hand

open Cert.Pre_finite12 Idealize.ShloMosaic

/-- The shape relations of the precondition. -/
theorem facts : Cert.Pre_finite12.Facts where
  slices_S128x2560_S128x1536_0_0 := by decide
  bcast_S_S128x1536 := by decide
  reducesTo_S128x1536_S_d0_1 := by decide
  h_S_ := by decide

variable [Cert.Pre_finite12.Facts]

/-- The first 1536 columns are reals. -/
theorem parts (x0 : S128x2560.Idx → EReal) (x1 : S128.Idx → EReal) (x2 : S2x128x4x128x128.Idx → EReal) (j : S_.Idx)
    (h : fn (F := Ideal) x0 x1 x2 j = 1#1) (n : Fin 128) (k : Fin 2560) (hk : k.val < 1536) : ∃ r : ℝ, x0 (ix2 n k) = (r : EReal) := by
  unfold fn at h
  obtain ⟨r, hr⟩ := Cert.Pre_finite.Hand.all_real _ _ _ _ j h (ix2 n (⟨k.val, hk⟩ : Fin 1536))
  refine ⟨r, Eq.trans ?_ hr⟩
  symm
  refine extractStridedSlice_apply ![0, 0] x0 Facts.slices_S128x2560_S128x1536_0_0 _ (ix2 n k) fun a => ?_
  match a with
  | ⟨0, _⟩ => exact (Nat.zero_add n.val).symm
  | ⟨1, _⟩ => exact (Nat.zero_add k.val).symm

end Cert.Pre_finite12.Hand

end
-- ==== Proof.SampleProj.lean ====
/- The input projection of the self-decoder layers for the sample group: 128 rows in one block, with the prompt's row formula. -/
module

public import proofs.«01_k».proof.Proof.InprojA
public import proofs.«01_k».proof.Proof.Gen.Kernel13Ideal.Value
public import Idealize.ShloMosaic.Lib.Pipeline.ValueKit

@[expose] public section

set_option maxRecDepth 16384

noncomputable section

namespace Cert.Kernel13Ideal.Hand

open Cert.Kernel13Ideal Cert.Kernel13Ideal.Gen Idealize.ShloMosaic Idealize.ShloMosaic.TcCoe Idealize.ShloMosaic.Tactic
open Idealize.SL.Sem Cert.Hand
open Cert.Kernel4Ideal.Hand (lit2)
open Cert.Kernel6Ideal.Hand (silu silu_eq logSig logAddExp decay mixed)

theorem xn_apply (v0 : Vec Ideal S128x1024 .f32) (v1 : Vec Ideal S1x1024 .f32) (r : Fin 128) (k : Fin 1024) :
    k0_pay2 (F := Ideal) v0 v1 (ix2 r k) = normRow (fun k => v0 (ix2 r k)) (fun k => v1 (ix2 0 k)) k := by
  pointwise [k0_pay2]
  rfl

theorem plain_apply (v : FVec Ideal S128x1024 .bf16) (w : Vec Ideal S1024x512 .bf16) (r : Fin 128) (j : Fin 512) :
    k0_pay1 (F := Ideal) v w (ix2 r j) = ∑ k : Fin 1024, v (ix2 r k) * w (ix2 k j) := by
  pointwise [k0_pay1]

theorem silu_apply (v : FVec Ideal S128x1024 .bf16) (w : Vec Ideal S1024x512 .bf16) (r : Fin 128) (j : Fin 512) :
    k0_pay10 (F := Ideal) v w (ix2 r j) = silu (∑ k : Fin 1024, v (ix2 r k) * w (ix2 k j)) := by
  rw [← silu_eq]
  pointwise [k0_pay10]

theorem decay_apply (y : FVec Ideal S128x512 .f32) (l : Vec Ideal S1x512 .f32) (r : Fin 128) (j : Fin 512) :
    k0_pay8 (F := Ideal) y (k0_pay6 (F := Ideal) l) (k0_pay7 (F := Ideal) l) (ix2 r j) = decay (l (ix2 0 j)) (y (ix2 r j)) := by
  pointwise [k0_pay8, k0_pay6, k0_pay7, k0_pay5]
  rfl

/-- The row of products that the block's rows and the weights make. -/
def prods (v : FVec Ideal S128x1024 .bf16) (w : Vec Ideal S1024x2560 .bf16) (r : Fin 128) (c : Fin 2560) : EReal :=
  ∑ k : Fin 1024, v (ix2 r k) * w (ix2 k c)

/-- The output block. -/
def block (v : FVec Ideal S128x1024 .bf16) (w : Vec Ideal S1024x2560 .bf16) (l : Vec Ideal S1x512 .f32) : Vec Ideal S128x2560 .f32 :=
  fun i => mixed (prods v w (i 0)) (fun j => l (ix2 0 j)) (i 1)

/-- The products of columns `p` onward. -/
theorem prods_cols (v : FVec Ideal S128x1024 .bf16) (w : Vec Ideal S1024x2560 .bf16) (p : ℕ) (hp : p ≤ 2048) (inb) (r : Fin 128) (j : Fin 512) :
    ∑ k : Fin 1024, v (ix2 r k) * View.ld w (Rect.unit (s := S1024x2560) ![0, p] S1024x512.size inb) (ix2 k j)
      = prods v w r ⟨p + j.val, by omega⟩ :=
  Finset.sum_congr rfl fun k _ => congrArg (v (ix2 r k) * ·) (View.ld_unit_apply_of w _ _ _ _ _ fun a => by
    match a with
    | ⟨0, _⟩ => show k.val = 0 + k.val; omega
    | ⟨1, _⟩ => rfl)

/-- Where entry `(r, j)` of the piece at column `p` lies. -/
theorem emb_cols (p : ℕ) (hp : p ≤ 2048) (inb) (r : Fin 128) (j : Fin 512) :
    (Rect.unit (s := S128x2560) ![0, p] S128x512.size inb).emb (ix2 r j) = ix2 r (⟨p + j.val, by omega⟩ : Fin 2560) := by
  funext a
  refine Fin.ext ?_
  match a with
  | ⟨0, _⟩ => show 0 + 1 * r.val = r.val; omega
  | ⟨1, _⟩ => show p + 1 * j.val = p + j.val; omega

theorem ix_out (x : S128x512.Idx) : ∃ (r : Fin 128) (j : Fin 512), x = ix2 r j :=
  ⟨x 0, x 1, funext fun a => by match a with | ⟨0, _⟩ => rfl | ⟨1, _⟩ => rfl⟩

/-- A piece that stores the products as they are. -/
theorem piece_plain (v : FVec Ideal S128x1024 .bf16) (w : Vec Ideal S1024x2560 .bf16) (l : Vec Ideal S1x512 .f32) (p : ℕ)
    (hp : p = 1024 ∨ p = 2048) (inb inb') (x : S128x512.Idx) :
    k0_pay1 (F := Ideal) v (View.ld w (Rect.unit (s := S1024x2560) ![0, p] S1024x512.size inb)) x
      = block v w l ((Rect.unit (s := S128x2560) ![0, p] S128x512.size inb').emb x) := by
  obtain ⟨r, j, rfl⟩ := ix_out x
  rw [emb_cols p (by omega), plain_apply, prods_cols v w p (by omega)]
  show _ = mixed (prods v w r) _ (⟨p + j.val, _⟩ : Fin 2560)
  unfold mixed
  rcases hp with rfl | rfl
  · rw [if_neg (by simp <;> omega), dif_neg (by simp <;> omega), if_pos (by simp <;> omega)]
  · rw [if_neg (by simp <;> omega), dif_neg (by simp <;> omega), if_neg (by simp <;> omega), if_neg (by simp <;> omega)]

/-- A piece that stores the products times their logistics. -/
theorem piece_silu (v : FVec Ideal S128x1024 .bf16) (w : Vec Ideal S1024x2560 .bf16) (l : Vec Ideal S1x512 .f32) (p : ℕ)
    (hp : p = 0 ∨ p = 1536) (inb inb') (x : S128x512.Idx) :
    k0_pay10 (F := Ideal) v (View.ld w (Rect.unit (s := S1024x2560) ![0, p] S1024x512.size inb)) x
      = block v w l ((Rect.unit (s := S128x2560) ![0, p] S128x512.size inb').emb x) := by
  obtain ⟨r, j, rfl⟩ := ix_out x
  rw [emb_cols p (by omega), silu_apply, prods_cols v w p (by omega)]
  show _ = mixed (prods v w r) _ (⟨p + j.val, _⟩ : Fin 2560)
  unfold mixed
  rcases hp with rfl | rfl
  · rw [if_pos (by simp <;> omega)]
  · rw [if_neg (by simp <;> omega), dif_neg (by simp <;> omega), if_neg (by simp <;> omega), if_pos (by simp <;> omega)]

/-- The piece that stores the forget factors. -/
theorem piece_decay (v : FVec Ideal S128x1024 .bf16) (w : Vec Ideal S1024x2560 .bf16) (l : Vec Ideal S1x512 .f32) (inb inb') (x : S128x512.Idx) :
    k0_pay8 (F := Ideal) (k0_pay1 (F := Ideal) v (View.ld w (Rect.unit (s := S1024x2560) ![0, 512] S1024x512.size inb)))
        (k0_pay6 (F := Ideal) l) (k0_pay7 (F := Ideal) l) x
      = block v w l ((Rect.unit (s := S128x2560) ![0, 512] S128x512.size inb').emb x) := by
  obtain ⟨r, j, rfl⟩ := ix_out x
  rw [emb_cols 512 (by omega), decay_apply, plain_apply, prods_cols v w 512 (by omega)]
  show _ = mixed (prods v w r) (fun j => l (ix2 0 j)) (⟨512 + j.val, _⟩ : Fin 2560)
  unfold mixed
  rw [if_neg (by simp <;> omega), dif_pos (show 512 + j.val < 1024 by omega)]
  exact congrArg (fun i : Fin 512 => decay (l (ix2 0 i)) _) (Fin.ext (by simp))

/-- What the body leaves in its output block. -/
theorem out_val (x0 : Vec Ideal S128x1024 .f32) (x1 : Vec Ideal S1x1024 .f32) (x2 : Vec Ideal S1x512 .f32) (x3 : Vec Ideal S1024x2560 .bf16) :
    out0_4 (F := Ideal) x0 x1 x2 x3 = block (k0_pay2 (F := Ideal) x0 x1) x3 x2 := by
  unfold out0_4 k0_pay11
  rw [show View.ld x0 r0_0 = x0 from View.ld_unit_zero lit2 _ _, show View.ld x1 r0_1 = x1 from View.ld_unit_zero lit2 _ _,
    show View.ld x2 r0_5 = x2 from View.ld_unit_zero lit2 _ _]
  refine funext fun y => View.canon_apply_of_pieces _ _ ?_ y (cover0_4 _ _ _ _ _ y)
  simp only [List.forall_mem_cons]
  exact ⟨fun x => piece_plain _ _ _ _ (.inr rfl) _ _ x, fun x => piece_silu _ _ _ _ (.inr rfl) _ _ x,
    fun x => piece_plain _ _ _ _ (.inl rfl) _ _ x, fun x => piece_decay _ _ _ _ _ x, fun x => piece_silu _ _ _ _ (.inl rfl) _ _ x,
    fun p hp => absurd hp (List.not_mem_nil)⟩

variable (m : (ℓ : Loc nD τ sig) → Buf (Elt Ideal) ℓ)

/-- One entry of the projection. -/
def proj (h : S128x1024.Idx → EReal) (g : S1024.Idx → EReal) (lb : S512.Idx → EReal) (w : S1024x2560.Idx → EReal)
    (r : Fin 128) (c : Fin 2560) : EReal :=
  mixed (fun c => ∑ k : Fin 1024, normRow (fun k => h (ix2 r k)) (fun k => g (ix1 k)) k * w (ix2 k c)) (fun j => lb (ix1 j)) c

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])

theorem iblk0_apply (c : Dev nD) (t : Fin cfg0.N) (r : Fin 128) (k : Fin 1024) :
    iblk m c 0 t (ix2 r k) = m ((c.tc : Thread nD τ).loc main_arg0) (ix2 r k) := by
  blk_simp [iblk]
  rw [← V_main_arg0 m c]
  refine congrArg (V m c main_arg0) ?_
  blk_ext [idx0 t]

theorem V_main_v0 (c : Dev nD) : V m c main_v0 = m ((c.tc : Thread nD τ).loc main_arg3) := rfl
theorem V_main_v1 (c : Dev nD) (k : Fin 1024) : V m c main_v1 (ix2 0 k) = m ((c.tc : Thread nD τ).loc main_arg1) (ix1 k) := by
  show shapeCast S1x1024 (m ((c.tc : Thread nD τ).loc main_arg1)) shapeCasts_S1024_S1x1024 (ix2 0 k) = _
  pointwise
theorem V_main_v2 (c : Dev nD) (k : Fin 512) : V m c main_v2 (ix2 0 k) = m ((c.tc : Thread nD τ).loc main_arg2) (ix1 k) := by
  show shapeCast S1x512 (m ((c.tc : Thread nD τ).loc main_arg2)) shapeCasts_S512_S1x512 (ix2 0 k) = _
  pointwise

theorem iblk1_apply (c : Dev nD) (t : Fin cfg0.N) (k : Fin 1024) :
    iblk m c 1 t (ix2 0 k) = m ((c.tc : Thread nD τ).loc main_arg1) (ix1 k) := by
  rw [← V_main_v1 m c]
  blk_simp [iblk]
  refine congrArg (V m c main_v1) ?_
  blk_ext [idx1 t]

theorem iblk2_apply (c : Dev nD) (t : Fin cfg0.N) (k : Fin 512) :
    iblk m c 2 t (ix2 0 k) = m ((c.tc : Thread nD τ).loc main_arg2) (ix1 k) := by
  rw [← V_main_v2 m c]
  blk_simp [iblk]
  refine congrArg (V m c main_v2) ?_
  blk_ext [idx2 t]

theorem iblk3_apply (c : Dev nD) (t : Fin cfg0.N) (k : Fin 1024) (j : Fin 2560) :
    iblk m c 3 t (ix2 k j) = m ((c.tc : Thread nD τ).loc main_arg3) (ix2 k j) := by
  rw [← V_main_v0 m c]
  blk_simp [iblk]
  refine congrArg (V m c main_v0) ?_
  blk_ext [idx3 t]

/-- What a point leaves, at an index. -/
theorem point (c : Dev nD) (t : Fin cfg0.N) (r : Fin 128) (j : Fin 2560) :
    out0_4 (F := Ideal) (iblk m c 0 t) (iblk m c 1 t) (iblk m c 2 t) (iblk m c 3 t) (ix2 r j)
      = proj (m ((c.tc : Thread nD τ).loc main_arg0)) (m ((c.tc : Thread nD τ).loc main_arg1)) (m ((c.tc : Thread nD τ).loc main_arg2))
          (m ((c.tc : Thread nD τ).loc main_arg3)) r j := by
  rw [out_val]
  show mixed (prods _ _ r) (fun j => iblk m c 2 t (ix2 0 j)) j = mixed _ _ j
  refine congrArg₂ (fun a b => mixed a b j) (funext fun q => Finset.sum_congr rfl fun k _ => ?_) (funext fun q => iblk2_apply m c t q)
  rw [xn_apply, iblk3_apply]
  simp only [iblk0_apply, iblk1_apply]

/-- The output array after the run. -/
theorem final (c : Dev nD) : (dats m 0 c).arrAt 4 cfg0.N = fun i : S128x2560.Idx =>
    proj (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  obtain ⟨r, j, rfl⟩ : ∃ (r : Fin 128) (j : Fin 2560), y = ix2 r j := ⟨y 0, y 1, funext fun a => by match a with | ⟨0, _⟩ => rfl | ⟨1, _⟩ => rfl⟩
  refine (point m c t r j).trans (congrArg₂ (proj _ _ _ _) (Fin.ext ?_) (Fin.ext ?_))
  · blk_simp
    rw [idx4 t]
    show r.val = 0 * 128 + r.val
    omega
  · blk_simp
    rw [idx4 t]
    show j.val = 0 * 2560 + j.val
    omega

end Cert.Kernel13Ideal.Hand

end
-- ==== Proof.SampleProjRef.lean ====
/- The input projection of the self-decoder layers for the sample group: the reference's array is the kernel's. -/
module

public import proofs.«01_k».proof.Proof.SampleProj
public import proofs.«01_k».proof.Proof.SampleKv
public import proofs.«01_k».proof.Proof.InprojARef
public import proofs.«01_k».proof.Proof.Gen.Reference13Ideal.Read

@[expose] public section

set_option maxRecDepth 16384

noncomputable section

namespace Cert.Reference13Ideal.Hand

open Cert.Reference13Ideal Cert.Reference13Ideal.Gen Cert.Reference13Ideal.Read Idealize.ShloMosaic Idealize.ShloMosaic.Tactic
open Cert.Hand
open Cert.Kernel6Ideal.Hand (silu silu_eq logSig logAddExp decay mixed)
open Cert.Kernel13Ideal.Hand (proj)
open Cert.Reference6Ideal.Hand (select_une logSig_eq col)

variable (x0 : S128x1024.Idx → EReal) (x1 : S1024.Idx → EReal) (x2 : S512.Idx → EReal) (x3 : S1024x2560.Idx → EReal)

/-- The row of products. -/
def prods (r : Fin 128) (c : Fin 2560) : EReal :=
  ∑ k : Fin 1024, normRow (fun k => x0 (ix2 r k)) (fun k => x1 (ix1 k)) k * x3 (ix2 k c)

theorem prod_apply (r : Fin 128) (c : Fin 2560) : val_main_v13 (F := Ideal) x0 x1 x3 (ix2 r c) = prods x0 x1 x3 r c := by
  rw [val_main_v13_apply]
  refine Finset.sum_congr rfl fun k _ => ?_
  have e : lidx_main_v13 (ix2 r c) k = ix2 r k := by idx_ext
  have e' : ridx_main_v13 (ix2 r c) k = ix2 k c := by idx_ext
  rw [e, e']
  exact congrArg (· * _) (Cert.Reference10Ideal.Hand.norm_apply x0 x1 r k)

theorem v14_at (r : Fin 128) (j : Fin 512) : val_main_v14 (F := Ideal) x0 x1 x3 (ix2 r j) = prods x0 x1 x3 r (col 0 (by omega) j) := by
  rw [val_main_v14_apply, ← prod_apply]
  refine congrArg _ (funext fun a => ?_)
  match a with
  | ⟨0, _⟩ => exact Fin.ext rfl
  | ⟨1, _⟩ => exact Fin.ext (Nat.zero_add _).symm
theorem v15_at (r : Fin 128) (j : Fin 512) : val_main_v15 (F := Ideal) x0 x1 x3 (ix2 r j) = prods x0 x1 x3 r (col 512 (by omega) j) := by
  rw [val_main_v15_apply, ← prod_apply]
  refine congrArg _ (funext fun a => ?_)
  match a with
  | ⟨0, _⟩ => exact Fin.ext rfl
  | ⟨1, _⟩ => exact Fin.ext rfl
theorem v16_at (r : Fin 128) (j : Fin 512) : val_main_v16 (F := Ideal) x0 x1 x3 (ix2 r j) = prods x0 x1 x3 r (col 1024 (by omega) j) := by
  rw [val_main_v16_apply, ← prod_apply]
  refine congrArg _ (funext fun a => ?_)
  match a with
  | ⟨0, _⟩ => exact Fin.ext rfl
  | ⟨1, _⟩ => exact Fin.ext rfl
theorem v17_at (r : Fin 128) (j : Fin 512) : val_main_v17 (F := Ideal) x0 x1 x3 (ix2 r j) = prods x0 x1 x3 r (col 1536 (by omega) j) := by
  rw [val_main_v17_apply, ← prod_apply]
  refine congrArg _ (funext fun a => ?_)
  match a with
  | ⟨0, _⟩ => exact Fin.ext rfl
  | ⟨1, _⟩ => exact Fin.ext rfl
theorem v18_at (r : Fin 128) (j : Fin 512) : val_main_v18 (F := Ideal) x0 x1 x3 (ix2 r j) = prods x0 x1 x3 r (col 2048 (by omega) j) := by
  rw [val_main_v18_apply, ← prod_apply]
  refine congrArg _ (funext fun a => ?_)
  match a with
  | ⟨0, _⟩ => exact Fin.ext rfl
  | ⟨1, _⟩ => exact Fin.ext rfl

theorem v40_at (r : Fin 128) (j : Fin 512) : val_main_v40 (F := Ideal) x0 x1 x3 (ix2 r j) = silu (prods x0 x1 x3 r (col 0 (by omega) j)) := by
  rw [val_main_v40_apply, val_main_call1_v5_apply, val_main_call1_v3_apply, val_main_call1_v1_apply, val_main_call1_v0_apply,
    val_main_call1_v2_apply, val_main_call1_v4_apply, val_main_call1_cst_apply, val_main_call1_cst_0_apply, v14_at, ← silu_eq, zero_sub]
  rfl
theorem v41_at (r : Fin 128) (j : Fin 512) : val_main_v41 (F := Ideal) x0 x1 x3 (ix2 r j) = silu (prods x0 x1 x3 r (col 1536 (by omega) j)) := by
  rw [val_main_v41_apply, val_main_call2_v5_apply, val_main_call2_v3_apply, val_main_call2_v1_apply, val_main_call2_v0_apply,
    val_main_call2_v2_apply, val_main_call2_v4_apply, val_main_call2_cst_apply, val_main_call2_cst_0_apply, v17_at, ← silu_eq, zero_sub]
  rfl

/-- The logarithm of the logistic of the forget gate. -/
theorem v22_at (r : Fin 128) (j : Fin 512) : val_main_v22 (F := Ideal) x0 x1 x3 (ix2 r j) = logSig (prods x0 x1 x3 r (col 512 (by omega) j)) := by
  have h3 : val_main_call0_call0_v3 (F := Ideal) x0 x1 x3 (ix2 r j) = -(prods x0 x1 x3 r (col 512 (by omega) j)) := by
    rw [val_main_call0_call0_v3_apply, val_main_call0_v0_apply, val_main_call0_call0_v2_apply, val_main_call0_call0_cst_apply, zeroWord, v15_at]
    exact sub_zero _
  rw [← logSig_eq, val_main_v22_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, h3, val_main_call0_call0_v0_apply, val_main_call0_call0_cst_apply, val_main_call0_v0_apply, v15_at, zeroWord, select_une]
  rfl

theorem v39_at (r : Fin 128) (j : Fin 512) :
    val_main_v39 (F := Ideal) x0 x1 x2 x3 (ix2 r j) = decay (x2 (ix1 j)) (prods x0 x1 x3 r (col 512 (by omega) j)) := by
  have e23 : idx_main_v23 (idx_main_v24 (ix2 r j)) = ix1 j := by idx_ext
  have e26 : idx_main_v26 (idx_main_v27 (ix2 r j)) = ix1 j := by idx_ext
  have h25 : val_main_v25 (F := Ideal) x0 x1 x2 x3 (ix2 r j)
      = Ideal.log1p (0 - x2 (ix1 j)) + logSig (prods x0 x1 x3 r (col 512 (by omega) j)) := by
    rw [val_main_v25_apply, val_main_v24_apply, val_main_v23_apply, e23, val_main_v21_apply, val_main_v20_apply, v22_at, zero_sub]
    rfl
  rw [val_main_v39_apply, val_main_v31_apply, select_une, val_main_v38_apply, val_main_v37_apply, val_main_v36_apply, val_main_v35_apply,
    val_main_v34_apply, val_main_v30_apply, val_main_v28_apply, val_main_v27_apply, val_main_v29_apply, val_main_v26_apply,
    e26, h25, val_main_v19_apply]
  unfold decay logAddExp
  rw [zero_sub (max _ _)]
  rfl

/-- The reference's array. -/
theorem final (i : S128x2560.Idx) : val_main_v42 (F := Ideal) x0 x1 x2 x3 i = proj x0 x1 x2 x3 (i 0) (i 1) := by
  obtain ⟨r, c, rfl⟩ : ∃ (r : Fin 128) (c : Fin 2560), i = ix2 r c := ⟨i 0, i 1, funext fun a => by match a with | ⟨0, _⟩ => rfl | ⟨1, _⟩ => rfl⟩
  show _ = mixed (prods x0 x1 x3 r) (fun j => x2 (ix1 j)) c
  pointwise [val_main_v42]
  unfold mixed
  have e : ∀ (p : ℕ) (hp : p ≤ 2048) (q : Fin 512), p + q.val = c.val → col p hp q = c := fun p hp q h => Fin.ext h
  simp only [v40_at, v39_at, v16_at, v41_at, v18_at]
  by_cases h0 : c.val < 512
  · rw [dif_pos h0, if_pos h0, e _ _ _ (by simp)]
  rw [dif_neg h0, if_neg h0]
  by_cases h1 : c.val < 1024
  · rw [dif_pos (by omega), dif_pos h1, e _ _ _ (by simp <;> omega)]
  rw [dif_neg (by omega), dif_neg h1]
  by_cases h2 : c.val < 1536
  · rw [dif_pos (by omega), if_pos h2, e _ _ _ (by simp <;> omega)]
  rw [dif_neg (by omega), if_neg h2]
  by_cases h3 : c.val < 2048
  · rw [dif_pos (by omega), if_pos h3, e _ _ _ (by simp <;> omega)]
  rw [dif_neg (by omega), if_neg h3, e _ _ _ (by simp <;> omega)]

end Cert.Reference13Ideal.Hand

end
-- ==== Proof.lean ====
/- The claims of the thirteen calls, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.SampleKv
public import proofs.«01_k».proof.Proof.SampleFfn
public import proofs.«01_k».proof.Proof.Equation
public import proofs.«01_k».proof.Proof.Finite
public import proofs.«01_k».proof.Proof.FfnRef
public import proofs.«01_k».proof.Proof.KvRef
public import proofs.«01_k».proof.Proof.MemKv
public import proofs.«01_k».proof.Proof.InprojB
public import proofs.«01_k».proof.Proof.InprojARef
public import proofs.«01_k».proof.Proof.MixRef
public import proofs.«01_k».proof.Proof.Finite7
public import proofs.«01_k».proof.Proof.HgrnRun
public import proofs.«01_k».proof.Proof.HgrnRef
public import proofs.«01_k».proof.Proof.HgrnFold
public import proofs.«01_k».proof.Proof.HgrnLitVal
public import proofs.«01_k».proof.Proof.Finite8
public import proofs.«01_k».proof.Proof.MixWide
public import proofs.«01_k».proof.Proof.Finite9
public import Idealize.ShloMosaic.Adequacy
public import Idealize.ShloMosaic.Init
public import proofs.«01_k».proof.Proof.StepFinal
public import proofs.«01_k».proof.Proof.StepRef
public import proofs.«01_k».proof.Proof.Finite12
public import proofs.«01_k».proof.Proof.SampleProjRef

@[expose] public section

noncomputable section

namespace Cert.Proof

open Idealize.ShloMosaic Idealize.SL.Sem Cert.Kernel

/-- The reference's run leaves its arguments as they were; it has no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with the same array. -/
theorem value [Cert.Pre_finite.Facts] : Cert.algebraic_KernelIdeal_ReferenceIdeal_pre_finite := by
  intro m g m' g' hpre hargs
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3⟩ := hargs c
  obtain ⟨h0, h1, h3⟩ := Cert.Pre_finite.Hand.parts _ _ _ _ (fun i => i.elim0) (congrFun (hpre c) _)
  rw [Cert.ReferenceIdeal.Read.val_main_v28_eq m' c, a0, a1, a2, a3]
  funext i
  exact ((Cert.KernelIdeal.Hand.final m c i).trans (Cert.ReferenceIdeal.Hand.equation _ _ _ _ h0 h1 h3 i)).symm

/-- The named constants are what the rounded literals stand for. -/
theorem named : Cert.preserves_Kernel_KernelIdeal :=
  ⟨IdealRules.named_const.statement Cert.KernelIdeal.κ "neg_log2e" .f32 0xBFB8AA3B#32 _ rfl,
    IdealRules.named_const.statement Cert.KernelIdeal.κ "neg_scale_log2e" .f32 0xBE0293EE#32 _ rfl,
    IdealRules.named_const.statement Cert.KernelIdeal.κ "log2e" .f32 0x3FB8AA3B#32 _ rfl⟩

/-- The reference of the FFN leaves its arguments as they were. -/
theorem frame_ref2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference of the memory projection leaves its arguments as they were. -/
theorem frame_ref3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The reference of the key-value projection leaves its arguments as they were. -/
theorem frame_ref4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The FFN ends with its reference's array. -/
theorem value2 : Cert.algebraic_Kernel2Ideal_Reference2Ideal := by
  intro m g m' g' _ hargs
  refine ⟨fun c => (Cert.Kernel2Ideal.Gen.dats m 0 c).arrAt 5 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨a0, a1, a2, a3, a4⟩ := hargs c
  rw [Cert.Reference2Ideal.Read.val_main_v32_eq m' c, a0, a1, a2, a3, a4]
  funext i
  exact (Cert.Reference2Ideal.Hand.final _ _ _ _ _ i).trans (congrFun (Cert.Kernel2Ideal.Hand.final m c) i).symm

/-- The memory projection ends with its reference's keys and values. -/
theorem value3 : Cert.algebraic_Kernel3Ideal_Reference3Ideal := by
  intro m g m' g' _ hargs
  refine ⟨fun c => (Cert.Kernel3Ideal.Gen.dats m 0 c).arrAt 2 Cert.Kernel3Ideal.cfg0.N,
    fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2⟩)
    (Cert.Reference3Ideal.Value.run (F := Ideal) m' g')
  · obtain ⟨a0, a1⟩ := hargs c
    refine (Cert.Reference3Ideal.Read.val_main_v4_eq _ _).trans ?_
    rw [a0, a1]
    funext i
    refine Eq.trans ?_ (congrFun (Cert.Kernel3Ideal.Hand.final2 m c) i).symm
    obtain ⟨l, s, j, rfl⟩ := Cert.Reference3Ideal.Hand.out_ix i
    exact Cert.Reference3Ideal.Hand.keys_apply _ _ l s j
  · obtain ⟨a0, a1⟩ := hargs c
    refine (Cert.Reference3Ideal.Read.val_main_v5_eq _ _).trans ?_
    rw [a0, a1]
    funext i
    refine Eq.trans ?_ (congrFun (Cert.Kernel3Ideal.Hand.final3 m c) i).symm
    obtain ⟨l, s, j, rfl⟩ := Cert.Reference3Ideal.Hand.out_ix i
    exact Cert.Reference3Ideal.Hand.values_apply _ _ l s j

/-- The key-value projection ends with its reference's keys and values. -/
theorem value4 : Cert.algebraic_Kernel4Ideal_Reference4Ideal := by
  intro m g m' g' _ hargs
  refine ⟨fun c => (Cert.Kernel4Ideal.Gen.dats m 0 c).arrAt 3 Cert.Kernel4Ideal.cfg0.N,
    fun c => (Cert.Kernel4Ideal.Gen.dats m 0 c).arrAt 4 Cert.Kernel4Ideal.cfg0.N, Cert.Kernel4Ideal.Value.run_blocks m g, ?_⟩
  refine (θ_run Cert.Reference4Ideal.defs _ _).mono (fun r h c => ⟨(h c).1.trans ?_, (h c).2.1.trans ?_, (h c).2.2⟩)
    (Cert.Reference4Ideal.Value.run (F := Ideal) m' g')
  · obtain ⟨a0, a1, a2⟩ := hargs c
    refine (Cert.Reference4Ideal.Read.val_main_v14_eq _ _ _).trans ?_
    rw [a0, a1, a2]
    funext i
    refine Eq.trans ?_ (congrFun (Cert.Kernel4Ideal.Hand.final3 m c) i).symm
    exact Cert.Reference4Ideal.Hand.keys_apply _ _ _ i
  · obtain ⟨a0, a1, a2⟩ := hargs c
    refine (Cert.Reference4Ideal.Read.val_main_v15_eq _ _ _).trans ?_
    rw [a0, a1, a2]
    funext i
    refine Eq.trans ?_ (congrFun (Cert.Kernel4Ideal.Hand.final4 m c) i).symm
    exact Cert.Reference4Ideal.Hand.values_apply _ _ _ i

/-- The reference of the cross-decoder's input projection leaves its arguments as they were. -/
theorem frame_ref5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The reference of the self-decoder's input projection leaves its arguments as they were. -/
theorem frame_ref6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The reference of the output projection leaves its arguments as they were. -/
theorem frame_ref7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The cross-decoder's input projection ends with its reference's array. -/
theorem value5 : Cert.algebraic_Kernel5Ideal_Reference5Ideal := by
  intro m g m' g' _ hargs
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run (F := Ideal) m' g')
  obtain ⟨a0, a1, a2⟩ := hargs c
  refine (Cert.Reference5Ideal.Read.val_main_v13_eq _ _ _).trans ?_
  rw [a0, a1, a2]
  funext i
  exact (Cert.Reference5Ideal.Hand.final _ _ _ i).trans (congrFun (Cert.Kernel5Ideal.Hand.final m c) i).symm

/-- The self-decoder's input projection ends with its reference's array. -/
theorem value6 : Cert.algebraic_Kernel6Ideal_Reference6Ideal := by
  intro m g m' g' _ hargs
  refine ⟨fun c => (Cert.Kernel6Ideal.Gen.dats m 0 c).arrAt 4 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run (F := Ideal) m' g')
  obtain ⟨a0, a1, a2, a3⟩ := hargs c
  rw [Cert.Reference6Ideal.Read.val_main_v42_eq m' c, a0, a1, a2, a3]
  funext i
  exact (Cert.Reference6Ideal.Hand.final _ _ _ _ i).trans (congrFun (Cert.Kernel6Ideal.Hand.final m c) i).symm

/-- The output projection with the memory attention ends with its reference's array. -/
theorem value7 [Cert.Pre_finite7.Facts] : Cert.algebraic_Kernel7Ideal_Reference7Ideal_pre_finite7 := by
  intro m g m' g' hpre hargs
  refine ⟨fun c => (Cert.Kernel7Ideal.Gen.dats m 0 c).arrAt 7 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run (F := Ideal) m' g')
  obtain ⟨a0, a1, a2, a3, a4, a5, a6⟩ := hargs c
  obtain ⟨hq, hk⟩ := Cert.Pre_finite7.Hand.parts _ _ _ _ _ _ _ (fun i => i.elim0) (congrFun (hpre c) _)
  rw [Cert.Reference7Ideal.Read.val_main_v36_eq m' c, a0, a1, a2, a3, a4, a5, a6]
  funext i
  exact (Cert.Reference7Ideal.Hand.final _ _ _ _ _ _ _ hq hk i).trans (congrFun (Cert.Kernel7Ideal.Hand.final m c) i).symm

/-- The reference of the recurrence leaves its arguments as they were. -/
theorem frame_ref8 : Cert.quiescent_Reference8Ideal := fun m g _ =>
  (θ_run Cert.Reference8Ideal.defs _ _).mono (fun r h => ⟨fun c => (h c).2.2, sem_eq_zero_of_no_sems (by decide) r.2⟩)
    (Cert.Reference8Ideal.Hand.run_it m g)

/-- The recurrence ends with its reference's outputs and final state. -/
theorem value8 [Cert.Pre_finite8.Facts] : Cert.algebraic_Kernel8Ideal_Reference8Ideal_pre_finite8 := by
  intro m g m' g' hpre hargs
  refine ⟨Cert.Kernel8Ideal.Value.G7 m, Cert.Kernel8Ideal.Value.G8 m, Cert.Kernel8Ideal.Value.run m g, ?_⟩
  refine (θ_run Cert.Reference8Ideal.defs _ _).mono (fun r h c => ⟨(h c).1.trans ?_, (h c).2.1.trans ?_, (h c).2.2⟩) (Cert.Reference8Ideal.Hand.run_it m' g')
  all_goals
    obtain ⟨a0, a1⟩ := hargs c
    have hr := Cert.Pre_finite8.Hand.logs _ _ (fun i => i.elim0) (congrFun (hpre c) _)
    have hI := Cert.Reference8Ideal.Hand.inv_it m' c 128 (Nat.le_refl 128)
    rw [a0] at hI
    funext i
  · rw [a0, a1, eq_ix3 i]
    exact (Cert.Reference8Ideal.Hand.R_at _ _ _ hI _ _ _).trans (Cert.Kernel8Ideal.Hand.G7_apply m c Cert.Kernel8Ideal.Hand.tabs hr _ _ _).symm
  · rw [eq_ix4 i]
    exact (hI.S _ _ _ _).trans (Cert.Kernel8Ideal.Hand.G8_apply m c Cert.Kernel8Ideal.Hand.tabs hr _ _ _ _).symm

/-- The reference of the self-decoder layers' output projection leaves its arguments as they were. -/
theorem frame_ref9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The self-decoder layers' output projection ends with its reference's array. -/
theorem value9 [Cert.Pre_finite9.Facts] : Cert.algebraic_Kernel9Ideal_Reference9Ideal_pre_finite9 := by
  intro m g m' g' hpre hargs
  refine ⟨fun c => (Cert.Kernel9Ideal.Gen.dats m 0 c).arrAt 7 Cert.Kernel9Ideal.cfg0.N, Cert.Kernel9Ideal.Value.run_blocks m g, ?_⟩
  refine (θ_run Cert.Reference9Ideal.defs _ _).mono (fun r h c => ⟨(h c).1.trans ?_, (h c).2⟩) (Cert.Reference9Ideal.Value.run (F := Ideal) m' g')
  obtain ⟨a0, a1, a2, a3, a4, a5, a6⟩ := hargs c
  obtain ⟨hq, hk⟩ := Cert.Pre_finite9.Hand.parts _ _ _ _ _ _ _ (fun i => i.elim0) (congrFun (hpre c) _)
  rw [Cert.Reference9Ideal.Read.val_main_v36_eq m' c, a0, a1, a2, a3, a4, a5, a6]
  funext i
  exact (Cert.Reference9Ideal.Hand.final _ _ _ _ _ _ _ hq hk i).trans (congrFun (Cert.Kernel9Ideal.Hand.final m c) i).symm

/-- The reference of the key-value projection of the sample rows leaves its arguments as they were. -/
theorem frame_ref10 : Cert.quiescent_Reference10Ideal := fun m g _ =>
  (θ_run Cert.Reference10Ideal.defs _ _).mono (fun r h => ⟨fun c => (h c).2.2, sem_eq_zero_of_no_sems (by decide) r.2⟩)
    (Cert.Reference10Ideal.Value.run (F := Ideal) m g)

/-- The reference of the FFN of the sample rows leaves its arguments as they were. -/
theorem frame_ref11 : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- The key-value projection of the sample rows ends with its reference's keys and values. -/
theorem value10 : Cert.algebraic_Kernel10Ideal_Reference10Ideal := by
  intro m g m' g' _ hargs
  refine ⟨fun c => (Cert.Kernel10Ideal.Gen.dats m 0 c).arrAt 3 Cert.Kernel10Ideal.cfg0.N,
    fun c => (Cert.Kernel10Ideal.Gen.dats m 0 c).arrAt 4 Cert.Kernel10Ideal.cfg0.N, Cert.Kernel10Ideal.Value.run_blocks m g, ?_⟩
  refine (θ_run Cert.Reference10Ideal.defs _ _).mono (fun r h c => ⟨(h c).1.trans ?_, (h c).2.1.trans ?_, (h c).2.2⟩)
    (Cert.Reference10Ideal.Value.run (F := Ideal) m' g')
  · obtain ⟨a0, a1, a2⟩ := hargs c
    refine (Cert.Reference10Ideal.Read.val_main_v14_eq _ _ _).trans ?_
    rw [a0, a1, a2]
    funext i
    refine Eq.trans ?_ (congrFun (Cert.Kernel10Ideal.Hand.final3 m c) i).symm
    exact Cert.Reference10Ideal.Hand.keys_apply _ _ _ i
  · obtain ⟨a0, a1, a2⟩ := hargs c
    refine (Cert.Reference10Ideal.Read.val_main_v15_eq _ _ _).trans ?_
    rw [a0, a1, a2]
    funext i
    refine Eq.trans ?_ (congrFun (Cert.Kernel10Ideal.Hand.final4 m c) i).symm
    exact Cert.Reference10Ideal.Hand.values_apply _ _ _ i

/-- The FFN of the sample rows ends with its reference's array. -/
theorem value11 : Cert.algebraic_Kernel11Ideal_Reference11Ideal := by
  intro m g m' g' _ hargs
  refine ⟨fun c => (Cert.Kernel11Ideal.Gen.dats m 0 c).arrAt 5 Cert.Kernel11Ideal.cfg0.N, Cert.Kernel11Ideal.Value.run_blocks m g, ?_⟩
  refine (θ_run Cert.Reference11Ideal.defs _ _).mono (fun r h c => ⟨(h c).1.trans ?_, (h c).2⟩) (Cert.Reference11Ideal.Value.run (F := Ideal) m' g')
  obtain ⟨a0, a1, a2, a3, a4⟩ := hargs c
  rw [Cert.Reference11Ideal.Read.val_main_v32_eq m' c, a0, a1, a2, a3, a4]
  funext i
  exact (Cert.Reference11Ideal.Hand.final _ _ _ _ _ i).trans (congrFun (Cert.Kernel11Ideal.Hand.final m c) i).symm

/-- The reference of the recurrence of one position leaves its arguments as they were. -/
theorem frame_ref12 : Cert.quiescent_Reference12Ideal := fun m g _ =>
  (θ_run Cert.Reference12Ideal.defs _ _).mono (fun r h => ⟨fun c => (h c).2.2, sem_eq_zero_of_no_sems (by decide) r.2⟩)
    (Cert.Reference12Ideal.Value.run (F := Ideal) m g)

/-- The recurrence of one position ends with its reference's outputs and states. -/
theorem value12 [Cert.Pre_finite12.Facts] : Cert.algebraic_Kernel12Ideal_Reference12Ideal_pre_finite12 := by
  intro m g m' g' hpre hargs
  refine ⟨fun c => (Cert.Kernel12Ideal.Gen.dats m 0 c).arrAt 6 Cert.Kernel12Ideal.cfg0.N,
    fun c => (Cert.Kernel12Ideal.Gen.dats m 0 c).arrAt 7 Cert.Kernel12Ideal.cfg0.N, Cert.Kernel12Ideal.Value.run_blocks m g, ?_⟩
  refine (θ_run Cert.Reference12Ideal.defs _ _).mono (fun r h c => ⟨(h c).1.trans ?_, (h c).2.1.trans ?_, (h c).2.2⟩) (Cert.Reference12Ideal.Value.run (F := Ideal) m' g')
  all_goals
    obtain ⟨a0, a1, a2⟩ := hargs c
    have hy := Cert.Pre_finite12.Hand.parts _ _ _ (fun i => i.elim0) (congrFun (hpre c) _)
  · rw [Cert.Reference12Ideal.Read.val_main_v50_eq m' c, a0, a1, a2]
    exact (Cert.Reference12Ideal.Hand.out_eq' _ _ _ hy).trans (Cert.Kernel12Ideal.Hand.final6 m c).symm
  · refine (Cert.Reference12Ideal.Read.val_main_v35_eq _ _).trans ?_
    rw [a0, a2]
    exact (Cert.Reference12Ideal.Hand.state_eq _ _ hy).trans (Cert.Kernel12Ideal.Hand.final7 m c).symm

/-- The reference of the self-decoder's input projection of the sample rows leaves its arguments as they were. -/
theorem frame_ref13 : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-- The self-decoder's input projection of the sample rows ends with its reference's array. -/
theorem value13 : Cert.algebraic_Kernel13Ideal_Reference13Ideal := by
  intro m g m' g' _ hargs
  refine ⟨fun c => (Cert.Kernel13Ideal.Gen.dats m 0 c).arrAt 4 Cert.Kernel13Ideal.cfg0.N, Cert.Kernel13Ideal.Value.run_blocks m g, ?_⟩
  refine (θ_run Cert.Reference13Ideal.defs _ _).mono (fun r h c => ⟨(h c).1.trans ?_, (h c).2⟩) (Cert.Reference13Ideal.Value.run (F := Ideal) m' g')
  obtain ⟨a0, a1, a2, a3⟩ := hargs c
  rw [Cert.Reference13Ideal.Read.val_main_v42_eq m' c, a0, a1, a2, a3]
  funext i
  exact (Cert.Reference13Ideal.Hand.final _ _ _ _ i).trans (congrFun (Cert.Kernel13Ideal.Hand.final m c) i).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Hand.facts, Cert.Pre_finite7.Hand.facts, Cert.Pre_finite8.Hand.facts, Cert.Pre_finite9.Hand.facts,
    Cert.Pre_finite12.Hand.facts,
    fun m g _ => Cert.Kernel.Gen.frame m g, fun m g _ => Cert.KernelIdeal.Gen.frame m g, fun m g _ => Cert.KernelIdeal.Gen.frame m g,
    frame_ref, fun m g _ => frame_ref m g trivial,
    fun m g _ => Cert.Kernel2.Gen.frame m g, fun m g _ => Cert.Kernel2Ideal.Gen.frame m g, frame_ref2,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    fun m g _ => Cert.Kernel6.Gen.frame m g, fun m g _ => Cert.Kernel6Ideal.Gen.frame m g, frame_ref6,
    fun m g _ => Cert.Kernel7.Gen.frame m g, fun m g _ => Cert.Kernel7Ideal.Gen.frame m g, fun m g _ => Cert.Kernel7Ideal.Gen.frame m g,
    frame_ref7, fun m g _ => frame_ref7 m g trivial,
    fun m g _ => Cert.Kernel8.Gen.frame m g, fun m g _ => Cert.Kernel8Ideal.Gen.frame m g, fun m g _ => Cert.Kernel8Ideal.Gen.frame m g,
    frame_ref8, fun m g _ => frame_ref8 m g trivial,
    fun m g _ => Cert.Kernel9.Gen.frame m g, fun m g _ => Cert.Kernel9Ideal.Gen.frame m g, fun m g _ => Cert.Kernel9Ideal.Gen.frame m g,
    frame_ref9, fun m g _ => frame_ref9 m g trivial,
    fun m g _ => Cert.Kernel10.Gen.frame m g, fun m g _ => Cert.Kernel10Ideal.Gen.frame m g, frame_ref10,
    fun m g _ => Cert.Kernel11.Gen.frame m g, fun m g _ => Cert.Kernel11Ideal.Gen.frame m g, frame_ref11,
    fun m g _ => Cert.Kernel12.Gen.frame m g, fun m g _ => Cert.Kernel12Ideal.Gen.frame m g, fun m g _ => Cert.Kernel12Ideal.Gen.frame m g,
    frame_ref12, fun m g _ => frame_ref12 m g trivial,
    fun m g _ => Cert.Kernel13.Gen.frame m g, fun m g _ => Cert.Kernel13Ideal.Gen.frame m g, frame_ref13,
    named, @value Cert.Pre_finite.Hand.facts, trivial, value2, trivial, value3, trivial, value4, trivial, value5, trivial, value6,
    trivial, @value7 Cert.Pre_finite7.Hand.facts, trivial, @value8 Cert.Pre_finite8.Hand.facts,
    trivial, @value9 Cert.Pre_finite9.Hand.facts, trivial, value10, trivial, value11,
    trivial, @value12 Cert.Pre_finite12.Hand.facts, trivial, value13⟩

end Cert.Proof

end
